-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_DownBwd (m : (ℓ : Loc Cert.DownBwd.nD Cert.DownBwd.τ Cert.DownBwd.sig) → Buf (Elt Bits) ℓ) : Prop :=
  True

def Pre_DownBwdIdeal (m : (ℓ : Loc Cert.DownBwdIdeal.nD Cert.DownBwdIdeal.τ Cert.DownBwdIdeal.sig) → Buf (Elt Ideal) ℓ) : Prop :=
  True

def Pre_DownBwdIdeal_down_bwd_finite [hPre_down_bwd_finite : Cert.Pre_down_bwd_finite.Facts] (m : (ℓ : Loc Cert.DownBwdIdeal.nD Cert.DownBwdIdeal.τ Cert.DownBwdIdeal.sig) → Buf (Elt Ideal) ℓ) : Prop :=
  ∀ c : Dev Cert.DownBwdIdeal.nD,
    (Cert.Pre_down_bwd_finite.fn (F := Ideal) (m ((c.tc : Thread Cert.DownBwdIdeal.nD Cert.DownBwdIdeal.τ).loc Cert.DownBwdIdeal.main_arg0)) (m ((c.tc : Thread Cert.DownBwdIdeal.nD Cert.DownBwdIdeal.τ).loc Cert.DownBwdIdeal.main_arg1)) (m ((c.tc : Thread Cert.DownBwdIdeal.nD Cert.DownBwdIdeal.τ).loc Cert.DownBwdIdeal.main_arg2)) (m ((c.tc : Thread Cert.DownBwdIdeal.nD Cert.DownBwdIdeal.τ).loc Cert.DownBwdIdeal.main_arg3))) = (fun _ => 1#1)

def Pre_DownBwdRefIdeal (m : (ℓ : Loc Cert.DownBwdRefIdeal.nD Cert.DownBwdRefIdeal.τ Cert.DownBwdRefIdeal.sig) → Buf (Elt Ideal) ℓ) : Prop :=
  True

def Pre_DownBwdRefIdeal_down_bwd_finite [hPre_down_bwd_finite : Cert.Pre_down_bwd_finite.Facts] (m : (ℓ : Loc Cert.DownBwdRefIdeal.nD Cert.DownBwdRefIdeal.τ Cert.DownBwdRefIdeal.sig) → Buf (Elt Ideal) ℓ) : Prop :=
  ∀ c : Dev Cert.DownBwdRefIdeal.nD,
    (Cert.Pre_down_bwd_finite.fn (F := Ideal) (m ((c.tc : Thread Cert.DownBwdRefIdeal.nD Cert.DownBwdRefIdeal.τ).loc Cert.DownBwdRefIdeal.main_arg0)) (m ((c.tc : Thread Cert.DownBwdRefIdeal.nD Cert.DownBwdRefIdeal.τ).loc Cert.DownBwdRefIdeal.main_arg1)) (m ((c.tc : Thread Cert.DownBwdRefIdeal.nD Cert.DownBwdRefIdeal.τ).loc Cert.DownBwdRefIdeal.main_arg2)) (m ((c.tc : Thread Cert.DownBwdRefIdeal.nD Cert.DownBwdRefIdeal.τ).loc Cert.DownBwdRefIdeal.main_arg3))) = (fun _ => 1#1)

def Pre_GateDgrad (m : (ℓ : Loc Cert.GateDgrad.nD Cert.GateDgrad.τ Cert.GateDgrad.sig) → Buf (Elt Bits) ℓ) : Prop :=
  True

def Pre_GateDgradIdeal (m : (ℓ : Loc Cert.GateDgradIdeal.nD Cert.GateDgradIdeal.τ Cert.GateDgradIdeal.sig) → Buf (Elt Ideal) ℓ) : Prop :=
  True

def Pre_GateDgradRefIdeal (m : (ℓ : Loc Cert.GateDgradRefIdeal.nD Cert.GateDgradRefIdeal.τ Cert.GateDgradRefIdeal.sig) → Buf (Elt Ideal) ℓ) : Prop :=
  True

def Pre_UpDgrad (m : (ℓ : Loc Cert.UpDgrad.nD Cert.UpDgrad.τ Cert.UpDgrad.sig) → Buf (Elt Bits) ℓ) : Prop :=
  True

def Pre_UpDgradIdeal (m : (ℓ : Loc Cert.UpDgradIdeal.nD Cert.UpDgradIdeal.τ Cert.UpDgradIdeal.sig) → Buf (Elt Ideal) ℓ) : Prop :=
  True

def Pre_UpDgradRefIdeal (m : (ℓ : Loc Cert.UpDgradRefIdeal.nD Cert.UpDgradRefIdeal.τ Cert.UpDgradRefIdeal.sig) → Buf (Elt Ideal) ℓ) : Prop :=
  True

def Pre_GateWgrad (m : (ℓ : Loc Cert.GateWgrad.nD Cert.GateWgrad.τ Cert.GateWgrad.sig) → Buf (Elt Bits) ℓ) : Prop :=
  True

def Pre_GateWgradIdeal (m : (ℓ : Loc Cert.GateWgradIdeal.nD Cert.GateWgradIdeal.τ Cert.GateWgradIdeal.sig) → Buf (Elt Ideal) ℓ) : Prop :=
  True

def Pre_GateWgradRefIdeal (m : (ℓ : Loc Cert.GateWgradRefIdeal.nD Cert.GateWgradRefIdeal.τ Cert.GateWgradRefIdeal.sig) → Buf (Elt Ideal) ℓ) : Prop :=
  True

def Pre_DownWgrad (m : (ℓ : Loc Cert.DownWgrad.nD Cert.DownWgrad.τ Cert.DownWgrad.sig) → Buf (Elt Bits) ℓ) : Prop :=
  True

def Pre_DownWgradIdeal (m : (ℓ : Loc Cert.DownWgradIdeal.nD Cert.DownWgradIdeal.τ Cert.DownWgradIdeal.sig) → Buf (Elt Ideal) ℓ) : Prop :=
  True

def Pre_DownWgradRefIdeal (m : (ℓ : Loc Cert.DownWgradRefIdeal.nD Cert.DownWgradRefIdeal.τ Cert.DownWgradRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInIdeal_ffn_in_finite [hPre_ffn_in_finite : Cert.Pre_ffn_in_finite.Facts] (m : (ℓ : Loc Cert.FfnInIdeal.nD Cert.FfnInIdeal.τ Cert.FfnInIdeal.sig) → Buf (Elt Ideal) ℓ) : Prop :=
  ∀ c : Dev Cert.FfnInIdeal.nD,
    (Cert.Pre_ffn_in_finite.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2))) = (fun _ => 1#1)

def Pre_FfnInRefIdeal (m : (ℓ : Loc Cert.FfnInRefIdeal.nD Cert.FfnInRefIdeal.τ Cert.FfnInRefIdeal.sig) → Buf (Elt Ideal) ℓ) : Prop :=
  True

def Pre_FfnInRefIdeal_ffn_in_finite [hPre_ffn_in_finite : Cert.Pre_ffn_in_finite.Facts] (m : (ℓ : Loc Cert.FfnInRefIdeal.nD Cert.FfnInRefIdeal.τ Cert.FfnInRefIdeal.sig) → Buf (Elt Ideal) ℓ) : Prop :=
  ∀ c : Dev Cert.FfnInRefIdeal.nD,
    (Cert.Pre_ffn_in_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2))) = (fun _ => 1#1)

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_In0Fwd (m : (ℓ : Loc Cert.In0Fwd.nD Cert.In0Fwd.τ Cert.In0Fwd.sig) → Buf (Elt Bits) ℓ) : Prop :=
  True

def Pre_In0FwdIdeal (m : (ℓ : Loc Cert.In0FwdIdeal.nD Cert.In0FwdIdeal.τ Cert.In0FwdIdeal.sig) → Buf (Elt Ideal) ℓ) : Prop :=
  True

def Pre_In0FwdRefIdeal (m : (ℓ : Loc Cert.In0FwdRefIdeal.nD Cert.In0FwdRefIdeal.τ Cert.In0FwdRefIdeal.sig) → Buf (Elt Ideal) ℓ) : Prop :=
  True

def Pre_In0Dgrad (m : (ℓ : Loc Cert.In0Dgrad.nD Cert.In0Dgrad.τ Cert.In0Dgrad.sig) → Buf (Elt Bits) ℓ) : Prop :=
  True

def Pre_In0DgradIdeal (m : (ℓ : Loc Cert.In0DgradIdeal.nD Cert.In0DgradIdeal.τ Cert.In0DgradIdeal.sig) → Buf (Elt Ideal) ℓ) : Prop :=
  True

def Pre_In0DgradRefIdeal (m : (ℓ : Loc Cert.In0DgradRefIdeal.nD Cert.In0DgradRefIdeal.τ Cert.In0DgradRefIdeal.sig) → Buf (Elt Ideal) ℓ) : Prop :=
  True

def Pre_In0Wgrad (m : (ℓ : Loc Cert.In0Wgrad.nD Cert.In0Wgrad.τ Cert.In0Wgrad.sig) → Buf (Elt Bits) ℓ) : Prop :=
  True

def Pre_In0WgradIdeal (m : (ℓ : Loc Cert.In0WgradIdeal.nD Cert.In0WgradIdeal.τ Cert.In0WgradIdeal.sig) → Buf (Elt Ideal) ℓ) : Prop :=
  True

def Pre_In0WgradRefIdeal (m : (ℓ : Loc Cert.In0WgradRefIdeal.nD Cert.In0WgradRefIdeal.τ Cert.In0WgradRefIdeal.sig) → Buf (Elt Ideal) ℓ) : Prop :=
  True

def Pre_In1Fwd (m : (ℓ : Loc Cert.In1Fwd.nD Cert.In1Fwd.τ Cert.In1Fwd.sig) → Buf (Elt Bits) ℓ) : Prop :=
  True

def Pre_In1FwdIdeal (m : (ℓ : Loc Cert.In1FwdIdeal.nD Cert.In1FwdIdeal.τ Cert.In1FwdIdeal.sig) → Buf (Elt Ideal) ℓ) : Prop :=
  True

def Pre_In1FwdRefIdeal (m : (ℓ : Loc Cert.In1FwdRefIdeal.nD Cert.In1FwdRefIdeal.τ Cert.In1FwdRefIdeal.sig) → Buf (Elt Ideal) ℓ) : Prop :=
  True

def Pre_In1Dgrad (m : (ℓ : Loc Cert.In1Dgrad.nD Cert.In1Dgrad.τ Cert.In1Dgrad.sig) → Buf (Elt Bits) ℓ) : Prop :=
  True

def Pre_In1DgradIdeal (m : (ℓ : Loc Cert.In1DgradIdeal.nD Cert.In1DgradIdeal.τ Cert.In1DgradIdeal.sig) → Buf (Elt Ideal) ℓ) : Prop :=
  True

def Pre_In1DgradRefIdeal (m : (ℓ : Loc Cert.In1DgradRefIdeal.nD Cert.In1DgradRefIdeal.τ Cert.In1DgradRefIdeal.sig) → Buf (Elt Ideal) ℓ) : Prop :=
  True

def Pre_In1Wgrad (m : (ℓ : Loc Cert.In1Wgrad.nD Cert.In1Wgrad.τ Cert.In1Wgrad.sig) → Buf (Elt Bits) ℓ) : Prop :=
  True

def Pre_In1WgradIdeal (m : (ℓ : Loc Cert.In1WgradIdeal.nD Cert.In1WgradIdeal.τ Cert.In1WgradIdeal.sig) → Buf (Elt Ideal) ℓ) : Prop :=
  True

def Pre_In1WgradRefIdeal (m : (ℓ : Loc Cert.In1WgradRefIdeal.nD Cert.In1WgradRefIdeal.τ Cert.In1WgradRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_OutDgrad (m : (ℓ : Loc Cert.OutDgrad.nD Cert.OutDgrad.τ Cert.OutDgrad.sig) → Buf (Elt Bits) ℓ) : Prop :=
  True

def Pre_OutDgradIdeal (m : (ℓ : Loc Cert.OutDgradIdeal.nD Cert.OutDgradIdeal.τ Cert.OutDgradIdeal.sig) → Buf (Elt Ideal) ℓ) : Prop :=
  True

def Pre_OutDgradRefIdeal (m : (ℓ : Loc Cert.OutDgradRefIdeal.nD Cert.OutDgradRefIdeal.τ Cert.OutDgradRefIdeal.sig) → Buf (Elt Ideal) ℓ) : Prop :=
  True

def Pre_OutWgrad (m : (ℓ : Loc Cert.OutWgrad.nD Cert.OutWgrad.τ Cert.OutWgrad.sig) → Buf (Elt Bits) ℓ) : Prop :=
  True

def Pre_OutWgradIdeal (m : (ℓ : Loc Cert.OutWgradIdeal.nD Cert.OutWgradIdeal.τ Cert.OutWgradIdeal.sig) → Buf (Elt Ideal) ℓ) : Prop :=
  True

def Pre_OutWgradRefIdeal (m : (ℓ : Loc Cert.OutWgradRefIdeal.nD Cert.OutWgradRefIdeal.τ Cert.OutWgradRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_fwd_finite [hPre_fwd_finite : Cert.Pre_fwd_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))) = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_fwd_finite [hPre_fwd_finite : Cert.Pre_fwd_finite.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_DownBwd [hDownBwd : Cert.DownBwd.Facts] : Prop :=
  ∀ (m : (ℓ : Loc Cert.DownBwd.nD Cert.DownBwd.τ Cert.DownBwd.sig) → Buf (Elt Bits) ℓ) (g : Dev Cert.DownBwd.nD → PrngReg), Pre_DownBwd m →
    θ_run (Cert.DownBwd.defs (F := Bits)) (onTc (τ := Cert.DownBwd.τ) (Cert.DownBwd.main (F := Bits))) ⟨m, fun _ => 0, g⟩ (fun r => (∀ c : Dev Cert.DownBwd.nD,
      r.2.mem ((c.tc : Thread Cert.DownBwd.nD Cert.DownBwd.τ).loc Cert.DownBwd.main_arg0) = m ((c.tc : Thread Cert.DownBwd.nD Cert.DownBwd.τ).loc Cert.DownBwd.main_arg0)
      ∧ r.2.mem ((c.tc : Thread Cert.DownBwd.nD Cert.DownBwd.τ).loc Cert.DownBwd.main_arg1) = m ((c.tc : Thread Cert.DownBwd.nD Cert.DownBwd.τ).loc Cert.DownBwd.main_arg1)
      ∧ r.2.mem ((c.tc : Thread Cert.DownBwd.nD Cert.DownBwd.τ).loc Cert.DownBwd.main_arg2) = m ((c.tc : Thread Cert.DownBwd.nD Cert.DownBwd.τ).loc Cert.DownBwd.main_arg2)
      ∧ r.2.mem ((c.tc : Thread Cert.DownBwd.nD Cert.DownBwd.τ).loc Cert.DownBwd.main_arg3) = m ((c.tc : Thread Cert.DownBwd.nD Cert.DownBwd.τ).loc Cert.DownBwd.main_arg3))
      ∧ r.2.sem = fun _ => 0)

def quiescent_DownBwdIdeal [hDownBwdIdeal : Cert.DownBwdIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg), Pre_DownBwdIdeal m →
    θ_run (Cert.DownBwdIdeal.defs (F := Ideal)) (onTc (τ := Cert.DownBwdIdeal.τ) (Cert.DownBwdIdeal.main (F := Ideal))) ⟨m, fun _ => 0, g⟩ (fun r => (∀ c : Dev Cert.DownBwdIdeal.nD,
      r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
      ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
      ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2)
      ∧ r.2.mem ((c.tc : Thread Cert.DownBwdIdeal.nD Cert.DownBwdIdeal.τ).loc Cert.DownBwdIdeal.main_arg3) = m ((c.tc : Thread Cert.DownBwdIdeal.nD Cert.DownBwdIdeal.τ).loc Cert.DownBwdIdeal.main_arg3))
      ∧ r.2.sem = fun _ => 0)

def quiescent_DownBwdIdeal_pre_down_bwd_finite [hDownBwdIdeal : Cert.DownBwdIdeal.Facts] [hPre_down_bwd_finite : Cert.Pre_down_bwd_finite.Facts] : Prop :=
  ∀ (m : (ℓ : Loc Cert.DownBwdIdeal.nD Cert.DownBwdIdeal.τ Cert.DownBwdIdeal.sig) → Buf (Elt Ideal) ℓ) (g : Dev Cert.DownBwdIdeal.nD → PrngReg), Pre_DownBwdIdeal_down_bwd_finite m →
    θ_run (Cert.DownBwdIdeal.defs (F := Ideal)) (onTc (τ := Cert.DownBwdIdeal.τ) (Cert.DownBwdIdeal.main (F := Ideal))) ⟨m, fun _ => 0, g⟩ (fun r => (∀ c : Dev Cert.DownBwdIdeal.nD,
      r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
      ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
      ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2)
      ∧ r.2.mem ((c.tc : Thread Cert.DownBwdIdeal.nD Cert.DownBwdIdeal.τ).loc Cert.DownBwdIdeal.main_arg3) = m ((c.tc : Thread Cert.DownBwdIdeal.nD Cert.DownBwdIdeal.τ).loc Cert.DownBwdIdeal.main_arg3))
      ∧ r.2.sem = fun _ => 0)

def quiescent_DownBwdRefIdeal [hDownBwdRefIdeal : Cert.DownBwdRefIdeal.Facts] : Prop :=
  ∀ (m : (ℓ : Loc Cert.DownBwdRefIdeal.nD Cert.DownBwdRefIdeal.τ Cert.DownBwdRefIdeal.sig) → Buf (Elt Ideal) ℓ) (g : Dev Cert.DownBwdRefIdeal.nD → PrngReg), Pre_DownBwdRefIdeal m →
    θ_run (Cert.DownBwdRefIdeal.defs (F := Ideal)) (onTc (τ := Cert.DownBwdRefIdeal.τ) (Cert.DownBwdRefIdeal.main (F := Ideal))) ⟨m, fun _ => 0, g⟩ (fun r => (∀ c : Dev Cert.DownBwdRefIdeal.nD,
      r.2.mem ((c.tc : Thread Cert.DownBwdRefIdeal.nD Cert.DownBwdRefIdeal.τ).loc Cert.DownBwdRefIdeal.main_arg0) = m ((c.tc : Thread Cert.DownBwdRefIdeal.nD Cert.DownBwdRefIdeal.τ).loc Cert.DownBwdRefIdeal.main_arg0)
      ∧ r.2.mem ((c.tc : Thread Cert.DownBwdRefIdeal.nD Cert.DownBwdRefIdeal.τ).loc Cert.DownBwdRefIdeal.main_arg1) = m ((c.tc : Thread Cert.DownBwdRefIdeal.nD Cert.DownBwdRefIdeal.τ).loc Cert.DownBwdRefIdeal.main_arg1)
      ∧ r.2.mem ((c.tc : Thread Cert.DownBwdRefIdeal.nD Cert.DownBwdRefIdeal.τ).loc Cert.DownBwdRefIdeal.main_arg2) = m ((c.tc : Thread Cert.DownBwdRefIdeal.nD Cert.DownBwdRefIdeal.τ).loc Cert.DownBwdRefIdeal.main_arg2)
      ∧ r.2.mem ((c.tc : Thread Cert.DownBwdRefIdeal.nD Cert.DownBwdRefIdeal.τ).loc Cert.DownBwdRefIdeal.main_arg3) = m ((c.tc : Thread Cert.DownBwdRefIdeal.nD Cert.DownBwdRefIdeal.τ).loc Cert.DownBwdRefIdeal.main_arg3))
      ∧ r.2.sem = fun _ => 0)

def quiescent_DownBwdRefIdeal_pre_down_bwd_finite [hDownBwdRefIdeal : Cert.DownBwdRefIdeal.Facts] [hPre_down_bwd_finite : Cert.Pre_down_bwd_finite.Facts] : Prop :=
  ∀ (m : (ℓ : Loc Cert.DownBwdRefIdeal.nD Cert.DownBwdRefIdeal.τ Cert.DownBwdRefIdeal.sig) → Buf (Elt Ideal) ℓ) (g : Dev Cert.DownBwdRefIdeal.nD → PrngReg), Pre_DownBwdRefIdeal_down_bwd_finite m →
    θ_run (Cert.DownBwdRefIdeal.defs (F := Ideal)) (onTc (τ := Cert.DownBwdRefIdeal.τ) (Cert.DownBwdRefIdeal.main (F := Ideal))) ⟨m, fun _ => 0, g⟩ (fun r => (∀ c : Dev Cert.DownBwdRefIdeal.nD,
      r.2.mem ((c.tc : Thread Cert.DownBwdRefIdeal.nD Cert.DownBwdRefIdeal.τ).loc Cert.DownBwdRefIdeal.main_arg0) = m ((c.tc : Thread Cert.DownBwdRefIdeal.nD Cert.DownBwdRefIdeal.τ).loc Cert.DownBwdRefIdeal.main_arg0)
      ∧ r.2.mem ((c.tc : Thread Cert.DownBwdRefIdeal.nD Cert.DownBwdRefIdeal.τ).loc Cert.DownBwdRefIdeal.main_arg1) = m ((c.tc : Thread Cert.DownBwdRefIdeal.nD Cert.DownBwdRefIdeal.τ).loc Cert.DownBwdRefIdeal.main_arg1)
      ∧ r.2.mem ((c.tc : Thread Cert.DownBwdRefIdeal.nD Cert.DownBwdRefIdeal.τ).loc Cert.DownBwdRefIdeal.main_arg2) = m ((c.tc : Thread Cert.DownBwdRefIdeal.nD Cert.DownBwdRefIdeal.τ).loc Cert.DownBwdRefIdeal.main_arg2)
      ∧ r.2.mem ((c.tc : Thread Cert.DownBwdRefIdeal.nD Cert.DownBwdRefIdeal.τ).loc Cert.DownBwdRefIdeal.main_arg3) = m ((c.tc : Thread Cert.DownBwdRefIdeal.nD Cert.DownBwdRefIdeal.τ).loc Cert.DownBwdRefIdeal.main_arg3))
      ∧ r.2.sem = fun _ => 0)

def quiescent_GateDgrad [hGateDgrad : Cert.GateDgrad.Facts] : Prop :=
  ∀ (m : (ℓ : Loc Cert.GateDgrad.nD Cert.GateDgrad.τ Cert.GateDgrad.sig) → Buf (Elt Bits) ℓ) (g : Dev Cert.GateDgrad.nD → PrngReg), Pre_GateDgrad m →
    θ_run (Cert.GateDgrad.defs (F := Bits)) (onTc (τ := Cert.GateDgrad.τ) (Cert.GateDgrad.main (F := Bits))) ⟨m, fun _ => 0, g⟩ (fun r => (∀ c : Dev Cert.GateDgrad.nD,
      r.2.mem ((c.tc : Thread Cert.GateDgrad.nD Cert.GateDgrad.τ).loc Cert.GateDgrad.main_arg0) = m ((c.tc : Thread Cert.GateDgrad.nD Cert.GateDgrad.τ).loc Cert.GateDgrad.main_arg0)
      ∧ r.2.mem ((c.tc : Thread Cert.GateDgrad.nD Cert.GateDgrad.τ).loc Cert.GateDgrad.main_arg1) = m ((c.tc : Thread Cert.GateDgrad.nD Cert.GateDgrad.τ).loc Cert.GateDgrad.main_arg1))
      ∧ r.2.sem = fun _ => 0)

def quiescent_GateDgradIdeal [hGateDgradIdeal : Cert.GateDgradIdeal.Facts] : Prop :=
  ∀ (m : (ℓ : Loc Cert.GateDgradIdeal.nD Cert.GateDgradIdeal.τ Cert.GateDgradIdeal.sig) → Buf (Elt Ideal) ℓ) (g : Dev Cert.GateDgradIdeal.nD → PrngReg), Pre_GateDgradIdeal m →
    θ_run (Cert.GateDgradIdeal.defs (F := Ideal)) (onTc (τ := Cert.GateDgradIdeal.τ) (Cert.GateDgradIdeal.main (F := Ideal))) ⟨m, fun _ => 0, g⟩ (fun r => (∀ c : Dev Cert.GateDgradIdeal.nD,
      r.2.mem ((c.tc : Thread Cert.GateDgradIdeal.nD Cert.GateDgradIdeal.τ).loc Cert.GateDgradIdeal.main_arg0) = m ((c.tc : Thread Cert.GateDgradIdeal.nD Cert.GateDgradIdeal.τ).loc Cert.GateDgradIdeal.main_arg0)
      ∧ r.2.mem ((c.tc : Thread Cert.GateDgradIdeal.nD Cert.GateDgradIdeal.τ).loc Cert.GateDgradIdeal.main_arg1) = m ((c.tc : Thread Cert.GateDgradIdeal.nD Cert.GateDgradIdeal.τ).loc Cert.GateDgradIdeal.main_arg1))
      ∧ r.2.sem = fun _ => 0)

def quiescent_GateDgradRefIdeal [hGateDgradRefIdeal : Cert.GateDgradRefIdeal.Facts] : Prop :=
  ∀ (m : (ℓ : Loc Cert.GateDgradRefIdeal.nD Cert.GateDgradRefIdeal.τ Cert.GateDgradRefIdeal.sig) → Buf (Elt Ideal) ℓ) (g : Dev Cert.GateDgradRefIdeal.nD → PrngReg), Pre_GateDgradRefIdeal m →
    θ_run (Cert.GateDgradRefIdeal.defs (F := Ideal)) (onTc (τ := Cert.GateDgradRefIdeal.τ) (Cert.GateDgradRefIdeal.main (F := Ideal))) ⟨m, fun _ => 0, g⟩ (fun r => (∀ c : Dev Cert.GateDgradRefIdeal.nD,
      r.2.mem ((c.tc : Thread Cert.GateDgradRefIdeal.nD Cert.GateDgradRefIdeal.τ).loc Cert.GateDgradRefIdeal.main_arg0) = m ((c.tc : Thread Cert.GateDgradRefIdeal.nD Cert.GateDgradRefIdeal.τ).loc Cert.GateDgradRefIdeal.main_arg0)
      ∧ r.2.mem ((c.tc : Thread Cert.GateDgradRefIdeal.nD Cert.GateDgradRefIdeal.τ).loc Cert.GateDgradRefIdeal.main_arg1) = m ((c.tc : Thread Cert.GateDgradRefIdeal.nD Cert.GateDgradRefIdeal.τ).loc Cert.GateDgradRefIdeal.main_arg1))
      ∧ r.2.sem = fun _ => 0)

def quiescent_UpDgrad [hUpDgrad : Cert.UpDgrad.Facts] : Prop :=
  ∀ (m : (ℓ : Loc Cert.UpDgrad.nD Cert.UpDgrad.τ Cert.UpDgrad.sig) → Buf (Elt Bits) ℓ) (g : Dev Cert.UpDgrad.nD → PrngReg), Pre_UpDgrad m →
    θ_run (Cert.UpDgrad.defs (F := Bits)) (onTc (τ := Cert.UpDgrad.τ) (Cert.UpDgrad.main (F := Bits))) ⟨m, fun _ => 0, g⟩ (fun r => (∀ c : Dev Cert.UpDgrad.nD,
      r.2.mem ((c.tc : Thread Cert.UpDgrad.nD Cert.UpDgrad.τ).loc Cert.UpDgrad.main_arg0) = m ((c.tc : Thread Cert.UpDgrad.nD Cert.UpDgrad.τ).loc Cert.UpDgrad.main_arg0)
      ∧ r.2.mem ((c.tc : Thread Cert.UpDgrad.nD Cert.UpDgrad.τ).loc Cert.UpDgrad.main_arg1) = m ((c.tc : Thread Cert.UpDgrad.nD Cert.UpDgrad.τ).loc Cert.UpDgrad.main_arg1)
      ∧ r.2.mem ((c.tc : Thread Cert.UpDgrad.nD Cert.UpDgrad.τ).loc Cert.UpDgrad.main_arg2) = m ((c.tc : Thread Cert.UpDgrad.nD Cert.UpDgrad.τ).loc Cert.UpDgrad.main_arg2))
      ∧ r.2.sem = fun _ => 0)

def quiescent_UpDgradIdeal [hUpDgradIdeal : Cert.UpDgradIdeal.Facts] : Prop :=
  ∀ (m : (ℓ : Loc Cert.UpDgradIdeal.nD Cert.UpDgradIdeal.τ Cert.UpDgradIdeal.sig) → Buf (Elt Ideal) ℓ) (g : Dev Cert.UpDgradIdeal.nD → PrngReg), Pre_UpDgradIdeal m →
    θ_run (Cert.UpDgradIdeal.defs (F := Ideal)) (onTc (τ := Cert.UpDgradIdeal.τ) (Cert.UpDgradIdeal.main (F := Ideal))) ⟨m, fun _ => 0, g⟩ (fun r => (∀ c : Dev Cert.UpDgradIdeal.nD,
      r.2.mem ((c.tc : Thread Cert.UpDgradIdeal.nD Cert.UpDgradIdeal.τ).loc Cert.UpDgradIdeal.main_arg0) = m ((c.tc : Thread Cert.UpDgradIdeal.nD Cert.UpDgradIdeal.τ).loc Cert.UpDgradIdeal.main_arg0)
      ∧ r.2.mem ((c.tc : Thread Cert.UpDgradIdeal.nD Cert.UpDgradIdeal.τ).loc Cert.UpDgradIdeal.main_arg1) = m ((c.tc : Thread Cert.UpDgradIdeal.nD Cert.UpDgradIdeal.τ).loc Cert.UpDgradIdeal.main_arg1)
      ∧ r.2.mem ((c.tc : Thread Cert.UpDgradIdeal.nD Cert.UpDgradIdeal.τ).loc Cert.UpDgradIdeal.main_arg2) = m ((c.tc : Thread Cert.UpDgradIdeal.nD Cert.UpDgradIdeal.τ).loc Cert.UpDgradIdeal.main_arg2))
      ∧ r.2.sem = fun _ => 0)

def quiescent_UpDgradRefIdeal [hUpDgradRefIdeal : Cert.UpDgradRefIdeal.Facts] : Prop :=
  ∀ (m : (ℓ : Loc Cert.UpDgradRefIdeal.nD Cert.UpDgradRefIdeal.τ Cert.UpDgradRefIdeal.sig) → Buf (Elt Ideal) ℓ) (g : Dev Cert.UpDgradRefIdeal.nD → PrngReg), Pre_UpDgradRefIdeal m →
    θ_run (Cert.UpDgradRefIdeal.defs (F := Ideal)) (onTc (τ := Cert.UpDgradRefIdeal.τ) (Cert.UpDgradRefIdeal.main (F := Ideal))) ⟨m, fun _ => 0, g⟩ (fun r => (∀ c : Dev Cert.UpDgradRefIdeal.nD,
      r.2.mem ((c.tc : Thread Cert.UpDgradRefIdeal.nD Cert.UpDgradRefIdeal.τ).loc Cert.UpDgradRefIdeal.main_arg0) = m ((c.tc : Thread Cert.UpDgradRefIdeal.nD Cert.UpDgradRefIdeal.τ).loc Cert.UpDgradRefIdeal.main_arg0)
      ∧ r.2.mem ((c.tc : Thread Cert.UpDgradRefIdeal.nD Cert.UpDgradRefIdeal.τ).loc Cert.UpDgradRefIdeal.main_arg1) = m ((c.tc : Thread Cert.UpDgradRefIdeal.nD Cert.UpDgradRefIdeal.τ).loc Cert.UpDgradRefIdeal.main_arg1)
      ∧ r.2.mem ((c.tc : Thread Cert.UpDgradRefIdeal.nD Cert.UpDgradRefIdeal.τ).loc Cert.UpDgradRefIdeal.main_arg2) = m ((c.tc : Thread Cert.UpDgradRefIdeal.nD Cert.UpDgradRefIdeal.τ).loc Cert.UpDgradRefIdeal.main_arg2))
      ∧ r.2.sem = fun _ => 0)

def quiescent_GateWgrad [hGateWgrad : Cert.GateWgrad.Facts] : Prop :=
  ∀ (m : (ℓ : Loc Cert.GateWgrad.nD Cert.GateWgrad.τ Cert.GateWgrad.sig) → Buf (Elt Bits) ℓ) (g : Dev Cert.GateWgrad.nD → PrngReg), Pre_GateWgrad m →
    θ_run (Cert.GateWgrad.defs (F := Bits)) (onTc (τ := Cert.GateWgrad.τ) (Cert.GateWgrad.main (F := Bits))) ⟨m, fun _ => 0, g⟩ (fun r => (∀ c : Dev Cert.GateWgrad.nD,
      r.2.mem ((c.tc : Thread Cert.GateWgrad.nD Cert.GateWgrad.τ).loc Cert.GateWgrad.main_arg0) = m ((c.tc : Thread Cert.GateWgrad.nD Cert.GateWgrad.τ).loc Cert.GateWgrad.main_arg0)
      ∧ r.2.mem ((c.tc : Thread Cert.GateWgrad.nD Cert.GateWgrad.τ).loc Cert.GateWgrad.main_arg1) = m ((c.tc : Thread Cert.GateWgrad.nD Cert.GateWgrad.τ).loc Cert.GateWgrad.main_arg1))
      ∧ r.2.sem = fun _ => 0)

def quiescent_GateWgradIdeal [hGateWgradIdeal : Cert.GateWgradIdeal.Facts] : Prop :=
  ∀ (m : (ℓ : Loc Cert.GateWgradIdeal.nD Cert.GateWgradIdeal.τ Cert.GateWgradIdeal.sig) → Buf (Elt Ideal) ℓ) (g : Dev Cert.GateWgradIdeal.nD → PrngReg), Pre_GateWgradIdeal m →
    θ_run (Cert.GateWgradIdeal.defs (F := Ideal)) (onTc (τ := Cert.GateWgradIdeal.τ) (Cert.GateWgradIdeal.main (F := Ideal))) ⟨m, fun _ => 0, g⟩ (fun r => (∀ c : Dev Cert.GateWgradIdeal.nD,
      r.2.mem ((c.tc : Thread Cert.GateWgradIdeal.nD Cert.GateWgradIdeal.τ).loc Cert.GateWgradIdeal.main_arg0) = m ((c.tc : Thread Cert.GateWgradIdeal.nD Cert.GateWgradIdeal.τ).loc Cert.GateWgradIdeal.main_arg0)
      ∧ r.2.mem ((c.tc : Thread Cert.GateWgradIdeal.nD Cert.GateWgradIdeal.τ).loc Cert.GateWgradIdeal.main_arg1) = m ((c.tc : Thread Cert.GateWgradIdeal.nD Cert.GateWgradIdeal.τ).loc Cert.GateWgradIdeal.main_arg1))
      ∧ r.2.sem = fun _ => 0)

def quiescent_GateWgradRefIdeal [hGateWgradRefIdeal : Cert.GateWgradRefIdeal.Facts] : Prop :=
  ∀ (m : (ℓ : Loc Cert.GateWgradRefIdeal.nD Cert.GateWgradRefIdeal.τ Cert.GateWgradRefIdeal.sig) → Buf (Elt Ideal) ℓ) (g : Dev Cert.GateWgradRefIdeal.nD → PrngReg), Pre_GateWgradRefIdeal m →
    θ_run (Cert.GateWgradRefIdeal.defs (F := Ideal)) (onTc (τ := Cert.GateWgradRefIdeal.τ) (Cert.GateWgradRefIdeal.main (F := Ideal))) ⟨m, fun _ => 0, g⟩ (fun r => (∀ c : Dev Cert.GateWgradRefIdeal.nD,
      r.2.mem ((c.tc : Thread Cert.GateWgradRefIdeal.nD Cert.GateWgradRefIdeal.τ).loc Cert.GateWgradRefIdeal.main_arg0) = m ((c.tc : Thread Cert.GateWgradRefIdeal.nD Cert.GateWgradRefIdeal.τ).loc Cert.GateWgradRefIdeal.main_arg0)
      ∧ r.2.mem ((c.tc : Thread Cert.GateWgradRefIdeal.nD Cert.GateWgradRefIdeal.τ).loc Cert.GateWgradRefIdeal.main_arg1) = m ((c.tc : Thread Cert.GateWgradRefIdeal.nD Cert.GateWgradRefIdeal.τ).loc Cert.GateWgradRefIdeal.main_arg1))
      ∧ r.2.sem = fun _ => 0)

def quiescent_DownWgrad [hDownWgrad : Cert.DownWgrad.Facts] : Prop :=
  ∀ (m : (ℓ : Loc Cert.DownWgrad.nD Cert.DownWgrad.τ Cert.DownWgrad.sig) → Buf (Elt Bits) ℓ) (g : Dev Cert.DownWgrad.nD → PrngReg), Pre_DownWgrad m →
    θ_run (Cert.DownWgrad.defs (F := Bits)) (onTc (τ := Cert.DownWgrad.τ) (Cert.DownWgrad.main (F := Bits))) ⟨m, fun _ => 0, g⟩ (fun r => (∀ c : Dev Cert.DownWgrad.nD,
      r.2.mem ((c.tc : Thread Cert.DownWgrad.nD Cert.DownWgrad.τ).loc Cert.DownWgrad.main_arg0) = m ((c.tc : Thread Cert.DownWgrad.nD Cert.DownWgrad.τ).loc Cert.DownWgrad.main_arg0)
      ∧ r.2.mem ((c.tc : Thread Cert.DownWgrad.nD Cert.DownWgrad.τ).loc Cert.DownWgrad.main_arg1) = m ((c.tc : Thread Cert.DownWgrad.nD Cert.DownWgrad.τ).loc Cert.DownWgrad.main_arg1))
      ∧ r.2.sem = fun _ => 0)

def quiescent_DownWgradIdeal [hDownWgradIdeal : Cert.DownWgradIdeal.Facts] : Prop :=
  ∀ (m : (ℓ : Loc Cert.DownWgradIdeal.nD Cert.DownWgradIdeal.τ Cert.DownWgradIdeal.sig) → Buf (Elt Ideal) ℓ) (g : Dev Cert.DownWgradIdeal.nD → PrngReg), Pre_DownWgradIdeal m →
    θ_run (Cert.DownWgradIdeal.defs (F := Ideal)) (onTc (τ := Cert.DownWgradIdeal.τ) (Cert.DownWgradIdeal.main (F := Ideal))) ⟨m, fun _ => 0, g⟩ (fun r => (∀ c : Dev Cert.DownWgradIdeal.nD,
      r.2.mem ((c.tc : Thread Cert.DownWgradIdeal.nD Cert.DownWgradIdeal.τ).loc Cert.DownWgradIdeal.main_arg0) = m ((c.tc : Thread Cert.DownWgradIdeal.nD Cert.DownWgradIdeal.τ).loc Cert.DownWgradIdeal.main_arg0)
      ∧ r.2.mem ((c.tc : Thread Cert.DownWgradIdeal.nD Cert.DownWgradIdeal.τ).loc Cert.DownWgradIdeal.main_arg1) = m ((c.tc : Thread Cert.DownWgradIdeal.nD Cert.DownWgradIdeal.τ).loc Cert.DownWgradIdeal.main_arg1))
      ∧ r.2.sem = fun _ => 0)

def quiescent_DownWgradRefIdeal [hDownWgradRefIdeal : Cert.DownWgradRefIdeal.Facts] : Prop :=
  ∀ (m : (ℓ : Loc Cert.DownWgradRefIdeal.nD Cert.DownWgradRefIdeal.τ Cert.DownWgradRefIdeal.sig) → Buf (Elt Ideal) ℓ) (g : Dev Cert.DownWgradRefIdeal.nD → PrngReg), Pre_DownWgradRefIdeal m →
    θ_run (Cert.DownWgradRefIdeal.defs (F := Ideal)) (onTc (τ := Cert.DownWgradRefIdeal.τ) (Cert.DownWgradRefIdeal.main (F := Ideal))) ⟨m, fun _ => 0, g⟩ (fun r => (∀ c : Dev Cert.DownWgradRefIdeal.nD,
      r.2.mem ((c.tc : Thread Cert.DownWgradRefIdeal.nD Cert.DownWgradRefIdeal.τ).loc Cert.DownWgradRefIdeal.main_arg0) = m ((c.tc : Thread Cert.DownWgradRefIdeal.nD Cert.DownWgradRefIdeal.τ).loc Cert.DownWgradRefIdeal.main_arg0)
      ∧ r.2.mem ((c.tc : Thread Cert.DownWgradRefIdeal.nD Cert.DownWgradRefIdeal.τ).loc Cert.DownWgradRefIdeal.main_arg1) = m ((c.tc : Thread Cert.DownWgradRefIdeal.nD Cert.DownWgradRefIdeal.τ).loc Cert.DownWgradRefIdeal.main_arg1))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2))
      ∧ r.2.sem = fun _ => 0)

def quiescent_FfnInIdeal_pre_ffn_in_finite [hFfnInIdeal : Cert.FfnInIdeal.Facts] [hPre_ffn_in_finite : Cert.Pre_ffn_in_finite.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal_ffn_in_finite m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2))
      ∧ r.2.sem = fun _ => 0)

def quiescent_FfnInRefIdeal_pre_ffn_in_finite [hFfnInRefIdeal : Cert.FfnInRefIdeal.Facts] [hPre_ffn_in_finite : Cert.Pre_ffn_in_finite.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal_ffn_in_finite m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1)
      ∧ r.2.mem ((c.tc : Thread Cert.DownFwd.nD Cert.DownFwd.τ).loc Cert.DownFwd.main_arg2) = m ((c.tc : Thread Cert.DownFwd.nD Cert.DownFwd.τ).loc Cert.DownFwd.main_arg2)
      ∧ r.2.mem ((c.tc : Thread Cert.DownFwd.nD Cert.DownFwd.τ).loc Cert.DownFwd.main_arg3) = m ((c.tc : Thread Cert.DownFwd.nD Cert.DownFwd.τ).loc Cert.DownFwd.main_arg3))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
      ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2)
      ∧ r.2.mem ((c.tc : Thread Cert.DownFwdIdeal.nD Cert.DownFwdIdeal.τ).loc Cert.DownFwdIdeal.main_arg3) = m ((c.tc : Thread Cert.DownFwdIdeal.nD Cert.DownFwdIdeal.τ).loc Cert.DownFwdIdeal.main_arg3))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1)
      ∧ r.2.mem ((c.tc : Thread Cert.DownFwdRefIdeal.nD Cert.DownFwdRefIdeal.τ).loc Cert.DownFwdRefIdeal.main_arg2) = m ((c.tc : Thread Cert.DownFwdRefIdeal.nD Cert.DownFwdRefIdeal.τ).loc Cert.DownFwdRefIdeal.main_arg2)
      ∧ r.2.mem ((c.tc : Thread Cert.DownFwdRefIdeal.nD Cert.DownFwdRefIdeal.τ).loc Cert.DownFwdRefIdeal.main_arg3) = m ((c.tc : Thread Cert.DownFwdRefIdeal.nD Cert.DownFwdRefIdeal.τ).loc Cert.DownFwdRefIdeal.main_arg3))
      ∧ r.2.sem = fun _ => 0)

def quiescent_In0Fwd [hIn0Fwd : Cert.In0Fwd.Facts] : Prop :=
  ∀ (m : (ℓ : Loc Cert.In0Fwd.nD Cert.In0Fwd.τ Cert.In0Fwd.sig) → Buf (Elt Bits) ℓ) (g : Dev Cert.In0Fwd.nD → PrngReg), Pre_In0Fwd m →
    θ_run (Cert.In0Fwd.defs (F := Bits)) (onTc (τ := Cert.In0Fwd.τ) (Cert.In0Fwd.main (F := Bits))) ⟨m, fun _ => 0, g⟩ (fun r => (∀ c : Dev Cert.In0Fwd.nD,
      r.2.mem ((c.tc : Thread Cert.In0Fwd.nD Cert.In0Fwd.τ).loc Cert.In0Fwd.main_arg0) = m ((c.tc : Thread Cert.In0Fwd.nD Cert.In0Fwd.τ).loc Cert.In0Fwd.main_arg0)
      ∧ r.2.mem ((c.tc : Thread Cert.In0Fwd.nD Cert.In0Fwd.τ).loc Cert.In0Fwd.main_arg1) = m ((c.tc : Thread Cert.In0Fwd.nD Cert.In0Fwd.τ).loc Cert.In0Fwd.main_arg1))
      ∧ r.2.sem = fun _ => 0)

def quiescent_In0FwdIdeal [hIn0FwdIdeal : Cert.In0FwdIdeal.Facts] : Prop :=
  ∀ (m : (ℓ : Loc Cert.In0FwdIdeal.nD Cert.In0FwdIdeal.τ Cert.In0FwdIdeal.sig) → Buf (Elt Ideal) ℓ) (g : Dev Cert.In0FwdIdeal.nD → PrngReg), Pre_In0FwdIdeal m →
    θ_run (Cert.In0FwdIdeal.defs (F := Ideal)) (onTc (τ := Cert.In0FwdIdeal.τ) (Cert.In0FwdIdeal.main (F := Ideal))) ⟨m, fun _ => 0, g⟩ (fun r => (∀ c : Dev Cert.In0FwdIdeal.nD,
      r.2.mem ((c.tc : Thread Cert.In0FwdIdeal.nD Cert.In0FwdIdeal.τ).loc Cert.In0FwdIdeal.main_arg0) = m ((c.tc : Thread Cert.In0FwdIdeal.nD Cert.In0FwdIdeal.τ).loc Cert.In0FwdIdeal.main_arg0)
      ∧ r.2.mem ((c.tc : Thread Cert.In0FwdIdeal.nD Cert.In0FwdIdeal.τ).loc Cert.In0FwdIdeal.main_arg1) = m ((c.tc : Thread Cert.In0FwdIdeal.nD Cert.In0FwdIdeal.τ).loc Cert.In0FwdIdeal.main_arg1))
      ∧ r.2.sem = fun _ => 0)

def quiescent_In0FwdRefIdeal [hIn0FwdRefIdeal : Cert.In0FwdRefIdeal.Facts] : Prop :=
  ∀ (m : (ℓ : Loc Cert.In0FwdRefIdeal.nD Cert.In0FwdRefIdeal.τ Cert.In0FwdRefIdeal.sig) → Buf (Elt Ideal) ℓ) (g : Dev Cert.In0FwdRefIdeal.nD → PrngReg), Pre_In0FwdRefIdeal m →
    θ_run (Cert.In0FwdRefIdeal.defs (F := Ideal)) (onTc (τ := Cert.In0FwdRefIdeal.τ) (Cert.In0FwdRefIdeal.main (F := Ideal))) ⟨m, fun _ => 0, g⟩ (fun r => (∀ c : Dev Cert.In0FwdRefIdeal.nD,
      r.2.mem ((c.tc : Thread Cert.In0FwdRefIdeal.nD Cert.In0FwdRefIdeal.τ).loc Cert.In0FwdRefIdeal.main_arg0) = m ((c.tc : Thread Cert.In0FwdRefIdeal.nD Cert.In0FwdRefIdeal.τ).loc Cert.In0FwdRefIdeal.main_arg0)
      ∧ r.2.mem ((c.tc : Thread Cert.In0FwdRefIdeal.nD Cert.In0FwdRefIdeal.τ).loc Cert.In0FwdRefIdeal.main_arg1) = m ((c.tc : Thread Cert.In0FwdRefIdeal.nD Cert.In0FwdRefIdeal.τ).loc Cert.In0FwdRefIdeal.main_arg1))
      ∧ r.2.sem = fun _ => 0)

def quiescent_In0Dgrad [hIn0Dgrad : Cert.In0Dgrad.Facts] : Prop :=
  ∀ (m : (ℓ : Loc Cert.In0Dgrad.nD Cert.In0Dgrad.τ Cert.In0Dgrad.sig) → Buf (Elt Bits) ℓ) (g : Dev Cert.In0Dgrad.nD → PrngReg), Pre_In0Dgrad m →
    θ_run (Cert.In0Dgrad.defs (F := Bits)) (onTc (τ := Cert.In0Dgrad.τ) (Cert.In0Dgrad.main (F := Bits))) ⟨m, fun _ => 0, g⟩ (fun r => (∀ c : Dev Cert.In0Dgrad.nD,
      r.2.mem ((c.tc : Thread Cert.In0Dgrad.nD Cert.In0Dgrad.τ).loc Cert.In0Dgrad.main_arg0) = m ((c.tc : Thread Cert.In0Dgrad.nD Cert.In0Dgrad.τ).loc Cert.In0Dgrad.main_arg0)
      ∧ r.2.mem ((c.tc : Thread Cert.In0Dgrad.nD Cert.In0Dgrad.τ).loc Cert.In0Dgrad.main_arg1) = m ((c.tc : Thread Cert.In0Dgrad.nD Cert.In0Dgrad.τ).loc Cert.In0Dgrad.main_arg1))
      ∧ r.2.sem = fun _ => 0)

def quiescent_In0DgradIdeal [hIn0DgradIdeal : Cert.In0DgradIdeal.Facts] : Prop :=
  ∀ (m : (ℓ : Loc Cert.In0DgradIdeal.nD Cert.In0DgradIdeal.τ Cert.In0DgradIdeal.sig) → Buf (Elt Ideal) ℓ) (g : Dev Cert.In0DgradIdeal.nD → PrngReg), Pre_In0DgradIdeal m →
    θ_run (Cert.In0DgradIdeal.defs (F := Ideal)) (onTc (τ := Cert.In0DgradIdeal.τ) (Cert.In0DgradIdeal.main (F := Ideal))) ⟨m, fun _ => 0, g⟩ (fun r => (∀ c : Dev Cert.In0DgradIdeal.nD,
      r.2.mem ((c.tc : Thread Cert.In0DgradIdeal.nD Cert.In0DgradIdeal.τ).loc Cert.In0DgradIdeal.main_arg0) = m ((c.tc : Thread Cert.In0DgradIdeal.nD Cert.In0DgradIdeal.τ).loc Cert.In0DgradIdeal.main_arg0)
      ∧ r.2.mem ((c.tc : Thread Cert.In0DgradIdeal.nD Cert.In0DgradIdeal.τ).loc Cert.In0DgradIdeal.main_arg1) = m ((c.tc : Thread Cert.In0DgradIdeal.nD Cert.In0DgradIdeal.τ).loc Cert.In0DgradIdeal.main_arg1))
      ∧ r.2.sem = fun _ => 0)

def quiescent_In0DgradRefIdeal [hIn0DgradRefIdeal : Cert.In0DgradRefIdeal.Facts] : Prop :=
  ∀ (m : (ℓ : Loc Cert.In0DgradRefIdeal.nD Cert.In0DgradRefIdeal.τ Cert.In0DgradRefIdeal.sig) → Buf (Elt Ideal) ℓ) (g : Dev Cert.In0DgradRefIdeal.nD → PrngReg), Pre_In0DgradRefIdeal m →
    θ_run (Cert.In0DgradRefIdeal.defs (F := Ideal)) (onTc (τ := Cert.In0DgradRefIdeal.τ) (Cert.In0DgradRefIdeal.main (F := Ideal))) ⟨m, fun _ => 0, g⟩ (fun r => (∀ c : Dev Cert.In0DgradRefIdeal.nD,
      r.2.mem ((c.tc : Thread Cert.In0DgradRefIdeal.nD Cert.In0DgradRefIdeal.τ).loc Cert.In0DgradRefIdeal.main_arg0) = m ((c.tc : Thread Cert.In0DgradRefIdeal.nD Cert.In0DgradRefIdeal.τ).loc Cert.In0DgradRefIdeal.main_arg0)
      ∧ r.2.mem ((c.tc : Thread Cert.In0DgradRefIdeal.nD Cert.In0DgradRefIdeal.τ).loc Cert.In0DgradRefIdeal.main_arg1) = m ((c.tc : Thread Cert.In0DgradRefIdeal.nD Cert.In0DgradRefIdeal.τ).loc Cert.In0DgradRefIdeal.main_arg1))
      ∧ r.2.sem = fun _ => 0)

def quiescent_In0Wgrad [hIn0Wgrad : Cert.In0Wgrad.Facts] : Prop :=
  ∀ (m : (ℓ : Loc Cert.In0Wgrad.nD Cert.In0Wgrad.τ Cert.In0Wgrad.sig) → Buf (Elt Bits) ℓ) (g : Dev Cert.In0Wgrad.nD → PrngReg), Pre_In0Wgrad m →
    θ_run (Cert.In0Wgrad.defs (F := Bits)) (onTc (τ := Cert.In0Wgrad.τ) (Cert.In0Wgrad.main (F := Bits))) ⟨m, fun _ => 0, g⟩ (fun r => (∀ c : Dev Cert.In0Wgrad.nD,
      r.2.mem ((c.tc : Thread Cert.In0Wgrad.nD Cert.In0Wgrad.τ).loc Cert.In0Wgrad.main_arg0) = m ((c.tc : Thread Cert.In0Wgrad.nD Cert.In0Wgrad.τ).loc Cert.In0Wgrad.main_arg0)
      ∧ r.2.mem ((c.tc : Thread Cert.In0Wgrad.nD Cert.In0Wgrad.τ).loc Cert.In0Wgrad.main_arg1) = m ((c.tc : Thread Cert.In0Wgrad.nD Cert.In0Wgrad.τ).loc Cert.In0Wgrad.main_arg1))
      ∧ r.2.sem = fun _ => 0)

def quiescent_In0WgradIdeal [hIn0WgradIdeal : Cert.In0WgradIdeal.Facts] : Prop :=
  ∀ (m : (ℓ : Loc Cert.In0WgradIdeal.nD Cert.In0WgradIdeal.τ Cert.In0WgradIdeal.sig) → Buf (Elt Ideal) ℓ) (g : Dev Cert.In0WgradIdeal.nD → PrngReg), Pre_In0WgradIdeal m →
    θ_run (Cert.In0WgradIdeal.defs (F := Ideal)) (onTc (τ := Cert.In0WgradIdeal.τ) (Cert.In0WgradIdeal.main (F := Ideal))) ⟨m, fun _ => 0, g⟩ (fun r => (∀ c : Dev Cert.In0WgradIdeal.nD,
      r.2.mem ((c.tc : Thread Cert.In0WgradIdeal.nD Cert.In0WgradIdeal.τ).loc Cert.In0WgradIdeal.main_arg0) = m ((c.tc : Thread Cert.In0WgradIdeal.nD Cert.In0WgradIdeal.τ).loc Cert.In0WgradIdeal.main_arg0)
      ∧ r.2.mem ((c.tc : Thread Cert.In0WgradIdeal.nD Cert.In0WgradIdeal.τ).loc Cert.In0WgradIdeal.main_arg1) = m ((c.tc : Thread Cert.In0WgradIdeal.nD Cert.In0WgradIdeal.τ).loc Cert.In0WgradIdeal.main_arg1))
      ∧ r.2.sem = fun _ => 0)

def quiescent_In0WgradRefIdeal [hIn0WgradRefIdeal : Cert.In0WgradRefIdeal.Facts] : Prop :=
  ∀ (m : (ℓ : Loc Cert.In0WgradRefIdeal.nD Cert.In0WgradRefIdeal.τ Cert.In0WgradRefIdeal.sig) → Buf (Elt Ideal) ℓ) (g : Dev Cert.In0WgradRefIdeal.nD → PrngReg), Pre_In0WgradRefIdeal m →
    θ_run (Cert.In0WgradRefIdeal.defs (F := Ideal)) (onTc (τ := Cert.In0WgradRefIdeal.τ) (Cert.In0WgradRefIdeal.main (F := Ideal))) ⟨m, fun _ => 0, g⟩ (fun r => (∀ c : Dev Cert.In0WgradRefIdeal.nD,
      r.2.mem ((c.tc : Thread Cert.In0WgradRefIdeal.nD Cert.In0WgradRefIdeal.τ).loc Cert.In0WgradRefIdeal.main_arg0) = m ((c.tc : Thread Cert.In0WgradRefIdeal.nD Cert.In0WgradRefIdeal.τ).loc Cert.In0WgradRefIdeal.main_arg0)
      ∧ r.2.mem ((c.tc : Thread Cert.In0WgradRefIdeal.nD Cert.In0WgradRefIdeal.τ).loc Cert.In0WgradRefIdeal.main_arg1) = m ((c.tc : Thread Cert.In0WgradRefIdeal.nD Cert.In0WgradRefIdeal.τ).loc Cert.In0WgradRefIdeal.main_arg1))
      ∧ r.2.sem = fun _ => 0)

def quiescent_In1Fwd [hIn1Fwd : Cert.In1Fwd.Facts] : Prop :=
  ∀ (m : (ℓ : Loc Cert.In1Fwd.nD Cert.In1Fwd.τ Cert.In1Fwd.sig) → Buf (Elt Bits) ℓ) (g : Dev Cert.In1Fwd.nD → PrngReg), Pre_In1Fwd m →
    θ_run (Cert.In1Fwd.defs (F := Bits)) (onTc (τ := Cert.In1Fwd.τ) (Cert.In1Fwd.main (F := Bits))) ⟨m, fun _ => 0, g⟩ (fun r => (∀ c : Dev Cert.In1Fwd.nD,
      r.2.mem ((c.tc : Thread Cert.In1Fwd.nD Cert.In1Fwd.τ).loc Cert.In1Fwd.main_arg0) = m ((c.tc : Thread Cert.In1Fwd.nD Cert.In1Fwd.τ).loc Cert.In1Fwd.main_arg0)
      ∧ r.2.mem ((c.tc : Thread Cert.In1Fwd.nD Cert.In1Fwd.τ).loc Cert.In1Fwd.main_arg1) = m ((c.tc : Thread Cert.In1Fwd.nD Cert.In1Fwd.τ).loc Cert.In1Fwd.main_arg1))
      ∧ r.2.sem = fun _ => 0)

def quiescent_In1FwdIdeal [hIn1FwdIdeal : Cert.In1FwdIdeal.Facts] : Prop :=
  ∀ (m : (ℓ : Loc Cert.In1FwdIdeal.nD Cert.In1FwdIdeal.τ Cert.In1FwdIdeal.sig) → Buf (Elt Ideal) ℓ) (g : Dev Cert.In1FwdIdeal.nD → PrngReg), Pre_In1FwdIdeal m →
    θ_run (Cert.In1FwdIdeal.defs (F := Ideal)) (onTc (τ := Cert.In1FwdIdeal.τ) (Cert.In1FwdIdeal.main (F := Ideal))) ⟨m, fun _ => 0, g⟩ (fun r => (∀ c : Dev Cert.In1FwdIdeal.nD,
      r.2.mem ((c.tc : Thread Cert.In1FwdIdeal.nD Cert.In1FwdIdeal.τ).loc Cert.In1FwdIdeal.main_arg0) = m ((c.tc : Thread Cert.In1FwdIdeal.nD Cert.In1FwdIdeal.τ).loc Cert.In1FwdIdeal.main_arg0)
      ∧ r.2.mem ((c.tc : Thread Cert.In1FwdIdeal.nD Cert.In1FwdIdeal.τ).loc Cert.In1FwdIdeal.main_arg1) = m ((c.tc : Thread Cert.In1FwdIdeal.nD Cert.In1FwdIdeal.τ).loc Cert.In1FwdIdeal.main_arg1))
      ∧ r.2.sem = fun _ => 0)

def quiescent_In1FwdRefIdeal [hIn1FwdRefIdeal : Cert.In1FwdRefIdeal.Facts] : Prop :=
  ∀ (m : (ℓ : Loc Cert.In1FwdRefIdeal.nD Cert.In1FwdRefIdeal.τ Cert.In1FwdRefIdeal.sig) → Buf (Elt Ideal) ℓ) (g : Dev Cert.In1FwdRefIdeal.nD → PrngReg), Pre_In1FwdRefIdeal m →
    θ_run (Cert.In1FwdRefIdeal.defs (F := Ideal)) (onTc (τ := Cert.In1FwdRefIdeal.τ) (Cert.In1FwdRefIdeal.main (F := Ideal))) ⟨m, fun _ => 0, g⟩ (fun r => (∀ c : Dev Cert.In1FwdRefIdeal.nD,
      r.2.mem ((c.tc : Thread Cert.In1FwdRefIdeal.nD Cert.In1FwdRefIdeal.τ).loc Cert.In1FwdRefIdeal.main_arg0) = m ((c.tc : Thread Cert.In1FwdRefIdeal.nD Cert.In1FwdRefIdeal.τ).loc Cert.In1FwdRefIdeal.main_arg0)
      ∧ r.2.mem ((c.tc : Thread Cert.In1FwdRefIdeal.nD Cert.In1FwdRefIdeal.τ).loc Cert.In1FwdRefIdeal.main_arg1) = m ((c.tc : Thread Cert.In1FwdRefIdeal.nD Cert.In1FwdRefIdeal.τ).loc Cert.In1FwdRefIdeal.main_arg1))
      ∧ r.2.sem = fun _ => 0)

def quiescent_In1Dgrad [hIn1Dgrad : Cert.In1Dgrad.Facts] : Prop :=
  ∀ (m : (ℓ : Loc Cert.In1Dgrad.nD Cert.In1Dgrad.τ Cert.In1Dgrad.sig) → Buf (Elt Bits) ℓ) (g : Dev Cert.In1Dgrad.nD → PrngReg), Pre_In1Dgrad m →
    θ_run (Cert.In1Dgrad.defs (F := Bits)) (onTc (τ := Cert.In1Dgrad.τ) (Cert.In1Dgrad.main (F := Bits))) ⟨m, fun _ => 0, g⟩ (fun r => (∀ c : Dev Cert.In1Dgrad.nD,
      r.2.mem ((c.tc : Thread Cert.In1Dgrad.nD Cert.In1Dgrad.τ).loc Cert.In1Dgrad.main_arg0) = m ((c.tc : Thread Cert.In1Dgrad.nD Cert.In1Dgrad.τ).loc Cert.In1Dgrad.main_arg0)
      ∧ r.2.mem ((c.tc : Thread Cert.In1Dgrad.nD Cert.In1Dgrad.τ).loc Cert.In1Dgrad.main_arg1) = m ((c.tc : Thread Cert.In1Dgrad.nD Cert.In1Dgrad.τ).loc Cert.In1Dgrad.main_arg1))
      ∧ r.2.sem = fun _ => 0)

def quiescent_In1DgradIdeal [hIn1DgradIdeal : Cert.In1DgradIdeal.Facts] : Prop :=
  ∀ (m : (ℓ : Loc Cert.In1DgradIdeal.nD Cert.In1DgradIdeal.τ Cert.In1DgradIdeal.sig) → Buf (Elt Ideal) ℓ) (g : Dev Cert.In1DgradIdeal.nD → PrngReg), Pre_In1DgradIdeal m →
    θ_run (Cert.In1DgradIdeal.defs (F := Ideal)) (onTc (τ := Cert.In1DgradIdeal.τ) (Cert.In1DgradIdeal.main (F := Ideal))) ⟨m, fun _ => 0, g⟩ (fun r => (∀ c : Dev Cert.In1DgradIdeal.nD,
      r.2.mem ((c.tc : Thread Cert.In1DgradIdeal.nD Cert.In1DgradIdeal.τ).loc Cert.In1DgradIdeal.main_arg0) = m ((c.tc : Thread Cert.In1DgradIdeal.nD Cert.In1DgradIdeal.τ).loc Cert.In1DgradIdeal.main_arg0)
      ∧ r.2.mem ((c.tc : Thread Cert.In1DgradIdeal.nD Cert.In1DgradIdeal.τ).loc Cert.In1DgradIdeal.main_arg1) = m ((c.tc : Thread Cert.In1DgradIdeal.nD Cert.In1DgradIdeal.τ).loc Cert.In1DgradIdeal.main_arg1))
      ∧ r.2.sem = fun _ => 0)

def quiescent_In1DgradRefIdeal [hIn1DgradRefIdeal : Cert.In1DgradRefIdeal.Facts] : Prop :=
  ∀ (m : (ℓ : Loc Cert.In1DgradRefIdeal.nD Cert.In1DgradRefIdeal.τ Cert.In1DgradRefIdeal.sig) → Buf (Elt Ideal) ℓ) (g : Dev Cert.In1DgradRefIdeal.nD → PrngReg), Pre_In1DgradRefIdeal m →
    θ_run (Cert.In1DgradRefIdeal.defs (F := Ideal)) (onTc (τ := Cert.In1DgradRefIdeal.τ) (Cert.In1DgradRefIdeal.main (F := Ideal))) ⟨m, fun _ => 0, g⟩ (fun r => (∀ c : Dev Cert.In1DgradRefIdeal.nD,
      r.2.mem ((c.tc : Thread Cert.In1DgradRefIdeal.nD Cert.In1DgradRefIdeal.τ).loc Cert.In1DgradRefIdeal.main_arg0) = m ((c.tc : Thread Cert.In1DgradRefIdeal.nD Cert.In1DgradRefIdeal.τ).loc Cert.In1DgradRefIdeal.main_arg0)
      ∧ r.2.mem ((c.tc : Thread Cert.In1DgradRefIdeal.nD Cert.In1DgradRefIdeal.τ).loc Cert.In1DgradRefIdeal.main_arg1) = m ((c.tc : Thread Cert.In1DgradRefIdeal.nD Cert.In1DgradRefIdeal.τ).loc Cert.In1DgradRefIdeal.main_arg1))
      ∧ r.2.sem = fun _ => 0)

def quiescent_In1Wgrad [hIn1Wgrad : Cert.In1Wgrad.Facts] : Prop :=
  ∀ (m : (ℓ : Loc Cert.In1Wgrad.nD Cert.In1Wgrad.τ Cert.In1Wgrad.sig) → Buf (Elt Bits) ℓ) (g : Dev Cert.In1Wgrad.nD → PrngReg), Pre_In1Wgrad m →
    θ_run (Cert.In1Wgrad.defs (F := Bits)) (onTc (τ := Cert.In1Wgrad.τ) (Cert.In1Wgrad.main (F := Bits))) ⟨m, fun _ => 0, g⟩ (fun r => (∀ c : Dev Cert.In1Wgrad.nD,
      r.2.mem ((c.tc : Thread Cert.In1Wgrad.nD Cert.In1Wgrad.τ).loc Cert.In1Wgrad.main_arg0) = m ((c.tc : Thread Cert.In1Wgrad.nD Cert.In1Wgrad.τ).loc Cert.In1Wgrad.main_arg0)
      ∧ r.2.mem ((c.tc : Thread Cert.In1Wgrad.nD Cert.In1Wgrad.τ).loc Cert.In1Wgrad.main_arg1) = m ((c.tc : Thread Cert.In1Wgrad.nD Cert.In1Wgrad.τ).loc Cert.In1Wgrad.main_arg1))
      ∧ r.2.sem = fun _ => 0)

def quiescent_In1WgradIdeal [hIn1WgradIdeal : Cert.In1WgradIdeal.Facts] : Prop :=
  ∀ (m : (ℓ : Loc Cert.In1WgradIdeal.nD Cert.In1WgradIdeal.τ Cert.In1WgradIdeal.sig) → Buf (Elt Ideal) ℓ) (g : Dev Cert.In1WgradIdeal.nD → PrngReg), Pre_In1WgradIdeal m →
    θ_run (Cert.In1WgradIdeal.defs (F := Ideal)) (onTc (τ := Cert.In1WgradIdeal.τ) (Cert.In1WgradIdeal.main (F := Ideal))) ⟨m, fun _ => 0, g⟩ (fun r => (∀ c : Dev Cert.In1WgradIdeal.nD,
      r.2.mem ((c.tc : Thread Cert.In1WgradIdeal.nD Cert.In1WgradIdeal.τ).loc Cert.In1WgradIdeal.main_arg0) = m ((c.tc : Thread Cert.In1WgradIdeal.nD Cert.In1WgradIdeal.τ).loc Cert.In1WgradIdeal.main_arg0)
      ∧ r.2.mem ((c.tc : Thread Cert.In1WgradIdeal.nD Cert.In1WgradIdeal.τ).loc Cert.In1WgradIdeal.main_arg1) = m ((c.tc : Thread Cert.In1WgradIdeal.nD Cert.In1WgradIdeal.τ).loc Cert.In1WgradIdeal.main_arg1))
      ∧ r.2.sem = fun _ => 0)

def quiescent_In1WgradRefIdeal [hIn1WgradRefIdeal : Cert.In1WgradRefIdeal.Facts] : Prop :=
  ∀ (m : (ℓ : Loc Cert.In1WgradRefIdeal.nD Cert.In1WgradRefIdeal.τ Cert.In1WgradRefIdeal.sig) → Buf (Elt Ideal) ℓ) (g : Dev Cert.In1WgradRefIdeal.nD → PrngReg), Pre_In1WgradRefIdeal m →
    θ_run (Cert.In1WgradRefIdeal.defs (F := Ideal)) (onTc (τ := Cert.In1WgradRefIdeal.τ) (Cert.In1WgradRefIdeal.main (F := Ideal))) ⟨m, fun _ => 0, g⟩ (fun r => (∀ c : Dev Cert.In1WgradRefIdeal.nD,
      r.2.mem ((c.tc : Thread Cert.In1WgradRefIdeal.nD Cert.In1WgradRefIdeal.τ).loc Cert.In1WgradRefIdeal.main_arg0) = m ((c.tc : Thread Cert.In1WgradRefIdeal.nD Cert.In1WgradRefIdeal.τ).loc Cert.In1WgradRefIdeal.main_arg0)
      ∧ r.2.mem ((c.tc : Thread Cert.In1WgradRefIdeal.nD Cert.In1WgradRefIdeal.τ).loc Cert.In1WgradRefIdeal.main_arg1) = m ((c.tc : Thread Cert.In1WgradRefIdeal.nD Cert.In1WgradRefIdeal.τ).loc Cert.In1WgradRefIdeal.main_arg1))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3))
      ∧ r.2.sem = fun _ => 0)

def quiescent_OutDgrad [hOutDgrad : Cert.OutDgrad.Facts] : Prop :=
  ∀ (m : (ℓ : Loc Cert.OutDgrad.nD Cert.OutDgrad.τ Cert.OutDgrad.sig) → Buf (Elt Bits) ℓ) (g : Dev Cert.OutDgrad.nD → PrngReg), Pre_OutDgrad m →
    θ_run (Cert.OutDgrad.defs (F := Bits)) (onTc (τ := Cert.OutDgrad.τ) (Cert.OutDgrad.main (F := Bits))) ⟨m, fun _ => 0, g⟩ (fun r => (∀ c : Dev Cert.OutDgrad.nD,
      r.2.mem ((c.tc : Thread Cert.OutDgrad.nD Cert.OutDgrad.τ).loc Cert.OutDgrad.main_arg0) = m ((c.tc : Thread Cert.OutDgrad.nD Cert.OutDgrad.τ).loc Cert.OutDgrad.main_arg0)
      ∧ r.2.mem ((c.tc : Thread Cert.OutDgrad.nD Cert.OutDgrad.τ).loc Cert.OutDgrad.main_arg1) = m ((c.tc : Thread Cert.OutDgrad.nD Cert.OutDgrad.τ).loc Cert.OutDgrad.main_arg1))
      ∧ r.2.sem = fun _ => 0)

def quiescent_OutDgradIdeal [hOutDgradIdeal : Cert.OutDgradIdeal.Facts] : Prop :=
  ∀ (m : (ℓ : Loc Cert.OutDgradIdeal.nD Cert.OutDgradIdeal.τ Cert.OutDgradIdeal.sig) → Buf (Elt Ideal) ℓ) (g : Dev Cert.OutDgradIdeal.nD → PrngReg), Pre_OutDgradIdeal m →
    θ_run (Cert.OutDgradIdeal.defs (F := Ideal)) (onTc (τ := Cert.OutDgradIdeal.τ) (Cert.OutDgradIdeal.main (F := Ideal))) ⟨m, fun _ => 0, g⟩ (fun r => (∀ c : Dev Cert.OutDgradIdeal.nD,
      r.2.mem ((c.tc : Thread Cert.OutDgradIdeal.nD Cert.OutDgradIdeal.τ).loc Cert.OutDgradIdeal.main_arg0) = m ((c.tc : Thread Cert.OutDgradIdeal.nD Cert.OutDgradIdeal.τ).loc Cert.OutDgradIdeal.main_arg0)
      ∧ r.2.mem ((c.tc : Thread Cert.OutDgradIdeal.nD Cert.OutDgradIdeal.τ).loc Cert.OutDgradIdeal.main_arg1) = m ((c.tc : Thread Cert.OutDgradIdeal.nD Cert.OutDgradIdeal.τ).loc Cert.OutDgradIdeal.main_arg1))
      ∧ r.2.sem = fun _ => 0)

def quiescent_OutDgradRefIdeal [hOutDgradRefIdeal : Cert.OutDgradRefIdeal.Facts] : Prop :=
  ∀ (m : (ℓ : Loc Cert.OutDgradRefIdeal.nD Cert.OutDgradRefIdeal.τ Cert.OutDgradRefIdeal.sig) → Buf (Elt Ideal) ℓ) (g : Dev Cert.OutDgradRefIdeal.nD → PrngReg), Pre_OutDgradRefIdeal m →
    θ_run (Cert.OutDgradRefIdeal.defs (F := Ideal)) (onTc (τ := Cert.OutDgradRefIdeal.τ) (Cert.OutDgradRefIdeal.main (F := Ideal))) ⟨m, fun _ => 0, g⟩ (fun r => (∀ c : Dev Cert.OutDgradRefIdeal.nD,
      r.2.mem ((c.tc : Thread Cert.OutDgradRefIdeal.nD Cert.OutDgradRefIdeal.τ).loc Cert.OutDgradRefIdeal.main_arg0) = m ((c.tc : Thread Cert.OutDgradRefIdeal.nD Cert.OutDgradRefIdeal.τ).loc Cert.OutDgradRefIdeal.main_arg0)
      ∧ r.2.mem ((c.tc : Thread Cert.OutDgradRefIdeal.nD Cert.OutDgradRefIdeal.τ).loc Cert.OutDgradRefIdeal.main_arg1) = m ((c.tc : Thread Cert.OutDgradRefIdeal.nD Cert.OutDgradRefIdeal.τ).loc Cert.OutDgradRefIdeal.main_arg1))
      ∧ r.2.sem = fun _ => 0)

def quiescent_OutWgrad [hOutWgrad : Cert.OutWgrad.Facts] : Prop :=
  ∀ (m : (ℓ : Loc Cert.OutWgrad.nD Cert.OutWgrad.τ Cert.OutWgrad.sig) → Buf (Elt Bits) ℓ) (g : Dev Cert.OutWgrad.nD → PrngReg), Pre_OutWgrad m →
    θ_run (Cert.OutWgrad.defs (F := Bits)) (onTc (τ := Cert.OutWgrad.τ) (Cert.OutWgrad.main (F := Bits))) ⟨m, fun _ => 0, g⟩ (fun r => (∀ c : Dev Cert.OutWgrad.nD,
      r.2.mem ((c.tc : Thread Cert.OutWgrad.nD Cert.OutWgrad.τ).loc Cert.OutWgrad.main_arg0) = m ((c.tc : Thread Cert.OutWgrad.nD Cert.OutWgrad.τ).loc Cert.OutWgrad.main_arg0)
      ∧ r.2.mem ((c.tc : Thread Cert.OutWgrad.nD Cert.OutWgrad.τ).loc Cert.OutWgrad.main_arg1) = m ((c.tc : Thread Cert.OutWgrad.nD Cert.OutWgrad.τ).loc Cert.OutWgrad.main_arg1))
      ∧ r.2.sem = fun _ => 0)

def quiescent_OutWgradIdeal [hOutWgradIdeal : Cert.OutWgradIdeal.Facts] : Prop :=
  ∀ (m : (ℓ : Loc Cert.OutWgradIdeal.nD Cert.OutWgradIdeal.τ Cert.OutWgradIdeal.sig) → Buf (Elt Ideal) ℓ) (g : Dev Cert.OutWgradIdeal.nD → PrngReg), Pre_OutWgradIdeal m →
    θ_run (Cert.OutWgradIdeal.defs (F := Ideal)) (onTc (τ := Cert.OutWgradIdeal.τ) (Cert.OutWgradIdeal.main (F := Ideal))) ⟨m, fun _ => 0, g⟩ (fun r => (∀ c : Dev Cert.OutWgradIdeal.nD,
      r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
      ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1))
      ∧ r.2.sem = fun _ => 0)

def quiescent_OutWgradRefIdeal [hOutWgradRefIdeal : Cert.OutWgradRefIdeal.Facts] : Prop :=
  ∀ (m : (ℓ : Loc Cert.OutWgradRefIdeal.nD Cert.OutWgradRefIdeal.τ Cert.OutWgradRefIdeal.sig) → Buf (Elt Ideal) ℓ) (g : Dev Cert.OutWgradRefIdeal.nD → PrngReg), Pre_OutWgradRefIdeal m →
    θ_run (Cert.OutWgradRefIdeal.defs (F := Ideal)) (onTc (τ := Cert.OutWgradRefIdeal.τ) (Cert.OutWgradRefIdeal.main (F := Ideal))) ⟨m, fun _ => 0, g⟩ (fun r => (∀ c : Dev Cert.OutWgradRefIdeal.nD,
      r.2.mem ((c.tc : Thread Cert.OutWgradRefIdeal.nD Cert.OutWgradRefIdeal.τ).loc Cert.OutWgradRefIdeal.main_arg0) = m ((c.tc : Thread Cert.OutWgradRefIdeal.nD Cert.OutWgradRefIdeal.τ).loc Cert.OutWgradRefIdeal.main_arg0)
      ∧ r.2.mem ((c.tc : Thread Cert.OutWgradRefIdeal.nD Cert.OutWgradRefIdeal.τ).loc Cert.OutWgradRefIdeal.main_arg1) = m ((c.tc : Thread Cert.OutWgradRefIdeal.nD Cert.OutWgradRefIdeal.τ).loc Cert.OutWgradRefIdeal.main_arg1))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdIdeal_pre_fwd_finite [hAttnFwdIdeal : Cert.AttnFwdIdeal.Facts] [hPre_fwd_finite : Cert.Pre_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_fwd_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_AttnFwdRefIdeal_pre_fwd_finite [hAttnFwdRefIdeal : Cert.AttnFwdRefIdeal.Facts] [hPre_fwd_finite : Cert.Pre_fwd_finite.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_fwd_finite m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v48_0)) (v1 : (c : Dev Cert.KernelIdeal.nD) → Buf (Elt Ideal) ((c.tc : Thread Cert.KernelIdeal.nD Cert.KernelIdeal.τ).loc Cert.KernelIdeal.main_v48_1)) (v2 : (c : Dev Cert.KernelIdeal.nD) → Buf (Elt Ideal) ((c.tc : Thread Cert.KernelIdeal.nD Cert.KernelIdeal.τ).loc Cert.KernelIdeal.main_v48_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48_0) = v0 c
          ∧ r.2.mem ((c.tc : Thread Cert.KernelIdeal.nD Cert.KernelIdeal.τ).loc Cert.KernelIdeal.main_v48_1) = v1 c
          ∧ r.2.mem ((c.tc : Thread Cert.KernelIdeal.nD Cert.KernelIdeal.τ).loc Cert.KernelIdeal.main_v48_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_v131) = v1 c
          ∧ r.2.mem ((c.tc : Thread Cert.ReferenceIdeal.nD Cert.ReferenceIdeal.τ).loc Cert.ReferenceIdeal.main_v130) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_DownBwd_DownBwdIdeal : Prop :=
  True

def algebraic_DownBwdIdeal_DownBwdRefIdeal_pre_down_bwd_finite [hDownBwdIdeal : Cert.DownBwdIdeal.Facts] [hDownBwdRefIdeal : Cert.DownBwdRefIdeal.Facts] [hPre_down_bwd_finite : Cert.Pre_down_bwd_finite.Facts] : Prop :=
  ∀ (m : (ℓ : Loc Cert.DownBwdIdeal.nD Cert.DownBwdIdeal.τ Cert.DownBwdIdeal.sig) → Buf (Elt Ideal) ℓ) (g : Dev Cert.DownBwdIdeal.nD → PrngReg)
    (m' : (ℓ : Loc Cert.DownBwdRefIdeal.nD Cert.DownBwdRefIdeal.τ Cert.DownBwdRefIdeal.sig) → Buf (Elt Ideal) ℓ) (g' : Dev Cert.DownBwdRefIdeal.nD → PrngReg), Pre_DownBwdIdeal_down_bwd_finite m →
    (∀ c : Dev Cert.DownBwdIdeal.nD,
      m' ((c.tc : Thread Cert.DownBwdRefIdeal.nD Cert.DownBwdRefIdeal.τ).loc Cert.DownBwdRefIdeal.main_arg0) = m ((c.tc : Thread Cert.DownBwdIdeal.nD Cert.DownBwdIdeal.τ).loc Cert.DownBwdIdeal.main_arg0)
      ∧ m' ((c.tc : Thread Cert.DownBwdRefIdeal.nD Cert.DownBwdRefIdeal.τ).loc Cert.DownBwdRefIdeal.main_arg1) = m ((c.tc : Thread Cert.DownBwdIdeal.nD Cert.DownBwdIdeal.τ).loc Cert.DownBwdIdeal.main_arg1)
      ∧ m' ((c.tc : Thread Cert.DownBwdRefIdeal.nD Cert.DownBwdRefIdeal.τ).loc Cert.DownBwdRefIdeal.main_arg2) = m ((c.tc : Thread Cert.DownBwdIdeal.nD Cert.DownBwdIdeal.τ).loc Cert.DownBwdIdeal.main_arg2)
      ∧ m' ((c.tc : Thread Cert.DownBwdRefIdeal.nD Cert.DownBwdRefIdeal.τ).loc Cert.DownBwdRefIdeal.main_arg3) = m ((c.tc : Thread Cert.DownBwdIdeal.nD Cert.DownBwdIdeal.τ).loc Cert.DownBwdIdeal.main_arg3)) →
    ∃ (v0 : (c : Dev Cert.DownBwdIdeal.nD) → Buf (Elt Ideal) ((c.tc : Thread Cert.DownBwdIdeal.nD Cert.DownBwdIdeal.τ).loc Cert.DownBwdIdeal.main_v18_0)) (v1 : (c : Dev Cert.DownBwdIdeal.nD) → Buf (Elt Ideal) ((c.tc : Thread Cert.DownBwdIdeal.nD Cert.DownBwdIdeal.τ).loc Cert.DownBwdIdeal.main_v18_1)),
      θ_run (Cert.DownBwdIdeal.defs (F := Ideal)) (onTc (τ := Cert.DownBwdIdeal.τ) (Cert.DownBwdIdeal.main (F := Ideal))) ⟨m, fun _ => 0, g⟩ (fun r => ∀ c : Dev Cert.DownBwdIdeal.nD,
          r.2.mem ((c.tc : Thread Cert.DownBwdIdeal.nD Cert.DownBwdIdeal.τ).loc Cert.DownBwdIdeal.main_v18_0) = v0 c
          ∧ r.2.mem ((c.tc : Thread Cert.DownBwdIdeal.nD Cert.DownBwdIdeal.τ).loc Cert.DownBwdIdeal.main_v18_1) = v1 c
          ∧ r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
          ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
          ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2)
          ∧ r.2.mem ((c.tc : Thread Cert.DownBwdIdeal.nD Cert.DownBwdIdeal.τ).loc Cert.DownBwdIdeal.main_arg3) = m ((c.tc : Thread Cert.DownBwdIdeal.nD Cert.DownBwdIdeal.τ).loc Cert.DownBwdIdeal.main_arg3))
      ∧ θ_run (Cert.DownBwdRefIdeal.defs (F := Ideal)) (onTc (τ := Cert.DownBwdRefIdeal.τ) (Cert.DownBwdRefIdeal.main (F := Ideal))) ⟨m', fun _ => 0, g'⟩ (fun r => ∀ c : Dev Cert.DownBwdRefIdeal.nD,
          r.2.mem ((c.tc : Thread Cert.DownBwdRefIdeal.nD Cert.DownBwdRefIdeal.τ).loc Cert.DownBwdRefIdeal.main_v9) = v0 c
          ∧ r.2.mem ((c.tc : Thread Cert.DownBwdRefIdeal.nD Cert.DownBwdRefIdeal.τ).loc Cert.DownBwdRefIdeal.main_v10) = v1 c
          ∧ r.2.mem ((c.tc : Thread Cert.DownBwdRefIdeal.nD Cert.DownBwdRefIdeal.τ).loc Cert.DownBwdRefIdeal.main_arg0) = m' ((c.tc : Thread Cert.DownBwdRefIdeal.nD Cert.DownBwdRefIdeal.τ).loc Cert.DownBwdRefIdeal.main_arg0)
          ∧ r.2.mem ((c.tc : Thread Cert.DownBwdRefIdeal.nD Cert.DownBwdRefIdeal.τ).loc Cert.DownBwdRefIdeal.main_arg1) = m' ((c.tc : Thread Cert.DownBwdRefIdeal.nD Cert.DownBwdRefIdeal.τ).loc Cert.DownBwdRefIdeal.main_arg1)
          ∧ r.2.mem ((c.tc : Thread Cert.DownBwdRefIdeal.nD Cert.DownBwdRefIdeal.τ).loc Cert.DownBwdRefIdeal.main_arg2) = m' ((c.tc : Thread Cert.DownBwdRefIdeal.nD Cert.DownBwdRefIdeal.τ).loc Cert.DownBwdRefIdeal.main_arg2)
          ∧ r.2.mem ((c.tc : Thread Cert.DownBwdRefIdeal.nD Cert.DownBwdRefIdeal.τ).loc Cert.DownBwdRefIdeal.main_arg3) = m' ((c.tc : Thread Cert.DownBwdRefIdeal.nD Cert.DownBwdRefIdeal.τ).loc Cert.DownBwdRefIdeal.main_arg3))

def preserves_GateDgrad_GateDgradIdeal : Prop :=
  True

def algebraic_GateDgradIdeal_GateDgradRefIdeal [hGateDgradIdeal : Cert.GateDgradIdeal.Facts] [hGateDgradRefIdeal : Cert.GateDgradRefIdeal.Facts] : Prop :=
  ∀ (m : (ℓ : Loc Cert.GateDgradIdeal.nD Cert.GateDgradIdeal.τ Cert.GateDgradIdeal.sig) → Buf (Elt Ideal) ℓ) (g : Dev Cert.GateDgradIdeal.nD → PrngReg)
    (m' : (ℓ : Loc Cert.GateDgradRefIdeal.nD Cert.GateDgradRefIdeal.τ Cert.GateDgradRefIdeal.sig) → Buf (Elt Ideal) ℓ) (g' : Dev Cert.GateDgradRefIdeal.nD → PrngReg), Pre_GateDgradIdeal m →
    (∀ c : Dev Cert.GateDgradIdeal.nD,
      m' ((c.tc : Thread Cert.GateDgradRefIdeal.nD Cert.GateDgradRefIdeal.τ).loc Cert.GateDgradRefIdeal.main_arg0) = m ((c.tc : Thread Cert.GateDgradIdeal.nD Cert.GateDgradIdeal.τ).loc Cert.GateDgradIdeal.main_arg0)
      ∧ m' ((c.tc : Thread Cert.GateDgradRefIdeal.nD Cert.GateDgradRefIdeal.τ).loc Cert.GateDgradRefIdeal.main_arg1) = m ((c.tc : Thread Cert.GateDgradIdeal.nD Cert.GateDgradIdeal.τ).loc Cert.GateDgradIdeal.main_arg1)) →
    ∃ (v0 : (c : Dev Cert.GateDgradIdeal.nD) → Buf (Elt Ideal) ((c.tc : Thread Cert.GateDgradIdeal.nD Cert.GateDgradIdeal.τ).loc Cert.GateDgradIdeal.main_v2)),
      θ_run (Cert.GateDgradIdeal.defs (F := Ideal)) (onTc (τ := Cert.GateDgradIdeal.τ) (Cert.GateDgradIdeal.main (F := Ideal))) ⟨m, fun _ => 0, g⟩ (fun r => ∀ c : Dev Cert.GateDgradIdeal.nD,
          r.2.mem ((c.tc : Thread Cert.GateDgradIdeal.nD Cert.GateDgradIdeal.τ).loc Cert.GateDgradIdeal.main_v2) = v0 c
          ∧ r.2.mem ((c.tc : Thread Cert.GateDgradIdeal.nD Cert.GateDgradIdeal.τ).loc Cert.GateDgradIdeal.main_arg0) = m ((c.tc : Thread Cert.GateDgradIdeal.nD Cert.GateDgradIdeal.τ).loc Cert.GateDgradIdeal.main_arg0)
          ∧ r.2.mem ((c.tc : Thread Cert.GateDgradIdeal.nD Cert.GateDgradIdeal.τ).loc Cert.GateDgradIdeal.main_arg1) = m ((c.tc : Thread Cert.GateDgradIdeal.nD Cert.GateDgradIdeal.τ).loc Cert.GateDgradIdeal.main_arg1))
      ∧ θ_run (Cert.GateDgradRefIdeal.defs (F := Ideal)) (onTc (τ := Cert.GateDgradRefIdeal.τ) (Cert.GateDgradRefIdeal.main (F := Ideal))) ⟨m', fun _ => 0, g'⟩ (fun r => ∀ c : Dev Cert.GateDgradRefIdeal.nD,
          r.2.mem ((c.tc : Thread Cert.GateDgradRefIdeal.nD Cert.GateDgradRefIdeal.τ).loc Cert.GateDgradRefIdeal.main_v4) = v0 c
          ∧ r.2.mem ((c.tc : Thread Cert.GateDgradRefIdeal.nD Cert.GateDgradRefIdeal.τ).loc Cert.GateDgradRefIdeal.main_arg0) = m' ((c.tc : Thread Cert.GateDgradRefIdeal.nD Cert.GateDgradRefIdeal.τ).loc Cert.GateDgradRefIdeal.main_arg0)
          ∧ r.2.mem ((c.tc : Thread Cert.GateDgradRefIdeal.nD Cert.GateDgradRefIdeal.τ).loc Cert.GateDgradRefIdeal.main_arg1) = m' ((c.tc : Thread Cert.GateDgradRefIdeal.nD Cert.GateDgradRefIdeal.τ).loc Cert.GateDgradRefIdeal.main_arg1))

def preserves_UpDgrad_UpDgradIdeal : Prop :=
  True

def algebraic_UpDgradIdeal_UpDgradRefIdeal [hUpDgradIdeal : Cert.UpDgradIdeal.Facts] [hUpDgradRefIdeal : Cert.UpDgradRefIdeal.Facts] : Prop :=
  ∀ (m : (ℓ : Loc Cert.UpDgradIdeal.nD Cert.UpDgradIdeal.τ Cert.UpDgradIdeal.sig) → Buf (Elt Ideal) ℓ) (g : Dev Cert.UpDgradIdeal.nD → PrngReg)
    (m' : (ℓ : Loc Cert.UpDgradRefIdeal.nD Cert.UpDgradRefIdeal.τ Cert.UpDgradRefIdeal.sig) → Buf (Elt Ideal) ℓ) (g' : Dev Cert.UpDgradRefIdeal.nD → PrngReg), Pre_UpDgradIdeal m →
    (∀ c : Dev Cert.UpDgradIdeal.nD,
      m' ((c.tc : Thread Cert.UpDgradRefIdeal.nD Cert.UpDgradRefIdeal.τ).loc Cert.UpDgradRefIdeal.main_arg0) = m ((c.tc : Thread Cert.UpDgradIdeal.nD Cert.UpDgradIdeal.τ).loc Cert.UpDgradIdeal.main_arg0)
      ∧ m' ((c.tc : Thread Cert.UpDgradRefIdeal.nD Cert.UpDgradRefIdeal.τ).loc Cert.UpDgradRefIdeal.main_arg1) = m ((c.tc : Thread Cert.UpDgradIdeal.nD Cert.UpDgradIdeal.τ).loc Cert.UpDgradIdeal.main_arg1)
      ∧ m' ((c.tc : Thread Cert.UpDgradRefIdeal.nD Cert.UpDgradRefIdeal.τ).loc Cert.UpDgradRefIdeal.main_arg2) = m ((c.tc : Thread Cert.UpDgradIdeal.nD Cert.UpDgradIdeal.τ).loc Cert.UpDgradIdeal.main_arg2)) →
    ∃ (v0 : (c : Dev Cert.UpDgradIdeal.nD) → Buf (Elt Ideal) ((c.tc : Thread Cert.UpDgradIdeal.nD Cert.UpDgradIdeal.τ).loc Cert.UpDgradIdeal.main_v2)),
      θ_run (Cert.UpDgradIdeal.defs (F := Ideal)) (onTc (τ := Cert.UpDgradIdeal.τ) (Cert.UpDgradIdeal.main (F := Ideal))) ⟨m, fun _ => 0, g⟩ (fun r => ∀ c : Dev Cert.UpDgradIdeal.nD,
          r.2.mem ((c.tc : Thread Cert.UpDgradIdeal.nD Cert.UpDgradIdeal.τ).loc Cert.UpDgradIdeal.main_v2) = v0 c
          ∧ r.2.mem ((c.tc : Thread Cert.UpDgradIdeal.nD Cert.UpDgradIdeal.τ).loc Cert.UpDgradIdeal.main_arg0) = m ((c.tc : Thread Cert.UpDgradIdeal.nD Cert.UpDgradIdeal.τ).loc Cert.UpDgradIdeal.main_arg0)
          ∧ r.2.mem ((c.tc : Thread Cert.UpDgradIdeal.nD Cert.UpDgradIdeal.τ).loc Cert.UpDgradIdeal.main_arg1) = m ((c.tc : Thread Cert.UpDgradIdeal.nD Cert.UpDgradIdeal.τ).loc Cert.UpDgradIdeal.main_arg1)
          ∧ r.2.mem ((c.tc : Thread Cert.UpDgradIdeal.nD Cert.UpDgradIdeal.τ).loc Cert.UpDgradIdeal.main_arg2) = m ((c.tc : Thread Cert.UpDgradIdeal.nD Cert.UpDgradIdeal.τ).loc Cert.UpDgradIdeal.main_arg2))
      ∧ θ_run (Cert.UpDgradRefIdeal.defs (F := Ideal)) (onTc (τ := Cert.UpDgradRefIdeal.τ) (Cert.UpDgradRefIdeal.main (F := Ideal))) ⟨m', fun _ => 0, g'⟩ (fun r => ∀ c : Dev Cert.UpDgradRefIdeal.nD,
          r.2.mem ((c.tc : Thread Cert.UpDgradRefIdeal.nD Cert.UpDgradRefIdeal.τ).loc Cert.UpDgradRefIdeal.main_v5) = v0 c
          ∧ r.2.mem ((c.tc : Thread Cert.UpDgradRefIdeal.nD Cert.UpDgradRefIdeal.τ).loc Cert.UpDgradRefIdeal.main_arg0) = m' ((c.tc : Thread Cert.UpDgradRefIdeal.nD Cert.UpDgradRefIdeal.τ).loc Cert.UpDgradRefIdeal.main_arg0)
          ∧ r.2.mem ((c.tc : Thread Cert.UpDgradRefIdeal.nD Cert.UpDgradRefIdeal.τ).loc Cert.UpDgradRefIdeal.main_arg1) = m' ((c.tc : Thread Cert.UpDgradRefIdeal.nD Cert.UpDgradRefIdeal.τ).loc Cert.UpDgradRefIdeal.main_arg1)
          ∧ r.2.mem ((c.tc : Thread Cert.UpDgradRefIdeal.nD Cert.UpDgradRefIdeal.τ).loc Cert.UpDgradRefIdeal.main_arg2) = m' ((c.tc : Thread Cert.UpDgradRefIdeal.nD Cert.UpDgradRefIdeal.τ).loc Cert.UpDgradRefIdeal.main_arg2))

def preserves_GateWgrad_GateWgradIdeal : Prop :=
  True

def algebraic_GateWgradIdeal_GateWgradRefIdeal [hGateWgradIdeal : Cert.GateWgradIdeal.Facts] [hGateWgradRefIdeal : Cert.GateWgradRefIdeal.Facts] : Prop :=
  ∀ (m : (ℓ : Loc Cert.GateWgradIdeal.nD Cert.GateWgradIdeal.τ Cert.GateWgradIdeal.sig) → Buf (Elt Ideal) ℓ) (g : Dev Cert.GateWgradIdeal.nD → PrngReg)
    (m' : (ℓ : Loc Cert.GateWgradRefIdeal.nD Cert.GateWgradRefIdeal.τ Cert.GateWgradRefIdeal.sig) → Buf (Elt Ideal) ℓ) (g' : Dev Cert.GateWgradRefIdeal.nD → PrngReg), Pre_GateWgradIdeal m →
    (∀ c : Dev Cert.GateWgradIdeal.nD,
      m' ((c.tc : Thread Cert.GateWgradRefIdeal.nD Cert.GateWgradRefIdeal.τ).loc Cert.GateWgradRefIdeal.main_arg0) = m ((c.tc : Thread Cert.GateWgradIdeal.nD Cert.GateWgradIdeal.τ).loc Cert.GateWgradIdeal.main_arg0)
      ∧ m' ((c.tc : Thread Cert.GateWgradRefIdeal.nD Cert.GateWgradRefIdeal.τ).loc Cert.GateWgradRefIdeal.main_arg1) = m ((c.tc : Thread Cert.GateWgradIdeal.nD Cert.GateWgradIdeal.τ).loc Cert.GateWgradIdeal.main_arg1)) →
    ∃ (v0 : (c : Dev Cert.GateWgradIdeal.nD) → Buf (Elt Ideal) ((c.tc : Thread Cert.GateWgradIdeal.nD Cert.GateWgradIdeal.τ).loc Cert.GateWgradIdeal.main_v0)),
      θ_run (Cert.GateWgradIdeal.defs (F := Ideal)) (onTc (τ := Cert.GateWgradIdeal.τ) (Cert.GateWgradIdeal.main (F := Ideal))) ⟨m, fun _ => 0, g⟩ (fun r => ∀ c : Dev Cert.GateWgradIdeal.nD,
          r.2.mem ((c.tc : Thread Cert.GateWgradIdeal.nD Cert.GateWgradIdeal.τ).loc Cert.GateWgradIdeal.main_v0) = v0 c
          ∧ r.2.mem ((c.tc : Thread Cert.GateWgradIdeal.nD Cert.GateWgradIdeal.τ).loc Cert.GateWgradIdeal.main_arg0) = m ((c.tc : Thread Cert.GateWgradIdeal.nD Cert.GateWgradIdeal.τ).loc Cert.GateWgradIdeal.main_arg0)
          ∧ r.2.mem ((c.tc : Thread Cert.GateWgradIdeal.nD Cert.GateWgradIdeal.τ).loc Cert.GateWgradIdeal.main_arg1) = m ((c.tc : Thread Cert.GateWgradIdeal.nD Cert.GateWgradIdeal.τ).loc Cert.GateWgradIdeal.main_arg1))
      ∧ θ_run (Cert.GateWgradRefIdeal.defs (F := Ideal)) (onTc (τ := Cert.GateWgradRefIdeal.τ) (Cert.GateWgradRefIdeal.main (F := Ideal))) ⟨m', fun _ => 0, g'⟩ (fun r => ∀ c : Dev Cert.GateWgradRefIdeal.nD,
          r.2.mem ((c.tc : Thread Cert.GateWgradRefIdeal.nD Cert.GateWgradRefIdeal.τ).loc Cert.GateWgradRefIdeal.main_v8) = v0 c
          ∧ r.2.mem ((c.tc : Thread Cert.GateWgradRefIdeal.nD Cert.GateWgradRefIdeal.τ).loc Cert.GateWgradRefIdeal.main_arg0) = m' ((c.tc : Thread Cert.GateWgradRefIdeal.nD Cert.GateWgradRefIdeal.τ).loc Cert.GateWgradRefIdeal.main_arg0)
          ∧ r.2.mem ((c.tc : Thread Cert.GateWgradRefIdeal.nD Cert.GateWgradRefIdeal.τ).loc Cert.GateWgradRefIdeal.main_arg1) = m' ((c.tc : Thread Cert.GateWgradRefIdeal.nD Cert.GateWgradRefIdeal.τ).loc Cert.GateWgradRefIdeal.main_arg1))

def preserves_DownWgrad_DownWgradIdeal : Prop :=
  True

def algebraic_DownWgradIdeal_DownWgradRefIdeal [hDownWgradIdeal : Cert.DownWgradIdeal.Facts] [hDownWgradRefIdeal : Cert.DownWgradRefIdeal.Facts] : Prop :=
  ∀ (m : (ℓ : Loc Cert.DownWgradIdeal.nD Cert.DownWgradIdeal.τ Cert.DownWgradIdeal.sig) → Buf (Elt Ideal) ℓ) (g : Dev Cert.DownWgradIdeal.nD → PrngReg)
    (m' : (ℓ : Loc Cert.DownWgradRefIdeal.nD Cert.DownWgradRefIdeal.τ Cert.DownWgradRefIdeal.sig) → Buf (Elt Ideal) ℓ) (g' : Dev Cert.DownWgradRefIdeal.nD → PrngReg), Pre_DownWgradIdeal m →
    (∀ c : Dev Cert.DownWgradIdeal.nD,
      m' ((c.tc : Thread Cert.DownWgradRefIdeal.nD Cert.DownWgradRefIdeal.τ).loc Cert.DownWgradRefIdeal.main_arg0) = m ((c.tc : Thread Cert.DownWgradIdeal.nD Cert.DownWgradIdeal.τ).loc Cert.DownWgradIdeal.main_arg0)
      ∧ m' ((c.tc : Thread Cert.DownWgradRefIdeal.nD Cert.DownWgradRefIdeal.τ).loc Cert.DownWgradRefIdeal.main_arg1) = m ((c.tc : Thread Cert.DownWgradIdeal.nD Cert.DownWgradIdeal.τ).loc Cert.DownWgradIdeal.main_arg1)) →
    ∃ (v0 : (c : Dev Cert.DownWgradIdeal.nD) → Buf (Elt Ideal) ((c.tc : Thread Cert.DownWgradIdeal.nD Cert.DownWgradIdeal.τ).loc Cert.DownWgradIdeal.main_v0)),
      θ_run (Cert.DownWgradIdeal.defs (F := Ideal)) (onTc (τ := Cert.DownWgradIdeal.τ) (Cert.DownWgradIdeal.main (F := Ideal))) ⟨m, fun _ => 0, g⟩ (fun r => ∀ c : Dev Cert.DownWgradIdeal.nD,
          r.2.mem ((c.tc : Thread Cert.DownWgradIdeal.nD Cert.DownWgradIdeal.τ).loc Cert.DownWgradIdeal.main_v0) = v0 c
          ∧ r.2.mem ((c.tc : Thread Cert.DownWgradIdeal.nD Cert.DownWgradIdeal.τ).loc Cert.DownWgradIdeal.main_arg0) = m ((c.tc : Thread Cert.DownWgradIdeal.nD Cert.DownWgradIdeal.τ).loc Cert.DownWgradIdeal.main_arg0)
          ∧ r.2.mem ((c.tc : Thread Cert.DownWgradIdeal.nD Cert.DownWgradIdeal.τ).loc Cert.DownWgradIdeal.main_arg1) = m ((c.tc : Thread Cert.DownWgradIdeal.nD Cert.DownWgradIdeal.τ).loc Cert.DownWgradIdeal.main_arg1))
      ∧ θ_run (Cert.DownWgradRefIdeal.defs (F := Ideal)) (onTc (τ := Cert.DownWgradRefIdeal.τ) (Cert.DownWgradRefIdeal.main (F := Ideal))) ⟨m', fun _ => 0, g'⟩ (fun r => ∀ c : Dev Cert.DownWgradRefIdeal.nD,
          r.2.mem ((c.tc : Thread Cert.DownWgradRefIdeal.nD Cert.DownWgradRefIdeal.τ).loc Cert.DownWgradRefIdeal.main_v6) = v0 c
          ∧ r.2.mem ((c.tc : Thread Cert.DownWgradRefIdeal.nD Cert.DownWgradRefIdeal.τ).loc Cert.DownWgradRefIdeal.main_arg0) = m' ((c.tc : Thread Cert.DownWgradRefIdeal.nD Cert.DownWgradRefIdeal.τ).loc Cert.DownWgradRefIdeal.main_arg0)
          ∧ r.2.mem ((c.tc : Thread Cert.DownWgradRefIdeal.nD Cert.DownWgradRefIdeal.τ).loc Cert.DownWgradRefIdeal.main_arg1) = m' ((c.tc : Thread Cert.DownWgradRefIdeal.nD Cert.DownWgradRefIdeal.τ).loc Cert.DownWgradRefIdeal.main_arg1))

def preserves_FfnIn_FfnInIdeal : Prop :=
  True

def algebraic_FfnInIdeal_FfnInRefIdeal_pre_ffn_in_finite [hFfnInIdeal : Cert.FfnInIdeal.Facts] [hFfnInRefIdeal : Cert.FfnInRefIdeal.Facts] [hPre_ffn_in_finite : Cert.Pre_ffn_in_finite.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal_ffn_in_finite m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)) →
    ∃ (v0 : (c : Dev Cert.FfnInIdeal.nD) → Buf (Elt Ideal) ((c.tc : Thread Cert.FfnInIdeal.nD Cert.FfnInIdeal.τ).loc Cert.FfnInIdeal.main_v4_0)) (v1 : (c : Dev Cert.FfnInIdeal.nD) → Buf (Elt Ideal) ((c.tc : Thread Cert.FfnInIdeal.nD Cert.FfnInIdeal.τ).loc Cert.FfnInIdeal.main_v4_1)) (v2 : (c : Dev Cert.FfnInIdeal.nD) → Buf (Elt Ideal) ((c.tc : Thread Cert.FfnInIdeal.nD Cert.FfnInIdeal.τ).loc Cert.FfnInIdeal.main_v4_2)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v4_0) = v0 c
          ∧ r.2.mem ((c.tc : Thread Cert.FfnInIdeal.nD Cert.FfnInIdeal.τ).loc Cert.FfnInIdeal.main_v4_1) = v1 c
          ∧ r.2.mem ((c.tc : Thread Cert.FfnInIdeal.nD Cert.FfnInIdeal.τ).loc Cert.FfnInIdeal.main_v4_2) = v2 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v11) = v0 c
          ∧ r.2.mem ((c.tc : Thread Cert.FfnInRefIdeal.nD Cert.FfnInRefIdeal.τ).loc Cert.FfnInRefIdeal.main_v12) = v1 c
          ∧ r.2.mem ((c.tc : Thread Cert.FfnInRefIdeal.nD Cert.FfnInRefIdeal.τ).loc Cert.FfnInRefIdeal.main_v13) = v2 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)
      ∧ m' ((c.tc : Thread Cert.DownFwdRefIdeal.nD Cert.DownFwdRefIdeal.τ).loc Cert.DownFwdRefIdeal.main_arg2) = m ((c.tc : Thread Cert.DownFwdIdeal.nD Cert.DownFwdIdeal.τ).loc Cert.DownFwdIdeal.main_arg2)
      ∧ m' ((c.tc : Thread Cert.DownFwdRefIdeal.nD Cert.DownFwdRefIdeal.τ).loc Cert.DownFwdRefIdeal.main_arg3) = m ((c.tc : Thread Cert.DownFwdIdeal.nD Cert.DownFwdIdeal.τ).loc Cert.DownFwdIdeal.main_arg3)) →
    ∃ (v0 : (c : Dev Cert.DownFwdIdeal.nD) → Buf (Elt Ideal) ((c.tc : Thread Cert.DownFwdIdeal.nD Cert.DownFwdIdeal.τ).loc Cert.DownFwdIdeal.main_v2_0)) (v1 : (c : Dev Cert.DownFwdIdeal.nD) → Buf (Elt Ideal) ((c.tc : Thread Cert.DownFwdIdeal.nD Cert.DownFwdIdeal.τ).loc Cert.DownFwdIdeal.main_v2_1)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v2_0) = v0 c
          ∧ r.2.mem ((c.tc : Thread Cert.DownFwdIdeal.nD Cert.DownFwdIdeal.τ).loc Cert.DownFwdIdeal.main_v2_1) = v1 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
          ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2)
          ∧ r.2.mem ((c.tc : Thread Cert.DownFwdIdeal.nD Cert.DownFwdIdeal.τ).loc Cert.DownFwdIdeal.main_arg3) = m ((c.tc : Thread Cert.DownFwdIdeal.nD Cert.DownFwdIdeal.τ).loc Cert.DownFwdIdeal.main_arg3))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v14) = v0 c
          ∧ r.2.mem ((c.tc : Thread Cert.DownFwdRefIdeal.nD Cert.DownFwdRefIdeal.τ).loc Cert.DownFwdRefIdeal.main_v15) = v1 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1)
          ∧ r.2.mem ((c.tc : Thread Cert.DownFwdRefIdeal.nD Cert.DownFwdRefIdeal.τ).loc Cert.DownFwdRefIdeal.main_arg2) = m' ((c.tc : Thread Cert.DownFwdRefIdeal.nD Cert.DownFwdRefIdeal.τ).loc Cert.DownFwdRefIdeal.main_arg2)
          ∧ r.2.mem ((c.tc : Thread Cert.DownFwdRefIdeal.nD Cert.DownFwdRefIdeal.τ).loc Cert.DownFwdRefIdeal.main_arg3) = m' ((c.tc : Thread Cert.DownFwdRefIdeal.nD Cert.DownFwdRefIdeal.τ).loc Cert.DownFwdRefIdeal.main_arg3))

def preserves_In0Fwd_In0FwdIdeal : Prop :=
  True

def algebraic_In0FwdIdeal_In0FwdRefIdeal [hIn0FwdIdeal : Cert.In0FwdIdeal.Facts] [hIn0FwdRefIdeal : Cert.In0FwdRefIdeal.Facts] : Prop :=
  ∀ (m : (ℓ : Loc Cert.In0FwdIdeal.nD Cert.In0FwdIdeal.τ Cert.In0FwdIdeal.sig) → Buf (Elt Ideal) ℓ) (g : Dev Cert.In0FwdIdeal.nD → PrngReg)
    (m' : (ℓ : Loc Cert.In0FwdRefIdeal.nD Cert.In0FwdRefIdeal.τ Cert.In0FwdRefIdeal.sig) → Buf (Elt Ideal) ℓ) (g' : Dev Cert.In0FwdRefIdeal.nD → PrngReg), Pre_In0FwdIdeal m →
    (∀ c : Dev Cert.In0FwdIdeal.nD,
      m' ((c.tc : Thread Cert.In0FwdRefIdeal.nD Cert.In0FwdRefIdeal.τ).loc Cert.In0FwdRefIdeal.main_arg0) = m ((c.tc : Thread Cert.In0FwdIdeal.nD Cert.In0FwdIdeal.τ).loc Cert.In0FwdIdeal.main_arg0)
      ∧ m' ((c.tc : Thread Cert.In0FwdRefIdeal.nD Cert.In0FwdRefIdeal.τ).loc Cert.In0FwdRefIdeal.main_arg1) = m ((c.tc : Thread Cert.In0FwdIdeal.nD Cert.In0FwdIdeal.τ).loc Cert.In0FwdIdeal.main_arg1)) →
    ∃ (v0 : (c : Dev Cert.In0FwdIdeal.nD) → Buf (Elt Ideal) ((c.tc : Thread Cert.In0FwdIdeal.nD Cert.In0FwdIdeal.τ).loc Cert.In0FwdIdeal.main_v2)),
      θ_run (Cert.In0FwdIdeal.defs (F := Ideal)) (onTc (τ := Cert.In0FwdIdeal.τ) (Cert.In0FwdIdeal.main (F := Ideal))) ⟨m, fun _ => 0, g⟩ (fun r => ∀ c : Dev Cert.In0FwdIdeal.nD,
          r.2.mem ((c.tc : Thread Cert.In0FwdIdeal.nD Cert.In0FwdIdeal.τ).loc Cert.In0FwdIdeal.main_v2) = v0 c
          ∧ r.2.mem ((c.tc : Thread Cert.In0FwdIdeal.nD Cert.In0FwdIdeal.τ).loc Cert.In0FwdIdeal.main_arg0) = m ((c.tc : Thread Cert.In0FwdIdeal.nD Cert.In0FwdIdeal.τ).loc Cert.In0FwdIdeal.main_arg0)
          ∧ r.2.mem ((c.tc : Thread Cert.In0FwdIdeal.nD Cert.In0FwdIdeal.τ).loc Cert.In0FwdIdeal.main_arg1) = m ((c.tc : Thread Cert.In0FwdIdeal.nD Cert.In0FwdIdeal.τ).loc Cert.In0FwdIdeal.main_arg1))
      ∧ θ_run (Cert.In0FwdRefIdeal.defs (F := Ideal)) (onTc (τ := Cert.In0FwdRefIdeal.τ) (Cert.In0FwdRefIdeal.main (F := Ideal))) ⟨m', fun _ => 0, g'⟩ (fun r => ∀ c : Dev Cert.In0FwdRefIdeal.nD,
          r.2.mem ((c.tc : Thread Cert.In0FwdRefIdeal.nD Cert.In0FwdRefIdeal.τ).loc Cert.In0FwdRefIdeal.main_v2) = v0 c
          ∧ r.2.mem ((c.tc : Thread Cert.In0FwdRefIdeal.nD Cert.In0FwdRefIdeal.τ).loc Cert.In0FwdRefIdeal.main_arg0) = m' ((c.tc : Thread Cert.In0FwdRefIdeal.nD Cert.In0FwdRefIdeal.τ).loc Cert.In0FwdRefIdeal.main_arg0)
          ∧ r.2.mem ((c.tc : Thread Cert.In0FwdRefIdeal.nD Cert.In0FwdRefIdeal.τ).loc Cert.In0FwdRefIdeal.main_arg1) = m' ((c.tc : Thread Cert.In0FwdRefIdeal.nD Cert.In0FwdRefIdeal.τ).loc Cert.In0FwdRefIdeal.main_arg1))

def preserves_In0Dgrad_In0DgradIdeal : Prop :=
  True

def algebraic_In0DgradIdeal_In0DgradRefIdeal [hIn0DgradIdeal : Cert.In0DgradIdeal.Facts] [hIn0DgradRefIdeal : Cert.In0DgradRefIdeal.Facts] : Prop :=
  ∀ (m : (ℓ : Loc Cert.In0DgradIdeal.nD Cert.In0DgradIdeal.τ Cert.In0DgradIdeal.sig) → Buf (Elt Ideal) ℓ) (g : Dev Cert.In0DgradIdeal.nD → PrngReg)
    (m' : (ℓ : Loc Cert.In0DgradRefIdeal.nD Cert.In0DgradRefIdeal.τ Cert.In0DgradRefIdeal.sig) → Buf (Elt Ideal) ℓ) (g' : Dev Cert.In0DgradRefIdeal.nD → PrngReg), Pre_In0DgradIdeal m →
    (∀ c : Dev Cert.In0DgradIdeal.nD,
      m' ((c.tc : Thread Cert.In0DgradRefIdeal.nD Cert.In0DgradRefIdeal.τ).loc Cert.In0DgradRefIdeal.main_arg0) = m ((c.tc : Thread Cert.In0DgradIdeal.nD Cert.In0DgradIdeal.τ).loc Cert.In0DgradIdeal.main_arg0)
      ∧ m' ((c.tc : Thread Cert.In0DgradRefIdeal.nD Cert.In0DgradRefIdeal.τ).loc Cert.In0DgradRefIdeal.main_arg1) = m ((c.tc : Thread Cert.In0DgradIdeal.nD Cert.In0DgradIdeal.τ).loc Cert.In0DgradIdeal.main_arg1)) →
    ∃ (v0 : (c : Dev Cert.In0DgradIdeal.nD) → Buf (Elt Ideal) ((c.tc : Thread Cert.In0DgradIdeal.nD Cert.In0DgradIdeal.τ).loc Cert.In0DgradIdeal.main_v2)),
      θ_run (Cert.In0DgradIdeal.defs (F := Ideal)) (onTc (τ := Cert.In0DgradIdeal.τ) (Cert.In0DgradIdeal.main (F := Ideal))) ⟨m, fun _ => 0, g⟩ (fun r => ∀ c : Dev Cert.In0DgradIdeal.nD,
          r.2.mem ((c.tc : Thread Cert.In0DgradIdeal.nD Cert.In0DgradIdeal.τ).loc Cert.In0DgradIdeal.main_v2) = v0 c
          ∧ r.2.mem ((c.tc : Thread Cert.In0DgradIdeal.nD Cert.In0DgradIdeal.τ).loc Cert.In0DgradIdeal.main_arg0) = m ((c.tc : Thread Cert.In0DgradIdeal.nD Cert.In0DgradIdeal.τ).loc Cert.In0DgradIdeal.main_arg0)
          ∧ r.2.mem ((c.tc : Thread Cert.In0DgradIdeal.nD Cert.In0DgradIdeal.τ).loc Cert.In0DgradIdeal.main_arg1) = m ((c.tc : Thread Cert.In0DgradIdeal.nD Cert.In0DgradIdeal.τ).loc Cert.In0DgradIdeal.main_arg1))
      ∧ θ_run (Cert.In0DgradRefIdeal.defs (F := Ideal)) (onTc (τ := Cert.In0DgradRefIdeal.τ) (Cert.In0DgradRefIdeal.main (F := Ideal))) ⟨m', fun _ => 0, g'⟩ (fun r => ∀ c : Dev Cert.In0DgradRefIdeal.nD,
          r.2.mem ((c.tc : Thread Cert.In0DgradRefIdeal.nD Cert.In0DgradRefIdeal.τ).loc Cert.In0DgradRefIdeal.main_v4) = v0 c
          ∧ r.2.mem ((c.tc : Thread Cert.In0DgradRefIdeal.nD Cert.In0DgradRefIdeal.τ).loc Cert.In0DgradRefIdeal.main_arg0) = m' ((c.tc : Thread Cert.In0DgradRefIdeal.nD Cert.In0DgradRefIdeal.τ).loc Cert.In0DgradRefIdeal.main_arg0)
          ∧ r.2.mem ((c.tc : Thread Cert.In0DgradRefIdeal.nD Cert.In0DgradRefIdeal.τ).loc Cert.In0DgradRefIdeal.main_arg1) = m' ((c.tc : Thread Cert.In0DgradRefIdeal.nD Cert.In0DgradRefIdeal.τ).loc Cert.In0DgradRefIdeal.main_arg1))

def preserves_In0Wgrad_In0WgradIdeal : Prop :=
  True

def algebraic_In0WgradIdeal_In0WgradRefIdeal [hIn0WgradIdeal : Cert.In0WgradIdeal.Facts] [hIn0WgradRefIdeal : Cert.In0WgradRefIdeal.Facts] : Prop :=
  ∀ (m : (ℓ : Loc Cert.In0WgradIdeal.nD Cert.In0WgradIdeal.τ Cert.In0WgradIdeal.sig) → Buf (Elt Ideal) ℓ) (g : Dev Cert.In0WgradIdeal.nD → PrngReg)
    (m' : (ℓ : Loc Cert.In0WgradRefIdeal.nD Cert.In0WgradRefIdeal.τ Cert.In0WgradRefIdeal.sig) → Buf (Elt Ideal) ℓ) (g' : Dev Cert.In0WgradRefIdeal.nD → PrngReg), Pre_In0WgradIdeal m →
    (∀ c : Dev Cert.In0WgradIdeal.nD,
      m' ((c.tc : Thread Cert.In0WgradRefIdeal.nD Cert.In0WgradRefIdeal.τ).loc Cert.In0WgradRefIdeal.main_arg0) = m ((c.tc : Thread Cert.In0WgradIdeal.nD Cert.In0WgradIdeal.τ).loc Cert.In0WgradIdeal.main_arg0)
      ∧ m' ((c.tc : Thread Cert.In0WgradRefIdeal.nD Cert.In0WgradRefIdeal.τ).loc Cert.In0WgradRefIdeal.main_arg1) = m ((c.tc : Thread Cert.In0WgradIdeal.nD Cert.In0WgradIdeal.τ).loc Cert.In0WgradIdeal.main_arg1)) →
    ∃ (v0 : (c : Dev Cert.In0WgradIdeal.nD) → Buf (Elt Ideal) ((c.tc : Thread Cert.In0WgradIdeal.nD Cert.In0WgradIdeal.τ).loc Cert.In0WgradIdeal.main_v0)),
      θ_run (Cert.In0WgradIdeal.defs (F := Ideal)) (onTc (τ := Cert.In0WgradIdeal.τ) (Cert.In0WgradIdeal.main (F := Ideal))) ⟨m, fun _ => 0, g⟩ (fun r => ∀ c : Dev Cert.In0WgradIdeal.nD,
          r.2.mem ((c.tc : Thread Cert.In0WgradIdeal.nD Cert.In0WgradIdeal.τ).loc Cert.In0WgradIdeal.main_v0) = v0 c
          ∧ r.2.mem ((c.tc : Thread Cert.In0WgradIdeal.nD Cert.In0WgradIdeal.τ).loc Cert.In0WgradIdeal.main_arg0) = m ((c.tc : Thread Cert.In0WgradIdeal.nD Cert.In0WgradIdeal.τ).loc Cert.In0WgradIdeal.main_arg0)
          ∧ r.2.mem ((c.tc : Thread Cert.In0WgradIdeal.nD Cert.In0WgradIdeal.τ).loc Cert.In0WgradIdeal.main_arg1) = m ((c.tc : Thread Cert.In0WgradIdeal.nD Cert.In0WgradIdeal.τ).loc Cert.In0WgradIdeal.main_arg1))
      ∧ θ_run (Cert.In0WgradRefIdeal.defs (F := Ideal)) (onTc (τ := Cert.In0WgradRefIdeal.τ) (Cert.In0WgradRefIdeal.main (F := Ideal))) ⟨m', fun _ => 0, g'⟩ (fun r => ∀ c : Dev Cert.In0WgradRefIdeal.nD,
          r.2.mem ((c.tc : Thread Cert.In0WgradRefIdeal.nD Cert.In0WgradRefIdeal.τ).loc Cert.In0WgradRefIdeal.main_v8) = v0 c
          ∧ r.2.mem ((c.tc : Thread Cert.In0WgradRefIdeal.nD Cert.In0WgradRefIdeal.τ).loc Cert.In0WgradRefIdeal.main_arg0) = m' ((c.tc : Thread Cert.In0WgradRefIdeal.nD Cert.In0WgradRefIdeal.τ).loc Cert.In0WgradRefIdeal.main_arg0)
          ∧ r.2.mem ((c.tc : Thread Cert.In0WgradRefIdeal.nD Cert.In0WgradRefIdeal.τ).loc Cert.In0WgradRefIdeal.main_arg1) = m' ((c.tc : Thread Cert.In0WgradRefIdeal.nD Cert.In0WgradRefIdeal.τ).loc Cert.In0WgradRefIdeal.main_arg1))

def preserves_In1Fwd_In1FwdIdeal : Prop :=
  True

def algebraic_In1FwdIdeal_In1FwdRefIdeal [hIn1FwdIdeal : Cert.In1FwdIdeal.Facts] [hIn1FwdRefIdeal : Cert.In1FwdRefIdeal.Facts] : Prop :=
  ∀ (m : (ℓ : Loc Cert.In1FwdIdeal.nD Cert.In1FwdIdeal.τ Cert.In1FwdIdeal.sig) → Buf (Elt Ideal) ℓ) (g : Dev Cert.In1FwdIdeal.nD → PrngReg)
    (m' : (ℓ : Loc Cert.In1FwdRefIdeal.nD Cert.In1FwdRefIdeal.τ Cert.In1FwdRefIdeal.sig) → Buf (Elt Ideal) ℓ) (g' : Dev Cert.In1FwdRefIdeal.nD → PrngReg), Pre_In1FwdIdeal m →
    (∀ c : Dev Cert.In1FwdIdeal.nD,
      m' ((c.tc : Thread Cert.In1FwdRefIdeal.nD Cert.In1FwdRefIdeal.τ).loc Cert.In1FwdRefIdeal.main_arg0) = m ((c.tc : Thread Cert.In1FwdIdeal.nD Cert.In1FwdIdeal.τ).loc Cert.In1FwdIdeal.main_arg0)
      ∧ m' ((c.tc : Thread Cert.In1FwdRefIdeal.nD Cert.In1FwdRefIdeal.τ).loc Cert.In1FwdRefIdeal.main_arg1) = m ((c.tc : Thread Cert.In1FwdIdeal.nD Cert.In1FwdIdeal.τ).loc Cert.In1FwdIdeal.main_arg1)) →
    ∃ (v0 : (c : Dev Cert.In1FwdIdeal.nD) → Buf (Elt Ideal) ((c.tc : Thread Cert.In1FwdIdeal.nD Cert.In1FwdIdeal.τ).loc Cert.In1FwdIdeal.main_v2)),
      θ_run (Cert.In1FwdIdeal.defs (F := Ideal)) (onTc (τ := Cert.In1FwdIdeal.τ) (Cert.In1FwdIdeal.main (F := Ideal))) ⟨m, fun _ => 0, g⟩ (fun r => ∀ c : Dev Cert.In1FwdIdeal.nD,
          r.2.mem ((c.tc : Thread Cert.In1FwdIdeal.nD Cert.In1FwdIdeal.τ).loc Cert.In1FwdIdeal.main_v2) = v0 c
          ∧ r.2.mem ((c.tc : Thread Cert.In1FwdIdeal.nD Cert.In1FwdIdeal.τ).loc Cert.In1FwdIdeal.main_arg0) = m ((c.tc : Thread Cert.In1FwdIdeal.nD Cert.In1FwdIdeal.τ).loc Cert.In1FwdIdeal.main_arg0)
          ∧ r.2.mem ((c.tc : Thread Cert.In1FwdIdeal.nD Cert.In1FwdIdeal.τ).loc Cert.In1FwdIdeal.main_arg1) = m ((c.tc : Thread Cert.In1FwdIdeal.nD Cert.In1FwdIdeal.τ).loc Cert.In1FwdIdeal.main_arg1))
      ∧ θ_run (Cert.In1FwdRefIdeal.defs (F := Ideal)) (onTc (τ := Cert.In1FwdRefIdeal.τ) (Cert.In1FwdRefIdeal.main (F := Ideal))) ⟨m', fun _ => 0, g'⟩ (fun r => ∀ c : Dev Cert.In1FwdRefIdeal.nD,
          r.2.mem ((c.tc : Thread Cert.In1FwdRefIdeal.nD Cert.In1FwdRefIdeal.τ).loc Cert.In1FwdRefIdeal.main_v2) = v0 c
          ∧ r.2.mem ((c.tc : Thread Cert.In1FwdRefIdeal.nD Cert.In1FwdRefIdeal.τ).loc Cert.In1FwdRefIdeal.main_arg0) = m' ((c.tc : Thread Cert.In1FwdRefIdeal.nD Cert.In1FwdRefIdeal.τ).loc Cert.In1FwdRefIdeal.main_arg0)
          ∧ r.2.mem ((c.tc : Thread Cert.In1FwdRefIdeal.nD Cert.In1FwdRefIdeal.τ).loc Cert.In1FwdRefIdeal.main_arg1) = m' ((c.tc : Thread Cert.In1FwdRefIdeal.nD Cert.In1FwdRefIdeal.τ).loc Cert.In1FwdRefIdeal.main_arg1))

def preserves_In1Dgrad_In1DgradIdeal : Prop :=
  True

def algebraic_In1DgradIdeal_In1DgradRefIdeal [hIn1DgradIdeal : Cert.In1DgradIdeal.Facts] [hIn1DgradRefIdeal : Cert.In1DgradRefIdeal.Facts] : Prop :=
  ∀ (m : (ℓ : Loc Cert.In1DgradIdeal.nD Cert.In1DgradIdeal.τ Cert.In1DgradIdeal.sig) → Buf (Elt Ideal) ℓ) (g : Dev Cert.In1DgradIdeal.nD → PrngReg)
    (m' : (ℓ : Loc Cert.In1DgradRefIdeal.nD Cert.In1DgradRefIdeal.τ Cert.In1DgradRefIdeal.sig) → Buf (Elt Ideal) ℓ) (g' : Dev Cert.In1DgradRefIdeal.nD → PrngReg), Pre_In1DgradIdeal m →
    (∀ c : Dev Cert.In1DgradIdeal.nD,
      m' ((c.tc : Thread Cert.In1DgradRefIdeal.nD Cert.In1DgradRefIdeal.τ).loc Cert.In1DgradRefIdeal.main_arg0) = m ((c.tc : Thread Cert.In1DgradIdeal.nD Cert.In1DgradIdeal.τ).loc Cert.In1DgradIdeal.main_arg0)
      ∧ m' ((c.tc : Thread Cert.In1DgradRefIdeal.nD Cert.In1DgradRefIdeal.τ).loc Cert.In1DgradRefIdeal.main_arg1) = m ((c.tc : Thread Cert.In1DgradIdeal.nD Cert.In1DgradIdeal.τ).loc Cert.In1DgradIdeal.main_arg1)) →
    ∃ (v0 : (c : Dev Cert.In1DgradIdeal.nD) → Buf (Elt Ideal) ((c.tc : Thread Cert.In1DgradIdeal.nD Cert.In1DgradIdeal.τ).loc Cert.In1DgradIdeal.main_v2)),
      θ_run (Cert.In1DgradIdeal.defs (F := Ideal)) (onTc (τ := Cert.In1DgradIdeal.τ) (Cert.In1DgradIdeal.main (F := Ideal))) ⟨m, fun _ => 0, g⟩ (fun r => ∀ c : Dev Cert.In1DgradIdeal.nD,
          r.2.mem ((c.tc : Thread Cert.In1DgradIdeal.nD Cert.In1DgradIdeal.τ).loc Cert.In1DgradIdeal.main_v2) = v0 c
          ∧ r.2.mem ((c.tc : Thread Cert.In1DgradIdeal.nD Cert.In1DgradIdeal.τ).loc Cert.In1DgradIdeal.main_arg0) = m ((c.tc : Thread Cert.In1DgradIdeal.nD Cert.In1DgradIdeal.τ).loc Cert.In1DgradIdeal.main_arg0)
          ∧ r.2.mem ((c.tc : Thread Cert.In1DgradIdeal.nD Cert.In1DgradIdeal.τ).loc Cert.In1DgradIdeal.main_arg1) = m ((c.tc : Thread Cert.In1DgradIdeal.nD Cert.In1DgradIdeal.τ).loc Cert.In1DgradIdeal.main_arg1))
      ∧ θ_run (Cert.In1DgradRefIdeal.defs (F := Ideal)) (onTc (τ := Cert.In1DgradRefIdeal.τ) (Cert.In1DgradRefIdeal.main (F := Ideal))) ⟨m', fun _ => 0, g'⟩ (fun r => ∀ c : Dev Cert.In1DgradRefIdeal.nD,
          r.2.mem ((c.tc : Thread Cert.In1DgradRefIdeal.nD Cert.In1DgradRefIdeal.τ).loc Cert.In1DgradRefIdeal.main_v4) = v0 c
          ∧ r.2.mem ((c.tc : Thread Cert.In1DgradRefIdeal.nD Cert.In1DgradRefIdeal.τ).loc Cert.In1DgradRefIdeal.main_arg0) = m' ((c.tc : Thread Cert.In1DgradRefIdeal.nD Cert.In1DgradRefIdeal.τ).loc Cert.In1DgradRefIdeal.main_arg0)
          ∧ r.2.mem ((c.tc : Thread Cert.In1DgradRefIdeal.nD Cert.In1DgradRefIdeal.τ).loc Cert.In1DgradRefIdeal.main_arg1) = m' ((c.tc : Thread Cert.In1DgradRefIdeal.nD Cert.In1DgradRefIdeal.τ).loc Cert.In1DgradRefIdeal.main_arg1))

def preserves_In1Wgrad_In1WgradIdeal : Prop :=
  True

def algebraic_In1WgradIdeal_In1WgradRefIdeal [hIn1WgradIdeal : Cert.In1WgradIdeal.Facts] [hIn1WgradRefIdeal : Cert.In1WgradRefIdeal.Facts] : Prop :=
  ∀ (m : (ℓ : Loc Cert.In1WgradIdeal.nD Cert.In1WgradIdeal.τ Cert.In1WgradIdeal.sig) → Buf (Elt Ideal) ℓ) (g : Dev Cert.In1WgradIdeal.nD → PrngReg)
    (m' : (ℓ : Loc Cert.In1WgradRefIdeal.nD Cert.In1WgradRefIdeal.τ Cert.In1WgradRefIdeal.sig) → Buf (Elt Ideal) ℓ) (g' : Dev Cert.In1WgradRefIdeal.nD → PrngReg), Pre_In1WgradIdeal m →
    (∀ c : Dev Cert.In1WgradIdeal.nD,
      m' ((c.tc : Thread Cert.In1WgradRefIdeal.nD Cert.In1WgradRefIdeal.τ).loc Cert.In1WgradRefIdeal.main_arg0) = m ((c.tc : Thread Cert.In1WgradIdeal.nD Cert.In1WgradIdeal.τ).loc Cert.In1WgradIdeal.main_arg0)
      ∧ m' ((c.tc : Thread Cert.In1WgradRefIdeal.nD Cert.In1WgradRefIdeal.τ).loc Cert.In1WgradRefIdeal.main_arg1) = m ((c.tc : Thread Cert.In1WgradIdeal.nD Cert.In1WgradIdeal.τ).loc Cert.In1WgradIdeal.main_arg1)) →
    ∃ (v0 : (c : Dev Cert.In1WgradIdeal.nD) → Buf (Elt Ideal) ((c.tc : Thread Cert.In1WgradIdeal.nD Cert.In1WgradIdeal.τ).loc Cert.In1WgradIdeal.main_v0)),
      θ_run (Cert.In1WgradIdeal.defs (F := Ideal)) (onTc (τ := Cert.In1WgradIdeal.τ) (Cert.In1WgradIdeal.main (F := Ideal))) ⟨m, fun _ => 0, g⟩ (fun r => ∀ c : Dev Cert.In1WgradIdeal.nD,
          r.2.mem ((c.tc : Thread Cert.In1WgradIdeal.nD Cert.In1WgradIdeal.τ).loc Cert.In1WgradIdeal.main_v0) = v0 c
          ∧ r.2.mem ((c.tc : Thread Cert.In1WgradIdeal.nD Cert.In1WgradIdeal.τ).loc Cert.In1WgradIdeal.main_arg0) = m ((c.tc : Thread Cert.In1WgradIdeal.nD Cert.In1WgradIdeal.τ).loc Cert.In1WgradIdeal.main_arg0)
          ∧ r.2.mem ((c.tc : Thread Cert.In1WgradIdeal.nD Cert.In1WgradIdeal.τ).loc Cert.In1WgradIdeal.main_arg1) = m ((c.tc : Thread Cert.In1WgradIdeal.nD Cert.In1WgradIdeal.τ).loc Cert.In1WgradIdeal.main_arg1))
      ∧ θ_run (Cert.In1WgradRefIdeal.defs (F := Ideal)) (onTc (τ := Cert.In1WgradRefIdeal.τ) (Cert.In1WgradRefIdeal.main (F := Ideal))) ⟨m', fun _ => 0, g'⟩ (fun r => ∀ c : Dev Cert.In1WgradRefIdeal.nD,
          r.2.mem ((c.tc : Thread Cert.In1WgradRefIdeal.nD Cert.In1WgradRefIdeal.τ).loc Cert.In1WgradRefIdeal.main_v8) = v0 c
          ∧ r.2.mem ((c.tc : Thread Cert.In1WgradRefIdeal.nD Cert.In1WgradRefIdeal.τ).loc Cert.In1WgradRefIdeal.main_arg0) = m' ((c.tc : Thread Cert.In1WgradRefIdeal.nD Cert.In1WgradRefIdeal.τ).loc Cert.In1WgradRefIdeal.main_arg0)
          ∧ r.2.mem ((c.tc : Thread Cert.In1WgradRefIdeal.nD Cert.In1WgradRefIdeal.τ).loc Cert.In1WgradRefIdeal.main_arg1) = m' ((c.tc : Thread Cert.In1WgradRefIdeal.nD Cert.In1WgradRefIdeal.τ).loc Cert.In1WgradRefIdeal.main_arg1))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)) →
    ∃ (v0 : (c : Dev Cert.OutFwdIdeal.nD) → Buf (Elt Ideal) ((c.tc : Thread Cert.OutFwdIdeal.nD Cert.OutFwdIdeal.τ).loc Cert.OutFwdIdeal.main_v2_0)) (v1 : (c : Dev Cert.OutFwdIdeal.nD) → Buf (Elt Ideal) ((c.tc : Thread Cert.OutFwdIdeal.nD Cert.OutFwdIdeal.τ).loc Cert.OutFwdIdeal.main_v2_1)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v2_0) = v0 c
          ∧ r.2.mem ((c.tc : Thread Cert.OutFwdIdeal.nD Cert.OutFwdIdeal.τ).loc Cert.OutFwdIdeal.main_v2_1) = v1 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v14) = v0 c
          ∧ r.2.mem ((c.tc : Thread Cert.OutFwdRefIdeal.nD Cert.OutFwdRefIdeal.τ).loc Cert.OutFwdRefIdeal.main_v15) = v1 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3))

def preserves_OutDgrad_OutDgradIdeal : Prop :=
  True

def algebraic_OutDgradIdeal_OutDgradRefIdeal [hOutDgradIdeal : Cert.OutDgradIdeal.Facts] [hOutDgradRefIdeal : Cert.OutDgradRefIdeal.Facts] : Prop :=
  ∀ (m : (ℓ : Loc Cert.OutDgradIdeal.nD Cert.OutDgradIdeal.τ Cert.OutDgradIdeal.sig) → Buf (Elt Ideal) ℓ) (g : Dev Cert.OutDgradIdeal.nD → PrngReg)
    (m' : (ℓ : Loc Cert.OutDgradRefIdeal.nD Cert.OutDgradRefIdeal.τ Cert.OutDgradRefIdeal.sig) → Buf (Elt Ideal) ℓ) (g' : Dev Cert.OutDgradRefIdeal.nD → PrngReg), Pre_OutDgradIdeal m →
    (∀ c : Dev Cert.OutDgradIdeal.nD,
      m' ((c.tc : Thread Cert.OutDgradRefIdeal.nD Cert.OutDgradRefIdeal.τ).loc Cert.OutDgradRefIdeal.main_arg0) = m ((c.tc : Thread Cert.OutDgradIdeal.nD Cert.OutDgradIdeal.τ).loc Cert.OutDgradIdeal.main_arg0)
      ∧ m' ((c.tc : Thread Cert.OutDgradRefIdeal.nD Cert.OutDgradRefIdeal.τ).loc Cert.OutDgradRefIdeal.main_arg1) = m ((c.tc : Thread Cert.OutDgradIdeal.nD Cert.OutDgradIdeal.τ).loc Cert.OutDgradIdeal.main_arg1)) →
    ∃ (v0 : (c : Dev Cert.OutDgradIdeal.nD) → Buf (Elt Ideal) ((c.tc : Thread Cert.OutDgradIdeal.nD Cert.OutDgradIdeal.τ).loc Cert.OutDgradIdeal.main_v1)),
      θ_run (Cert.OutDgradIdeal.defs (F := Ideal)) (onTc (τ := Cert.OutDgradIdeal.τ) (Cert.OutDgradIdeal.main (F := Ideal))) ⟨m, fun _ => 0, g⟩ (fun r => ∀ c : Dev Cert.OutDgradIdeal.nD,
          r.2.mem ((c.tc : Thread Cert.OutDgradIdeal.nD Cert.OutDgradIdeal.τ).loc Cert.OutDgradIdeal.main_v1) = v0 c
          ∧ r.2.mem ((c.tc : Thread Cert.OutDgradIdeal.nD Cert.OutDgradIdeal.τ).loc Cert.OutDgradIdeal.main_arg0) = m ((c.tc : Thread Cert.OutDgradIdeal.nD Cert.OutDgradIdeal.τ).loc Cert.OutDgradIdeal.main_arg0)
          ∧ r.2.mem ((c.tc : Thread Cert.OutDgradIdeal.nD Cert.OutDgradIdeal.τ).loc Cert.OutDgradIdeal.main_arg1) = m ((c.tc : Thread Cert.OutDgradIdeal.nD Cert.OutDgradIdeal.τ).loc Cert.OutDgradIdeal.main_arg1))
      ∧ θ_run (Cert.OutDgradRefIdeal.defs (F := Ideal)) (onTc (τ := Cert.OutDgradRefIdeal.τ) (Cert.OutDgradRefIdeal.main (F := Ideal))) ⟨m', fun _ => 0, g'⟩ (fun r => ∀ c : Dev Cert.OutDgradRefIdeal.nD,
          r.2.mem ((c.tc : Thread Cert.OutDgradRefIdeal.nD Cert.OutDgradRefIdeal.τ).loc Cert.OutDgradRefIdeal.main_v5) = v0 c
          ∧ r.2.mem ((c.tc : Thread Cert.OutDgradRefIdeal.nD Cert.OutDgradRefIdeal.τ).loc Cert.OutDgradRefIdeal.main_arg0) = m' ((c.tc : Thread Cert.OutDgradRefIdeal.nD Cert.OutDgradRefIdeal.τ).loc Cert.OutDgradRefIdeal.main_arg0)
          ∧ r.2.mem ((c.tc : Thread Cert.OutDgradRefIdeal.nD Cert.OutDgradRefIdeal.τ).loc Cert.OutDgradRefIdeal.main_arg1) = m' ((c.tc : Thread Cert.OutDgradRefIdeal.nD Cert.OutDgradRefIdeal.τ).loc Cert.OutDgradRefIdeal.main_arg1))

def preserves_OutWgrad_OutWgradIdeal : Prop :=
  True

def algebraic_OutWgradIdeal_OutWgradRefIdeal [hOutWgradIdeal : Cert.OutWgradIdeal.Facts] [hOutWgradRefIdeal : Cert.OutWgradRefIdeal.Facts] : Prop :=
  ∀ (m : (ℓ : Loc Cert.OutWgradIdeal.nD Cert.OutWgradIdeal.τ Cert.OutWgradIdeal.sig) → Buf (Elt Ideal) ℓ) (g : Dev Cert.OutWgradIdeal.nD → PrngReg)
    (m' : (ℓ : Loc Cert.OutWgradRefIdeal.nD Cert.OutWgradRefIdeal.τ Cert.OutWgradRefIdeal.sig) → Buf (Elt Ideal) ℓ) (g' : Dev Cert.OutWgradRefIdeal.nD → PrngReg), Pre_OutWgradIdeal m →
    (∀ c : Dev Cert.OutWgradIdeal.nD,
      m' ((c.tc : Thread Cert.OutWgradRefIdeal.nD Cert.OutWgradRefIdeal.τ).loc Cert.OutWgradRefIdeal.main_arg0) = m ((c.tc : Thread Cert.OutWgradIdeal.nD Cert.OutWgradIdeal.τ).loc Cert.OutWgradIdeal.main_arg0)
      ∧ m' ((c.tc : Thread Cert.OutWgradRefIdeal.nD Cert.OutWgradRefIdeal.τ).loc Cert.OutWgradRefIdeal.main_arg1) = m ((c.tc : Thread Cert.OutWgradIdeal.nD Cert.OutWgradIdeal.τ).loc Cert.OutWgradIdeal.main_arg1)) →
    ∃ (v0 : (c : Dev Cert.OutWgradIdeal.nD) → Buf (Elt Ideal) ((c.tc : Thread Cert.OutWgradIdeal.nD Cert.OutWgradIdeal.τ).loc Cert.OutWgradIdeal.main_v0)),
      θ_run (Cert.OutWgradIdeal.defs (F := Ideal)) (onTc (τ := Cert.OutWgradIdeal.τ) (Cert.OutWgradIdeal.main (F := Ideal))) ⟨m, fun _ => 0, g⟩ (fun r => ∀ c : Dev Cert.OutWgradIdeal.nD,
          r.2.mem ((c.tc : Thread Cert.OutWgradIdeal.nD Cert.OutWgradIdeal.τ).loc Cert.OutWgradIdeal.main_v0) = v0 c
          ∧ r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
          ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1))
      ∧ θ_run (Cert.OutWgradRefIdeal.defs (F := Ideal)) (onTc (τ := Cert.OutWgradRefIdeal.τ) (Cert.OutWgradRefIdeal.main (F := Ideal))) ⟨m', fun _ => 0, g'⟩ (fun r => ∀ c : Dev Cert.OutWgradRefIdeal.nD,
          r.2.mem ((c.tc : Thread Cert.OutWgradRefIdeal.nD Cert.OutWgradRefIdeal.τ).loc Cert.OutWgradRefIdeal.main_v6) = v0 c
          ∧ r.2.mem ((c.tc : Thread Cert.OutWgradRefIdeal.nD Cert.OutWgradRefIdeal.τ).loc Cert.OutWgradRefIdeal.main_arg0) = m' ((c.tc : Thread Cert.OutWgradRefIdeal.nD Cert.OutWgradRefIdeal.τ).loc Cert.OutWgradRefIdeal.main_arg0)
          ∧ r.2.mem ((c.tc : Thread Cert.OutWgradRefIdeal.nD Cert.OutWgradRefIdeal.τ).loc Cert.OutWgradRefIdeal.main_arg1) = m' ((c.tc : Thread Cert.OutWgradRefIdeal.nD Cert.OutWgradRefIdeal.τ).loc Cert.OutWgradRefIdeal.main_arg1))

def preserves_AttnFwd_AttnFwdIdeal : Prop :=
  True

def algebraic_AttnFwdIdeal_AttnFwdRefIdeal_pre_fwd_finite [hAttnFwdIdeal : Cert.AttnFwdIdeal.Facts] [hAttnFwdRefIdeal : Cert.AttnFwdRefIdeal.Facts] [hPre_fwd_finite : Cert.Pre_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_fwd_finite m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v2)) (v1 : (c : Dev Cert.AttnFwdIdeal.nD) → Buf (Elt Ideal) ((c.tc : Thread Cert.AttnFwdIdeal.nD Cert.AttnFwdIdeal.τ).loc Cert.AttnFwdIdeal.main_v1_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v2) = v0 c
          ∧ r.2.mem ((c.tc : Thread Cert.AttnFwdIdeal.nD Cert.AttnFwdIdeal.τ).loc Cert.AttnFwdIdeal.main_v1_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v42) = v0 c
          ∧ r.2.mem ((c.tc : Thread Cert.AttnFwdRefIdeal.nD Cert.AttnFwdRefIdeal.τ).loc Cert.AttnFwdRefIdeal.main_v44) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def Claim : Prop :=
  ∃ (hKernel : Cert.Kernel.Facts) (hKernelIdeal : Cert.KernelIdeal.Facts) (hReferenceIdeal : Cert.ReferenceIdeal.Facts) (hDownBwd : Cert.DownBwd.Facts) (hDownBwdIdeal : Cert.DownBwdIdeal.Facts) (hDownBwdRefIdeal : Cert.DownBwdRefIdeal.Facts) (hGateDgrad : Cert.GateDgrad.Facts) (hGateDgradIdeal : Cert.GateDgradIdeal.Facts) (hGateDgradRefIdeal : Cert.GateDgradRefIdeal.Facts) (hUpDgrad : Cert.UpDgrad.Facts) (hUpDgradIdeal : Cert.UpDgradIdeal.Facts) (hUpDgradRefIdeal : Cert.UpDgradRefIdeal.Facts) (hGateWgrad : Cert.GateWgrad.Facts) (hGateWgradIdeal : Cert.GateWgradIdeal.Facts) (hGateWgradRefIdeal : Cert.GateWgradRefIdeal.Facts) (hDownWgrad : Cert.DownWgrad.Facts) (hDownWgradIdeal : Cert.DownWgradIdeal.Facts) (hDownWgradRefIdeal : Cert.DownWgradRefIdeal.Facts) (hFfnIn : Cert.FfnIn.Facts) (hFfnInIdeal : Cert.FfnInIdeal.Facts) (hFfnInRefIdeal : Cert.FfnInRefIdeal.Facts) (hDownFwd : Cert.DownFwd.Facts) (hDownFwdIdeal : Cert.DownFwdIdeal.Facts) (hDownFwdRefIdeal : Cert.DownFwdRefIdeal.Facts) (hIn0Fwd : Cert.In0Fwd.Facts) (hIn0FwdIdeal : Cert.In0FwdIdeal.Facts) (hIn0FwdRefIdeal : Cert.In0FwdRefIdeal.Facts) (hIn0Dgrad : Cert.In0Dgrad.Facts) (hIn0DgradIdeal : Cert.In0DgradIdeal.Facts) (hIn0DgradRefIdeal : Cert.In0DgradRefIdeal.Facts) (hIn0Wgrad : Cert.In0Wgrad.Facts) (hIn0WgradIdeal : Cert.In0WgradIdeal.Facts) (hIn0WgradRefIdeal : Cert.In0WgradRefIdeal.Facts) (hIn1Fwd : Cert.In1Fwd.Facts) (hIn1FwdIdeal : Cert.In1FwdIdeal.Facts) (hIn1FwdRefIdeal : Cert.In1FwdRefIdeal.Facts) (hIn1Dgrad : Cert.In1Dgrad.Facts) (hIn1DgradIdeal : Cert.In1DgradIdeal.Facts) (hIn1DgradRefIdeal : Cert.In1DgradRefIdeal.Facts) (hIn1Wgrad : Cert.In1Wgrad.Facts) (hIn1WgradIdeal : Cert.In1WgradIdeal.Facts) (hIn1WgradRefIdeal : Cert.In1WgradRefIdeal.Facts) (hOutFwd : Cert.OutFwd.Facts) (hOutFwdIdeal : Cert.OutFwdIdeal.Facts) (hOutFwdRefIdeal : Cert.OutFwdRefIdeal.Facts) (hOutDgrad : Cert.OutDgrad.Facts) (hOutDgradIdeal : Cert.OutDgradIdeal.Facts) (hOutDgradRefIdeal : Cert.OutDgradRefIdeal.Facts) (hOutWgrad : Cert.OutWgrad.Facts) (hOutWgradIdeal : Cert.OutWgradIdeal.Facts) (hOutWgradRefIdeal : Cert.OutWgradRefIdeal.Facts) (hAttnFwd : Cert.AttnFwd.Facts) (hAttnFwdIdeal : Cert.AttnFwdIdeal.Facts) (hAttnFwdRefIdeal : Cert.AttnFwdRefIdeal.Facts) (hPre_finite : Cert.Pre_finite.Facts) (hPre_down_bwd_finite : Cert.Pre_down_bwd_finite.Facts) (hPre_ffn_in_finite : Cert.Pre_ffn_in_finite.Facts) (hPre_fwd_finite : Cert.Pre_fwd_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownBwd (hDownBwd := hDownBwd)
    ∧ quiescent_DownBwdIdeal (hDownBwdIdeal := hDownBwdIdeal)
    ∧ quiescent_DownBwdIdeal_pre_down_bwd_finite (hDownBwdIdeal := hDownBwdIdeal) (hPre_down_bwd_finite := hPre_down_bwd_finite)
    ∧ quiescent_DownBwdRefIdeal (hDownBwdRefIdeal := hDownBwdRefIdeal)
    ∧ quiescent_DownBwdRefIdeal_pre_down_bwd_finite (hDownBwdRefIdeal := hDownBwdRefIdeal) (hPre_down_bwd_finite := hPre_down_bwd_finite)
    ∧ quiescent_GateDgrad (hGateDgrad := hGateDgrad)
    ∧ quiescent_GateDgradIdeal (hGateDgradIdeal := hGateDgradIdeal)
    ∧ quiescent_GateDgradRefIdeal (hGateDgradRefIdeal := hGateDgradRefIdeal)
    ∧ quiescent_UpDgrad (hUpDgrad := hUpDgrad)
    ∧ quiescent_UpDgradIdeal (hUpDgradIdeal := hUpDgradIdeal)
    ∧ quiescent_UpDgradRefIdeal (hUpDgradRefIdeal := hUpDgradRefIdeal)
    ∧ quiescent_GateWgrad (hGateWgrad := hGateWgrad)
    ∧ quiescent_GateWgradIdeal (hGateWgradIdeal := hGateWgradIdeal)
    ∧ quiescent_GateWgradRefIdeal (hGateWgradRefIdeal := hGateWgradRefIdeal)
    ∧ quiescent_DownWgrad (hDownWgrad := hDownWgrad)
    ∧ quiescent_DownWgradIdeal (hDownWgradIdeal := hDownWgradIdeal)
    ∧ quiescent_DownWgradRefIdeal (hDownWgradRefIdeal := hDownWgradRefIdeal)
    ∧ quiescent_FfnIn (hFfnIn := hFfnIn)
    ∧ quiescent_FfnInIdeal (hFfnInIdeal := hFfnInIdeal)
    ∧ quiescent_FfnInIdeal_pre_ffn_in_finite (hFfnInIdeal := hFfnInIdeal) (hPre_ffn_in_finite := hPre_ffn_in_finite)
    ∧ quiescent_FfnInRefIdeal (hFfnInRefIdeal := hFfnInRefIdeal)
    ∧ quiescent_FfnInRefIdeal_pre_ffn_in_finite (hFfnInRefIdeal := hFfnInRefIdeal) (hPre_ffn_in_finite := hPre_ffn_in_finite)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_In0Fwd (hIn0Fwd := hIn0Fwd)
    ∧ quiescent_In0FwdIdeal (hIn0FwdIdeal := hIn0FwdIdeal)
    ∧ quiescent_In0FwdRefIdeal (hIn0FwdRefIdeal := hIn0FwdRefIdeal)
    ∧ quiescent_In0Dgrad (hIn0Dgrad := hIn0Dgrad)
    ∧ quiescent_In0DgradIdeal (hIn0DgradIdeal := hIn0DgradIdeal)
    ∧ quiescent_In0DgradRefIdeal (hIn0DgradRefIdeal := hIn0DgradRefIdeal)
    ∧ quiescent_In0Wgrad (hIn0Wgrad := hIn0Wgrad)
    ∧ quiescent_In0WgradIdeal (hIn0WgradIdeal := hIn0WgradIdeal)
    ∧ quiescent_In0WgradRefIdeal (hIn0WgradRefIdeal := hIn0WgradRefIdeal)
    ∧ quiescent_In1Fwd (hIn1Fwd := hIn1Fwd)
    ∧ quiescent_In1FwdIdeal (hIn1FwdIdeal := hIn1FwdIdeal)
    ∧ quiescent_In1FwdRefIdeal (hIn1FwdRefIdeal := hIn1FwdRefIdeal)
    ∧ quiescent_In1Dgrad (hIn1Dgrad := hIn1Dgrad)
    ∧ quiescent_In1DgradIdeal (hIn1DgradIdeal := hIn1DgradIdeal)
    ∧ quiescent_In1DgradRefIdeal (hIn1DgradRefIdeal := hIn1DgradRefIdeal)
    ∧ quiescent_In1Wgrad (hIn1Wgrad := hIn1Wgrad)
    ∧ quiescent_In1WgradIdeal (hIn1WgradIdeal := hIn1WgradIdeal)
    ∧ quiescent_In1WgradRefIdeal (hIn1WgradRefIdeal := hIn1WgradRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_OutDgrad (hOutDgrad := hOutDgrad)
    ∧ quiescent_OutDgradIdeal (hOutDgradIdeal := hOutDgradIdeal)
    ∧ quiescent_OutDgradRefIdeal (hOutDgradRefIdeal := hOutDgradRefIdeal)
    ∧ quiescent_OutWgrad (hOutWgrad := hOutWgrad)
    ∧ quiescent_OutWgradIdeal (hOutWgradIdeal := hOutWgradIdeal)
    ∧ quiescent_OutWgradRefIdeal (hOutWgradRefIdeal := hOutWgradRefIdeal)
    ∧ quiescent_AttnFwd (hAttnFwd := hAttnFwd)
    ∧ quiescent_AttnFwdIdeal (hAttnFwdIdeal := hAttnFwdIdeal)
    ∧ quiescent_AttnFwdIdeal_pre_fwd_finite (hAttnFwdIdeal := hAttnFwdIdeal) (hPre_fwd_finite := hPre_fwd_finite)
    ∧ quiescent_AttnFwdRefIdeal (hAttnFwdRefIdeal := hAttnFwdRefIdeal)
    ∧ quiescent_AttnFwdRefIdeal_pre_fwd_finite (hAttnFwdRefIdeal := hAttnFwdRefIdeal) (hPre_fwd_finite := hPre_fwd_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_DownBwd_DownBwdIdeal
    ∧ algebraic_DownBwdIdeal_DownBwdRefIdeal_pre_down_bwd_finite (hDownBwdIdeal := hDownBwdIdeal) (hDownBwdRefIdeal := hDownBwdRefIdeal) (hPre_down_bwd_finite := hPre_down_bwd_finite)
    ∧ preserves_GateDgrad_GateDgradIdeal
    ∧ algebraic_GateDgradIdeal_GateDgradRefIdeal (hGateDgradIdeal := hGateDgradIdeal) (hGateDgradRefIdeal := hGateDgradRefIdeal)
    ∧ preserves_UpDgrad_UpDgradIdeal
    ∧ algebraic_UpDgradIdeal_UpDgradRefIdeal (hUpDgradIdeal := hUpDgradIdeal) (hUpDgradRefIdeal := hUpDgradRefIdeal)
    ∧ preserves_GateWgrad_GateWgradIdeal
    ∧ algebraic_GateWgradIdeal_GateWgradRefIdeal (hGateWgradIdeal := hGateWgradIdeal) (hGateWgradRefIdeal := hGateWgradRefIdeal)
    ∧ preserves_DownWgrad_DownWgradIdeal
    ∧ algebraic_DownWgradIdeal_DownWgradRefIdeal (hDownWgradIdeal := hDownWgradIdeal) (hDownWgradRefIdeal := hDownWgradRefIdeal)
    ∧ preserves_FfnIn_FfnInIdeal
    ∧ algebraic_FfnInIdeal_FfnInRefIdeal_pre_ffn_in_finite (hFfnInIdeal := hFfnInIdeal) (hFfnInRefIdeal := hFfnInRefIdeal) (hPre_ffn_in_finite := hPre_ffn_in_finite)
    ∧ preserves_DownFwd_DownFwdIdeal
    ∧ algebraic_DownFwdIdeal_DownFwdRefIdeal (hDownFwdIdeal := hDownFwdIdeal) (hDownFwdRefIdeal := hDownFwdRefIdeal)
    ∧ preserves_In0Fwd_In0FwdIdeal
    ∧ algebraic_In0FwdIdeal_In0FwdRefIdeal (hIn0FwdIdeal := hIn0FwdIdeal) (hIn0FwdRefIdeal := hIn0FwdRefIdeal)
    ∧ preserves_In0Dgrad_In0DgradIdeal
    ∧ algebraic_In0DgradIdeal_In0DgradRefIdeal (hIn0DgradIdeal := hIn0DgradIdeal) (hIn0DgradRefIdeal := hIn0DgradRefIdeal)
    ∧ preserves_In0Wgrad_In0WgradIdeal
    ∧ algebraic_In0WgradIdeal_In0WgradRefIdeal (hIn0WgradIdeal := hIn0WgradIdeal) (hIn0WgradRefIdeal := hIn0WgradRefIdeal)
    ∧ preserves_In1Fwd_In1FwdIdeal
    ∧ algebraic_In1FwdIdeal_In1FwdRefIdeal (hIn1FwdIdeal := hIn1FwdIdeal) (hIn1FwdRefIdeal := hIn1FwdRefIdeal)
    ∧ preserves_In1Dgrad_In1DgradIdeal
    ∧ algebraic_In1DgradIdeal_In1DgradRefIdeal (hIn1DgradIdeal := hIn1DgradIdeal) (hIn1DgradRefIdeal := hIn1DgradRefIdeal)
    ∧ preserves_In1Wgrad_In1WgradIdeal
    ∧ algebraic_In1WgradIdeal_In1WgradRefIdeal (hIn1WgradIdeal := hIn1WgradIdeal) (hIn1WgradRefIdeal := hIn1WgradRefIdeal)
    ∧ preserves_OutFwd_OutFwdIdeal
    ∧ algebraic_OutFwdIdeal_OutFwdRefIdeal (hOutFwdIdeal := hOutFwdIdeal) (hOutFwdRefIdeal := hOutFwdRefIdeal)
    ∧ preserves_OutDgrad_OutDgradIdeal
    ∧ algebraic_OutDgradIdeal_OutDgradRefIdeal (hOutDgradIdeal := hOutDgradIdeal) (hOutDgradRefIdeal := hOutDgradRefIdeal)
    ∧ preserves_OutWgrad_OutWgradIdeal
    ∧ algebraic_OutWgradIdeal_OutWgradRefIdeal (hOutWgradIdeal := hOutWgradIdeal) (hOutWgradRefIdeal := hOutWgradRefIdeal)
    ∧ preserves_AttnFwd_AttnFwdIdeal
    ∧ algebraic_AttnFwdIdeal_AttnFwdRefIdeal_pre_fwd_finite (hAttnFwdIdeal := hAttnFwdIdeal) (hAttnFwdRefIdeal := hAttnFwdRefIdeal) (hPre_fwd_finite := hPre_fwd_finite)
-- ==== Pre_down_bwd_finite.lean ====
abbrev S4352x2048 : Shape := ⟨2, ![4352, 2048]⟩
abbrev S5632x2048 : Shape := ⟨2, ![5632, 2048]⟩
abbrev S4352x5632 : Shape := ⟨2, ![4352, 5632]⟩
abbrev S_ : Shape := ⟨0, ![]⟩

class Facts : Prop where
  bcast_S_S4352x2048 : S_.BroadcastsInDim S4352x2048 (![] : Fin 0 → Fin S4352x2048.rank)
  reducesTo_S4352x2048_S_d0_1 : S4352x2048.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S4352x5632 : S_.BroadcastsInDim S4352x5632 (![] : Fin 0 → Fin S4352x5632.rank)
  reducesTo_S4352x5632_S_d0_1 : S4352x5632.ReducesTo [0, 1] S_

variable [Facts]

def fn_part1 {F : FTy → Type} [FloatOps F] (main_v13 : IVec S_ 1) (main_v16 : IVec S4352x5632 1) : IVec S_ 1 :=
  let main_c_5 : IVec S_ 1 := constantI S_ 1 1#1
  let main_v17 : IVec S_ 1 := (fun x v => Host.reduce IntOp.andi x v reducesTo_S4352x5632_S_d0_1 h_S_) main_v16 main_c_5
  let main_v18 : IVec S_ 1 := andi main_v13 main_v17
  main_v18

def fn {F : FTy → Type} [FloatOps F] (main_arg0 : FVec F S4352x2048 .bf16) (main_arg1 : FVec F S5632x2048 .bf16) (main_arg2 : FVec F S4352x5632 .f32) (main_arg3 : FVec F S4352x5632 .f32) : IVec S_ 1 :=
  let main_v0 : FVec F S4352x2048 .bf16 := Host.absf main_arg0
  let main_cst : FVec F S_ .bf16 := constant S_ .bf16 0x7F80#16
  let main_v1 : FVec F S4352x2048 .bf16 := broadcastInDim S4352x2048 ![] bcast_S_S4352x2048 main_cst
  let main_v2 : IVec S4352x2048 1 := cmpf .olt main_v0 main_v1
  let main_c : IVec S_ 1 := constantI S_ 1 1#1
  let main_v3 : IVec S_ 1 := (fun x v => Host.reduce IntOp.andi x v reducesTo_S4352x2048_S_d0_1 h_S_) main_v2 main_c
  let main_v4 : FVec F S5632x2048 .bf16 := Host.absf main_arg1
  let main_cst_0 : FVec F S_ .bf16 := constant S_ .bf16 0x7F80#16
  let main_v5 : FVec F S5632x2048 .bf16 := broadcastInDim S5632x2048 ![] bcast_S_S5632x2048 main_cst_0
  let main_v6 : IVec S5632x2048 1 := cmpf .olt main_v4 main_v5
  let main_c_1 : IVec S_ 1 := constantI S_ 1 1#1
  let main_v7 : IVec S_ 1 := (fun x v => Host.reduce IntOp.andi x v reducesTo_S5632x2048_S_d0_1 h_S_) main_v6 main_c_1
  let main_v8 : IVec S_ 1 := andi main_v3 main_v7
  let main_v9 : FVec F S4352x5632 .f32 := Host.absf main_arg2
  let main_cst_2 : FVec F S_ .f32 := constant S_ .f32 0x7F800000#32
  let main_v10 : FVec F S4352x5632 .f32 := broadcastInDim S4352x5632 ![] bcast_S_S4352x5632 main_cst_2
  let main_v11 : IVec S4352x5632 1 := cmpf .olt main_v9 main_v10
  let main_c_3 : IVec S_ 1 := constantI S_ 1 1#1
  let main_v12 : IVec S_ 1 := (fun x v => Host.reduce IntOp.andi x v reducesTo_S4352x5632_S_d0_1 h_S_) main_v11 main_c_3
  let main_v13 : IVec S_ 1 := andi main_v8 main_v12
  let main_v14 : FVec F S4352x5632 .f32 := Host.absf main_arg3
  let main_cst_4 : FVec F S_ .f32 := constant S_ .f32 0x7F800000#32
  let main_v15 : FVec F S4352x5632 .f32 := broadcastInDim S4352x5632 ![] bcast_S_S4352x5632 main_cst_4
  let main_v16 : IVec S4352x5632 1 := cmpf .olt main_v14 main_v15
  fn_part1 (F := F) main_v13 main_v16
-- ==== Pre_ffn_in_finite.lean ====
abbrev S4352x2048 : Shape := ⟨2, ![4352, 2048]⟩
abbrev S2048x5632 : Shape := ⟨2, ![2048, 5632]⟩
abbrev S_ : Shape := ⟨0, ![]⟩

class Facts : Prop where
  bcast_S_S4352x2048 : S_.BroadcastsInDim S4352x2048 (![] : Fin 0 → Fin S4352x2048.rank)
  reducesTo_S4352x2048_S_d0_1 : S4352x2048.ReducesTo [0, 1] S_
  h_S_ : 0 < S_.numel
  bcast_S_S2048x5632 : S_.BroadcastsInDim S2048x5632 (![] : Fin 0 → Fin S2048x5632.rank)
  reducesTo_S2048x5632_S_d0_1 : S2048x5632.ReducesTo [0, 1] S_

variable [Facts]

def fn {F : FTy → Type} [FloatOps F] (main_arg0 : FVec F S4352x2048 .bf16) (main_arg1 : FVec F S2048x5632 .bf16) (main_arg2 : FVec F S2048x5632 .bf16) : IVec S_ 1 :=
  let main_v0 : FVec F S4352x2048 .bf16 := Host.absf main_arg0
  let main_cst : FVec F S_ .bf16 := constant S_ .bf16 0x7F80#16
  let main_v1 : FVec F S4352x2048 .bf16 := broadcastInDim S4352x2048 ![] bcast_S_S4352x2048 main_cst
  let main_v2 : IVec S4352x2048 1 := cmpf .olt main_v0 main_v1
  let main_c : IVec S_ 1 := constantI S_ 1 1#1
  let main_v3 : IVec S_ 1 := (fun x v => Host.reduce IntOp.andi x v reducesTo_S4352x2048_S_d0_1 h_S_) main_v2 main_c
  let main_v4 : FVec F S2048x5632 .bf16 := Host.absf main_arg1
  let main_cst_0 : FVec F S_ .bf16 := constant S_ .bf16 0x7F80#16
  let main_v5 : FVec F S2048x5632 .bf16 := broadcastInDim S2048x5632 ![] bcast_S_S2048x5632 main_cst_0
  let main_v6 : IVec S2048x5632 1 := cmpf .olt main_v4 main_v5
  let main_c_1 : IVec S_ 1 := constantI S_ 1 1#1
  let main_v7 : IVec S_ 1 := (fun x v => Host.reduce IntOp.andi x v reducesTo_S2048x5632_S_d0_1 h_S_) main_v6 main_c_1
  let main_v8 : IVec S_ 1 := andi main_v3 main_v7
  let main_v9 : FVec F S2048x5632 .bf16 := Host.absf main_arg2
  let main_cst_2 : FVec F S_ .bf16 := constant S_ .bf16 0x7F80#16
  let main_v10 : FVec F S2048x5632 .bf16 := broadcastInDim S2048x5632 ![] bcast_S_S2048x5632 main_cst_2
  let main_v11 : IVec S2048x5632 1 := cmpf .olt main_v9 main_v10
  let main_c_3 : IVec S_ 1 := constantI S_ 1 1#1
  let main_v12 : IVec S_ 1 := (fun x v => Host.reduce IntOp.andi x v reducesTo_S2048x5632_S_d0_1 h_S_) main_v11 main_c_3
  let main_v13 : IVec S_ 1 := andi main_v8 main_v12
  main_v13
-- ==== Pre_finite.lean ====
abbrev S4352x1536 : Shape := ⟨2, ![4352, 1536]⟩
abbrev S4352x512 : Shape := ⟨2, ![4352, 512]⟩
abbrev S4352x2048 : Shape := ⟨2, ![4352, 2048]⟩
abbrev S_ : Shape := ⟨0, ![]⟩

class Facts : Prop where
  bcast_S_S4352x1536 : S_.BroadcastsInDim S4352x1536 (![] : Fin 0 → Fin S4352x1536.rank)
  reducesTo_S4352x1536_S_d0_1 : S4352x1536.ReducesTo [0, 1] S_
  h_S_ : 0 < S_.numel
  bcast_S_S4352x512 : S_.BroadcastsInDim S4352x512 (![] : Fin 0 → Fin S4352x512.rank)
  reducesTo_S4352x512_S_d0_1 : S4352x512.ReducesTo [0, 1] S_
  bcast_S_S4352x2048 : S_.BroadcastsInDim S4352x2048 (![] : Fin 0 → Fin S4352x2048.rank)
  reducesTo_S4352x2048_S_d0_1 : S4352x2048.ReducesTo [0, 1] S_

variable [Facts]

def fn_part1 {F : FTy → Type} [FloatOps F] (main_v13 : IVec S_ 1) (main_v16 : IVec S4352x2048 1) : IVec S_ 1 :=
  let main_c_5 : IVec S_ 1 := constantI S_ 1 1#1
  let main_v17 : IVec S_ 1 := (fun x v => Host.reduce IntOp.andi x v reducesTo_S4352x2048_S_d0_1 h_S_) main_v16 main_c_5
  let main_v18 : IVec S_ 1 := andi main_v13 main_v17
  main_v18

def fn {F : FTy → Type} [FloatOps F] (main_arg0 : FVec F S4352x1536 .bf16) (main_arg1 : FVec F S4352x512 .bf16) (main_arg2 : FVec F S4352x512 .bf16) (main_arg3 : FVec F S4352x2048 .bf16) : IVec S_ 1 :=
  let main_v0 : FVec F S4352x1536 .bf16 := Host.absf main_arg0
  let main_cst : FVec F S_ .bf16 := constant S_ .bf16 0x7F80#16
  let main_v1 : FVec F S4352x1536 .bf16 := broadcastInDim S4352x1536 ![] bcast_S_S4352x1536 main_cst
  let main_v2 : IVec S4352x1536 1 := cmpf .olt main_v0 main_v1
  let main_c : IVec S_ 1 := constantI S_ 1 1#1
  let main_v3 : IVec S_ 1 := (fun x v => Host.reduce IntOp.andi x v reducesTo_S4352x1536_S_d0_1 h_S_) main_v2 main_c
  let main_v4 : FVec F S4352x512 .bf16 := Host.absf main_arg1
  let main_cst_0 : FVec F S_ .bf16 := constant S_ .bf16 0x7F80#16
  let main_v5 : FVec F S4352x512 .bf16 := broadcastInDim S4352x512 ![] bcast_S_S4352x512 main_cst_0
  let main_v6 : IVec S4352x512 1 := cmpf .olt main_v4 main_v5
  let main_c_1 : IVec S_ 1 := constantI S_ 1 1#1
  let main_v7 : IVec S_ 1 := (fun x v => Host.reduce IntOp.andi x v reducesTo_S4352x512_S_d0_1 h_S_) main_v6 main_c_1
  let main_v8 : IVec S_ 1 := andi main_v3 main_v7
  let main_v9 : FVec F S4352x512 .bf16 := Host.absf main_arg2
  let main_cst_2 : FVec F S_ .bf16 := constant S_ .bf16 0x7F80#16
  let main_v10 : FVec F S4352x512 .bf16 := broadcastInDim S4352x512 ![] bcast_S_S4352x512 main_cst_2
  let main_v11 : IVec S4352x512 1 := cmpf .olt main_v9 main_v10
  let main_c_3 : IVec S_ 1 := constantI S_ 1 1#1
  let main_v12 : IVec S_ 1 := (fun x v => Host.reduce IntOp.andi x v reducesTo_S4352x512_S_d0_1 h_S_) main_v11 main_c_3
  let main_v13 : IVec S_ 1 := andi main_v8 main_v12
  let main_v14 : FVec F S4352x2048 .bf16 := Host.absf main_arg3
  let main_cst_4 : FVec F S_ .bf16 := constant S_ .bf16 0x7F80#16
  let main_v15 : FVec F S4352x2048 .bf16 := broadcastInDim S4352x2048 ![] bcast_S_S4352x2048 main_cst_4
  let main_v16 : IVec S4352x2048 1 := cmpf .olt main_v14 main_v15
  fn_part1 (F := F) main_v13 main_v16
-- ==== Pre_fwd_finite.lean ====
abbrev S4352x1536 : Shape := ⟨2, ![4352, 1536]⟩
abbrev S4352x512 : Shape := ⟨2, ![4352, 512]⟩
abbrev S_ : Shape := ⟨0, ![]⟩

class Facts : Prop where
  bcast_S_S4352x1536 : S_.BroadcastsInDim S4352x1536 (![] : Fin 0 → Fin S4352x1536.rank)
  reducesTo_S4352x1536_S_d0_1 : S4352x1536.ReducesTo [0, 1] S_
  h_S_ : 0 < S_.numel
  bcast_S_S4352x512 : S_.BroadcastsInDim S4352x512 (![] : Fin 0 → Fin S4352x512.rank)
  reducesTo_S4352x512_S_d0_1 : S4352x512.ReducesTo [0, 1] S_

variable [Facts]

def fn {F : FTy → Type} [FloatOps F] (main_arg0 : FVec F S4352x1536 .bf16) (main_arg1 : FVec F S4352x512 .bf16) (main_arg2 : FVec F S4352x512 .bf16) : IVec S_ 1 :=
  let main_v0 : FVec F S4352x1536 .bf16 := Host.absf main_arg0
  let main_cst : FVec F S_ .bf16 := constant S_ .bf16 0x7F80#16
  let main_v1 : FVec F S4352x1536 .bf16 := broadcastInDim S4352x1536 ![] bcast_S_S4352x1536 main_cst
  let main_v2 : IVec S4352x1536 1 := cmpf .olt main_v0 main_v1
  let main_c : IVec S_ 1 := constantI S_ 1 1#1
  let main_v3 : IVec S_ 1 := (fun x v => Host.reduce IntOp.andi x v reducesTo_S4352x1536_S_d0_1 h_S_) main_v2 main_c
  let main_v4 : FVec F S4352x512 .bf16 := Host.absf main_arg1
  let main_cst_0 : FVec F S_ .bf16 := constant S_ .bf16 0x7F80#16
  let main_v5 : FVec F S4352x512 .bf16 := broadcastInDim S4352x512 ![] bcast_S_S4352x512 main_cst_0
  let main_v6 : IVec S4352x512 1 := cmpf .olt main_v4 main_v5
  let main_c_1 : IVec S_ 1 := constantI S_ 1 1#1
  let main_v7 : IVec S_ 1 := (fun x v => Host.reduce IntOp.andi x v reducesTo_S4352x512_S_d0_1 h_S_) main_v6 main_c_1
  let main_v8 : IVec S_ 1 := andi main_v3 main_v7
  let main_v9 : FVec F S4352x512 .bf16 := Host.absf main_arg2
  let main_cst_2 : FVec F S_ .bf16 := constant S_ .bf16 0x7F80#16
  let main_v10 : FVec F S4352x512 .bf16 := broadcastInDim S4352x512 ![] bcast_S_S4352x512 main_cst_2
  let main_v11 : IVec S4352x512 1 := cmpf .olt main_v9 main_v10
  let main_c_3 : IVec S_ 1 := constantI S_ 1 1#1
  let main_v12 : IVec S_ 1 := (fun x v => Host.reduce IntOp.andi x v reducesTo_S4352x512_S_d0_1 h_S_) main_v11 main_c_3
  let main_v13 : IVec S_ 1 := andi main_v8 main_v12
  main_v13
-- ==== Kernel.lean ====
abbrev S4352x1536 : Shape := ⟨2, ![4352, 1536]⟩
abbrev S4352x512 : Shape := ⟨2, ![4352, 512]⟩
abbrev S4352x2048 : Shape := ⟨2, ![4352, 2048]⟩
abbrev S4352x4x3x128 : Shape := ⟨4, ![4352, 4, 3, 128]⟩
abbrev S4352x4x128 : Shape := ⟨3, ![4352, 4, 128]⟩
abbrev S256x4x3x128 : Shape := ⟨4, ![256, 4, 3, 128]⟩
abbrev S256x4x128 : Shape := ⟨3, ![256, 4, 128]⟩
abbrev S4x256x256x3 : Shape := ⟨4, ![4, 256, 256, 3]⟩
abbrev S4x3x256x256 : Shape := ⟨4, ![4, 3, 256, 256]⟩
abbrev S_ : Shape := ⟨0, ![]⟩
abbrev S4x3x256 : Shape := ⟨3, ![4, 3, 256]⟩
abbrev S4x3x256x1 : Shape := ⟨4, ![4, 3, 256, 1]⟩
abbrev S4x128x3x256 : Shape := ⟨4, ![4, 128, 3, 256]⟩
abbrev S4096x4x3x128 : Shape := ⟨4, ![4096, 4, 3, 128]⟩
abbrev S4x4352x4096x3 : Shape := ⟨4, ![4, 4352, 4096, 3]⟩
abbrev S4x3x4096x4352 : Shape := ⟨4, ![4, 3, 4096, 4352]⟩
abbrev S4x3x4096 : Shape := ⟨3, ![4, 3, 4096]⟩
abbrev S4x3x4096x1 : Shape := ⟨4, ![4, 3, 4096, 1]⟩
abbrev S4x128x3x4096 : Shape := ⟨4, ![4, 128, 3, 4096]⟩
abbrev S4x3x4352x1 : Shape := ⟨4, ![4, 3, 4352, 1]⟩
abbrev S12x4352x1 : Shape := ⟨3, ![12, 4352, 1]⟩
abbrev S12 : Shape := ⟨1, ![12]⟩
abbrev S4x8x128 : Shape := ⟨3, ![4, 8, 128]⟩
abbrev S256x384 : Shape := ⟨2, ![256, 384]⟩
abbrev S4352x128 : Shape := ⟨2, ![4352, 128]⟩
abbrev S3x256x1 : Shape := ⟨3, ![3, 256, 1]⟩
abbrev S1x8x128 : Shape := ⟨3, ![1, 8, 128]⟩
abbrev S8x128 : Shape := ⟨2, ![8, 128]⟩
abbrev S256x128 : Shape := ⟨2, ![256, 128]⟩
abbrev S256 : Shape := ⟨1, ![256]⟩
abbrev S256x1 : Shape := ⟨2, ![256, 1]⟩
abbrev S1x256x1 : Shape := ⟨3, ![1, 256, 1]⟩
abbrev S256x256 : Shape := ⟨2, ![256, 256]⟩
abbrev S256x4352 : Shape := ⟨2, ![256, 4352]⟩

abbrev nBuf : Space → Nat
  | .hbm => 62
  | .vmem => 20
  | .smem => 1
  | _ => 0

abbrev bufTy : (tb : Table) → Fin (tcTables nBuf tb) → BufTy
  | .hbm, ⟨0, _⟩ => ⟨S4352x1536, .bf16⟩
  | .hbm, ⟨1, _⟩ => ⟨S4352x512, .bf16⟩
  | .hbm, ⟨2, _⟩ => ⟨S4352x512, .bf16⟩
  | .hbm, ⟨3, _⟩ => ⟨S4352x2048, .bf16⟩
  | .hbm, ⟨4, _⟩ => ⟨S4352x1536, .f32⟩
  | .hbm, ⟨5, _⟩ => ⟨S4352x512, .f32⟩
  | .hbm, ⟨6, _⟩ => ⟨S4352x512, .f32⟩
  | .hbm, ⟨7, _⟩ => ⟨S4352x4x3x128, .f32⟩
  | .hbm, ⟨8, _⟩ => ⟨S4352x4x128, .f32⟩
  | .hbm, ⟨9, _⟩ => ⟨S4352x4x128, .f32⟩
  | .hbm, ⟨10, _⟩ => ⟨S256x4x3x128, .f32⟩
  | .hbm, ⟨11, _⟩ => ⟨S256x4x128, .f32⟩
  | .hbm, ⟨12, _⟩ => ⟨S256x4x128, .f32⟩
  | .hbm, ⟨13, _⟩ => ⟨S4x256x256x3, .f32⟩
  | .hbm, ⟨14, _⟩ => ⟨S4x3x256x256, .f32⟩
  | .hbm, ⟨15, _⟩ => ⟨S_, .f32⟩
  | .hbm, ⟨16, _⟩ => ⟨S4x3x256, .f32⟩
  | .hbm, ⟨17, _⟩ => ⟨S4x3x256x1, .f32⟩
  | .hbm, ⟨18, _⟩ => ⟨S4x3x256x256, .f32⟩
  | .hbm, ⟨19, _⟩ => ⟨S4x3x256x256, .f32⟩
  | .hbm, ⟨20, _⟩ => ⟨S4x3x256x256, .f32⟩
  | .hbm, ⟨21, _⟩ => ⟨S_, .f32⟩
  | .hbm, ⟨22, _⟩ => ⟨S4x3x256, .f32⟩
  | .hbm, ⟨23, _⟩ => ⟨S4x3x256x1, .f32⟩
  | .hbm, ⟨24, _⟩ => ⟨S4x3x256x256, .f32⟩
  | .hbm, ⟨25, _⟩ => ⟨S4x3x256x256, .f32⟩
  | .hbm, ⟨26, _⟩ => ⟨S4x128x3x256, .f32⟩
  | .hbm, ⟨27, _⟩ => ⟨S256x4x3x128, .f32⟩
  | .hbm, ⟨28, _⟩ => ⟨S4x3x256x1, .f32⟩
  | .hbm, ⟨29, _⟩ => ⟨S4x3x256x1, .f32⟩
  | .hbm, ⟨30, _⟩ => ⟨S4096x4x3x128, .f32⟩
  | .hbm, ⟨31, _⟩ => ⟨S4x4352x4096x3, .f32⟩
  | .hbm, ⟨32, _⟩ => ⟨S4x3x4096x4352, .f32⟩
  | .hbm, ⟨33, _⟩ => ⟨S_, .f32⟩
  | .hbm, ⟨34, _⟩ => ⟨S4x3x4096, .f32⟩
  | .hbm, ⟨35, _⟩ => ⟨S4x3x4096x1, .f32⟩
  | .hbm, ⟨36, _⟩ => ⟨S4x3x4096x4352, .f32⟩
  | .hbm, ⟨37, _⟩ => ⟨S4x3x4096x4352, .f32⟩
  | .hbm, ⟨38, _⟩ => ⟨S4x3x4096x4352, .f32⟩
  | .hbm, ⟨39, _⟩ => ⟨S_, .f32⟩
  | .hbm, ⟨40, _⟩ => ⟨S4x3x4096, .f32⟩
  | .hbm, ⟨41, _⟩ => ⟨S4x3x4096x1, .f32⟩
  | .hbm, ⟨42, _⟩ => ⟨S4x3x4096x4352, .f32⟩
  | .hbm, ⟨43, _⟩ => ⟨S4x3x4096x4352, .f32⟩
  | .hbm, ⟨44, _⟩ => ⟨S4x128x3x4096, .f32⟩
  | .hbm, ⟨45, _⟩ => ⟨S4096x4x3x128, .f32⟩
  | .hbm, ⟨46, _⟩ => ⟨S4x3x4096x1, .f32⟩
  | .hbm, ⟨47, _⟩ => ⟨S4x3x4096x1, .f32⟩
  | .hbm, ⟨48, _⟩ => ⟨S4352x4x3x128, .f32⟩
  | .hbm, ⟨49, _⟩ => ⟨S4352x1536, .f32⟩
  | .hbm, ⟨50, _⟩ => ⟨S4352x1536, .bf16⟩
  | .hbm, ⟨51, _⟩ => ⟨S_, .bf16⟩
  | .hbm, ⟨52, _⟩ => ⟨S4352x512, .bf16⟩
  | .hbm, ⟨53, _⟩ => ⟨S4352x2048, .bf16⟩
  | .hbm, ⟨54, _⟩ => ⟨S4x3x4352x1, .f32⟩
  | .hbm, ⟨55, _⟩ => ⟨S12x4352x1, .f32⟩
  | .hbm, ⟨56, _⟩ => ⟨S_, .f32⟩
  | .hbm, ⟨57, _⟩ => ⟨S12, .f32⟩
  | .hbm, ⟨58, _⟩ => ⟨S4352x1536, .f32⟩
  | .hbm, ⟨59, _⟩ => ⟨S4352x512, .f32⟩
  | .hbm, ⟨60, _⟩ => ⟨S4352x512, .f32⟩
  | .hbm, ⟨61, _⟩ => ⟨S4x8x128, .f32⟩
  | .local _ .vmem, ⟨0, _⟩ => ⟨S256x384, .bf16⟩
  | .local _ .vmem, ⟨1, _⟩ => ⟨S256x384, .bf16⟩
  | .local _ .vmem, ⟨2, _⟩ => ⟨S4352x128, .bf16⟩
  | .local _ .vmem, ⟨3, _⟩ => ⟨S4352x128, .bf16⟩
  | .local _ .vmem, ⟨4, _⟩ => ⟨S4352x128, .bf16⟩
  | .local _ .vmem, ⟨5, _⟩ => ⟨S4352x128, .bf16⟩
  | .local _ .vmem, ⟨6, _⟩ => ⟨S256x384, .bf16⟩
  | .local _ .vmem, ⟨7, _⟩ => ⟨S256x384, .bf16⟩
  | .local _ .vmem, ⟨8, _⟩ => ⟨S3x256x1, .f32⟩
  | .local _ .vmem, ⟨9, _⟩ => ⟨S3x256x1, .f32⟩
  | .local _ .vmem, ⟨10, _⟩ => ⟨S256x384, .bf16⟩
  | .local _ .vmem, ⟨11, _⟩ => ⟨S256x384, .bf16⟩
  | .local _ .vmem, ⟨12, _⟩ => ⟨S256x384, .f32⟩
  | .local _ .vmem, ⟨13, _⟩ => ⟨S256x384, .f32⟩
  | .local _ .vmem, ⟨14, _⟩ => ⟨S4352x128, .f32⟩
  | .local _ .vmem, ⟨15, _⟩ => ⟨S4352x128, .f32⟩
  | .local _ .vmem, ⟨16, _⟩ => ⟨S4352x128, .f32⟩
  | .local _ .vmem, ⟨17, _⟩ => ⟨S4352x128, .f32⟩
  | .local _ .vmem, ⟨18, _⟩ => ⟨S1x8x128, .f32⟩
  | .local _ .vmem, ⟨19, _⟩ => ⟨S1x8x128, .f32⟩
  | .local _ .smem, ⟨0, _⟩ => ⟨S12, .f32⟩
  | _, _ => ⟨S4352x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_1 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_2 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_3 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_4 : Ref sig .tc := ⟨.hbm, 56, rfl⟩
abbrev main_v47 : Ref sig .tc := ⟨.hbm, 57, rfl⟩
abbrev main_v48_0 : Ref sig .tc := ⟨.hbm, 58, rfl⟩
abbrev main_v48_1 : Ref sig .tc := ⟨.hbm, 59, rfl⟩
abbrev main_v48_2 : Ref sig .tc := ⟨.hbm, 60, rfl⟩
abbrev main_v48_3 : Ref sig .tc := ⟨.hbm, 61, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 17], ![false, false]⟩

def k0_cond2 (i : grid0.Coords) : BitVec 1 :=
  let arg1 : BitVec 32 := BitVec.ofNat 32 (i 1).val
  let c0_i32_3 : BitVec 32 := 0#32
  let v7 : BitVec 1 := Scalar.cmpi .eq arg1 c0_i32_3
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c0_i32_5 : BitVec 32 := 0#32
  let v10 : BitVec 1 := Scalar.cmpi .sgt arg1 c0_i32_5
  let v11 : BitVec 32 := Scalar.extui v10
  let c0_i32_6 : BitVec 32 := 0#32
  let v12 : BitVec 1 := Scalar.cmpi .ne v11 c0_i32_6
  v12

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4352x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4352x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S4352x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S4352x1536 : Shape := ⟨2, ![4352, 1536]⟩
abbrev S4352x512 : Shape := ⟨2, ![4352, 512]⟩
abbrev S4352x2048 : Shape := ⟨2, ![4352, 2048]⟩
abbrev S4352x4x3x128 : Shape := ⟨4, ![4352, 4, 3, 128]⟩
abbrev S4352x4x128 : Shape := ⟨3, ![4352, 4, 128]⟩
abbrev S256x4x3x128 : Shape := ⟨4, ![256, 4, 3, 128]⟩
abbrev S256x4x128 : Shape := ⟨3, ![256, 4, 128]⟩
abbrev S4x256x256x3 : Shape := ⟨4, ![4, 256, 256, 3]⟩
abbrev S4x3x256x256 : Shape := ⟨4, ![4, 3, 256, 256]⟩
abbrev S_ : Shape := ⟨0, ![]⟩
abbrev S4x3x256 : Shape := ⟨3, ![4, 3, 256]⟩
abbrev S4x3x256x1 : Shape := ⟨4, ![4, 3, 256, 1]⟩
abbrev S4x128x3x256 : Shape := ⟨4, ![4, 128, 3, 256]⟩
abbrev S4096x4x3x128 : Shape := ⟨4, ![4096, 4, 3, 128]⟩
abbrev S4x4352x4096x3 : Shape := ⟨4, ![4, 4352, 4096, 3]⟩
abbrev S4x3x4096x4352 : Shape := ⟨4, ![4, 3, 4096, 4352]⟩
abbrev S4x3x4096 : Shape := ⟨3, ![4, 3, 4096]⟩
abbrev S4x3x4096x1 : Shape := ⟨4, ![4, 3, 4096, 1]⟩
abbrev S4x128x3x4096 : Shape := ⟨4, ![4, 128, 3, 4096]⟩
abbrev S4x128x4352 : Shape := ⟨3, ![4, 128, 4352]⟩
abbrev S4x4096x3x128 : Shape := ⟨4, ![4, 4096, 3, 128]⟩
abbrev S4x4352x128 : Shape := ⟨3, ![4, 4352, 128]⟩
abbrev S4x128x256 : Shape := ⟨3, ![4, 128, 256]⟩
abbrev S4x256x3x128 : Shape := ⟨4, ![4, 256, 3, 128]⟩
abbrev S4x256x128 : Shape := ⟨3, ![4, 256, 128]⟩

abbrev nBuf : Space → Nat
  | .hbm => 165
  | .vmem => 0
  | .smem => 0
  | _ => 0

abbrev hbmTy0_0 (i : Nat) : BufTy := match i % 128 with
  | 0 => ⟨S4352x1536, .bf16⟩
  | 1 => ⟨S4352x512, .bf16⟩
  | 2 => ⟨S4352x512, .bf16⟩
  | 3 => ⟨S4352x2048, .bf16⟩
  | 4 => ⟨S4352x1536, .f32⟩
  | 5 => ⟨S4352x512, .f32⟩
  | 6 => ⟨S4352x512, .f32⟩
  | 7 => ⟨S4352x4x3x128, .f32⟩
  | 8 => ⟨S4352x4x128, .f32⟩
  | 9 => ⟨S4352x4x128, .f32⟩
  | 10 => ⟨S256x4x3x128, .f32⟩
  | 11 => ⟨S256x4x128, .f32⟩
  | 12 => ⟨S256x4x128, .f32⟩
  | 13 => ⟨S4x256x256x3, .f32⟩
  | 14 => ⟨S4x3x256x256, .f32⟩
  | 15 => ⟨S_, .f32⟩
  | 16 => ⟨S4x3x256, .f32⟩
  | 17 => ⟨S4x3x256x1, .f32⟩
  | 18 => ⟨S4x3x256x256, .f32⟩
  | 19 => ⟨S4x3x256x256, .i1⟩
  | 20 => ⟨S4x3x256x256, .f32⟩
  | 21 => ⟨S_, .f32⟩
  | 22 => ⟨S4x3x256, .f32⟩
  | 23 => ⟨S_, .f32⟩
  | 24 => ⟨S4x3x256, .f32⟩
  | 25 => ⟨S4x3x256, .f32⟩
  | 26 => ⟨S_, .f32⟩
  | 27 => ⟨S4x3x256, .f32⟩
  | 28 => ⟨S4x3x256, .i1⟩
  | 29 => ⟨S_, .f32⟩
  | 30 => ⟨S4x3x256, .f32⟩
  | 31 => ⟨S4x3x256, .i1⟩
  | 32 => ⟨S_, .f32⟩
  | 33 => ⟨S4x3x256, .f32⟩
  | 34 => ⟨S_, .f32⟩
  | 35 => ⟨S4x3x256, .f32⟩
  | 36 => ⟨S_, .f32⟩
  | 37 => ⟨S4x3x256, .f32⟩
  | 38 => ⟨S4x3x256, .f32⟩
  | 39 => ⟨S4x3x256, .f32⟩
  | 40 => ⟨S4x3x256x1, .f32⟩
  | 41 => ⟨S4x3x256x256, .f32⟩
  | 42 => ⟨S4x3x256x256, .f32⟩
  | 43 => ⟨S4x3x256x256, .f32⟩
  | 44 => ⟨S_, .f32⟩
  | 45 => ⟨S4x3x256, .f32⟩
  | 46 => ⟨S4x3x256x1, .f32⟩
  | 47 => ⟨S4x3x256x256, .f32⟩
  | 48 => ⟨S4x3x256x256, .f32⟩
  | 49 => ⟨S4x3x256x1, .f32⟩
  | 50 => ⟨S_, .f32⟩
  | 51 => ⟨S4x3x256x1, .f32⟩
  | 52 => ⟨S4x3x256x1, .f32⟩
  | 53 => ⟨S4x128x3x256, .f32⟩
  | 54 => ⟨S256x4x3x128, .f32⟩
  | 55 => ⟨S4096x4x3x128, .f32⟩
  | 56 => ⟨S4x4352x4096x3, .f32⟩
  | 57 => ⟨S4x3x4096x4352, .f32⟩
  | 58 => ⟨S_, .f32⟩
  | 59 => ⟨S4x3x4096, .f32⟩
  | 60 => ⟨S4x3x4096x1, .f32⟩
  | 61 => ⟨S4x3x4096x4352, .f32⟩
  | 62 => ⟨S4x3x4096x4352, .i1⟩
  | 63 => ⟨S4x3x4096x4352, .f32⟩
  | 64 => ⟨S_, .f32⟩
  | 65 => ⟨S4x3x4096, .f32⟩
  | 66 => ⟨S_, .f32⟩
  | 67 => ⟨S4x3x4096, .f32⟩
  | 68 => ⟨S4x3x4096, .f32⟩
  | 69 => ⟨S_, .f32⟩
  | 70 => ⟨S4x3x4096, .f32⟩
  | 71 => ⟨S4x3x4096, .i1⟩
  | 72 => ⟨S_, .f32⟩
  | 73 => ⟨S4x3x4096, .f32⟩
  | 74 => ⟨S4x3x4096, .i1⟩
  | 75 => ⟨S_, .f32⟩
  | 76 => ⟨S4x3x4096, .f32⟩
  | 77 => ⟨S_, .f32⟩
  | 78 => ⟨S4x3x4096, .f32⟩
  | 79 => ⟨S_, .f32⟩
  | 80 => ⟨S4x3x4096, .f32⟩
  | 81 => ⟨S4x3x4096, .f32⟩
  | 82 => ⟨S4x3x4096, .f32⟩
  | 83 => ⟨S4x3x4096x1, .f32⟩
  | 84 => ⟨S4x3x4096x4352, .f32⟩
  | 85 => ⟨S4x3x4096x4352, .f32⟩
  | 86 => ⟨S4x3x4096x4352, .f32⟩
  | 87 => ⟨S_, .f32⟩
  | 88 => ⟨S4x3x4096, .f32⟩
  | 89 => ⟨S4x3x4096x1, .f32⟩
  | 90 => ⟨S4x3x4096x4352, .f32⟩
  | 91 => ⟨S4x3x4096x4352, .f32⟩
  | 92 => ⟨S4x3x4096x1, .f32⟩
  | 93 => ⟨S_, .f32⟩
  | 94 => ⟨S4x3x4096x1, .f32⟩
  | 95 => ⟨S4x3x4096x1, .f32⟩
  | 96 => ⟨S4x128x3x4096, .f32⟩
  | 97 => ⟨S4096x4x3x128, .f32⟩
  | 98 => ⟨S4352x4x3x128, .f32⟩
  | 99 => ⟨S4352x1536, .f32⟩
  | 100 => ⟨S4352x2048, .f32⟩
  | 101 => ⟨S4352x1536, .f32⟩
  | 102 => ⟨S4352x4x3x128, .f32⟩
  | 103 => ⟨S256x4x3x128, .f32⟩
  | 104 => ⟨S4096x4x3x128, .f32⟩
  | 105 => ⟨S4x128x3x4096, .f32⟩
  | 106 => ⟨S4x3x4096x4352, .f32⟩
  | 107 => ⟨S4x128x4352, .f32⟩
  | 108 => ⟨S4352x4x128, .f32⟩
  | 109 => ⟨S4x3x4096x4352, .f32⟩
  | 110 => ⟨S4x3x4096x4352, .f32⟩
  | 111 => ⟨S4x3x4096x4352, .f32⟩
  | 112 => ⟨S_, .f32⟩
  | 113 => ⟨S4x3x4096, .f32⟩
  | 114 => ⟨S4x3x4096x1, .f32⟩
  | 115 => ⟨S4x3x4096x1, .f32⟩
  | 116 => ⟨S4x3x4096x4352, .f32⟩
  | 117 => ⟨S4x3x4096x4352, .f32⟩
  | 118 => ⟨S_, .f32⟩
  | 119 => ⟨S4x3x4096, .f32⟩
  | 120 => ⟨S4x3x4096x4352, .f32⟩
  | 121 => ⟨S4x3x4096x4352, .f32⟩
  | 122 => ⟨S4x3x4096x4352, .f32⟩
  | 123 => ⟨S4x4352x4096x3, .f32⟩
  | 124 => ⟨S4x4096x3x128, .f32⟩
  | 125 => ⟨S4096x4x3x128, .f32⟩
  | 126 => ⟨S4x4352x128, .f32⟩
  | 127 => ⟨S4352x4x128, .f32⟩
  | _ => ⟨S4352x1536, .bf16⟩

abbrev hbmTy0_1 (i : Nat) : BufTy := match i % 128 with
  | 0 => ⟨S_, .f32⟩
  | 1 => ⟨S4352x4x3x128, .f32⟩
  | 2 => ⟨S4x128x3x256, .f32⟩
  | 3 => ⟨S4x3x256x256, .f32⟩
  | 4 => ⟨S4x128x256, .f32⟩
  | 5 => ⟨S256x4x128, .f32⟩
  | 6 => ⟨S4x3x256x256, .f32⟩
  | 7 => ⟨S4x3x256x256, .f32⟩
  | 8 => ⟨S4x3x256x256, .f32⟩
  | 9 => ⟨S_, .f32⟩
  | 10 => ⟨S4x3x256, .f32⟩
  | 11 => ⟨S4x3x256x1, .f32⟩
  | 12 => ⟨S4x3x256x1, .f32⟩
  | 13 => ⟨S4x3x256x256, .f32⟩
  | 14 => ⟨S4x3x256x256, .f32⟩
  | 15 => ⟨S_, .f32⟩
  | 16 => ⟨S4x3x256, .f32⟩
  | 17 => ⟨S4x3x256x256, .f32⟩
  | 18 => ⟨S4x3x256x256, .f32⟩
  | 19 => ⟨S4x3x256x256, .f32⟩
  | 20 => ⟨S4x256x256x3, .f32⟩
  | 21 => ⟨S4x256x3x128, .f32⟩
  | 22 => ⟨S256x4x3x128, .f32⟩
  | 23 => ⟨S4x256x128, .f32⟩
  | 24 => ⟨S256x4x128, .f32⟩
  | 25 => ⟨S_, .f32⟩
  | 26 => ⟨S4352x4x128, .f32⟩
  | 27 => ⟨S4352x4x128, .f32⟩
  | 28 => ⟨S_, .f32⟩
  | 29 => ⟨S4352x4x128, .f32⟩
  | 30 => ⟨S4352x4x128, .f32⟩
  | 31 => ⟨S_, .f32⟩
  | 32 => ⟨S4352x4x3x128, .f32⟩
  | 33 => ⟨S4352x4x3x128, .f32⟩
  | 34 => ⟨S4352x512, .f32⟩
  | 35 => ⟨S4352x512, .f32⟩
  | 36 => ⟨S4352x1536, .f32⟩
  | _ => ⟨S4352x1536, .bf16⟩

abbrev hbmTy (i : Nat) : BufTy := match i / 128 with
  | 0 => hbmTy0_0 i
  | 1 => hbmTy0_1 i
  | _ => ⟨S4352x1536, .bf16⟩

abbrev bufTy : (tb : Table) → Fin (tcTables nBuf tb) → BufTy
  | .hbm, ⟨i, _⟩ => hbmTy i
  | _, _ => ⟨S4352x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_9 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_cst_12 : Ref sig .tc := ⟨.hbm, 69, rfl⟩
abbrev main_v52 : Ref sig .tc := ⟨.hbm, 70, rfl⟩
abbrev main_v53 : Ref sig .tc := ⟨.hbm, 71, rfl⟩
abbrev main_cst_13 : Ref sig .tc := ⟨.hbm, 72, rfl⟩
abbrev main_v54 : Ref sig .tc := ⟨.hbm, 73, rfl⟩
abbrev main_v55 : Ref sig .tc := ⟨.hbm, 74, rfl⟩
abbrev main_cst_14 : Ref sig .tc := ⟨.hbm, 75, rfl⟩
abbrev main_v56 : Ref sig .tc := ⟨.hbm, 76, rfl⟩
abbrev main_cst_15 : Ref sig .tc := ⟨.hbm, 77, rfl⟩
abbrev main_v57 : Ref sig .tc := ⟨.hbm, 78, rfl⟩
abbrev main_cst_16 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_17 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_18 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_cst_19 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_cst_20 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_cst_21 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_cst_22 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_cst_23 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_cst_24 : Ref sig .tc := ⟨.hbm, 153, rfl⟩
abbrev main_v124 : Ref sig .tc := ⟨.hbm, 154, rfl⟩
abbrev main_v125 : Ref sig .tc := ⟨.hbm, 155, rfl⟩
abbrev main_cst_25 : Ref sig .tc := ⟨.hbm, 156, rfl⟩
abbrev main_v126 : Ref sig .tc := ⟨.hbm, 157, rfl⟩
abbrev main_v127 : Ref sig .tc := ⟨.hbm, 158, rfl⟩
abbrev main_cst_26 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩

abbrev nD : Nat := 1
abbrev τ : Topo := Topo.v7x

variable {F : FTy → Type} [FloatOps F]
-- ==== DownBwd.lean ====
abbrev S4352x2048 : Shape := ⟨2, ![4352, 2048]⟩
abbrev S5632x2048 : Shape := ⟨2, ![5632, 2048]⟩
abbrev S4352x5632 : Shape := ⟨2, ![4352, 5632]⟩
abbrev S_ : Shape := ⟨0, ![]⟩
abbrev S4x1408x2048 : Shape := ⟨3, ![4, 1408, 2048]⟩
abbrev S544x2048 : Shape := ⟨2, ![544, 2048]⟩
abbrev S1x1408x2048 : Shape := ⟨3, ![1, 1408, 2048]⟩
abbrev S544x1408 : Shape := ⟨2, ![544, 1408]⟩
abbrev S1408x2048 : Shape := ⟨2, ![1408, 2048]⟩

abbrev nBuf : Space → Nat
  | .hbm => 29
  | .vmem => 12
  | .smem => 0
  | _ => 0

abbrev bufTy : (tb : Table) → Fin (tcTables nBuf tb) → BufTy
  | .hbm, ⟨0, _⟩ => ⟨S4352x2048, .bf16⟩
  | .hbm, ⟨1, _⟩ => ⟨S5632x2048, .bf16⟩
  | .hbm, ⟨2, _⟩ => ⟨S4352x5632, .f32⟩
  | .hbm, ⟨3, _⟩ => ⟨S4352x5632, .f32⟩
  | .hbm, ⟨4, _⟩ => ⟨S_, .f32⟩
  | .hbm, ⟨5, _⟩ => ⟨S4352x5632, .f32⟩
  | .hbm, ⟨6, _⟩ => ⟨S4352x5632, .f32⟩
  | .hbm, ⟨7, _⟩ => ⟨S4352x5632, .f32⟩
  | .hbm, ⟨8, _⟩ => ⟨S_, .f32⟩
  | .hbm, ⟨9, _⟩ => ⟨S4352x5632, .f32⟩
  | .hbm, ⟨10, _⟩ => ⟨S4352x5632, .f32⟩
  | .hbm, ⟨11, _⟩ => ⟨S_, .f32⟩
  | .hbm, ⟨12, _⟩ => ⟨S4352x5632, .f32⟩
  | .hbm, ⟨13, _⟩ => ⟨S4352x5632, .f32⟩
  | .hbm, ⟨14, _⟩ => ⟨S_, .f32⟩
  | .hbm, ⟨15, _⟩ => ⟨S4352x5632, .f32⟩
  | .hbm, ⟨16, _⟩ => ⟨S4352x5632, .f32⟩
  | .hbm, ⟨17, _⟩ => ⟨S4352x5632, .f32⟩
  | .hbm, ⟨18, _⟩ => ⟨S_, .f32⟩
  | .hbm, ⟨19, _⟩ => ⟨S4352x5632, .f32⟩
  | .hbm, ⟨20, _⟩ => ⟨S4352x5632, .f32⟩
  | .hbm, ⟨21, _⟩ => ⟨S4352x5632, .f32⟩
  | .hbm, ⟨22, _⟩ => ⟨S4352x5632, .f32⟩
  | .hbm, ⟨23, _⟩ => ⟨S4352x5632, .bf16⟩
  | .hbm, ⟨24, _⟩ => ⟨S4352x5632, .f32⟩
  | .hbm, ⟨25, _⟩ => ⟨S4352x5632, .bf16⟩
  | .hbm, ⟨26, _⟩ => ⟨S4x1408x2048, .bf16⟩
  | .hbm, ⟨27, _⟩ => ⟨S4352x5632, .bf16⟩
  | .hbm, ⟨28, _⟩ => ⟨S4352x5632, .bf16⟩
  | .local _ .vmem, ⟨0, _⟩ => ⟨S544x2048, .bf16⟩
  | .local _ .vmem, ⟨1, _⟩ => ⟨S544x2048, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S544x1408, .bf16⟩
  | .local _ .vmem, ⟨5, _⟩ => ⟨S544x1408, .bf16⟩
  | .local _ .vmem, ⟨6, _⟩ => ⟨S544x1408, .bf16⟩
  | .local _ .vmem, ⟨7, _⟩ => ⟨S544x1408, .bf16⟩
  | .local _ .vmem, ⟨8, _⟩ => ⟨S544x1408, .bf16⟩
  | .local _ .vmem, ⟨9, _⟩ => ⟨S544x1408, .bf16⟩
  | .local _ .vmem, ⟨10, _⟩ => ⟨S544x1408, .bf16⟩
  | .local _ .vmem, ⟨11, _⟩ => ⟨S544x1408, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S544x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S544x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S544x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S544x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DownBwdRefIdeal.lean ====
abbrev S4352x2048 : Shape := ⟨2, ![4352, 2048]⟩
abbrev S5632x2048 : Shape := ⟨2, ![5632, 2048]⟩
abbrev S4352x5632 : Shape := ⟨2, ![4352, 5632]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S5632x2048, .bf16⟩
  | .hbm, ⟨2, _⟩ => ⟨S4352x5632, .f32⟩
  | .hbm, ⟨3, _⟩ => ⟨S4352x5632, .f32⟩
  | .hbm, ⟨4, _⟩ => ⟨S5632x2048, .f32⟩
  | .hbm, ⟨5, _⟩ => ⟨S4352x5632, .f32⟩
  | .hbm, ⟨6, _⟩ => ⟨S4352x5632, .f32⟩
  | .hbm, ⟨7, _⟩ => ⟨S_, .f32⟩
  | .hbm, ⟨8, _⟩ => ⟨S4352x5632, .f32⟩
  | .hbm, ⟨9, _⟩ => ⟨S4352x5632, .f32⟩
  | .hbm, ⟨10, _⟩ => ⟨S_, .f32⟩
  | .hbm, ⟨11, _⟩ => ⟨S4352x5632, .f32⟩
  | .hbm, ⟨12, _⟩ => ⟨S4352x5632, .f32⟩
  | .hbm, ⟨13, _⟩ => ⟨S_, .f32⟩
  | .hbm, ⟨14, _⟩ => ⟨S4352x5632, .f32⟩
  | .hbm, ⟨15, _⟩ => ⟨S4352x5632, .f32⟩
  | .hbm, ⟨16, _⟩ => ⟨S4352x5632, .f32⟩
  | .hbm, ⟨17, _⟩ => ⟨S4352x5632, .f32⟩
  | .hbm, ⟨18, _⟩ => ⟨S4352x5632, .f32⟩
  | .hbm, ⟨19, _⟩ => ⟨S4352x2048, .f32⟩
  | .hbm, ⟨20, _⟩ => ⟨S4352x2048, .f32⟩
  | .hbm, ⟨21, _⟩ => ⟨S4352x5632, .f32⟩
  | .hbm, ⟨22, _⟩ => ⟨S4352x5632, .f32⟩
  | .hbm, ⟨23, _⟩ => ⟨S4352x5632, .f32⟩
  | .hbm, ⟨24, _⟩ => ⟨S4352x5632, .f32⟩
  | .hbm, ⟨25, _⟩ => ⟨S4352x5632, .f32⟩
  | .hbm, ⟨26, _⟩ => ⟨S4352x5632, .f32⟩
  | .hbm, ⟨27, _⟩ => ⟨S4352x5632, .f32⟩
  | .hbm, ⟨28, _⟩ => ⟨S4352x5632, .bf16⟩
  | .hbm, ⟨29, _⟩ => ⟨S4352x5632, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== GateDgrad.lean ====
abbrev S4352x5632 : Shape := ⟨2, ![4352, 5632]⟩
abbrev S2048x5632 : Shape := ⟨2, ![2048, 5632]⟩
abbrev S2048x4x1408 : Shape := ⟨3, ![2048, 4, 1408]⟩
abbrev S4x2048x1408 : Shape := ⟨3, ![4, 2048, 1408]⟩
abbrev S4352x2048 : Shape := ⟨2, ![4352, 2048]⟩
abbrev S544x5632 : Shape := ⟨2, ![544, 5632]⟩
abbrev S4x1024x1408 : Shape := ⟨3, ![4, 1024, 1408]⟩
abbrev S544x1024 : Shape := ⟨2, ![544, 1024]⟩
abbrev S544x1408 : Shape := ⟨2, ![544, 1408]⟩
abbrev S1x1024x1408 : Shape := ⟨3, ![1, 1024, 1408]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S4352x5632, .bf16⟩
  | .hbm, ⟨1, _⟩ => ⟨S2048x5632, .bf16⟩
  | .hbm, ⟨2, _⟩ => ⟨S2048x4x1408, .bf16⟩
  | .hbm, ⟨3, _⟩ => ⟨S4x2048x1408, .bf16⟩
  | .hbm, ⟨4, _⟩ => ⟨S4352x2048, .f32⟩
  | .local _ .vmem, ⟨0, _⟩ => ⟨S544x5632, .bf16⟩
  | .local _ .vmem, ⟨1, _⟩ => ⟨S544x5632, .bf16⟩
  | .local _ .vmem, ⟨2, _⟩ => ⟨S4x1024x1408, .bf16⟩
  | .local _ .vmem, ⟨3, _⟩ => ⟨S4x1024x1408, .bf16⟩
  | .local _ .vmem, ⟨4, _⟩ => ⟨S544x1024, .f32⟩
  | .local _ .vmem, ⟨5, _⟩ => ⟨S544x1024, .f32⟩
  | _, _ => ⟨S4352x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateDgradRefIdeal.lean ====
abbrev S4352x5632 : Shape := ⟨2, ![4352, 5632]⟩
abbrev S2048x5632 : Shape := ⟨2, ![2048, 5632]⟩
abbrev S_ : Shape := ⟨0, ![]⟩
abbrev S4352x2048 : Shape := ⟨2, ![4352, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4352x5632, .bf16⟩
  | .hbm, ⟨1, _⟩ => ⟨S2048x5632, .bf16⟩
  | .hbm, ⟨2, _⟩ => ⟨S2048x5632, .f32⟩
  | .hbm, ⟨3, _⟩ => ⟨S4352x5632, .f32⟩
  | .hbm, ⟨4, _⟩ => ⟨S_, .f32⟩
  | .hbm, ⟨5, _⟩ => ⟨S4352x2048, .f32⟩
  | .hbm, ⟨6, _⟩ => ⟨S4352x5632, .f32⟩
  | .hbm, ⟨7, _⟩ => ⟨S4352x2048, .f32⟩
  | _, _ => ⟨S4352x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpDgrad.lean ====
abbrev S4352x5632 : Shape := ⟨2, ![4352, 5632]⟩
abbrev S2048x5632 : Shape := ⟨2, ![2048, 5632]⟩
abbrev S4352x2048 : Shape := ⟨2, ![4352, 2048]⟩
abbrev S2048x4x1408 : Shape := ⟨3, ![2048, 4, 1408]⟩
abbrev S4x2048x1408 : Shape := ⟨3, ![4, 2048, 1408]⟩
abbrev S544x5632 : Shape := ⟨2, ![544, 5632]⟩
abbrev S4x1024x1408 : Shape := ⟨3, ![4, 1024, 1408]⟩
abbrev S544x1024 : Shape := ⟨2, ![544, 1024]⟩
abbrev S544x1408 : Shape := ⟨2, ![544, 1408]⟩
abbrev S1x1024x1408 : Shape := ⟨3, ![1, 1024, 1408]⟩
abbrev S1024x1408 : Shape := ⟨2, ![1024, 1408]⟩

abbrev nBuf : Space → Nat
  | .hbm => 6
  | .vmem => 8
  | .smem => 0
  | _ => 0

abbrev bufTy : (tb : Table) → Fin (tcTables nBuf tb) → BufTy
  | .hbm, ⟨0, _⟩ => ⟨S4352x5632, .bf16⟩
  | .hbm, ⟨1, _⟩ => ⟨S2048x5632, .bf16⟩
  | .hbm, ⟨2, _⟩ => ⟨S4352x2048, .f32⟩
  | .hbm, ⟨3, _⟩ => ⟨S2048x4x1408, .bf16⟩
  | .hbm, ⟨4, _⟩ => ⟨S4x2048x1408, .bf16⟩
  | .hbm, ⟨5, _⟩ => ⟨S4352x2048, .f32⟩
  | .local _ .vmem, ⟨0, _⟩ => ⟨S544x5632, .bf16⟩
  | .local _ .vmem, ⟨1, _⟩ => ⟨S544x5632, .bf16⟩
  | .local _ .vmem, ⟨2, _⟩ => ⟨S4x1024x1408, .bf16⟩
  | .local _ .vmem, ⟨3, _⟩ => ⟨S4x1024x1408, .bf16⟩
  | .local _ .vmem, ⟨4, _⟩ => ⟨S544x1024, .f32⟩
  | .local _ .vmem, ⟨5, _⟩ => ⟨S544x1024, .f32⟩
  | .local _ .vmem, ⟨6, _⟩ => ⟨S544x1024, .f32⟩
  | .local _ .vmem, ⟨7, _⟩ => ⟨S544x1024, .f32⟩
  | _, _ => ⟨S4352x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpDgradRefIdeal.lean ====
abbrev S4352x5632 : Shape := ⟨2, ![4352, 5632]⟩
abbrev S2048x5632 : Shape := ⟨2, ![2048, 5632]⟩
abbrev S4352x2048 : Shape := ⟨2, ![4352, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4352x5632, .bf16⟩
  | .hbm, ⟨1, _⟩ => ⟨S2048x5632, .bf16⟩
  | .hbm, ⟨2, _⟩ => ⟨S4352x2048, .f32⟩
  | .hbm, ⟨3, _⟩ => ⟨S2048x5632, .f32⟩
  | .hbm, ⟨4, _⟩ => ⟨S4352x5632, .f32⟩
  | .hbm, ⟨5, _⟩ => ⟨S_, .f32⟩
  | .hbm, ⟨6, _⟩ => ⟨S4352x2048, .f32⟩
  | .hbm, ⟨7, _⟩ => ⟨S4352x5632, .f32⟩
  | .hbm, ⟨8, _⟩ => ⟨S4352x2048, .f32⟩
  | .hbm, ⟨9, _⟩ => ⟨S4352x2048, .f32⟩
  | _, _ => ⟨S4352x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== GateWgrad.lean ====
abbrev S4352x2048 : Shape := ⟨2, ![4352, 2048]⟩
abbrev S4352x5632 : Shape := ⟨2, ![4352, 5632]⟩
abbrev S4x2048x1408 : Shape := ⟨3, ![4, 2048, 1408]⟩
abbrev S2176x1024 : Shape := ⟨2, ![2176, 1024]⟩
abbrev S2176x1408 : Shape := ⟨2, ![2176, 1408]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S4352x5632, .bf16⟩
  | .hbm, ⟨2, _⟩ => ⟨S4x2048x1408, .bf16⟩
  | .local _ .vmem, ⟨0, _⟩ => ⟨S2176x1024, .bf16⟩
  | .local _ .vmem, ⟨1, _⟩ => ⟨S2176x1024, .bf16⟩
  | .local _ .vmem, ⟨2, _⟩ => ⟨S2176x1408, .bf16⟩
  | .local _ .vmem, ⟨3, _⟩ => ⟨S2176x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2176x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateWgradRefIdeal.lean ====
abbrev S4352x2048 : Shape := ⟨2, ![4352, 2048]⟩
abbrev S4352x5632 : Shape := ⟨2, ![4352, 5632]⟩
abbrev S_ : Shape := ⟨0, ![]⟩
abbrev S2048x5632 : Shape := ⟨2, ![2048, 5632]⟩
abbrev S5632x2048 : Shape := ⟨2, ![5632, 2048]⟩
abbrev S2048x4x1408 : Shape := ⟨3, ![2048, 4, 1408]⟩
abbrev S4x2048x1408 : Shape := ⟨3, ![4, 2048, 1408]⟩

abbrev nBuf : Space → Nat
  | .hbm => 12
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x5632, .bf16⟩
  | .hbm, ⟨2, _⟩ => ⟨S4352x2048, .f32⟩
  | .hbm, ⟨3, _⟩ => ⟨S4352x5632, .f32⟩
  | .hbm, ⟨4, _⟩ => ⟨S_, .f32⟩
  | .hbm, ⟨5, _⟩ => ⟨S2048x5632, .f32⟩
  | .hbm, ⟨6, _⟩ => ⟨S4352x5632, .f32⟩
  | .hbm, ⟨7, _⟩ => ⟨S5632x2048, .f32⟩
  | .hbm, ⟨8, _⟩ => ⟨S2048x5632, .f32⟩
  | .hbm, ⟨9, _⟩ => ⟨S2048x5632, .bf16⟩
  | .hbm, ⟨10, _⟩ => ⟨S2048x4x1408, .bf16⟩
  | .hbm, ⟨11, _⟩ => ⟨S4x2048x1408, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DownWgrad.lean ====
abbrev S4352x5632 : Shape := ⟨2, ![4352, 5632]⟩
abbrev S4352x2048 : Shape := ⟨2, ![4352, 2048]⟩
abbrev S5632x2048 : Shape := ⟨2, ![5632, 2048]⟩
abbrev S2176x1408 : Shape := ⟨2, ![2176, 1408]⟩
abbrev S2176x1024 : Shape := ⟨2, ![2176, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x5632, .bf16⟩
  | .hbm, ⟨1, _⟩ => ⟨S4352x2048, .bf16⟩
  | .hbm, ⟨2, _⟩ => ⟨S5632x2048, .bf16⟩
  | .local _ .vmem, ⟨0, _⟩ => ⟨S2176x1408, .bf16⟩
  | .local _ .vmem, ⟨1, _⟩ => ⟨S2176x1408, .bf16⟩
  | .local _ .vmem, ⟨2, _⟩ => ⟨S2176x1024, .bf16⟩
  | .local _ .vmem, ⟨3, _⟩ => ⟨S2176x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4352x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2176x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWgradRefIdeal.lean ====
abbrev S4352x5632 : Shape := ⟨2, ![4352, 5632]⟩
abbrev S4352x2048 : Shape := ⟨2, ![4352, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4352x5632, .bf16⟩
  | .hbm, ⟨1, _⟩ => ⟨S4352x2048, .bf16⟩
  | .hbm, ⟨2, _⟩ => ⟨S4352x5632, .f32⟩
  | .hbm, ⟨3, _⟩ => ⟨S4352x2048, .f32⟩
  | .hbm, ⟨4, _⟩ => ⟨S_, .f32⟩
  | .hbm, ⟨5, _⟩ => ⟨S5632x2048, .f32⟩
  | .hbm, ⟨6, _⟩ => ⟨S4352x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4352x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnIn.lean ====
abbrev S4352x2048 : Shape := ⟨2, ![4352, 2048]⟩
abbrev S2048x5632 : Shape := ⟨2, ![2048, 5632]⟩
abbrev S2048x4x1408 : Shape := ⟨3, ![2048, 4, 1408]⟩
abbrev S4x2048x1408 : Shape := ⟨3, ![4, 2048, 1408]⟩
abbrev S4352x5632 : Shape := ⟨2, ![4352, 5632]⟩
abbrev S544x2048 : Shape := ⟨2, ![544, 2048]⟩
abbrev S1x2048x1408 : Shape := ⟨3, ![1, 2048, 1408]⟩
abbrev S544x1408 : Shape := ⟨2, ![544, 1408]⟩
abbrev S2048x1408 : Shape := ⟨2, ![2048, 1408]⟩

abbrev nBuf : Space → Nat
  | .hbm => 10
  | .vmem => 12
  | .smem => 0
  | _ => 0

abbrev bufTy : (tb : Table) → Fin (tcTables nBuf tb) → BufTy
  | .hbm, ⟨0, _⟩ => ⟨S4352x2048, .bf16⟩
  | .hbm, ⟨1, _⟩ => ⟨S2048x5632, .bf16⟩
  | .hbm, ⟨2, _⟩ => ⟨S2048x5632, .bf16⟩
  | .hbm, ⟨3, _⟩ => ⟨S2048x4x1408, .bf16⟩
  | .hbm, ⟨4, _⟩ => ⟨S4x2048x1408, .bf16⟩
  | .hbm, ⟨5, _⟩ => ⟨S2048x4x1408, .bf16⟩
  | .hbm, ⟨6, _⟩ => ⟨S4x2048x1408, .bf16⟩
  | .hbm, ⟨7, _⟩ => ⟨S4352x5632, .bf16⟩
  | .hbm, ⟨8, _⟩ => ⟨S4352x5632, .bf16⟩
  | .hbm, ⟨9, _⟩ => ⟨S4352x5632, .bf16⟩
  | .local _ .vmem, ⟨0, _⟩ => ⟨S544x2048, .bf16⟩
  | .local _ .vmem, ⟨1, _⟩ => ⟨S544x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S544x1408, .bf16⟩
  | .local _ .vmem, ⟨7, _⟩ => ⟨S544x1408, .bf16⟩
  | .local _ .vmem, ⟨8, _⟩ => ⟨S544x1408, .bf16⟩
  | .local _ .vmem, ⟨9, _⟩ => ⟨S544x1408, .bf16⟩
  | .local _ .vmem, ⟨10, _⟩ => ⟨S544x1408, .bf16⟩
  | .local _ .vmem, ⟨11, _⟩ => ⟨S544x1408, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S544x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S544x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S544x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnInRefIdeal.lean ====
abbrev S4352x2048 : Shape := ⟨2, ![4352, 2048]⟩
abbrev S2048x5632 : Shape := ⟨2, ![2048, 5632]⟩
abbrev S4352x5632 : Shape := ⟨2, ![4352, 5632]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x5632, .bf16⟩
  | .hbm, ⟨2, _⟩ => ⟨S2048x5632, .bf16⟩
  | .hbm, ⟨3, _⟩ => ⟨S4352x2048, .f32⟩
  | .hbm, ⟨4, _⟩ => ⟨S2048x5632, .f32⟩
  | .hbm, ⟨5, _⟩ => ⟨S4352x5632, .f32⟩
  | .hbm, ⟨6, _⟩ => ⟨S2048x5632, .f32⟩
  | .hbm, ⟨7, _⟩ => ⟨S4352x5632, .f32⟩
  | .hbm, ⟨8, _⟩ => ⟨S4352x5632, .f32⟩
  | .hbm, ⟨9, _⟩ => ⟨S4352x5632, .f32⟩
  | .hbm, ⟨10, _⟩ => ⟨S_, .f32⟩
  | .hbm, ⟨11, _⟩ => ⟨S4352x5632, .f32⟩
  | .hbm, ⟨12, _⟩ => ⟨S4352x5632, .f32⟩
  | .hbm, ⟨13, _⟩ => ⟨S_, .f32⟩
  | .hbm, ⟨14, _⟩ => ⟨S4352x5632, .f32⟩
  | .hbm, ⟨15, _⟩ => ⟨S4352x5632, .f32⟩
  | .hbm, ⟨16, _⟩ => ⟨S_, .f32⟩
  | .hbm, ⟨17, _⟩ => ⟨S4352x5632, .f32⟩
  | .hbm, ⟨18, _⟩ => ⟨S4352x5632, .f32⟩
  | .hbm, ⟨19, _⟩ => ⟨S4352x5632, .f32⟩
  | .hbm, ⟨20, _⟩ => ⟨S4352x5632, .f32⟩
  | .hbm, ⟨21, _⟩ => ⟨S4352x5632, .f32⟩
  | .hbm, ⟨22, _⟩ => ⟨S_, .f32⟩
  | .hbm, ⟨23, _⟩ => ⟨S4352x5632, .f32⟩
  | .hbm, ⟨24, _⟩ => ⟨S4352x5632, .f32⟩
  | .hbm, ⟨25, _⟩ => ⟨S4352x5632, .f32⟩
  | .hbm, ⟨26, _⟩ => ⟨S4352x5632, .f32⟩
  | .hbm, ⟨27, _⟩ => ⟨S4352x5632, .f32⟩
  | .hbm, ⟨28, _⟩ => ⟨S4352x5632, .f32⟩
  | .hbm, ⟨29, _⟩ => ⟨S4352x5632, .f32⟩
  | .hbm, ⟨30, _⟩ => ⟨S4352x5632, .bf16⟩
  | .hbm, ⟨31, _⟩ => ⟨S4352x5632, .bf16⟩
  | .hbm, ⟨32, _⟩ => ⟨S4352x5632, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v5_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v5_1 : Ref sig .tc := ⟨.hbm, 19, rfl⟩
abbrev main_v5_0 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== DownFwd.lean ====
abbrev S4352x5632 : Shape := ⟨2, ![4352, 5632]⟩
abbrev S5632x2048 : Shape := ⟨2, ![5632, 2048]⟩
abbrev S4352x2048 : Shape := ⟨2, ![4352, 2048]⟩
abbrev S2x1x2048 : Shape := ⟨3, ![2, 1, 2048]⟩
abbrev S4x1408x2048 : Shape := ⟨3, ![4, 1408, 2048]⟩
abbrev S544x5632 : Shape := ⟨2, ![544, 5632]⟩
abbrev S5632x1024 : Shape := ⟨2, ![5632, 1024]⟩
abbrev S544x1024 : Shape := ⟨2, ![544, 1024]⟩
abbrev S2x1x1024 : Shape := ⟨3, ![2, 1, 1024]⟩
abbrev S1x1x1024 : Shape := ⟨3, ![1, 1, 1024]⟩
abbrev S1x1024 : Shape := ⟨2, ![1, 1024]⟩

abbrev nBuf : Space → Nat
  | .hbm => 8
  | .vmem => 12
  | .smem => 0
  | _ => 0

abbrev bufTy : (tb : Table) → Fin (tcTables nBuf tb) → BufTy
  | .hbm, ⟨0, _⟩ => ⟨S4352x5632, .bf16⟩
  | .hbm, ⟨1, _⟩ => ⟨S5632x2048, .bf16⟩
  | .hbm, ⟨2, _⟩ => ⟨S4352x2048, .f32⟩
  | .hbm, ⟨3, _⟩ => ⟨S2x1x2048, .f32⟩
  | .hbm, ⟨4, _⟩ => ⟨S4x1408x2048, .bf16⟩
  | .hbm, ⟨5, _⟩ => ⟨S5632x2048, .bf16⟩
  | .hbm, ⟨6, _⟩ => ⟨S4352x2048, .bf16⟩
  | .hbm, ⟨7, _⟩ => ⟨S4352x2048, .f32⟩
  | .local _ .vmem, ⟨0, _⟩ => ⟨S544x5632, .bf16⟩
  | .local _ .vmem, ⟨1, _⟩ => ⟨S544x5632, .bf16⟩
  | .local _ .vmem, ⟨2, _⟩ => ⟨S5632x1024, .bf16⟩
  | .local _ .vmem, ⟨3, _⟩ => ⟨S5632x1024, .bf16⟩
  | .local _ .vmem, ⟨4, _⟩ => ⟨S544x1024, .f32⟩
  | .local _ .vmem, ⟨5, _⟩ => ⟨S544x1024, .f32⟩
  | .local _ .vmem, ⟨6, _⟩ => ⟨S2x1x1024, .f32⟩
  | .local _ .vmem, ⟨7, _⟩ => ⟨S2x1x1024, .f32⟩
  | .local _ .vmem, ⟨8, _⟩ => ⟨S544x1024, .bf16⟩
  | .local _ .vmem, ⟨9, _⟩ => ⟨S544x1024, .bf16⟩
  | .local _ .vmem, ⟨10, _⟩ => ⟨S544x1024, .f32⟩
  | .local _ .vmem, ⟨11, _⟩ => ⟨S544x1024, .f32⟩
  | _, _ => ⟨S4352x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S544x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DownFwdRefIdeal.lean ====
abbrev S4352x5632 : Shape := ⟨2, ![4352, 5632]⟩
abbrev S5632x2048 : Shape := ⟨2, ![5632, 2048]⟩
abbrev S4352x2048 : Shape := ⟨2, ![4352, 2048]⟩
abbrev S2x1x2048 : Shape := ⟨3, ![2, 1, 2048]⟩
abbrev S1x1x2048 : Shape := ⟨3, ![1, 1, 2048]⟩
abbrev S1x2048 : Shape := ⟨2, ![1, 2048]⟩
abbrev S256x2048 : Shape := ⟨2, ![256, 2048]⟩
abbrev S4096x2048 : Shape := ⟨2, ![4096, 2048]⟩

abbrev nBuf : Space → Nat
  | .hbm => 20
  | .vmem => 0
  | .smem => 0
  | _ => 0

abbrev bufTy : (tb : Table) → Fin (tcTables nBuf tb) → BufTy
  | .hbm, ⟨0, _⟩ => ⟨S4352x5632, .bf16⟩
  | .hbm, ⟨1, _⟩ => ⟨S5632x2048, .bf16⟩
  | .hbm, ⟨2, _⟩ => ⟨S4352x2048, .f32⟩
  | .hbm, ⟨3, _⟩ => ⟨S2x1x2048, .f32⟩
  | .hbm, ⟨4, _⟩ => ⟨S4352x5632, .f32⟩
  | .hbm, ⟨5, _⟩ => ⟨S5632x2048, .f32⟩
  | .hbm, ⟨6, _⟩ => ⟨S4352x2048, .f32⟩
  | .hbm, ⟨7, _⟩ => ⟨S1x1x2048, .f32⟩
  | .hbm, ⟨8, _⟩ => ⟨S1x2048, .f32⟩
  | .hbm, ⟨9, _⟩ => ⟨S256x2048, .f32⟩
  | .hbm, ⟨10, _⟩ => ⟨S256x2048, .f32⟩
  | .hbm, ⟨11, _⟩ => ⟨S256x2048, .f32⟩
  | .hbm, ⟨12, _⟩ => ⟨S1x1x2048, .f32⟩
  | .hbm, ⟨13, _⟩ => ⟨S1x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4352x2048, .f32⟩
  | .hbm, ⟨18, _⟩ => ⟨S4352x2048, .bf16⟩
  | .hbm, ⟨19, _⟩ => ⟨S4352x2048, .f32⟩
  | _, _ => ⟨S4352x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== In0Fwd.lean ====
abbrev S4352x2048 : Shape := ⟨2, ![4352, 2048]⟩
abbrev S2048x4096 : Shape := ⟨2, ![2048, 4096]⟩
abbrev S2048x4x1024 : Shape := ⟨3, ![2048, 4, 1024]⟩
abbrev S4x2048x1024 : Shape := ⟨3, ![4, 2048, 1024]⟩
abbrev S4352x4096 : Shape := ⟨2, ![4352, 4096]⟩
abbrev S544x2048 : Shape := ⟨2, ![544, 2048]⟩
abbrev S1x2048x1024 : Shape := ⟨3, ![1, 2048, 1024]⟩
abbrev S544x1024 : Shape := ⟨2, ![544, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S2048x4096, .bf16⟩
  | .hbm, ⟨2, _⟩ => ⟨S2048x4x1024, .bf16⟩
  | .hbm, ⟨3, _⟩ => ⟨S4x2048x1024, .bf16⟩
  | .hbm, ⟨4, _⟩ => ⟨S4352x4096, .f32⟩
  | .local _ .vmem, ⟨0, _⟩ => ⟨S544x2048, .bf16⟩
  | .local _ .vmem, ⟨1, _⟩ => ⟨S544x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S544x1024, .f32⟩
  | .local _ .vmem, ⟨5, _⟩ => ⟨S544x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== In0FwdIdeal.lean ====
abbrev S4352x2048 : Shape := ⟨2, ![4352, 2048]⟩
abbrev S2048x4096 : Shape := ⟨2, ![2048, 4096]⟩
abbrev S2048x4x1024 : Shape := ⟨3, ![2048, 4, 1024]⟩
abbrev S4x2048x1024 : Shape := ⟨3, ![4, 2048, 1024]⟩
abbrev S4352x4096 : Shape := ⟨2, ![4352, 4096]⟩
abbrev S544x2048 : Shape := ⟨2, ![544, 2048]⟩
abbrev S1x2048x1024 : Shape := ⟨3, ![1, 2048, 1024]⟩
abbrev S544x1024 : Shape := ⟨2, ![544, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S2048x4096, .bf16⟩
  | .hbm, ⟨2, _⟩ => ⟨S2048x4x1024, .bf16⟩
  | .hbm, ⟨3, _⟩ => ⟨S4x2048x1024, .bf16⟩
  | .hbm, ⟨4, _⟩ => ⟨S4352x4096, .f32⟩
  | .local _ .vmem, ⟨0, _⟩ => ⟨S544x2048, .bf16⟩
  | .local _ .vmem, ⟨1, _⟩ => ⟨S544x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S544x1024, .f32⟩
  | .local _ .vmem, ⟨5, _⟩ => ⟨S544x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== In0FwdRefIdeal.lean ====
abbrev S4352x2048 : Shape := ⟨2, ![4352, 2048]⟩
abbrev S2048x4096 : Shape := ⟨2, ![2048, 4096]⟩
abbrev S4352x4096 : Shape := ⟨2, ![4352, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x4096, .bf16⟩
  | .hbm, ⟨2, _⟩ => ⟨S4352x2048, .f32⟩
  | .hbm, ⟨3, _⟩ => ⟨S2048x4096, .f32⟩
  | .hbm, ⟨4, _⟩ => ⟨S4352x4096, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== In0Dgrad.lean ====
abbrev S4352x4096 : Shape := ⟨2, ![4352, 4096]⟩
abbrev S2048x4096 : Shape := ⟨2, ![2048, 4096]⟩
abbrev S2048x4x1024 : Shape := ⟨3, ![2048, 4, 1024]⟩
abbrev S4x2048x1024 : Shape := ⟨3, ![4, 2048, 1024]⟩
abbrev S4352x2048 : Shape := ⟨2, ![4352, 2048]⟩
abbrev S544x4096 : Shape := ⟨2, ![544, 4096]⟩
abbrev S4x1024x1024 : Shape := ⟨3, ![4, 1024, 1024]⟩
abbrev S544x1024 : Shape := ⟨2, ![544, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4352x4096, .bf16⟩
  | .hbm, ⟨1, _⟩ => ⟨S2048x4096, .bf16⟩
  | .hbm, ⟨2, _⟩ => ⟨S2048x4x1024, .bf16⟩
  | .hbm, ⟨3, _⟩ => ⟨S4x2048x1024, .bf16⟩
  | .hbm, ⟨4, _⟩ => ⟨S4352x2048, .f32⟩
  | .local _ .vmem, ⟨0, _⟩ => ⟨S544x4096, .bf16⟩
  | .local _ .vmem, ⟨1, _⟩ => ⟨S544x4096, .bf16⟩
  | .local _ .vmem, ⟨2, _⟩ => ⟨S4x1024x1024, .bf16⟩
  | .local _ .vmem, ⟨3, _⟩ => ⟨S4x1024x1024, .bf16⟩
  | .local _ .vmem, ⟨4, _⟩ => ⟨S544x1024, .f32⟩
  | .local _ .vmem, ⟨5, _⟩ => ⟨S544x1024, .f32⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== In0DgradIdeal.lean ====
abbrev S4352x4096 : Shape := ⟨2, ![4352, 4096]⟩
abbrev S2048x4096 : Shape := ⟨2, ![2048, 4096]⟩
abbrev S2048x4x1024 : Shape := ⟨3, ![2048, 4, 1024]⟩
abbrev S4x2048x1024 : Shape := ⟨3, ![4, 2048, 1024]⟩
abbrev S4352x2048 : Shape := ⟨2, ![4352, 2048]⟩
abbrev S544x4096 : Shape := ⟨2, ![544, 4096]⟩
abbrev S4x1024x1024 : Shape := ⟨3, ![4, 1024, 1024]⟩
abbrev S544x1024 : Shape := ⟨2, ![544, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4352x4096, .bf16⟩
  | .hbm, ⟨1, _⟩ => ⟨S2048x4096, .bf16⟩
  | .hbm, ⟨2, _⟩ => ⟨S2048x4x1024, .bf16⟩
  | .hbm, ⟨3, _⟩ => ⟨S4x2048x1024, .bf16⟩
  | .hbm, ⟨4, _⟩ => ⟨S4352x2048, .f32⟩
  | .local _ .vmem, ⟨0, _⟩ => ⟨S544x4096, .bf16⟩
  | .local _ .vmem, ⟨1, _⟩ => ⟨S544x4096, .bf16⟩
  | .local _ .vmem, ⟨2, _⟩ => ⟨S4x1024x1024, .bf16⟩
  | .local _ .vmem, ⟨3, _⟩ => ⟨S4x1024x1024, .bf16⟩
  | .local _ .vmem, ⟨4, _⟩ => ⟨S544x1024, .f32⟩
  | .local _ .vmem, ⟨5, _⟩ => ⟨S544x1024, .f32⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== In0DgradRefIdeal.lean ====
abbrev S4352x4096 : Shape := ⟨2, ![4352, 4096]⟩
abbrev S2048x4096 : Shape := ⟨2, ![2048, 4096]⟩
abbrev S_ : Shape := ⟨0, ![]⟩
abbrev S4352x2048 : Shape := ⟨2, ![4352, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4352x4096, .bf16⟩
  | .hbm, ⟨1, _⟩ => ⟨S2048x4096, .bf16⟩
  | .hbm, ⟨2, _⟩ => ⟨S2048x4096, .f32⟩
  | .hbm, ⟨3, _⟩ => ⟨S4352x4096, .f32⟩
  | .hbm, ⟨4, _⟩ => ⟨S_, .f32⟩
  | .hbm, ⟨5, _⟩ => ⟨S4352x2048, .f32⟩
  | .hbm, ⟨6, _⟩ => ⟨S4352x4096, .f32⟩
  | .hbm, ⟨7, _⟩ => ⟨S4352x2048, .f32⟩
  | _, _ => ⟨S4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== In0Wgrad.lean ====
abbrev S4352x2048 : Shape := ⟨2, ![4352, 2048]⟩
abbrev S4352x4096 : Shape := ⟨2, ![4352, 4096]⟩
abbrev S4x2048x1024 : Shape := ⟨3, ![4, 2048, 1024]⟩
abbrev S2176x1024 : Shape := ⟨2, ![2176, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S4352x4096, .bf16⟩
  | .hbm, ⟨2, _⟩ => ⟨S4x2048x1024, .bf16⟩
  | .local _ .vmem, ⟨0, _⟩ => ⟨S2176x1024, .bf16⟩
  | .local _ .vmem, ⟨1, _⟩ => ⟨S2176x1024, .bf16⟩
  | .local _ .vmem, ⟨2, _⟩ => ⟨S2176x1024, .bf16⟩
  | .local _ .vmem, ⟨3, _⟩ => ⟨S2176x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== In0WgradIdeal.lean ====
abbrev S4352x2048 : Shape := ⟨2, ![4352, 2048]⟩
abbrev S4352x4096 : Shape := ⟨2, ![4352, 4096]⟩
abbrev S4x2048x1024 : Shape := ⟨3, ![4, 2048, 1024]⟩
abbrev S2176x1024 : Shape := ⟨2, ![2176, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S4352x4096, .bf16⟩
  | .hbm, ⟨2, _⟩ => ⟨S4x2048x1024, .bf16⟩
  | .local _ .vmem, ⟨0, _⟩ => ⟨S2176x1024, .bf16⟩
  | .local _ .vmem, ⟨1, _⟩ => ⟨S2176x1024, .bf16⟩
  | .local _ .vmem, ⟨2, _⟩ => ⟨S2176x1024, .bf16⟩
  | .local _ .vmem, ⟨3, _⟩ => ⟨S2176x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== In0WgradRefIdeal.lean ====
abbrev S4352x2048 : Shape := ⟨2, ![4352, 2048]⟩
abbrev S4352x4096 : Shape := ⟨2, ![4352, 4096]⟩
abbrev S_ : Shape := ⟨0, ![]⟩
abbrev S2048x4096 : Shape := ⟨2, ![2048, 4096]⟩
abbrev S4096x2048 : Shape := ⟨2, ![4096, 2048]⟩
abbrev S2048x4x1024 : Shape := ⟨3, ![2048, 4, 1024]⟩
abbrev S4x2048x1024 : Shape := ⟨3, ![4, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x4096, .bf16⟩
  | .hbm, ⟨2, _⟩ => ⟨S4352x2048, .f32⟩
  | .hbm, ⟨3, _⟩ => ⟨S4352x4096, .f32⟩
  | .hbm, ⟨4, _⟩ => ⟨S_, .f32⟩
  | .hbm, ⟨5, _⟩ => ⟨S2048x4096, .f32⟩
  | .hbm, ⟨6, _⟩ => ⟨S4352x4096, .f32⟩
  | .hbm, ⟨7, _⟩ => ⟨S4096x2048, .f32⟩
  | .hbm, ⟨8, _⟩ => ⟨S2048x4096, .f32⟩
  | .hbm, ⟨9, _⟩ => ⟨S2048x4096, .bf16⟩
  | .hbm, ⟨10, _⟩ => ⟨S2048x4x1024, .bf16⟩
  | .hbm, ⟨11, _⟩ => ⟨S4x2048x1024, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== In1Fwd.lean ====
abbrev S4352x2048 : Shape := ⟨2, ![4352, 2048]⟩
abbrev S2048x3072 : Shape := ⟨2, ![2048, 3072]⟩
abbrev S2048x4x768 : Shape := ⟨3, ![2048, 4, 768]⟩
abbrev S4x2048x768 : Shape := ⟨3, ![4, 2048, 768]⟩
abbrev S4352x3072 : Shape := ⟨2, ![4352, 3072]⟩
abbrev S544x2048 : Shape := ⟨2, ![544, 2048]⟩
abbrev S1x2048x768 : Shape := ⟨3, ![1, 2048, 768]⟩
abbrev S544x768 : Shape := ⟨2, ![544, 768]⟩
abbrev S2048x768 : Shape := ⟨2, ![2048, 768]⟩

abbrev nBuf : Space → Nat
  | .hbm => 5
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S2048x3072, .bf16⟩
  | .hbm, ⟨2, _⟩ => ⟨S2048x4x768, .bf16⟩
  | .hbm, ⟨3, _⟩ => ⟨S4x2048x768, .bf16⟩
  | .hbm, ⟨4, _⟩ => ⟨S4352x3072, .f32⟩
  | .local _ .vmem, ⟨0, _⟩ => ⟨S544x2048, .bf16⟩
  | .local _ .vmem, ⟨1, _⟩ => ⟨S544x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S544x768, .f32⟩
  | .local _ .vmem, ⟨5, _⟩ => ⟨S544x768, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S544x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== In1FwdRefIdeal.lean ====
abbrev S4352x2048 : Shape := ⟨2, ![4352, 2048]⟩
abbrev S2048x3072 : Shape := ⟨2, ![2048, 3072]⟩
abbrev S4352x3072 : Shape := ⟨2, ![4352, 3072]⟩

abbrev nBuf : Space → Nat
  | .hbm => 5
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x3072, .bf16⟩
  | .hbm, ⟨2, _⟩ => ⟨S4352x2048, .f32⟩
  | .hbm, ⟨3, _⟩ => ⟨S2048x3072, .f32⟩
  | .hbm, ⟨4, _⟩ => ⟨S4352x3072, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== In1Dgrad.lean ====
abbrev S4352x3072 : Shape := ⟨2, ![4352, 3072]⟩
abbrev S2048x3072 : Shape := ⟨2, ![2048, 3072]⟩
abbrev S2048x4x768 : Shape := ⟨3, ![2048, 4, 768]⟩
abbrev S4x2048x768 : Shape := ⟨3, ![4, 2048, 768]⟩
abbrev S4352x2048 : Shape := ⟨2, ![4352, 2048]⟩
abbrev S544x3072 : Shape := ⟨2, ![544, 3072]⟩
abbrev S4x1024x768 : Shape := ⟨3, ![4, 1024, 768]⟩
abbrev S544x1024 : Shape := ⟨2, ![544, 1024]⟩
abbrev S544x768 : Shape := ⟨2, ![544, 768]⟩
abbrev S1x1024x768 : Shape := ⟨3, ![1, 1024, 768]⟩
abbrev S1024x768 : Shape := ⟨2, ![1024, 768]⟩

abbrev nBuf : Space → Nat
  | .hbm => 5
  | .vmem => 6
  | .smem => 0
  | _ => 0

abbrev bufTy : (tb : Table) → Fin (tcTables nBuf tb) → BufTy
  | .hbm, ⟨0, _⟩ => ⟨S4352x3072, .bf16⟩
  | .hbm, ⟨1, _⟩ => ⟨S2048x3072, .bf16⟩
  | .hbm, ⟨2, _⟩ => ⟨S2048x4x768, .bf16⟩
  | .hbm, ⟨3, _⟩ => ⟨S4x2048x768, .bf16⟩
  | .hbm, ⟨4, _⟩ => ⟨S4352x2048, .f32⟩
  | .local _ .vmem, ⟨0, _⟩ => ⟨S544x3072, .bf16⟩
  | .local _ .vmem, ⟨1, _⟩ => ⟨S544x3072, .bf16⟩
  | .local _ .vmem, ⟨2, _⟩ => ⟨S4x1024x768, .bf16⟩
  | .local _ .vmem, ⟨3, _⟩ => ⟨S4x1024x768, .bf16⟩
  | .local _ .vmem, ⟨4, _⟩ => ⟨S544x1024, .f32⟩
  | .local _ .vmem, ⟨5, _⟩ => ⟨S544x1024, .f32⟩
  | _, _ => ⟨S4352x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== In1DgradRefIdeal.lean ====
abbrev S4352x3072 : Shape := ⟨2, ![4352, 3072]⟩
abbrev S2048x3072 : Shape := ⟨2, ![2048, 3072]⟩
abbrev S_ : Shape := ⟨0, ![]⟩
abbrev S4352x2048 : Shape := ⟨2, ![4352, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4352x3072, .bf16⟩
  | .hbm, ⟨1, _⟩ => ⟨S2048x3072, .bf16⟩
  | .hbm, ⟨2, _⟩ => ⟨S2048x3072, .f32⟩
  | .hbm, ⟨3, _⟩ => ⟨S4352x3072, .f32⟩
  | .hbm, ⟨4, _⟩ => ⟨S_, .f32⟩
  | .hbm, ⟨5, _⟩ => ⟨S4352x2048, .f32⟩
  | .hbm, ⟨6, _⟩ => ⟨S4352x3072, .f32⟩
  | .hbm, ⟨7, _⟩ => ⟨S4352x2048, .f32⟩
  | _, _ => ⟨S4352x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== In1Wgrad.lean ====
abbrev S4352x2048 : Shape := ⟨2, ![4352, 2048]⟩
abbrev S4352x3072 : Shape := ⟨2, ![4352, 3072]⟩
abbrev S4x2048x768 : Shape := ⟨3, ![4, 2048, 768]⟩
abbrev S2176x1024 : Shape := ⟨2, ![2176, 1024]⟩
abbrev S2176x768 : Shape := ⟨2, ![2176, 768]⟩
abbrev S1x1024x768 : Shape := ⟨3, ![1, 1024, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S4352x3072, .bf16⟩
  | .hbm, ⟨2, _⟩ => ⟨S4x2048x768, .bf16⟩
  | .local _ .vmem, ⟨0, _⟩ => ⟨S2176x1024, .bf16⟩
  | .local _ .vmem, ⟨1, _⟩ => ⟨S2176x1024, .bf16⟩
  | .local _ .vmem, ⟨2, _⟩ => ⟨S2176x768, .bf16⟩
  | .local _ .vmem, ⟨3, _⟩ => ⟨S2176x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1024x768, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2176x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== In1WgradRefIdeal.lean ====
abbrev S4352x2048 : Shape := ⟨2, ![4352, 2048]⟩
abbrev S4352x3072 : Shape := ⟨2, ![4352, 3072]⟩
abbrev S_ : Shape := ⟨0, ![]⟩
abbrev S2048x3072 : Shape := ⟨2, ![2048, 3072]⟩
abbrev S3072x2048 : Shape := ⟨2, ![3072, 2048]⟩
abbrev S2048x4x768 : Shape := ⟨3, ![2048, 4, 768]⟩
abbrev S4x2048x768 : Shape := ⟨3, ![4, 2048, 768]⟩

abbrev nBuf : Space → Nat
  | .hbm => 12
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x3072, .bf16⟩
  | .hbm, ⟨2, _⟩ => ⟨S4352x2048, .f32⟩
  | .hbm, ⟨3, _⟩ => ⟨S4352x3072, .f32⟩
  | .hbm, ⟨4, _⟩ => ⟨S_, .f32⟩
  | .hbm, ⟨5, _⟩ => ⟨S2048x3072, .f32⟩
  | .hbm, ⟨6, _⟩ => ⟨S4352x3072, .f32⟩
  | .hbm, ⟨7, _⟩ => ⟨S3072x2048, .f32⟩
  | .hbm, ⟨8, _⟩ => ⟨S2048x3072, .f32⟩
  | .hbm, ⟨9, _⟩ => ⟨S2048x3072, .bf16⟩
  | .hbm, ⟨10, _⟩ => ⟨S2048x4x768, .bf16⟩
  | .hbm, ⟨11, _⟩ => ⟨S4x2048x768, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OutFwd.lean ====
abbrev S4352x2048 : Shape := ⟨2, ![4352, 2048]⟩
abbrev S2048x2048 : Shape := ⟨2, ![2048, 2048]⟩
abbrev S2x1x2048 : Shape := ⟨3, ![2, 1, 2048]⟩
abbrev S4x512x2048 : Shape := ⟨3, ![4, 512, 2048]⟩
abbrev S544x2048 : Shape := ⟨2, ![544, 2048]⟩
abbrev S2048x1024 : Shape := ⟨2, ![2048, 1024]⟩
abbrev S544x1024 : Shape := ⟨2, ![544, 1024]⟩
abbrev S2x1x1024 : Shape := ⟨3, ![2, 1, 1024]⟩
abbrev S1x1x1024 : Shape := ⟨3, ![1, 1, 1024]⟩
abbrev S1x1024 : Shape := ⟨2, ![1, 1024]⟩

abbrev nBuf : Space → Nat
  | .hbm => 8
  | .vmem => 12
  | .smem => 0
  | _ => 0

abbrev bufTy : (tb : Table) → Fin (tcTables nBuf tb) → BufTy
  | .hbm, ⟨0, _⟩ => ⟨S4352x2048, .bf16⟩
  | .hbm, ⟨1, _⟩ => ⟨S2048x2048, .bf16⟩
  | .hbm, ⟨2, _⟩ => ⟨S4352x2048, .f32⟩
  | .hbm, ⟨3, _⟩ => ⟨S2x1x2048, .f32⟩
  | .hbm, ⟨4, _⟩ => ⟨S4x512x2048, .bf16⟩
  | .hbm, ⟨5, _⟩ => ⟨S2048x2048, .bf16⟩
  | .hbm, ⟨6, _⟩ => ⟨S4352x2048, .bf16⟩
  | .hbm, ⟨7, _⟩ => ⟨S4352x2048, .f32⟩
  | .local _ .vmem, ⟨0, _⟩ => ⟨S544x2048, .bf16⟩
  | .local _ .vmem, ⟨1, _⟩ => ⟨S544x2048, .bf16⟩
  | .local _ .vmem, ⟨2, _⟩ => ⟨S2048x1024, .bf16⟩
  | .local _ .vmem, ⟨3, _⟩ => ⟨S2048x1024, .bf16⟩
  | .local _ .vmem, ⟨4, _⟩ => ⟨S544x1024, .f32⟩
  | .local _ .vmem, ⟨5, _⟩ => ⟨S544x1024, .f32⟩
  | .local _ .vmem, ⟨6, _⟩ => ⟨S2x1x1024, .f32⟩
  | .local _ .vmem, ⟨7, _⟩ => ⟨S2x1x1024, .f32⟩
  | .local _ .vmem, ⟨8, _⟩ => ⟨S544x1024, .bf16⟩
  | .local _ .vmem, ⟨9, _⟩ => ⟨S544x1024, .bf16⟩
  | .local _ .vmem, ⟨10, _⟩ => ⟨S544x1024, .f32⟩
  | .local _ .vmem, ⟨11, _⟩ => ⟨S544x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S544x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutFwdRefIdeal.lean ====
abbrev S4352x2048 : Shape := ⟨2, ![4352, 2048]⟩
abbrev S2048x2048 : Shape := ⟨2, ![2048, 2048]⟩
abbrev S2x1x2048 : Shape := ⟨3, ![2, 1, 2048]⟩
abbrev S1x1x2048 : Shape := ⟨3, ![1, 1, 2048]⟩
abbrev S1x2048 : Shape := ⟨2, ![1, 2048]⟩
abbrev S256x2048 : Shape := ⟨2, ![256, 2048]⟩
abbrev S4096x2048 : Shape := ⟨2, ![4096, 2048]⟩

abbrev nBuf : Space → Nat
  | .hbm => 20
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x2048, .bf16⟩
  | .hbm, ⟨2, _⟩ => ⟨S4352x2048, .f32⟩
  | .hbm, ⟨3, _⟩ => ⟨S2x1x2048, .f32⟩
  | .hbm, ⟨4, _⟩ => ⟨S4352x2048, .f32⟩
  | .hbm, ⟨5, _⟩ => ⟨S2048x2048, .f32⟩
  | .hbm, ⟨6, _⟩ => ⟨S4352x2048, .f32⟩
  | .hbm, ⟨7, _⟩ => ⟨S1x1x2048, .f32⟩
  | .hbm, ⟨8, _⟩ => ⟨S1x2048, .f32⟩
  | .hbm, ⟨9, _⟩ => ⟨S256x2048, .f32⟩
  | .hbm, ⟨10, _⟩ => ⟨S256x2048, .f32⟩
  | .hbm, ⟨11, _⟩ => ⟨S256x2048, .f32⟩
  | .hbm, ⟨12, _⟩ => ⟨S1x1x2048, .f32⟩
  | .hbm, ⟨13, _⟩ => ⟨S1x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4352x2048, .f32⟩
  | .hbm, ⟨18, _⟩ => ⟨S4352x2048, .bf16⟩
  | .hbm, ⟨19, _⟩ => ⟨S4352x2048, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== OutDgrad.lean ====
abbrev S4352x2048 : Shape := ⟨2, ![4352, 2048]⟩
abbrev S2048x2048 : Shape := ⟨2, ![2048, 2048]⟩
abbrev S4x512x2048 : Shape := ⟨3, ![4, 512, 2048]⟩
abbrev S544x2048 : Shape := ⟨2, ![544, 2048]⟩
abbrev S1x512x2048 : Shape := ⟨3, ![1, 512, 2048]⟩
abbrev S544x512 : Shape := ⟨2, ![544, 512]⟩
abbrev S512x2048 : Shape := ⟨2, ![512, 2048]⟩

abbrev nBuf : Space → Nat
  | .hbm => 4
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S2048x2048, .bf16⟩
  | .hbm, ⟨2, _⟩ => ⟨S4x512x2048, .bf16⟩
  | .hbm, ⟨3, _⟩ => ⟨S4352x2048, .bf16⟩
  | .local _ .vmem, ⟨0, _⟩ => ⟨S544x2048, .bf16⟩
  | .local _ .vmem, ⟨1, _⟩ => ⟨S544x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S544x512, .bf16⟩
  | .local _ .vmem, ⟨5, _⟩ => ⟨S544x512, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S544x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutDgradRefIdeal.lean ====
abbrev S4352x2048 : Shape := ⟨2, ![4352, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x2048, .bf16⟩
  | .hbm, ⟨2, _⟩ => ⟨S2048x2048, .f32⟩
  | .hbm, ⟨3, _⟩ => ⟨S4352x2048, .f32⟩
  | .hbm, ⟨4, _⟩ => ⟨S_, .f32⟩
  | .hbm, ⟨5, _⟩ => ⟨S4352x2048, .f32⟩
  | .hbm, ⟨6, _⟩ => ⟨S4352x2048, .f32⟩
  | .hbm, ⟨7, _⟩ => ⟨S4352x2048, .f32⟩
  | .hbm, ⟨8, _⟩ => ⟨S4352x2048, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutWgrad.lean ====
abbrev S4352x2048 : Shape := ⟨2, ![4352, 2048]⟩
abbrev S2048x2048 : Shape := ⟨2, ![2048, 2048]⟩
abbrev S2176x1024 : Shape := ⟨2, ![2176, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S4352x2048, .bf16⟩
  | .hbm, ⟨2, _⟩ => ⟨S2048x2048, .bf16⟩
  | .local _ .vmem, ⟨0, _⟩ => ⟨S2176x1024, .bf16⟩
  | .local _ .vmem, ⟨1, _⟩ => ⟨S2176x1024, .bf16⟩
  | .local _ .vmem, ⟨2, _⟩ => ⟨S2176x1024, .bf16⟩
  | .local _ .vmem, ⟨3, _⟩ => ⟨S2176x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWgradRefIdeal.lean ====
abbrev S4352x2048 : Shape := ⟨2, ![4352, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x2048, .bf16⟩
  | .hbm, ⟨2, _⟩ => ⟨S4352x2048, .f32⟩
  | .hbm, ⟨3, _⟩ => ⟨S4352x2048, .f32⟩
  | .hbm, ⟨4, _⟩ => ⟨S_, .f32⟩
  | .hbm, ⟨5, _⟩ => ⟨S2048x2048, .f32⟩
  | .hbm, ⟨6, _⟩ => ⟨S4352x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AttnFwd.lean ====
abbrev S4352x1536 : Shape := ⟨2, ![4352, 1536]⟩
abbrev S4352x512 : Shape := ⟨2, ![4352, 512]⟩
abbrev S_ : Shape := ⟨0, ![]⟩
abbrev S12 : Shape := ⟨1, ![12]⟩
abbrev S4352x2048 : Shape := ⟨2, ![4352, 2048]⟩
abbrev S12x4352x1 : Shape := ⟨3, ![12, 4352, 1]⟩
abbrev S256x384 : Shape := ⟨2, ![256, 384]⟩
abbrev S4352x128 : Shape := ⟨2, ![4352, 128]⟩
abbrev S3x256x1 : Shape := ⟨3, ![3, 256, 1]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S1x256x1 : Shape := ⟨3, ![1, 256, 1]⟩
abbrev S256x4352 : Shape := ⟨2, ![256, 4352]⟩

abbrev nBuf : Space → Nat
  | .hbm => 8
  | .vmem => 10
  | .smem => 1
  | _ => 0

abbrev bufTy : (tb : Table) → Fin (tcTables nBuf tb) → BufTy
  | .hbm, ⟨0, _⟩ => ⟨S4352x1536, .bf16⟩
  | .hbm, ⟨1, _⟩ => ⟨S4352x512, .bf16⟩
  | .hbm, ⟨2, _⟩ => ⟨S4352x512, .bf16⟩
  | .hbm, ⟨3, _⟩ => ⟨S_, .f32⟩
  | .hbm, ⟨4, _⟩ => ⟨S12, .f32⟩
  | .hbm, ⟨5, _⟩ => ⟨S4352x2048, .bf16⟩
  | .hbm, ⟨6, _⟩ => ⟨S12x4352x1, .f32⟩
  | .hbm, ⟨7, _⟩ => ⟨S4352x1536, .bf16⟩
  | .local _ .vmem, ⟨0, _⟩ => ⟨S256x384, .bf16⟩
  | .local _ .vmem, ⟨1, _⟩ => ⟨S256x384, .bf16⟩
  | .local _ .vmem, ⟨2, _⟩ => ⟨S4352x128, .bf16⟩
  | .local _ .vmem, ⟨3, _⟩ => ⟨S4352x128, .bf16⟩
  | .local _ .vmem, ⟨4, _⟩ => ⟨S4352x128, .bf16⟩
  | .local _ .vmem, ⟨5, _⟩ => ⟨S4352x128, .bf16⟩
  | .local _ .vmem, ⟨6, _⟩ => ⟨S256x384, .bf16⟩
  | .local _ .vmem, ⟨7, _⟩ => ⟨S256x384, .bf16⟩
  | .local _ .vmem, ⟨8, _⟩ => ⟨S3x256x1, .f32⟩
  | .local _ .vmem, ⟨9, _⟩ => ⟨S3x256x1, .f32⟩
  | .local _ .smem, ⟨0, _⟩ => ⟨S12, .f32⟩
  | _, _ => ⟨S4352x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 17], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4352x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnFwdRefIdeal.lean ====
abbrev S4352x1536 : Shape := ⟨2, ![4352, 1536]⟩
abbrev S4352x512 : Shape := ⟨2, ![4352, 512]⟩
abbrev S4352x4x3x128 : Shape := ⟨4, ![4352, 4, 3, 128]⟩
abbrev S4352x4x128 : Shape := ⟨3, ![4352, 4, 128]⟩
abbrev S256x4x3x128 : Shape := ⟨4, ![256, 4, 3, 128]⟩
abbrev S256x4x128 : Shape := ⟨3, ![256, 4, 128]⟩
abbrev S4x256x256x3 : Shape := ⟨4, ![4, 256, 256, 3]⟩
abbrev S4x3x256x256 : Shape := ⟨4, ![4, 3, 256, 256]⟩
abbrev S_ : Shape := ⟨0, ![]⟩
abbrev S4x3x256 : Shape := ⟨3, ![4, 3, 256]⟩
abbrev S4x3x256x1 : Shape := ⟨4, ![4, 3, 256, 1]⟩
abbrev S4x128x3x256 : Shape := ⟨4, ![4, 128, 3, 256]⟩
abbrev S4096x4x3x128 : Shape := ⟨4, ![4096, 4, 3, 128]⟩
abbrev S4x4352x4096x3 : Shape := ⟨4, ![4, 4352, 4096, 3]⟩
abbrev S4x3x4096x4352 : Shape := ⟨4, ![4, 3, 4096, 4352]⟩
abbrev S4x3x4096 : Shape := ⟨3, ![4, 3, 4096]⟩
abbrev S4x3x4096x1 : Shape := ⟨4, ![4, 3, 4096, 1]⟩
abbrev S4x128x3x4096 : Shape := ⟨4, ![4, 128, 3, 4096]⟩
abbrev S4x3x4352x1 : Shape := ⟨4, ![4, 3, 4352, 1]⟩
abbrev S12x4352x1 : Shape := ⟨3, ![12, 4352, 1]⟩

abbrev nBuf : Space → Nat
  | .hbm => 52
  | .vmem => 0
  | .smem => 0
  | _ => 0

abbrev bufTy : (tb : Table) → Fin (tcTables nBuf tb) → BufTy
  | .hbm, ⟨0, _⟩ => ⟨S4352x1536, .bf16⟩
  | .hbm, ⟨1, _⟩ => ⟨S4352x512, .bf16⟩
  | .hbm, ⟨2, _⟩ => ⟨S4352x512, .bf16⟩
  | .hbm, ⟨3, _⟩ => ⟨S4352x1536, .f32⟩
  | .hbm, ⟨4, _⟩ => ⟨S4352x512, .f32⟩
  | .hbm, ⟨5, _⟩ => ⟨S4352x512, .f32⟩
  | .hbm, ⟨6, _⟩ => ⟨S4352x4x3x128, .f32⟩
  | .hbm, ⟨7, _⟩ => ⟨S4352x4x128, .f32⟩
  | .hbm, ⟨8, _⟩ => ⟨S4352x4x128, .f32⟩
  | .hbm, ⟨9, _⟩ => ⟨S256x4x3x128, .f32⟩
  | .hbm, ⟨10, _⟩ => ⟨S256x4x128, .f32⟩
  | .hbm, ⟨11, _⟩ => ⟨S256x4x128, .f32⟩
  | .hbm, ⟨12, _⟩ => ⟨S4x256x256x3, .f32⟩
  | .hbm, ⟨13, _⟩ => ⟨S4x3x256x256, .f32⟩
  | .hbm, ⟨14, _⟩ => ⟨S_, .f32⟩
  | .hbm, ⟨15, _⟩ => ⟨S4x3x256, .f32⟩
  | .hbm, ⟨16, _⟩ => ⟨S4x3x256x1, .f32⟩
  | .hbm, ⟨17, _⟩ => ⟨S4x3x256x256, .f32⟩
  | .hbm, ⟨18, _⟩ => ⟨S4x3x256x256, .f32⟩
  | .hbm, ⟨19, _⟩ => ⟨S4x3x256x256, .f32⟩
  | .hbm, ⟨20, _⟩ => ⟨S_, .f32⟩
  | .hbm, ⟨21, _⟩ => ⟨S4x3x256, .f32⟩
  | .hbm, ⟨22, _⟩ => ⟨S4x3x256x1, .f32⟩
  | .hbm, ⟨23, _⟩ => ⟨S4x3x256x256, .f32⟩
  | .hbm, ⟨24, _⟩ => ⟨S4x3x256x256, .f32⟩
  | .hbm, ⟨25, _⟩ => ⟨S4x128x3x256, .f32⟩
  | .hbm, ⟨26, _⟩ => ⟨S256x4x3x128, .f32⟩
  | .hbm, ⟨27, _⟩ => ⟨S4x3x256x1, .f32⟩
  | .hbm, ⟨28, _⟩ => ⟨S4x3x256x1, .f32⟩
  | .hbm, ⟨29, _⟩ => ⟨S4096x4x3x128, .f32⟩
  | .hbm, ⟨30, _⟩ => ⟨S4x4352x4096x3, .f32⟩
  | .hbm, ⟨31, _⟩ => ⟨S4x3x4096x4352, .f32⟩
  | .hbm, ⟨32, _⟩ => ⟨S_, .f32⟩
  | .hbm, ⟨33, _⟩ => ⟨S4x3x4096, .f32⟩
  | .hbm, ⟨34, _⟩ => ⟨S4x3x4096x1, .f32⟩
  | .hbm, ⟨35, _⟩ => ⟨S4x3x4096x4352, .f32⟩
  | .hbm, ⟨36, _⟩ => ⟨S4x3x4096x4352, .f32⟩
  | .hbm, ⟨37, _⟩ => ⟨S4x3x4096x4352, .f32⟩
  | .hbm, ⟨38, _⟩ => ⟨S_, .f32⟩
  | .hbm, ⟨39, _⟩ => ⟨S4x3x4096, .f32⟩
  | .hbm, ⟨40, _⟩ => ⟨S4x3x4096x1, .f32⟩
  | .hbm, ⟨41, _⟩ => ⟨S4x3x4096x4352, .f32⟩
  | .hbm, ⟨42, _⟩ => ⟨S4x3x4096x4352, .f32⟩
  | .hbm, ⟨43, _⟩ => ⟨S4x128x3x4096, .f32⟩
  | .hbm, ⟨44, _⟩ => ⟨S4096x4x3x128, .f32⟩
  | .hbm, ⟨45, _⟩ => ⟨S4x3x4096x1, .f32⟩
  | .hbm, ⟨46, _⟩ => ⟨S4x3x4096x1, .f32⟩
  | .hbm, ⟨47, _⟩ => ⟨S4352x4x3x128, .f32⟩
  | .hbm, ⟨48, _⟩ => ⟨S4352x1536, .f32⟩
  | .hbm, ⟨49, _⟩ => ⟨S4352x1536, .bf16⟩
  | .hbm, ⟨50, _⟩ => ⟨S4x3x4352x1, .f32⟩
  | .hbm, ⟨51, _⟩ => ⟨S12x4352x1, .f32⟩
  | _, _ => ⟨S4352x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_1 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩

abbrev nD : Nat := 1
abbrev τ : Topo := Topo.v7x

variable {F : FTy → Type} [FloatOps F]
-- ==== Proof.Softmax.lean ====
/- Softmax over finitely many real scores, in the extended reals: one row of the attention's gradient written from the
   saved logarithm of the denominator, and the same row written from the denominator itself. -/
module

public import Idealize.ShloMosaic.PureOps.Ideal

@[expose] public section

noncomputable section

namespace Cert.Softmax

open Idealize.ShloMosaic

/-- An extended real that is a real number. -/
def IsReal (x : EReal) : Prop := ∃ r : ℝ, x = (r : EReal)

theorem IsReal.coe (r : ℝ) : IsReal (r : EReal) := ⟨r, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers, taken in the extended reals, is their sum. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem IsReal.sum {ι : Type*} (s : Finset ι) {f : ι → EReal} (h : ∀ i, IsReal (f i)) : IsReal (∑ i ∈ s, f i) := by
  choose g hg using h
  exact ⟨∑ i ∈ s, g i, by rw [← coe_sum]; exact Finset.sum_congr rfl fun i _ => hg i⟩

theorem IsReal.max {x y : EReal} (hx : IsReal x) (hy : IsReal y) : IsReal (max x y) := by
  rcases max_choice x y with h | h <;> rw [h] <;> assumption

/-- The largest of finitely many real numbers, at least one, folded from minus infinity, is a real number. -/
theorem IsReal.fold_max {ι : Type*} (s : Finset ι) (hs : s.Nonempty) {f : ι → EReal} (h : ∀ i, IsReal (f i)) :
    IsReal (s.fold Max.max ⊥ f) := by
  classical
  induction hs using Finset.Nonempty.cons_induction with
  | singleton a => simpa using h a
  | cons a s ha _ ih => rw [Finset.fold_cons]; exact (h a).max ih

theorem exp_coe (x : ℝ) : Ideal.exp (x : EReal) = ((Real.exp x : ℝ) : EReal) := rfl

theorem log_coe {x : ℝ} (h : 0 < x) : Ideal.log (x : EReal) = ((Real.log x : ℝ) : EReal) := by
  show (if x ≤ 0 then (⊥ : EReal) else ((Real.log x : ℝ) : EReal)) = _
  rw [if_neg (not_le.mpr h)]

theorem div_coe_coe (x : ℝ) {y : ℝ} (h : y ≠ 0) : Ideal.div (x : EReal) (y : EReal) = ((x / y : ℝ) : EReal) := by
  rw [Ideal.div_coe h, ← EReal.coe_mul, mul_one_div]

theorem IsReal.div {x y : EReal} (hx : IsReal x) (hy : IsReal y) (h0 : y ≠ 0) : IsReal (Ideal.div x y) := by
  obtain ⟨a, rfl⟩ := hx
  obtain ⟨b, rfl⟩ := hy
  exact ⟨a / b, div_coe_coe a (by exact_mod_cast h0)⟩

variable {ι δ : Type*} [Fintype ι] [Nonempty ι] [Fintype δ]

/-- A score's exponential against the logarithm of the denominator is the exponential over the denominator. -/
theorem prob (s : ι → EReal) (M : EReal) (hs : ∀ n, IsReal (s n)) (hM : IsReal M) (n : ι) :
    Ideal.exp (s n - (M + Ideal.log (∑ k, Ideal.exp (s k - M))))
      = Ideal.div (Ideal.exp (s n - M)) (∑ k, Ideal.exp (s k - M)) := by
  choose s' hs' using hs
  obtain ⟨M', rfl⟩ := hM
  have he : ∀ k, Ideal.exp (s k - (M' : EReal)) = ((Real.exp (s' k - M') : ℝ) : EReal) := fun k => by
    rw [hs' k, ← EReal.coe_sub, exp_coe]
  have hL : ∑ k, Ideal.exp (s k - (M' : EReal)) = ((∑ k, Real.exp (s' k - M') : ℝ) : EReal) := by
    rw [← coe_sum]; exact Finset.sum_congr rfl fun k _ => he k
  have hpos : 0 < ∑ k, Real.exp (s' k - M') := Finset.sum_pos (fun k _ => Real.exp_pos _) Finset.univ_nonempty
  rw [hL, he n, div_coe_coe _ hpos.ne', log_coe hpos, ← EReal.coe_add, hs' n, ← EReal.coe_sub, exp_coe,
    ← sub_sub, Real.exp_sub, Real.exp_log hpos]

/-- One element of the scores' gradient: the probability times the difference between the value's product with the
    output's gradient and the output's own product with it, against the derivative of the quotient. -/
theorem dscore (s : ι → EReal) (M : EReal) (v : ι → δ → EReal) (w : δ → EReal) (hs : ∀ n, IsReal (s n)) (hM : IsReal M)
    (hv : ∀ n d, IsReal (v n d)) (hw : ∀ d, IsReal (w d)) (n : ι) :
    Ideal.exp (s n - (M + Ideal.log (∑ k, Ideal.exp (s k - M))))
        * (∑ d, w d * v n d - ∑ d, w d * ∑ k, Ideal.div (Ideal.exp (s k - M)) (∑ j, Ideal.exp (s j - M)) * v k d)
      = (Ideal.div (∑ d, w d * v n d) (∑ k, Ideal.exp (s k - M))
          + -(∑ k, (∑ d, w d * v k d) * Ideal.div 1 ((∑ j, Ideal.exp (s j - M)) * (∑ j, Ideal.exp (s j - M)))
              * Ideal.exp (s k - M))) * Ideal.exp (s n - M) := by
  rw [prob s M hs hM n]
  choose s' hs' using hs
  obtain ⟨M', rfl⟩ := hM
  choose v' hv' using hv
  choose w' hw' using hw
  have he : ∀ k, Ideal.exp (s k - (M' : EReal)) = ((Real.exp (s' k - M') : ℝ) : EReal) := fun k => by
    rw [hs' k, ← EReal.coe_sub, exp_coe]
  simp only [he, hv', hw', coe_sum, ← EReal.coe_mul]
  set e : ι → ℝ := fun k => Real.exp (s' k - M') with hedef
  have hpos : 0 < ∑ k, e k := Finset.sum_pos (fun k _ => Real.exp_pos _) Finset.univ_nonempty
  change Ideal.div (e n : EReal) ((∑ k, e k : ℝ) : EReal) * (_ - ∑ d, (w' d : EReal) * ∑ k, Ideal.div (e k : EReal) ((∑ j, e j : ℝ) : EReal) * (v' k d : EReal))
    = (Ideal.div _ ((∑ k, e k : ℝ) : EReal) + -∑ k, ((∑ d, w' d * v' k d : ℝ) : EReal) * Ideal.div ((1 : ℝ) : EReal) (((∑ j, e j) * (∑ j, e j) : ℝ) : EReal) * (e k : EReal)) * (e n : EReal)
  generalize hL : (∑ k, e k) = L at *
  simp only [div_coe_coe _ hpos.ne', div_coe_coe _ (mul_pos hpos hpos).ne', ← EReal.coe_mul, coe_sum, ← EReal.coe_sub,
    ← EReal.coe_neg, ← EReal.coe_add]
  congr 1
  have h1 : ∑ d, w' d * ∑ k, e k / L * v' k d = (∑ k, (∑ d, w' d * v' k d) * e k) / L := by
    simp only [Finset.mul_sum, Finset.sum_mul, Finset.sum_div]
    rw [Finset.sum_comm]
    exact Finset.sum_congr rfl fun k _ => Finset.sum_congr rfl fun d _ => by ring
  have h2 : ∑ k, (∑ d, w' d * v' k d) * (1 / (L * L)) * e k = (∑ k, (∑ d, w' d * v' k d) * e k) / (L * L) := by
    rw [Finset.sum_div]
    exact Finset.sum_congr rfl fun k _ => by ring
  rw [h1, h2]
  field_simp
  ring

end Cert.Softmax

end
-- ==== Proof.Finite.lean ====
/- What the preconditions say of one array: each of its elements is a real number. -/
module

public import proofs.«01_k».proof.Proof.Softmax
public import Idealize.ShloMosaic.Lib.ReduceAll
public import Idealize.ShloMosaic.Lib.Pointwise

@[expose] public section

noncomputable section

namespace Cert.Finite

open Idealize.ShloMosaic

/-- An element whose absolute value lies below plus infinity is a real number. -/
theorem real_of_abs_lt (x : EReal) (h : max x (-x) < ⊤) : Softmax.IsReal x := by
  induction x with
  | bot => simp at h
  | coe r => exact ⟨r, rfl⟩
  | top => simp at h

/-- The pattern of plus infinity, in either float type. -/
theorem inf_bf16 : Ideal.ofBits .bf16 0x7F80#16 = ⊤ := by simp [Ideal.ofBits, Ideal.ieee]

theorem inf_f32 : Ideal.ofBits .f32 0x7F800000#32 = ⊤ := by simp [Ideal.ofBits, Ideal.ieee]

theorem real_of_lt (x : EReal) (h : BitVec.ofBool (decide (max x (-x) < ⊤)) = 1#1) : Softmax.IsReal x := by
  refine real_of_abs_lt x ?_
  by_contra hn
  simp [hn] at h

/-- The comparison of an array's absolute values with plus infinity, in either float type, read at an index. -/
theorem bf16 {s : Shape} (b : (⟨0, ![]⟩ : Shape).BroadcastsInDim s (![] : Fin 0 → Fin s.rank)) (x : FVec Ideal s .bf16) (i : s.Idx)
    (h : cmpf .olt (Host.absf x) (broadcastInDim s ![] b (constant (F := Ideal) ⟨0, ![]⟩ .bf16 0x7F80#16)) i = 1#1) : Softmax.IsReal (x i) := by
  pointwise at h
  exact real_of_lt _ (inf_bf16 ▸ h)

theorem f32 {s : Shape} (b : (⟨0, ![]⟩ : Shape).BroadcastsInDim s (![] : Fin 0 → Fin s.rank)) (x : FVec Ideal s .f32) (i : s.Idx)
    (h : cmpf .olt (Host.absf x) (broadcastInDim s ![] b (constant (F := Ideal) ⟨0, ![]⟩ .f32 0x7F800000#32)) i = 1#1) : Softmax.IsReal (x i) := by
  pointwise at h
  exact real_of_lt _ (inf_f32 ▸ h)

end Cert.Finite

end
-- ==== Proof.Quarters.lean ====
/- A sum over an axis cut into four equal parts. -/
module

public import Idealize.ShloMosaic.PureOps.Ideal

@[expose] public section

namespace Cert.Quarters

/-- A sum over `N = 4 n` terms is the sum over its four quarters in order; `b` and `c` are where the last two begin. -/
theorem sum_quarters {M : Type*} [AddCommMonoid M] (n b c N : ℕ) (hb : b = 2 * n) (hc : c = 3 * n) (hN : N = 4 * n) (f : Fin N → M) :
    ∑ k, f k = ∑ x : Fin n, f ⟨x.val, by omega⟩ + ∑ x : Fin n, f ⟨n + x.val, by omega⟩
      + ∑ x : Fin n, f ⟨b + x.val, by omega⟩ + ∑ x : Fin n, f ⟨c + x.val, by omega⟩ := by
  subst hb hc
  have e : N = n + n + n + n := by omega
  subst e
  rw [Fin.sum_univ_add, Fin.sum_univ_add, Fin.sum_univ_add]
  refine congrArg₂ _ (congrArg₂ _ (congrArg₂ _ rfl rfl) ?_) ?_
  · exact Finset.sum_congr rfl fun x _ => congrArg f (Fin.ext (by simp; omega))
  · exact Finset.sum_congr rfl fun x _ => congrArg f (Fin.ext (by simp; omega))

end Cert.Quarters
-- ==== Proof.GateDgrad.lean ====
/- The gradient of the gate product in its input: what the kernel's result array holds, against the reference's product. -/
module

public import proofs.«01_k».proof.Proof.Gen.GateDgradIdeal.Value
public import proofs.«01_k».proof.Proof.Gen.GateDgradRefIdeal.Read
public import proofs.«01_k».proof.Proof.Quarters
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GateDgradIdeal.Product

open Cert.GateDgradIdeal Cert.GateDgradIdeal.Gen

variable (m : (ℓ : Loc nD τ sig) → Buf (Elt Ideal) ℓ)

/-- The block of each window at a grid point: rows by the second coordinate, columns by the first. -/
theorem idx : ∀ t : Fin cfg0.N, win0_0.index t = ![(grid0.coords t 1).val, 0] ∧ win0_1.index t = ![0, (grid0.coords t 0).val, 0]
    ∧ win0_2.index t = ![(grid0.coords t 1).val, (grid0.coords t 0).val] :=
  (by decide +kernel : ∀ t : Fin grid0.N, _)

/-- The product of a gradient with the transpose of a weight, at an index. -/
def prod (dy : Vec Ideal S4352x5632 .bf16) (w : Vec Ideal S2048x5632 .bf16) : Vec Ideal S4352x2048 .f32 :=
  fun i => ∑ k : Fin 5632, dy (ix2 (i 0) k) * w (ix2 (i 1) k)

/-- The kernel's result array is the product. -/
theorem final (c : Dev nD) : (Gen.dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise [k0_pay1, prod]
  rw [Quarters.sum_quarters 1408 2816 4224 5632 rfl rfl rfl]
  blk_point [iblk, V, idx t]

/-- The reference's result is the product. -/
theorem reference (dy : Vec Ideal S4352x5632 .bf16) (w : Vec Ideal S2048x5632 .bf16) :
    Cert.GateDgradRefIdeal.Read.val_main_v4 (F := Ideal) dy w = prod dy w := by
  funext i
  idx_vars i
  pointwise [Cert.GateDgradRefIdeal.Read.val_main_v4, Cert.GateDgradRefIdeal.Read.val_main_v1, Cert.GateDgradRefIdeal.Read.val_main_v0, prod]

end Cert.GateDgradIdeal.Product

end
-- ==== Proof.UpDgrad.lean ====
/- The gradient of the up product in its input, added to what is there: what the kernel's result array holds, against the reference's. -/
module

public import proofs.«01_k».proof.Proof.Gen.UpDgradIdeal.Value
public import proofs.«01_k».proof.Proof.Gen.UpDgradRefIdeal.Read
public import proofs.«01_k».proof.Proof.Quarters
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.UpDgradIdeal.Product

open Cert.UpDgradIdeal Cert.UpDgradIdeal.Gen

variable (m : (ℓ : Loc nD τ sig) → Buf (Elt Ideal) ℓ)

/-- The block of each window at a grid point: rows by the second coordinate, columns by the first. -/
theorem idx : ∀ t : Fin cfg0.N, win0_0.index t = ![(grid0.coords t 1).val, 0] ∧ win0_1.index t = ![0, (grid0.coords t 0).val, 0]
    ∧ win0_2.index t = ![(grid0.coords t 1).val, (grid0.coords t 0).val] ∧ win0_3.index t = ![(grid0.coords t 1).val, (grid0.coords t 0).val] :=
  (by decide +kernel : ∀ t : Fin grid0.N, _)

/-- An array plus the product of a gradient with the transpose of a weight, at an index. -/
def prod (dy : Vec Ideal S4352x5632 .bf16) (w : Vec Ideal S2048x5632 .bf16) (a : Vec Ideal S4352x2048 .f32) : Vec Ideal S4352x2048 .f32 :=
  fun i => a i + ∑ k : Fin 5632, dy (ix2 (i 0) k) * w (ix2 (i 1) k)

/-- The kernel's result array is that sum. -/
theorem final (c : Dev nD) : (Gen.dats m 0 c).arrAt 3 cfg0.N
    = prod (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  idx_vars y
  pointwise [k0_pay1, prod]
  rw [add_comm]
  refine congrArg₂ (· + ·) ?_ ?_
  · blk_point [iblk, V, idx t]
  rw [Quarters.sum_quarters 1408 2816 4224 5632 rfl rfl rfl]
  blk_point [iblk, V, idx t]

/-- The reference's result is that sum. -/
theorem reference (dy : Vec Ideal S4352x5632 .bf16) (w : Vec Ideal S2048x5632 .bf16) (a : Vec Ideal S4352x2048 .f32) :
    Cert.UpDgradRefIdeal.Read.val_main_v5 (F := Ideal) dy w a = prod dy w a := by
  funext i
  idx_vars i
  pointwise [Cert.UpDgradRefIdeal.Read.val_main_v5, Cert.UpDgradRefIdeal.Read.val_main_v4, Cert.UpDgradRefIdeal.Read.val_main_v1, Cert.UpDgradRefIdeal.Read.val_main_v0, prod]

end Cert.UpDgradIdeal.Product

end
-- ==== Proof.GateWgrad.lean ====
/- The gradient of the gate product in its weight: what the kernel's result array holds, against the reference's. -/
module

public import proofs.«01_k».proof.Proof.Gen.GateWgradIdeal.Value
public import proofs.«01_k».proof.Proof.Gen.GateWgradRefIdeal.Read
public import proofs.«01_k».proof.Proof.Quarters
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GateWgradIdeal.Product

open Cert.GateWgradIdeal Cert.GateWgradIdeal.Gen

variable (m : (ℓ : Loc nD τ sig) → Buf (Elt Ideal) ℓ)

/-- The block of each window at a grid point, whose number counts the two halves of the rows fastest. -/
theorem idx : ∀ t : Fin cfg0.N, win0_0.index t = ![t.val % 2, t.val / 2 % 2] ∧ win0_1.index t = ![t.val % 2, t.val / 4]
    ∧ win0_2.index t = ![t.val / 4, t.val / 2 % 2, 0] :=
  (by decide +kernel : ∀ t : Fin grid0.N, _)

/-- The product of the transpose of the input with the output's gradient, its columns in four groups, at an index. -/
def prod (x : Vec Ideal S4352x2048 .bf16) (dy : Vec Ideal S4352x5632 .bf16) : Vec Ideal S4x2048x1408 .bf16 :=
  fun i => ∑ k : Fin 4352, x (ix2 k (i 1)) * dy (ix2 k ⟨1408 * (i 0).val + (i 2).val, by have h0 : (i 0).val < 4 := (i 0).isLt; have h2 : (i 2).val < 1408 := (i 2).isLt; omega⟩)

/-- The kernel's result array is the product. -/
theorem final (c : Dev nD) : (Gen.dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  have hm : t.val % 2 = 1 := (flush0_2 t).mp hf
  blk_simp
  rw [after0_2]
  rw [outsAt0_B m c t (by omega) hm]
  have hp := Nat.lt_of_le_of_lt (Nat.sub_le t.val 1) t.isLt
  rw [outsAt0_A m c ⟨t.val - 1, hp⟩ (by show (t.val - 1) % 2 = 0; omega) (by show ¬ (t.val - 1) % 2 = 1; omega)]
  frame_out
  idx_vars y
  rw [read_unread_whole]
  pointwise [k0_pay1, k0_pay2, k0_pay3, k0_pay4, prod]
  rw [Fin.sum_univ_two_halves 2176 2176 rfl]
  refine congrArg₂ (· + ·) ?_ ?_
  · blk_point [iblk, V, idx ⟨t.val - 1, hp⟩, idx t]
  · blk_point [iblk, V, idx t]

/-- The reference's result is the product. -/
theorem reference (x : Vec Ideal S4352x2048 .bf16) (dy : Vec Ideal S4352x5632 .bf16) :
    Cert.GateWgradRefIdeal.Read.val_main_v8 (F := Ideal) x dy = prod x dy := by
  funext i
  idx_vars i
  pointwise [Cert.GateWgradRefIdeal.Read.val_main_v8, Cert.GateWgradRefIdeal.Read.val_main_v7, Cert.GateWgradRefIdeal.Read.val_main_v6, Cert.GateWgradRefIdeal.Read.val_main_v5, Cert.GateWgradRefIdeal.Read.val_main_v4, Cert.GateWgradRefIdeal.Read.val_main_v1, Cert.GateWgradRefIdeal.Read.val_main_v0, prod]
  refine Finset.sum_congr rfl fun k _ => (mul_comm _ _).trans (congrArg₂ (· * ·) rfl (congrArg dy (congrArg (ix2 k) (Fin.ext ?_))))
  show i0.val * 1408 + i2.val = 1408 * i0.val + i2.val
  omega

end Cert.GateWgradIdeal.Product

end
-- ==== Proof.DownWgrad.lean ====
/- The gradient of the down product in its weight: what the kernel's result array holds, against the reference's. -/
module

public import proofs.«01_k».proof.Proof.Gen.DownWgradIdeal.Value
public import proofs.«01_k».proof.Proof.Gen.DownWgradRefIdeal.Read
public import proofs.«01_k».proof.Proof.Quarters
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DownWgradIdeal.Product

open Cert.DownWgradIdeal Cert.DownWgradIdeal.Gen

variable (m : (ℓ : Loc nD τ sig) → Buf (Elt Ideal) ℓ)

/-- The block of each window at a grid point, whose number counts the two halves of the rows fastest. -/
theorem idx : ∀ t : Fin cfg0.N, win0_0.index t = ![t.val % 2, t.val / 2 % 4] ∧ win0_1.index t = ![t.val % 2, t.val / 8]
    ∧ win0_2.index t = ![t.val / 2 % 4, t.val / 8] :=
  (by decide +kernel : ∀ t : Fin grid0.N, _)

/-- The product of the transpose of the input with the output's gradient, at an index. -/
def prod (x : Vec Ideal S4352x5632 .bf16) (dy : Vec Ideal S4352x2048 .bf16) : Vec Ideal S5632x2048 .bf16 :=
  fun i => ∑ k : Fin 4352, x (ix2 k (i 0)) * dy (ix2 k (i 1))

/-- The kernel's result array is the product. -/
theorem final (c : Dev nD) : (Gen.dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  have hm : t.val % 2 = 1 := (flush0_2 t).mp hf
  blk_simp
  rw [after0_2]
  rw [outsAt0_B m c t (by omega) hm]
  have hp := Nat.lt_of_le_of_lt (Nat.sub_le t.val 1) t.isLt
  rw [outsAt0_A m c ⟨t.val - 1, hp⟩ (by show (t.val - 1) % 2 = 0; omega) (by show ¬ (t.val - 1) % 2 = 1; omega)]
  frame_out
  idx_vars y
  rw [read_unread_whole]
  pointwise [k0_pay1, k0_pay2, k0_pay3, k0_pay4, prod]
  rw [Fin.sum_univ_two_halves 2176 2176 rfl]
  refine congrArg₂ (· + ·) ?_ ?_
  · blk_point [iblk, V, idx ⟨t.val - 1, hp⟩, idx t]
  · blk_point [iblk, V, idx t]

/-- The reference's result is the product. -/
theorem reference (x : Vec Ideal S4352x5632 .bf16) (dy : Vec Ideal S4352x2048 .bf16) :
    Cert.DownWgradRefIdeal.Read.val_main_v6 (F := Ideal) x dy = prod x dy := by
  funext i
  idx_vars i
  pointwise [Cert.DownWgradRefIdeal.Read.val_main_v6, Cert.DownWgradRefIdeal.Read.val_main_v5, Cert.DownWgradRefIdeal.Read.val_main_v4, Cert.DownWgradRefIdeal.Read.val_main_v1, Cert.DownWgradRefIdeal.Read.val_main_v0, prod]
  exact Finset.sum_congr rfl fun _ _ => mul_comm _ _

end Cert.DownWgradIdeal.Product

end
-- ==== Proof.DownFwd.lean ====
/- The down product with its gated residual: what the kernel's two result arrays hold, against the reference's. -/
module

public import proofs.«01_k».proof.Proof.Gen.DownFwdIdeal.Value
public import proofs.«01_k».proof.Proof.Gen.DownFwdRefIdeal.Read
public import proofs.«01_k».proof.Proof.Quarters
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DownFwdIdeal.Product

open Cert.DownFwdIdeal Cert.DownFwdIdeal.Gen

variable (m : (ℓ : Loc nD τ sig) → Buf (Elt Ideal) ℓ)

/-- The block of each window at a grid point: rows by the second coordinate, columns by the first. -/
theorem idx : ∀ t : Fin cfg0.N, win0_0.index t = ![(grid0.coords t 1).val, 0] ∧ win0_1.index t = ![0, (grid0.coords t 0).val]
    ∧ win0_2.index t = ![(grid0.coords t 1).val, (grid0.coords t 0).val] ∧ win0_3.index t = ![0, 0, (grid0.coords t 0).val]
    ∧ win0_4.index t = ![(grid0.coords t 1).val, (grid0.coords t 0).val] ∧ win0_5.index t = ![(grid0.coords t 1).val, (grid0.coords t 0).val] :=
  (by decide +kernel : ∀ t : Fin grid0.N, _)

/-- The product of the activations with the weight, at an index. -/
def prod (a : Vec Ideal S4352x5632 .bf16) (w : Vec Ideal S5632x2048 .bf16) : Vec Ideal S4352x2048 .bf16 :=
  fun i => ∑ k : Fin 5632, a (ix2 (i 0) k) * w (ix2 k (i 1))

/-- The residual plus the product times its gate: the first gate for the first 256 rows, the second for the others. -/
def gated (a : Vec Ideal S4352x5632 .bf16) (w : Vec Ideal S5632x2048 .bf16) (h : Vec Ideal S4352x2048 .f32) (g : Vec Ideal S2x1x2048 .f32) :
    Vec Ideal S4352x2048 .f32 :=
  fun i => h i + (if (i 0).val < 256 then g (ix3 0 0 (i 1)) else g (ix3 1 0 (i 1))) * ∑ k : Fin 5632, a (ix2 (i 0) k) * w (ix2 k (i 1))

/-- The kernel's first result array is the product. -/
theorem final4 (c : Dev nD) : (Gen.dats m 0 c).arrAt 4 cfg0.N
    = prod (m ((c : Thread nD τ).loc main_arg0)) (m ((c : Thread nD τ).loc main_arg1)) := by
  refine (dats m 0 c).arrAt_eq_of_covers 4 _ (by decide +kernel) fun t hf y => ?_
  blk_simp
  rw [after0_4]
  frame_out
  idx_vars y
  pointwise [k0_pay2, k0_pay1, prod]
  blk_point [iblk, V, idx t]

/-- A row's number compared with 256, the row given by its block and its place in the block. -/
theorem mask (p q : ℕ) (hp : p < 8) (hq : q < 544) :
    IntOp.cmpi CmpIPredicate.slt (IntOp.addi (Scalar.muli (BitVec.ofNat 32 p) 544#32) (BitVec.ofNat 32 q)) 256#32
      = if 544 * p + q < 256 then 1#1 else 0#1 := by
  have h := WordCmp.cmpi_slt_mul_add_ofNat (w := 32) p 544 q 256 (by omega) (by omega)
  rw [Nat.mul_comm] at h
  exact h

/-- The kernel's second result array is the gated residual. -/
theorem final5 (c : Dev nD) : (Gen.dats m 0 c).arrAt 5 cfg0.N
    = gated (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  idx_vars y
  pointwise [k0_pay3, k0_pay1, gated]
  have hr : (((View.whole main_v2_1).slice (win0_5.rect t)).emb (ix2 y0 y1) 0).val = 544 * (grid0.coords t 1).val + y0.val := by
    show win0_5.index t (0 : Fin 2) * 544 + 1 * y0.val = _
    rw [(idx t).2.2.2.2.2]
    show (grid0.coords t 1).val * 544 + 1 * y0.val = _
    omega
  have hc : (grid0.coords t 1).val < 8 := (grid0.coords t 1).isLt
  have hy := y0.isLt
  rw [hr, mask _ _ (by omega) (by omega)]
  refine congrArg₂ (· + ·) ?_ ?_
  · blk_point [iblk, V, idx t]
  refine congrArg₂ (· * ·) ?_ ?_
  · split
    · blk_point [iblk, V, idx t]
    · blk_point [iblk, V, idx t]
  blk_point [iblk, V, idx t]

/-- The reference's first result is the product. -/
theorem reference14 (a : Vec Ideal S4352x5632 .bf16) (w : Vec Ideal S5632x2048 .bf16) :
    Cert.DownFwdRefIdeal.Read.val_main_v14 (F := Ideal) a w = prod a w := by
  funext i
  idx_vars i
  pointwise [Cert.DownFwdRefIdeal.Read.val_main_v14, Cert.DownFwdRefIdeal.Read.val_main_v2, Cert.DownFwdRefIdeal.Read.val_main_v1, Cert.DownFwdRefIdeal.Read.val_main_v0, prod]

/-- The reference's second result is the gated residual. -/
theorem reference15 (a : Vec Ideal S4352x5632 .bf16) (w : Vec Ideal S5632x2048 .bf16) (h : Vec Ideal S4352x2048 .f32) (g : Vec Ideal S2x1x2048 .f32) :
    Cert.DownFwdRefIdeal.Read.val_main_v15 (F := Ideal) a w h g = gated a w h g := by
  funext i
  idx_vars i
  pointwise [Cert.DownFwdRefIdeal.Read.val_main_v15, Cert.DownFwdRefIdeal.Read.val_main_v13, Cert.DownFwdRefIdeal.Read.val_main_v12, Cert.DownFwdRefIdeal.Read.val_main_v11, Cert.DownFwdRefIdeal.Read.val_main_v10, Cert.DownFwdRefIdeal.Read.val_main_v9, Cert.DownFwdRefIdeal.Read.val_main_v8, Cert.DownFwdRefIdeal.Read.val_main_v7, Cert.DownFwdRefIdeal.Read.val_main_v6, Cert.DownFwdRefIdeal.Read.val_main_v5, Cert.DownFwdRefIdeal.Read.val_main_v4, Cert.DownFwdRefIdeal.Read.val_main_v3, Cert.DownFwdRefIdeal.Read.val_main_v2, Cert.DownFwdRefIdeal.Read.val_main_v1, Cert.DownFwdRefIdeal.Read.val_main_v0, gated]
  refine congrArg₂ (· + ·) rfl ?_
  split
  · rfl
  · rename_i h0
    have e : (⟨256 + (i0.val - 256), by have := i0.isLt; omega⟩ : Fin 4352) = i0 := Fin.ext (by show 256 + (i0.val - 256) = i0.val; omega)
    rw [e]

end Cert.DownFwdIdeal.Product

end
-- ==== Proof.Silu.lean ====
/- The gated activation's derivative over real numbers, in the extended reals: the sigmoid written with a hyperbolic
   tangent, as the kernel writes it, against the sigmoid written with an exponential and a quotient. -/
module

public import Idealize.ShloMosaic.PureOps.Ideal
public import Idealize.ShloMosaic.Lib.IdealHost
public import proofs.«01_k».proof.Proof.Softmax

@[expose] public section

noncomputable section

namespace Cert.Silu

open Idealize.ShloMosaic Cert.Softmax

/-- The constant one half, as both programs write it. -/
abbrev half : EReal := Ideal.ofBits .f32 1056964608#32

theorem half_eq : half = ((1 / 2 : ℝ) : EReal) := by
  simp [half, Ideal.ofBits, Ideal.ieee, -EReal.coe_mul]
  norm_num

/-- The sigmoid with a hyperbolic tangent. -/
def byTanh (x : EReal) : EReal := half * Ideal.tanh (half * x) + half

/-- The sigmoid with an exponential. -/
def byExp (x : EReal) : EReal := Ideal.div 1 (1 + Ideal.exp (-x))

theorem tanh_half (x : ℝ) : 1 / 2 * Real.tanh (1 / 2 * x) + 1 / 2 = 1 / (1 + Real.exp (-x)) := by
  have h1 : Real.exp (1 / 2 * x) ≠ 0 := (Real.exp_pos _).ne'
  have h2 : Real.exp (-x) = Real.exp (-(1 / 2 * x)) * Real.exp (-(1 / 2 * x)) := by
    rw [← Real.exp_add]; congr 1; ring
  rw [h2, Real.tanh_eq_sinh_div_cosh, Real.sinh_eq, Real.cosh_eq, Real.exp_neg]
  have h3 := Real.exp_pos (1 / 2 * x)
  field_simp
  ring

theorem byTanh_coe (x : ℝ) : byTanh (x : EReal) = ((1 / (1 + Real.exp (-x)) : ℝ) : EReal) := by
  show half * Ideal.tanh (half * (x : EReal)) + half = _
  rw [half_eq, ← EReal.coe_mul]
  show ((1 / 2 : ℝ) : EReal) * ((Real.tanh (1 / 2 * x) : ℝ) : EReal) + _ = _
  rw [← EReal.coe_mul, ← EReal.coe_add, tanh_half]

theorem byExp_coe (x : ℝ) : byExp (x : EReal) = ((1 / (1 + Real.exp (-x)) : ℝ) : EReal) := by
  show Ideal.div 1 (1 + Ideal.exp (-(x : EReal))) = _
  rw [← EReal.coe_neg, exp_coe, ← EReal.coe_one, ← EReal.coe_add,
    div_coe_coe _ (add_pos one_pos (Real.exp_pos _)).ne']

/-- The gradient in the gate: the output's gradient times the stored derivative, against the product rule's two terms. -/
theorem gate {d u g : EReal} (hd : IsReal d) (hu : IsReal u) (hg : IsReal g) :
    d * (u * (byTanh g * (1 + g * (1 - byTanh g)))) = d * u * byExp g + g * (d * u) * (byExp g * (1 - byExp g)) := by
  obtain ⟨d, rfl⟩ := hd
  obtain ⟨u, rfl⟩ := hu
  obtain ⟨g, rfl⟩ := hg
  rw [byTanh_coe, byExp_coe]
  generalize 1 / (1 + Real.exp (-g)) = s
  simp only [← EReal.coe_one, ← EReal.coe_sub, ← EReal.coe_mul, ← EReal.coe_add]
  congr 1
  ring

/-- The stored derivative in the gate, against the product rule's two terms at the output's gradient one. -/
theorem gate_one {u g : EReal} (hu : IsReal u) (hg : IsReal g) :
    u * (byTanh g * (1 + g * (1 - byTanh g))) = u * byExp g + g * u * (byExp g * (1 - byExp g)) := by
  simpa using gate (IsReal.coe 1) hu hg

/-- The gradient in the other factor. -/
theorem up (d : EReal) {g : EReal} (hg : IsReal g) : d * (g * byTanh g) = g * byExp g * d := by
  obtain ⟨g, rfl⟩ := hg
  rw [byTanh_coe, byExp_coe, mul_comm]

end Cert.Silu

end
-- ==== Proof.DownBwd.lean ====
/- The gradient of the down product carried through the gated activation: what the kernel's two result arrays hold. -/
module

public import proofs.«01_k».proof.Proof.Gen.DownBwdIdeal.Value
public import proofs.«01_k».proof.Proof.Gen.DownBwdRefIdeal.Read
public import proofs.«01_k».proof.Proof.Silu
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DownBwdIdeal.Product

open Cert.DownBwdIdeal Cert.DownBwdIdeal.Gen

variable (m : (ℓ : Loc nD τ sig) → Buf (Elt Ideal) ℓ)

/-- The block of each window at a grid point: rows by the second coordinate, columns by the first. -/
theorem idx : ∀ t : Fin cfg0.N, win0_0.index t = ![(grid0.coords t 1).val, 0] ∧ win0_1.index t = ![(grid0.coords t 0).val, 0, 0]
    ∧ win0_2.index t = ![(grid0.coords t 1).val, (grid0.coords t 0).val] ∧ win0_3.index t = ![(grid0.coords t 1).val, (grid0.coords t 0).val]
    ∧ win0_4.index t = ![(grid0.coords t 1).val, (grid0.coords t 0).val] ∧ win0_5.index t = ![(grid0.coords t 1).val, (grid0.coords t 0).val] :=
  (by decide +kernel : ∀ t : Fin grid0.N, _)

/-- The output's gradient times the transpose of the weight, at an index. -/
def prod (df : Vec Ideal S4352x2048 .bf16) (w : Vec Ideal S5632x2048 .bf16) : Vec Ideal S4352x5632 .f32 :=
  fun i => ∑ k : Fin 2048, df (ix2 (i 0) k) * w (ix2 (i 1) k)

/-- The activation's derivative in the gate's argument, as the kernel's host code writes it. -/
def gateFactor (g u : Vec Ideal S4352x5632 .f32) : Vec Ideal S4352x5632 .bf16 :=
  fun i => u i * (Silu.byTanh (g i) * (1 + g i * (1 - Silu.byTanh (g i))))

/-- The activation's derivative in the other factor. -/
def upFactor (g : Vec Ideal S4352x5632 .f32) : Vec Ideal S4352x5632 .bf16 :=
  fun i => g i * Silu.byTanh (g i)

/-- The gradient in the gate's argument, with the sigmoid the kernel's host code writes. -/
def gate (df : Vec Ideal S4352x2048 .bf16) (w : Vec Ideal S5632x2048 .bf16) (g u : Vec Ideal S4352x5632 .f32) : Vec Ideal S4352x5632 .bf16 :=
  fun i => prod df w i * gateFactor g u i

/-- The gradient in the other factor. -/
def up (df : Vec Ideal S4352x2048 .bf16) (w : Vec Ideal S5632x2048 .bf16) (g : Vec Ideal S4352x5632 .f32) : Vec Ideal S4352x5632 .bf16 :=
  fun i => prod df w i * upFactor g i

/-- The first factor that the host code prepares. -/
theorem V_gate (c : Dev nD) : V m c main_v14 = gateFactor (m ((c : Thread nD τ).loc main_arg2)) (m ((c : Thread nD τ).loc main_arg3)) := by
  funext i
  entry_read
  idx_vars i
  pointwise [gateFactor, Silu.byTanh]

/-- The second. -/
theorem V_up (c : Dev nD) : V m c main_v16 = upFactor (m ((c : Thread nD τ).loc main_arg2)) := by
  funext i
  entry_read
  idx_vars i
  pointwise [upFactor, Silu.byTanh]

/-- The kernel's first result array. -/
theorem final4 (c : Dev nD) : (Gen.dats m 0 c).arrAt 4 cfg0.N
    = gate (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  idx_vars y
  pointwise [k0_pay2, k0_pay1, gate]
  refine congrArg₂ (· * ·) ?_ ?_
  · show _ = ∑ k : Fin 2048, _
    blk_point [iblk, V, idx t]
  rw [← V_gate m]
  blk_point [iblk, idx t]

/-- The kernel's second result array. -/
theorem final5 (c : Dev nD) : (Gen.dats m 0 c).arrAt 5 cfg0.N
    = up (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  frame_out
  idx_vars y
  pointwise [k0_pay3, k0_pay1, up]
  refine congrArg₂ (· * ·) ?_ ?_
  · show _ = ∑ k : Fin 2048, _
    blk_point [iblk, V, idx t]
  rw [← V_up m]
  blk_point [iblk, idx t]

/-- A reference result. -/
theorem reference_gate (df : Vec Ideal S4352x2048 .bf16) (wd : Vec Ideal S5632x2048 .bf16) (g u : Vec Ideal S4352x5632 .f32)
    (hd : ∀ i, Softmax.IsReal (df i)) (hw : ∀ i, Softmax.IsReal (wd i)) (hg : ∀ i, Softmax.IsReal (g i)) (hu : ∀ i, Softmax.IsReal (u i)) :
    Cert.DownBwdRefIdeal.Read.val_main_v9 (F := Ideal) df wd g u = gate df wd g u := by
  funext i
  have hG := hg i
  have hU := hu i
  have hD : Softmax.IsReal (prod df wd i) := Softmax.IsReal.sum _ fun _ => (hd _).mul (hw _)
  revert hG hU hD
  idx_vars i
  intro hG hU hD
  pointwise [Cert.DownBwdRefIdeal.Read.val_main_v9, Cert.DownBwdRefIdeal.Read.val_main_v0, Cert.DownBwdRefIdeal.Read.val_main_call0_v0, Cert.DownBwdRefIdeal.Read.val_main_call0_v1, Cert.DownBwdRefIdeal.Read.val_main_call0_cst, Cert.DownBwdRefIdeal.Read.val_main_call0_v2, Cert.DownBwdRefIdeal.Read.val_main_call0_v3, Cert.DownBwdRefIdeal.Read.val_main_call0_cst_0, Cert.DownBwdRefIdeal.Read.val_main_call0_v4, Cert.DownBwdRefIdeal.Read.val_main_v1_2, Cert.DownBwdRefIdeal.Read.val_main_call0_cst_1, Cert.DownBwdRefIdeal.Read.val_main_call0_v6, Cert.DownBwdRefIdeal.Read.val_main_call0_v7, Cert.DownBwdRefIdeal.Read.val_main_v1_1, Cert.DownBwdRefIdeal.Read.val_main_v1_0, Cert.DownBwdRefIdeal.Read.val_main_v2, Cert.DownBwdRefIdeal.Read.val_main_v3, Cert.DownBwdRefIdeal.Read.val_main_v4, Cert.DownBwdRefIdeal.Read.val_main_v5, Cert.DownBwdRefIdeal.Read.val_main_v6, Cert.DownBwdRefIdeal.Read.val_main_v7, Cert.DownBwdRefIdeal.Read.val_main_call1_v0, Cert.DownBwdRefIdeal.Read.val_main_call1_v1, Cert.DownBwdRefIdeal.Read.val_main_call1_v2, Cert.DownBwdRefIdeal.Read.val_main_v8, gate]
  exact (Silu.gate hD hU hG).symm

/-- A reference result. -/
theorem reference_up (df : Vec Ideal S4352x2048 .bf16) (wd : Vec Ideal S5632x2048 .bf16) (g u : Vec Ideal S4352x5632 .f32)
    (hd : ∀ i, Softmax.IsReal (df i)) (hw : ∀ i, Softmax.IsReal (wd i)) (hg : ∀ i, Softmax.IsReal (g i)) (hu : ∀ i, Softmax.IsReal (u i)) :
    Cert.DownBwdRefIdeal.Read.val_main_v10 (F := Ideal) df wd g = up df wd g := by
  funext i
  have hG := hg i
  have hU := hu i
  have hD : Softmax.IsReal (prod df wd i) := Softmax.IsReal.sum _ fun _ => (hd _).mul (hw _)
  revert hG hU hD
  idx_vars i
  intro hG hU hD
  pointwise [Cert.DownBwdRefIdeal.Read.val_main_v10, Cert.DownBwdRefIdeal.Read.val_main_v0, Cert.DownBwdRefIdeal.Read.val_main_call0_v0, Cert.DownBwdRefIdeal.Read.val_main_call0_v1, Cert.DownBwdRefIdeal.Read.val_main_call0_cst, Cert.DownBwdRefIdeal.Read.val_main_call0_v2, Cert.DownBwdRefIdeal.Read.val_main_call0_v3, Cert.DownBwdRefIdeal.Read.val_main_call0_cst_0, Cert.DownBwdRefIdeal.Read.val_main_call0_v4, Cert.DownBwdRefIdeal.Read.val_main_v1_2, Cert.DownBwdRefIdeal.Read.val_main_call0_cst_1, Cert.DownBwdRefIdeal.Read.val_main_call0_v6, Cert.DownBwdRefIdeal.Read.val_main_call0_v7, Cert.DownBwdRefIdeal.Read.val_main_v1_1, Cert.DownBwdRefIdeal.Read.val_main_v1_0, Cert.DownBwdRefIdeal.Read.val_main_v2, Cert.DownBwdRefIdeal.Read.val_main_v3, Cert.DownBwdRefIdeal.Read.val_main_v4, Cert.DownBwdRefIdeal.Read.val_main_v5, Cert.DownBwdRefIdeal.Read.val_main_v6, Cert.DownBwdRefIdeal.Read.val_main_v7, Cert.DownBwdRefIdeal.Read.val_main_call1_v0, Cert.DownBwdRefIdeal.Read.val_main_call1_v1, Cert.DownBwdRefIdeal.Read.val_main_call1_v2, Cert.DownBwdRefIdeal.Read.val_main_v8, up]
  exact (Silu.up (prod df wd (ix2 i0 i1)) hG).symm

end Cert.DownBwdIdeal.Product

end
-- ==== Proof.FfnIn.lean ====
/- The gated activation's two products: what the kernel's three result arrays hold. -/
module

public import proofs.«01_k».proof.Proof.Gen.FfnInIdeal.Value
public import proofs.«01_k».proof.Proof.Gen.FfnInRefIdeal.Read
public import proofs.«01_k».proof.Proof.Silu
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnInIdeal.Product

open Cert.FfnInIdeal Cert.FfnInIdeal.Gen

variable (m : (ℓ : Loc nD τ sig) → Buf (Elt Ideal) ℓ)

/-- The block of each window at a grid point: rows by the second coordinate, columns by the first. -/
theorem idx : ∀ t : Fin cfg0.N, win0_0.index t = ![(grid0.coords t 1).val, 0] ∧ win0_1.index t = ![(grid0.coords t 0).val, 0, 0]
    ∧ win0_2.index t = ![(grid0.coords t 0).val, 0, 0] ∧ win0_3.index t = ![(grid0.coords t 1).val, (grid0.coords t 0).val]
    ∧ win0_4.index t = ![(grid0.coords t 1).val, (grid0.coords t 0).val] ∧ win0_5.index t = ![(grid0.coords t 1).val, (grid0.coords t 0).val] :=
  (by decide +kernel : ∀ t : Fin grid0.N, _)

/-- The product of the input with a weight, at an index. -/
def prod (x : Vec Ideal S4352x2048 .bf16) (w : Vec Ideal S2048x5632 .bf16) : Vec Ideal S4352x5632 .f32 :=
  fun i => ∑ k : Fin 2048, x (ix2 (i 0) k) * w (ix2 k (i 1))

/-- The activation's derivative in the gate's argument, with the kernel's sigmoid. -/
def gate (x : Vec Ideal S4352x2048 .bf16) (wg wu : Vec Ideal S2048x5632 .bf16) : Vec Ideal S4352x5632 .bf16 :=
  fun i => prod x wu i * (Silu.byTanh (prod x wg i) * (1 + prod x wg i * (1 - Silu.byTanh (prod x wg i))))

/-- The activation's derivative in the other factor. -/
def up (x : Vec Ideal S4352x2048 .bf16) (wg : Vec Ideal S2048x5632 .bf16) : Vec Ideal S4352x5632 .bf16 :=
  fun i => prod x wg i * Silu.byTanh (prod x wg i)

/-- The activation. -/
def act (x : Vec Ideal S4352x2048 .bf16) (wg wu : Vec Ideal S2048x5632 .bf16) : Vec Ideal S4352x5632 .bf16 :=
  fun i => prod x wg i * Silu.byTanh (prod x wg i) * prod x wu i

/-- The kernel's first result array. -/
theorem final3 (c : Dev nD) : (Gen.dats m 0 c).arrAt 3 cfg0.N
    = gate (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  idx_vars y
  pointwise [k0_pay5, k0_pay3, k0_pay2, k0_pay1, gate, prod, Silu.byTanh]
  blk_point [iblk, V, idx t]

/-- The kernel's second result array. -/
theorem final4 (c : Dev nD) : (Gen.dats m 0 c).arrAt 4 cfg0.N
    = up (m ((c : Thread nD τ).loc main_arg0)) (m ((c : Thread nD τ).loc main_arg1)) := by
  refine (dats m 0 c).arrAt_eq_of_covers 4 _ (by decide +kernel) fun t hf y => ?_
  blk_simp
  rw [after0_4]
  frame_out
  idx_vars y
  pointwise [k0_pay6, k0_pay4, k0_pay3, k0_pay1, up, prod, Silu.byTanh]
  blk_point [iblk, V, idx t]

/-- The kernel's third result array. -/
theorem final5 (c : Dev nD) : (Gen.dats m 0 c).arrAt 5 cfg0.N
    = act (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  frame_out
  idx_vars y
  pointwise [k0_pay7, k0_pay4, k0_pay3, k0_pay2, k0_pay1, act, prod, Silu.byTanh]
  blk_point [iblk, V, idx t]

/-- A product's element is a real number where the arrays' elements are. -/
theorem real_prod {x : Vec Ideal S4352x2048 .bf16} {w : Vec Ideal S2048x5632 .bf16} (hx : ∀ i, Softmax.IsReal (x i)) (hw : ∀ i, Softmax.IsReal (w i))
    (i : S4352x5632.Idx) : Softmax.IsReal (prod x w i) :=
  Softmax.IsReal.sum _ fun _ => (hx _).mul (hw _)

/-- A reference result. -/
theorem reference_gate (x : Vec Ideal S4352x2048 .bf16) (wg wu : Vec Ideal S2048x5632 .bf16)
    (hx : ∀ i, Softmax.IsReal (x i)) (hg : ∀ i, Softmax.IsReal (wg i)) (hu : ∀ i, Softmax.IsReal (wu i)) :
    Cert.FfnInRefIdeal.Read.val_main_v11 (F := Ideal) x wg wu = gate x wg wu := by
  funext i
  have hG := real_prod hx hg i
  have hU := real_prod hx hu i
  revert hG hU
  idx_vars i
  intro hG hU
  pointwise [Cert.FfnInRefIdeal.Read.val_main_v11, Cert.FfnInRefIdeal.Read.val_main_v2, Cert.FfnInRefIdeal.Read.val_main_v1, Cert.FfnInRefIdeal.Read.val_main_v0, Cert.FfnInRefIdeal.Read.val_main_call0_v0, Cert.FfnInRefIdeal.Read.val_main_call0_v1, Cert.FfnInRefIdeal.Read.val_main_call0_cst, Cert.FfnInRefIdeal.Read.val_main_call0_v2, Cert.FfnInRefIdeal.Read.val_main_call0_v3, Cert.FfnInRefIdeal.Read.val_main_call0_cst_0, Cert.FfnInRefIdeal.Read.val_main_call0_v4, Cert.FfnInRefIdeal.Read.val_main_v5_2, Cert.FfnInRefIdeal.Read.val_main_call0_cst_1, Cert.FfnInRefIdeal.Read.val_main_call0_v6, Cert.FfnInRefIdeal.Read.val_main_call0_v7, Cert.FfnInRefIdeal.Read.val_main_v5_1, Cert.FfnInRefIdeal.Read.val_main_v5_0, Cert.FfnInRefIdeal.Read.val_main_v6, Cert.FfnInRefIdeal.Read.val_main_cst, Cert.FfnInRefIdeal.Read.val_main_v7, Cert.FfnInRefIdeal.Read.val_main_v8, Cert.FfnInRefIdeal.Read.val_main_v3, Cert.FfnInRefIdeal.Read.val_main_v4, Cert.FfnInRefIdeal.Read.val_main_v9, Cert.FfnInRefIdeal.Read.val_main_call1_v0, Cert.FfnInRefIdeal.Read.val_main_call1_v1, Cert.FfnInRefIdeal.Read.val_main_call1_v2, Cert.FfnInRefIdeal.Read.val_main_v10, gate]
  exact (Silu.gate_one hU hG).symm

/-- A reference result. -/
theorem reference_up (x : Vec Ideal S4352x2048 .bf16) (wg wu : Vec Ideal S2048x5632 .bf16)
    (hx : ∀ i, Softmax.IsReal (x i)) (hg : ∀ i, Softmax.IsReal (wg i)) (hu : ∀ i, Softmax.IsReal (wu i)) :
    Cert.FfnInRefIdeal.Read.val_main_v12 (F := Ideal) x wg = up x wg := by
  funext i
  have hG := real_prod hx hg i
  have hU := real_prod hx hu i
  revert hG hU
  idx_vars i
  intro hG hU
  pointwise [Cert.FfnInRefIdeal.Read.val_main_v12, Cert.FfnInRefIdeal.Read.val_main_v2, Cert.FfnInRefIdeal.Read.val_main_v1, Cert.FfnInRefIdeal.Read.val_main_v0, Cert.FfnInRefIdeal.Read.val_main_call0_v0, Cert.FfnInRefIdeal.Read.val_main_call0_v1, Cert.FfnInRefIdeal.Read.val_main_call0_cst, Cert.FfnInRefIdeal.Read.val_main_call0_v2, Cert.FfnInRefIdeal.Read.val_main_call0_v3, Cert.FfnInRefIdeal.Read.val_main_call0_cst_0, Cert.FfnInRefIdeal.Read.val_main_call0_v4, Cert.FfnInRefIdeal.Read.val_main_v5_2, Cert.FfnInRefIdeal.Read.val_main_call0_cst_1, Cert.FfnInRefIdeal.Read.val_main_call0_v6, Cert.FfnInRefIdeal.Read.val_main_call0_v7, Cert.FfnInRefIdeal.Read.val_main_v5_1, Cert.FfnInRefIdeal.Read.val_main_v5_0, Cert.FfnInRefIdeal.Read.val_main_v6, Cert.FfnInRefIdeal.Read.val_main_cst, Cert.FfnInRefIdeal.Read.val_main_v7, Cert.FfnInRefIdeal.Read.val_main_v8, Cert.FfnInRefIdeal.Read.val_main_v3, Cert.FfnInRefIdeal.Read.val_main_v4, Cert.FfnInRefIdeal.Read.val_main_v9, Cert.FfnInRefIdeal.Read.val_main_call1_v0, Cert.FfnInRefIdeal.Read.val_main_call1_v1, Cert.FfnInRefIdeal.Read.val_main_call1_v2, Cert.FfnInRefIdeal.Read.val_main_v10, up]
  have h := Silu.up 1 hG
  rw [one_mul, mul_one] at h
  exact h.symm

/-- A reference result. -/
theorem reference_act (x : Vec Ideal S4352x2048 .bf16) (wg wu : Vec Ideal S2048x5632 .bf16)
    (hx : ∀ i, Softmax.IsReal (x i)) (hg : ∀ i, Softmax.IsReal (wg i)) (hu : ∀ i, Softmax.IsReal (wu i)) :
    Cert.FfnInRefIdeal.Read.val_main_v13 (F := Ideal) x wg wu = act x wg wu := by
  funext i
  have hG := real_prod hx hg i
  have hU := real_prod hx hu i
  revert hG hU
  idx_vars i
  intro hG hU
  pointwise [Cert.FfnInRefIdeal.Read.val_main_v13, Cert.FfnInRefIdeal.Read.val_main_v2, Cert.FfnInRefIdeal.Read.val_main_v1, Cert.FfnInRefIdeal.Read.val_main_v0, Cert.FfnInRefIdeal.Read.val_main_call0_v0, Cert.FfnInRefIdeal.Read.val_main_call0_v1, Cert.FfnInRefIdeal.Read.val_main_call0_cst, Cert.FfnInRefIdeal.Read.val_main_call0_v2, Cert.FfnInRefIdeal.Read.val_main_call0_v3, Cert.FfnInRefIdeal.Read.val_main_call0_cst_0, Cert.FfnInRefIdeal.Read.val_main_call0_v4, Cert.FfnInRefIdeal.Read.val_main_v5_2, Cert.FfnInRefIdeal.Read.val_main_call0_cst_1, Cert.FfnInRefIdeal.Read.val_main_call0_v6, Cert.FfnInRefIdeal.Read.val_main_call0_v7, Cert.FfnInRefIdeal.Read.val_main_v5_1, Cert.FfnInRefIdeal.Read.val_main_v5_0, Cert.FfnInRefIdeal.Read.val_main_v6, Cert.FfnInRefIdeal.Read.val_main_cst, Cert.FfnInRefIdeal.Read.val_main_v7, Cert.FfnInRefIdeal.Read.val_main_v8, Cert.FfnInRefIdeal.Read.val_main_v3, Cert.FfnInRefIdeal.Read.val_main_v4, Cert.FfnInRefIdeal.Read.val_main_v9, Cert.FfnInRefIdeal.Read.val_main_call1_v0, Cert.FfnInRefIdeal.Read.val_main_call1_v1, Cert.FfnInRefIdeal.Read.val_main_call1_v2, Cert.FfnInRefIdeal.Read.val_main_v10, act]
  have h := Silu.up 1 hG
  rw [one_mul, mul_one] at h
  exact congrArg (· * prod x wu (ix2 i0 i1)) h.symm

end Cert.FfnInIdeal.Product

end
-- ==== Proof.FfnClaims.lean ====
/- The claims on the feed-forward layer's calls: what each kernel leaves is what its reference leaves. -/
module

public import proofs.«01_k».proof.Defs
public import proofs.«01_k».proof.Proof.Finite
public import proofs.«01_k».proof.Proof.GateDgrad
public import proofs.«01_k».proof.Proof.UpDgrad
public import proofs.«01_k».proof.Proof.GateWgrad
public import proofs.«01_k».proof.Proof.DownWgrad
public import proofs.«01_k».proof.Proof.DownFwd
public import proofs.«01_k».proof.Proof.DownBwd
public import proofs.«01_k».proof.Proof.FfnIn
public import proofs.«01_k».proof.Proof.Gen.GateDgradRefIdeal.Run
public import proofs.«01_k».proof.Proof.Gen.UpDgradRefIdeal.Run
public import proofs.«01_k».proof.Proof.Gen.GateWgradRefIdeal.Run
public import proofs.«01_k».proof.Proof.Gen.DownWgradRefIdeal.Run
public import proofs.«01_k».proof.Proof.Gen.DownFwdRefIdeal.Run
public import proofs.«01_k».proof.Proof.Gen.DownBwdRefIdeal.Run
public import proofs.«01_k».proof.Proof.Gen.FfnInRefIdeal.Run
public import Idealize.ShloMosaic.Lib.Claim

@[expose] public section

set_option maxRecDepth 16384

noncomputable section

open Idealize.ShloMosaic Idealize.ShloMosaic.TcCoe Idealize.SL.Sem

namespace Cert.FfnClaims

/-- The gradient in the input through one up-projection. -/
theorem gate_dgrad : Cert.algebraic_GateDgradIdeal_GateDgradRefIdeal := by
  pair_intro
  · run_from Cert.GateDgradIdeal.Value.run_blocks m g
  · run_from Cert.GateDgradRefIdeal.Value.run m' g'
    rw [Cert.GateDgradIdeal.Product.final m c]
    exact Cert.GateDgradIdeal.Product.reference _ _

/-- The same through the other, with the first one's result added. -/
theorem up_dgrad : Cert.algebraic_UpDgradIdeal_UpDgradRefIdeal := by
  pair_intro
  · run_from Cert.UpDgradIdeal.Value.run_blocks m g
  · run_from Cert.UpDgradRefIdeal.Value.run m' g'
    rw [Cert.UpDgradIdeal.Product.final m c]
    exact Cert.UpDgradIdeal.Product.reference _ _ _

/-- The gradient in an up-projection's weight. -/
theorem gate_wgrad : Cert.algebraic_GateWgradIdeal_GateWgradRefIdeal := by
  pair_intro
  · run_from Cert.GateWgradIdeal.Value.run_blocks m g
  · run_from Cert.GateWgradRefIdeal.Value.run m' g'
    rw [Cert.GateWgradIdeal.Product.final m c]
    exact Cert.GateWgradIdeal.Product.reference _ _

/-- The gradient in the down-projection's weight. -/
theorem down_wgrad : Cert.algebraic_DownWgradIdeal_DownWgradRefIdeal := by
  pair_intro
  · run_from Cert.DownWgradIdeal.Value.run_blocks m g
  · run_from Cert.DownWgradRefIdeal.Value.run m' g'
    rw [Cert.DownWgradIdeal.Product.final m c]
    exact Cert.DownWgradIdeal.Product.reference _ _

/-- The down-projection with its gated residual. -/
theorem down_fwd : Cert.algebraic_DownFwdIdeal_DownFwdRefIdeal := by
  pair_intro
  · run_from Cert.DownFwdIdeal.Value.run_blocks m g
  · run_from Cert.DownFwdRefIdeal.Value.run m' g'
    · exact (Cert.DownFwdIdeal.Product.reference14 _ _).trans (Cert.DownFwdIdeal.Product.final4 m c).symm
    · refine (Cert.DownFwdIdeal.Product.reference15 _ _ _ _).trans ?_
      rw [Cert.DownFwdIdeal.Product.final5 m c, (hagree c).2.2.2]

/-- What the precondition says of the arrays of the gated activation. -/
theorem ffn_in_real (x : Vec Ideal Cert.FfnInIdeal.S4352x2048 .bf16) (wg wu : Vec Ideal Cert.FfnInIdeal.S2048x5632 .bf16) [Cert.Pre_ffn_in_finite.Facts]
    (h : Cert.Pre_ffn_in_finite.fn (F := Ideal) x wg wu = fun _ => 1#1) :
    (∀ i, Softmax.IsReal (x i)) ∧ (∀ i, Softmax.IsReal (wg i)) ∧ ∀ i, Softmax.IsReal (wu i) := by
  have h0 := congrFun h (fun k => k.elim0)
  dsimp only [Cert.Pre_ffn_in_finite.fn] at h0
  obtain ⟨h1, h4⟩ := IntOp.andi_eq_one.1 h0
  obtain ⟨h2, h3⟩ := IntOp.andi_eq_one.1 h1
  exact ⟨fun i => Finite.bf16 _ _ i (Host.reduce_andi_all _ _ _ _ _ h2 i), fun i => Finite.bf16 _ _ i (Host.reduce_andi_all _ _ _ _ _ h3 i),
    fun i => Finite.bf16 _ _ i (Host.reduce_andi_all _ _ _ _ _ h4 i)⟩

/-- The gated activation's two products, and the two derivatives saved for the backward pass. -/
theorem ffn_in [Cert.Pre_ffn_in_finite.Facts] : Cert.algebraic_FfnInIdeal_FfnInRefIdeal_pre_ffn_in_finite := by
  pair_intro
  · run_from Cert.FfnInIdeal.Value.run_blocks m g
  · run_from Cert.FfnInRefIdeal.Value.run m' g'
    all_goals obtain ⟨hx, hg, hu⟩ := ffn_in_real _ _ _ (hpre c)
    · exact (Cert.FfnInIdeal.Product.reference_gate _ _ _ hx hg hu).trans (Cert.FfnInIdeal.Product.final3 m c).symm
    · exact (Cert.FfnInIdeal.Product.reference_up _ _ _ hx hg hu).trans (Cert.FfnInIdeal.Product.final4 m c).symm
    · exact (Cert.FfnInIdeal.Product.reference_act _ _ _ hx hg hu).trans (Cert.FfnInIdeal.Product.final5 m c).symm

/-- What the precondition says of the arrays of the gated activation's backward pass. -/
theorem down_bwd_real (df : Vec Ideal Cert.DownBwdIdeal.S4352x2048 .bf16) (wd : Vec Ideal Cert.DownBwdIdeal.S5632x2048 .bf16)
    (g u : Vec Ideal Cert.DownBwdIdeal.S4352x5632 .f32) [Cert.Pre_down_bwd_finite.Facts]
    (h : Cert.Pre_down_bwd_finite.fn (F := Ideal) df wd g u = fun _ => 1#1) :
    (∀ i, Softmax.IsReal (df i)) ∧ (∀ i, Softmax.IsReal (wd i)) ∧ (∀ i, Softmax.IsReal (g i)) ∧ ∀ i, Softmax.IsReal (u i) := by
  have h0 := congrFun h (fun k => k.elim0)
  dsimp only [Cert.Pre_down_bwd_finite.fn] at h0
  obtain ⟨h1, h4⟩ := IntOp.andi_eq_one.1 h0
  obtain ⟨h2, h3⟩ := IntOp.andi_eq_one.1 h1
  obtain ⟨h5, h6⟩ := IntOp.andi_eq_one.1 h2
  exact ⟨fun i => Finite.bf16 _ _ i (Host.reduce_andi_all _ _ _ _ _ h5 i), fun i => Finite.bf16 _ _ i (Host.reduce_andi_all _ _ _ _ _ h6 i),
    fun i => Finite.f32 _ _ i (Host.reduce_andi_all _ _ _ _ _ h3 i), fun i => Finite.f32 _ _ i (Host.reduce_andi_all _ _ _ _ _ h4 i)⟩

/-- The gradients in the activation's two factors. -/
theorem down_bwd [Cert.Pre_down_bwd_finite.Facts] : Cert.algebraic_DownBwdIdeal_DownBwdRefIdeal_pre_down_bwd_finite := by
  pair_intro
  · run_from Cert.DownBwdIdeal.Value.run_blocks m g
  · run_from Cert.DownBwdRefIdeal.Value.run m' g'
    all_goals obtain ⟨hd, hw, hg, hu⟩ := down_bwd_real _ _ _ _ (hpre c)
    · exact (Cert.DownBwdIdeal.Product.reference_gate _ _ _ _ hd hw hg hu).trans (Cert.DownBwdIdeal.Product.final4 m c).symm
    · exact (Cert.DownBwdIdeal.Product.reference_up _ _ _ _ hd hw hg hu).trans (Cert.DownBwdIdeal.Product.final5 m c).symm

end Cert.FfnClaims

end
-- ==== Proof.AttentionRow.lean ====
/- One row of the attention's backward pass, from the row's query, output, output gradient and logarithm of the
   denominator and from the keys and values: the probabilities and the scores' gradient; and what the kernel body's
   payloads hold in these terms. -/
module

public import proofs.«01_k».proof.Proof.Gen.KernelIdeal.Value
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Attention

open Cert.KernelIdeal Cert.KernelIdeal.Gen

/-- A row's probabilities: the exponential of its score less the logarithm of the denominator. -/
def prob {N : Nat} (q : Fin 128 → EReal) (k : Fin N → Fin 128 → EReal) (l : EReal) (n : Fin N) : EReal :=
  Ideal.exp (∑ d : Fin 128, q d * k n d - l)

/-- The gradient of a row's scores. -/
def grad {N : Nat} (q : Fin 128 → EReal) (k v : Fin N → Fin 128 → EReal) (w o : Fin 128 → EReal) (l : EReal) (n : Fin N) : EReal :=
  prob q k l n * (∑ d : Fin 128, w d * v n d - ∑ d : Fin 128, w d * o d)

/-- The rows of a block of two axes. -/
def row {N C : Nat} {e : EltTy} (x : Vec Ideal ⟨2, ![N, C]⟩ e) (n : Fin N) (d : Fin C) : Elt Ideal e := x (ix2 n d)

/-- The head of a query column's key and value group. -/
def kvOf (x : Fin 1536) : Fin 4 := ⟨x.val / 384, by omega⟩

/-- The place of a query column's head in its group. -/
def gOf (x : Fin 1536) : Fin 3 := ⟨x.val / 128 % 3, by omega⟩

/-- A query column's place in its head. -/
def dOf (x : Fin 1536) : Fin 128 := ⟨x.val % 128, by omega⟩

/-- One head's row of an array of queries. -/
def Qry (x : Vec Ideal S4352x1536 .bf16) (kv : Fin 4) (g : Fin 3) (R : Fin 4352) (d : Fin 128) : EReal :=
  x (ix2 R ⟨384 * kv.val + 128 * g.val + d.val, by omega⟩)

/-- One head's row of an array of outputs, which has more columns than the heads fill. -/
def Out (x : Vec Ideal S4352x2048 .bf16) (kv : Fin 4) (g : Fin 3) (R : Fin 4352) (d : Fin 128) : EReal :=
  x (ix2 R ⟨384 * kv.val + 128 * g.val + d.val, by omega⟩)

/-- One head's row of an array of keys or values. -/
def Key (x : Vec Ideal S4352x512 .bf16) (kv : Fin 4) (n : Fin 4352) (d : Fin 128) : EReal :=
  x (ix2 n ⟨128 * kv.val + d.val, by omega⟩)

/-- The first 256 keys. -/
def low (k : Fin 4352 → Fin 128 → EReal) (n : Fin 256) (d : Fin 128) : EReal := k ⟨n.val, by omega⟩ d

/-- One head's row of the logarithms of the denominators. -/
def Den (x : Vec Ideal S12x4352x1 .f32) (kv : Fin 4) (g : Fin 3) (R : Fin 4352) : EReal :=
  x (ix3 ⟨3 * kv.val + g.val, by omega⟩ R 0)

/-- A family of values over the heads, the queries and the keys: on the first 256 queries it is there only for the
    first 256 keys, and zero for the others. -/
def mask (f : Fin 256 → EReal) (h : Fin 4352 → EReal) (R n : Fin 4352) : EReal :=
  if R.val < 256 then (if hn : n.val < 256 then f ⟨n.val, hn⟩ else 0) else h n

/-- The queries' gradient from the scores' gradient. -/
def dqOf (G : Fin 4 → Fin 3 → Fin 4352 → Fin 4352 → EReal) (k : Vec Ideal S4352x512 .bf16) : Vec Ideal S4352x1536 .f32 :=
  fun i => ∑ n : Fin 4352, G (kvOf (i 1)) (gOf (i 1)) (i 0) n * Key k (kvOf (i 1)) n (dOf (i 1))

/-- The keys' gradient from the scores' gradient. -/
def dkOf (G : Fin 4 → Fin 3 → Fin 4352 → Fin 4352 → EReal) (q : Vec Ideal S4352x1536 .bf16) : Vec Ideal S4352x512 .f32 :=
  fun i => ∑ g : Fin 3, ∑ R : Fin 4352, G ⟨(i 1).val / 128, by have : (i 1).val < 512 := (i 1).isLt; omega⟩ g R (i 0)
    * Qry q ⟨(i 1).val / 128, by have : (i 1).val < 512 := (i 1).isLt; omega⟩ g R ⟨(i 1).val % 128, by omega⟩

/-- The values' gradient from the probabilities. -/
def dvOf (P : Fin 4 → Fin 3 → Fin 4352 → Fin 4352 → EReal) (w : Vec Ideal S4352x2048 .bf16) : Vec Ideal S4352x512 .f32 :=
  fun i => ∑ g : Fin 3, ∑ R : Fin 4352, P ⟨(i 1).val / 128, by have : (i 1).val < 512 := (i 1).isLt; omega⟩ g R (i 0)
    * Out w ⟨(i 1).val / 128, by have : (i 1).val < 512 := (i 1).isLt; omega⟩ g R ⟨(i 1).val % 128, by omega⟩

/-- The probabilities as the kernel has them. -/
def probs (q : Vec Ideal S4352x1536 .bf16) (k : Vec Ideal S4352x512 .bf16) (l : Vec Ideal S12x4352x1 .f32)
    (kv : Fin 4) (g : Fin 3) (R n : Fin 4352) : EReal :=
  mask (prob (Qry q kv g R) (low (Key k kv)) (Den l kv g R)) (prob (Qry q kv g R) (Key k kv) (Den l kv g R)) R n

/-- The scores' gradient as the kernel has it. -/
def grads (q : Vec Ideal S4352x1536 .bf16) (k v : Vec Ideal S4352x512 .bf16) (w o : Vec Ideal S4352x2048 .bf16)
    (l : Vec Ideal S12x4352x1 .f32) (kv : Fin 4) (g : Fin 3) (R n : Fin 4352) : EReal :=
  mask (grad (Qry q kv g R) (low (Key k kv)) (low (Key v kv)) (Out w kv g R) (Out o kv g R) (Den l kv g R))
    (grad (Qry q kv g R) (Key k kv) (Key v kv) (Out w kv g R) (Out o kv g R) (Den l kv g R)) R n

section Small
variable (k v q w o : Vec Ideal S256x128 .bf16) (l : Vec Ideal S1x256x1 .f32)

/-- The gradient of the scores against the first 256 keys. -/
theorem pay7 (r n : Fin 256) : k0_pay7 k v q w o l (ix2 r n) = grad (row q r) (row k) (row v) (row w r) (row o r) (l (ix3 0 r 0)) n := by
  pointwise [k0_pay7, k0_pay6, grad, prob, row]

/-- The queries' gradient against the first 256 keys. -/
theorem pay8 (r : Fin 256) (d : Fin 128) : k0_pay8 k v q w o l (ix2 r d)
    = ∑ n : Fin 256, grad (row q r) (row k) (row v) (row w r) (row o r) (l (ix3 0 r 0)) n * k (ix2 n d) := by
  pointwise [k0_pay8]
  exact Finset.sum_congr rfl fun n _ => congrArg (· * _) (pay7 k v q w o l r n)

/-- The keys' gradient, added to what was there. -/
theorem pay10 (a : Vec Ideal S256x128 .f32) (n : Fin 256) (d : Fin 128) : k0_pay10 k v q w o l a (ix2 n d)
    = a (ix2 n d) + ∑ r : Fin 256, grad (row q r) (row k) (row v) (row w r) (row o r) (l (ix3 0 r 0)) n * q (ix2 r d) := by
  pointwise [k0_pay10]
  exact congrArg (_ + ·) (Finset.sum_congr rfl fun r _ => congrArg (· * _) (pay7 k v q w o l r n))

/-- The values' gradient, added to what was there. -/
theorem pay11 (a : Vec Ideal S256x128 .f32) (n : Fin 256) (d : Fin 128) : k0_pay11 (k0_pay9 k q w l) a (ix2 n d)
    = a (ix2 n d) + ∑ r : Fin 256, prob (row q r) (row k) (l (ix3 0 r 0)) n * w (ix2 r d) := by
  pointwise [k0_pay11, k0_pay9, k0_pay6, prob, row]

end Small

section Large
variable (k v : Vec Ideal S4352x128 .bf16) (q w o : Vec Ideal S256x128 .bf16) (l : Vec Ideal S1x256x1 .f32)

/-- The gradient of the scores against all the keys. -/
theorem pay24 (r : Fin 256) (n : Fin 4352) : k0_pay24 k v q w o l (ix2 r n) = grad (row q r) (row k) (row v) (row w r) (row o r) (l (ix3 0 r 0)) n := by
  pointwise [k0_pay24, k0_pay23, grad, prob, row]

/-- The queries' gradient against all the keys. -/
theorem pay25 (r : Fin 256) (d : Fin 128) : k0_pay25 k v q w o l (ix2 r d)
    = ∑ n : Fin 4352, grad (row q r) (row k) (row v) (row w r) (row o r) (l (ix3 0 r 0)) n * k (ix2 n d) := by
  pointwise [k0_pay25]
  exact Finset.sum_congr rfl fun n _ => congrArg (· * _) (pay24 k v q w o l r n)

/-- The keys' gradient, added to what was there. -/
theorem pay27 (a : Vec Ideal S4352x128 .f32) (n : Fin 4352) (d : Fin 128) : k0_pay27 k v q w o l a (ix2 n d)
    = a (ix2 n d) + ∑ r : Fin 256, grad (row q r) (row k) (row v) (row w r) (row o r) (l (ix3 0 r 0)) n * q (ix2 r d) := by
  pointwise [k0_pay27]
  exact congrArg (_ + ·) (Finset.sum_congr rfl fun r _ => congrArg (· * _) (pay24 k v q w o l r n))

/-- The values' gradient, added to what was there. -/
theorem pay28 (a : Vec Ideal S4352x128 .f32) (n : Fin 4352) (d : Fin 128) : k0_pay28 (k0_pay26 k q w l) a (ix2 n d)
    = a (ix2 n d) + ∑ r : Fin 256, prob (row q r) (row k) (l (ix3 0 r 0)) n * w (ix2 r d) := by
  pointwise [k0_pay28, k0_pay26, k0_pay23, prob, row]

end Large

end Cert.KernelIdeal.Attention

end
-- ==== Proof.AttentionHead.lean ====
/- What one head of one block of 256 queries adds to the gradients, in the families over all the heads, queries and
   keys: with the first 256 keys alone a family is zero at the other keys, so that the sums run over all of them. -/
module

public import proofs.«01_k».proof.Proof.AttentionRow
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Attention

open Cert.KernelIdeal Cert.KernelIdeal.Gen

variable (q : Vec Ideal S4352x1536 .bf16) (k v : Vec Ideal S4352x512 .bf16) (w o : Vec Ideal S4352x2048 .bf16)
  (l : Vec Ideal S12x4352x1 .f32) (kv : Fin 4) (g : Fin 3)

/-- A family at one of the first 256 queries and one of the first 256 keys. -/
theorem mask_low {f : Fin 256 → EReal} {h : Fin 4352 → EReal} {R n : Fin 4352} (hR : R.val < 256) (hn : n.val < 256) :
    mask f h R n = f ⟨n.val, hn⟩ := by
  rw [mask, if_pos hR, dif_pos hn]

/-- A family at one of the first 256 queries and a key after the first 256. -/
theorem mask_zero {f : Fin 256 → EReal} {h : Fin 4352 → EReal} {R n : Fin 4352} (hR : R.val < 256) (hn : ¬ n.val < 256) :
    mask f h R n = 0 := by
  rw [mask, if_pos hR, dif_neg hn]

/-- A family at a query after the first 256. -/
theorem mask_high {f : Fin 256 → EReal} {h : Fin 4352 → EReal} {R n : Fin 4352} (hR : ¬ R.val < 256) :
    mask f h R n = h n := by
  rw [mask, if_neg hR]

/-- A sum over the first 256 keys is the sum over all the keys of the family that is zero at the others. -/
theorem sum_mask {f : Fin 256 → EReal} {h : Fin 4352 → EReal} {R : Fin 4352} (hR : R.val < 256) (b : Fin 4352 → EReal) :
    ∑ n : Fin 4352, mask f h R n * b n = ∑ n : Fin 256, f n * b ⟨n.val, by omega⟩ := by
  rw [Fin.sum_univ_two_halves 256 4096 rfl]
  refine (congrArg₂ (· + ·) (Finset.sum_congr rfl fun n _ => ?_) (Finset.sum_eq_zero fun n _ => ?_)).trans (add_zero _)
  · rw [mask_low hR n.isLt]
  · rw [mask_zero hR (by show ¬ 256 + n.val < 256; omega), zero_mul]

section Small
variable (K V : Vec Ideal S256x128 .bf16) (Q W O : Vec Ideal S256x128 .bf16) (L : Vec Ideal S1x256x1 .f32)
  (hK : row K = low (Key k kv))

include hK in
/-- One head's part of the queries' gradient for one of the first 256 queries. -/
theorem head_dq_low (hV : row V = low (Key v kv)) (r : Fin 256) (d : Fin 128) (R : Fin 4352) (hR : R.val < 256) (hQ : row Q r = Qry q kv g R)
    (hW : row W r = Out w kv g R) (hO : row O r = Out o kv g R) (hL : L (ix3 0 r 0) = Den l kv g R) :
    k0_pay8 K V Q W O L (ix2 r d) = ∑ n : Fin 4352, grads q k v w o l kv g R n * Key k kv n d := by
  rw [pay8, hQ, hK, hV, hW, hO, hL]
  refine Eq.trans ?_ (sum_mask hR _).symm
  exact Finset.sum_congr rfl fun n _ => congrArg (_ * ·) (congrFun (congrFun hK n) d)

include hK in
/-- One head's addition to the keys' gradient at one of the first 256 keys, from the first 256 queries. -/
theorem head_dk_low (hV : row V = low (Key v kv)) (n : Fin 256) (N : Fin 4352) (hN : N.val = n.val) (d : Fin 128)
    (R : Fin 256 → Fin 4352) (hR : ∀ r, (R r).val < 256) (hQ : ∀ r, row Q r = Qry q kv g (R r))
    (hW : ∀ r, row W r = Out w kv g (R r)) (hO : ∀ r, row O r = Out o kv g (R r)) (hL : ∀ r, L (ix3 0 r 0) = Den l kv g (R r))
    (a : Vec Ideal S256x128 .f32) :
    k0_pay10 K V Q W O L a (ix2 n d) = a (ix2 n d) + ∑ r : Fin 256, grads q k v w o l kv g (R r) N * Qry q kv g (R r) d := by
  rw [pay10]
  refine congrArg (_ + ·) (Finset.sum_congr rfl fun r _ => congrArg₂ (· * ·) ?_ (congrFun (hQ r) d))
  rw [hQ, hK, hV, hW, hO, hL, grads, mask_low (hR r) (by omega)]
  exact congrArg _ (Fin.ext hN.symm)

include hK in
/-- One head's addition to the values' gradient at one of the first 256 keys, from the first 256 queries. -/
theorem head_dv_low (n : Fin 256) (N : Fin 4352) (hN : N.val = n.val) (d : Fin 128)
    (R : Fin 256 → Fin 4352) (hR : ∀ r, (R r).val < 256) (hQ : ∀ r, row Q r = Qry q kv g (R r))
    (hW : ∀ r, row W r = Out w kv g (R r)) (hL : ∀ r, L (ix3 0 r 0) = Den l kv g (R r))
    (a : Vec Ideal S256x128 .f32) :
    k0_pay11 (k0_pay9 K Q W L) a (ix2 n d) = a (ix2 n d) + ∑ r : Fin 256, probs q k l kv g (R r) N * Out w kv g (R r) d := by
  rw [pay11]
  refine congrArg (_ + ·) (Finset.sum_congr rfl fun r _ => congrArg₂ (· * ·) ?_ (congrFun (hW r) d))
  rw [hQ, hK, hL, probs, mask_low (hR r) (by omega)]
  exact congrArg _ (Fin.ext hN.symm)

end Small

section Large
variable (K V : Vec Ideal S4352x128 .bf16) (Q W O : Vec Ideal S256x128 .bf16) (L : Vec Ideal S1x256x1 .f32)
  (hK : row K = Key k kv)

include hK in
/-- One head's part of the queries' gradient for a query after the first 256. -/
theorem head_dq_high (hV : row V = Key v kv) (r : Fin 256) (d : Fin 128) (R : Fin 4352) (hR : ¬ R.val < 256) (hQ : row Q r = Qry q kv g R)
    (hW : row W r = Out w kv g R) (hO : row O r = Out o kv g R) (hL : L (ix3 0 r 0) = Den l kv g R) :
    k0_pay25 K V Q W O L (ix2 r d) = ∑ n : Fin 4352, grads q k v w o l kv g R n * Key k kv n d := by
  rw [pay25, hQ, hK, hV, hW, hO, hL]
  refine Finset.sum_congr rfl fun n _ => congrArg₂ (· * ·) ?_ (congrFun (congrFun hK n) d)
  rw [grads, mask_high hR]

include hK in
/-- One head's addition to the keys' gradient, from a block of queries after the first 256. -/
theorem head_dk_high (hV : row V = Key v kv) (n : Fin 4352) (d : Fin 128)
    (R : Fin 256 → Fin 4352) (hR : ∀ r, ¬ (R r).val < 256) (hQ : ∀ r, row Q r = Qry q kv g (R r))
    (hW : ∀ r, row W r = Out w kv g (R r)) (hO : ∀ r, row O r = Out o kv g (R r)) (hL : ∀ r, L (ix3 0 r 0) = Den l kv g (R r))
    (a : Vec Ideal S4352x128 .f32) :
    k0_pay27 K V Q W O L a (ix2 n d) = a (ix2 n d) + ∑ r : Fin 256, grads q k v w o l kv g (R r) n * Qry q kv g (R r) d := by
  rw [pay27]
  refine congrArg (_ + ·) (Finset.sum_congr rfl fun r _ => congrArg₂ (· * ·) ?_ (congrFun (hQ r) d))
  rw [hQ, hK, hV, hW, hO, hL, grads, mask_high (hR r)]

include hK in
/-- One head's addition to the values' gradient, from a block of queries after the first 256. -/
theorem head_dv_high (n : Fin 4352) (d : Fin 128)
    (R : Fin 256 → Fin 4352) (hR : ∀ r, ¬ (R r).val < 256) (hQ : ∀ r, row Q r = Qry q kv g (R r))
    (hW : ∀ r, row W r = Out w kv g (R r)) (hL : ∀ r, L (ix3 0 r 0) = Den l kv g (R r))
    (a : Vec Ideal S4352x128 .f32) :
    k0_pay28 (k0_pay26 K Q W L) a (ix2 n d) = a (ix2 n d) + ∑ r : Fin 256, probs q k l kv g (R r) n * Out w kv g (R r) d := by
  rw [pay28]
  refine congrArg (_ + ·) (Finset.sum_congr rfl fun r _ => congrArg₂ (· * ·) ?_ (congrFun (hW r) d))
  rw [hQ, hK, hL, probs, mask_high (hR r)]

end Large

end Cert.KernelIdeal.Attention

end
-- ==== Proof.AttentionLoads.lean ====
/- What the kernel body loads at a grid point: rows of the arrays the launch was given. -/
module

public import proofs.«01_k».proof.Proof.AttentionRow
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Attention

open Cert.KernelIdeal Cert.KernelIdeal.Gen

variable (m : (ℓ : Loc nD τ sig) → Buf (Elt Ideal) ℓ)

/-- The blocks of the windows at a grid point, whose number counts the blocks of 256 queries fastest. -/
theorem idx : ∀ t : Fin cfg0.N, win0_1.index t = ![t.val % 17, t.val / 17] ∧ win0_2.index t = ![0, t.val / 17]
    ∧ win0_3.index t = ![0, t.val / 17] ∧ win0_4.index t = ![t.val % 17, t.val / 17] ∧ win0_5.index t = ![t.val / 17, t.val % 17, 0]
    ∧ win0_6.index t = ![t.val % 17, t.val / 17] ∧ win0_7.index t = ![t.val % 17, t.val / 17] ∧ win0_8.index t = ![0, t.val / 17]
    ∧ win0_9.index t = ![0, t.val / 17] :=
  (by decide +kernel : ∀ t : Fin grid0.N, _)

/-- The grid has 68 points. -/
theorem lt_N (t : Fin cfg0.N) : t.val < 68 := lt_of_lt_of_eq t.isLt N_0

/-- The key and value head of a grid point. -/
def kvAt (t : Fin cfg0.N) : Fin 4 := ⟨t.val / 17, by have := lt_N t; omega⟩

/-- A row of a grid point's block of queries. -/
def rowAt (t : Fin cfg0.N) (r : Fin 256) : Fin 4352 := ⟨256 * (t.val % 17) + r.val, by omega⟩

variable (c : Dev nD) (t : Fin cfg0.N)

/-- The block of keys is the head's keys. -/
theorem key : row (iblk m c 2 t) = Key (m ((c : Thread nD τ).loc main_arg1)) (kvAt t) := by
  funext n d
  show iblk m c 2 t (ix2 n d) = m ((c : Thread nD τ).loc main_arg1) (ix2 n ⟨128 * (t.val / 17) + d.val, _⟩)
  blk_point [iblk, V, idx t]

/-- The block of values is the head's values. -/
theorem value : row (iblk m c 3 t) = Key (m ((c : Thread nD τ).loc main_arg2)) (kvAt t) := by
  funext n d
  show iblk m c 3 t (ix2 n d) = m ((c : Thread nD τ).loc main_arg2) (ix2 n ⟨128 * (t.val / 17) + d.val, _⟩)
  blk_point [iblk, V, idx t]

/-- The first 256 rows of a block of keys. -/
theorem key_low : row (View.ld (iblk m c 2 t) (Rect.unit ![0, 0] ![256, 128] inb_S4352x128_S256x128_0_0)) = low (Key (m ((c : Thread nD τ).loc main_arg1)) (kvAt t)) := by
  funext n d
  show View.ld (iblk m c 2 t) (Rect.unit ![0, 0] ![256, 128] inb_S4352x128_S256x128_0_0) (ix2 n d) = m ((c : Thread nD τ).loc main_arg1) (ix2 ⟨n.val, _⟩ ⟨128 * (t.val / 17) + d.val, _⟩)
  blk_point [iblk, V, idx t]

/-- The first 256 rows of a block of values. -/
theorem value_low : row (View.ld (iblk m c 3 t) (Rect.unit ![0, 0] ![256, 128] inb_S4352x128_S256x128_0_0)) = low (Key (m ((c : Thread nD τ).loc main_arg2)) (kvAt t)) := by
  funext n d
  show View.ld (iblk m c 3 t) (Rect.unit ![0, 0] ![256, 128] inb_S4352x128_S256x128_0_0) (ix2 n d) = m ((c : Thread nD τ).loc main_arg2) (ix2 ⟨n.val, _⟩ ⟨128 * (t.val / 17) + d.val, _⟩)
  blk_point [iblk, V, idx t]

/-- The first head's queries. -/
theorem query0 (r : Fin 256) : row (View.ld (iblk m c 1 t) (Rect.unit ![0, 0] ![256, 128] inb_S256x384_S256x128_0_0)) r = Qry (m ((c : Thread nD τ).loc main_arg0)) (kvAt t) 0 (rowAt t r) := by
  funext d
  show View.ld (iblk m c 1 t) (Rect.unit ![0, 0] ![256, 128] inb_S256x384_S256x128_0_0) (ix2 r d) = m ((c : Thread nD τ).loc main_arg0) (ix2 ⟨256 * (t.val % 17) + r.val, _⟩ ⟨384 * (t.val / 17) + 128 * 0 + d.val, _⟩)
  blk_point [iblk, V, idx t]

/-- The second head's queries. -/
theorem query1 (r : Fin 256) : row (View.ld (iblk m c 1 t) (Rect.unit ![0, 128] ![256, 128] inb_S256x384_S256x128_0_128)) r = Qry (m ((c : Thread nD τ).loc main_arg0)) (kvAt t) 1 (rowAt t r) := by
  funext d
  show View.ld (iblk m c 1 t) (Rect.unit ![0, 128] ![256, 128] inb_S256x384_S256x128_0_128) (ix2 r d) = m ((c : Thread nD τ).loc main_arg0) (ix2 ⟨256 * (t.val % 17) + r.val, _⟩ ⟨384 * (t.val / 17) + 128 * 1 + d.val, _⟩)
  blk_point [iblk, V, idx t]

/-- The third head's queries. -/
theorem query2 (r : Fin 256) : row (View.ld (iblk m c 1 t) (Rect.unit ![0, 256] ![256, 128] inb_S256x384_S256x128_0_256)) r = Qry (m ((c : Thread nD τ).loc main_arg0)) (kvAt t) 2 (rowAt t r) := by
  funext d
  show View.ld (iblk m c 1 t) (Rect.unit ![0, 256] ![256, 128] inb_S256x384_S256x128_0_256) (ix2 r d) = m ((c : Thread nD τ).loc main_arg0) (ix2 ⟨256 * (t.val % 17) + r.val, _⟩ ⟨384 * (t.val / 17) + 128 * 2 + d.val, _⟩)
  blk_point [iblk, V, idx t]

/-- The window of the saved outputs holds its block of the array. -/
theorem full4 (A : Vec Ideal S4352x2048 .bf16) (r : Fin 256) (x : Fin 384) :
    (cfg0.win 4).fill (cfg0.grid.coords t) (dflt0_4 (F := Ideal)) (((cfg0.win 4).blk t).view.read (Elt Ideal) A) (ix2 r x)
      = A (ix2 ⟨256 * (t.val % 17) + r.val, by omega⟩ ⟨384 * (t.val / 17) + x.val, by have := lt_N t; omega⟩) := by
  unfold Pipeline.Window.fill
  rw [dif_pos (moved0_4 t (ix2 r x))]
  blk_point [idx t]

/-- The window of the outputs' gradient holds its block of the array. -/
theorem full6 (A : Vec Ideal S4352x2048 .bf16) (r : Fin 256) (x : Fin 384) :
    (cfg0.win 6).fill (cfg0.grid.coords t) (dflt0_6 (F := Ideal)) (((cfg0.win 6).blk t).view.read (Elt Ideal) A) (ix2 r x)
      = A (ix2 ⟨256 * (t.val % 17) + r.val, by omega⟩ ⟨384 * (t.val / 17) + x.val, by have := lt_N t; omega⟩) := by
  unfold Pipeline.Window.fill
  rw [dif_pos (moved0_6 t (ix2 r x))]
  blk_point [idx t]

/-- The first head's logarithms of the denominators, for any array. -/
theorem den_of0 (A : Vec Ideal S12x4352x1 .f32) (r : Fin 256) :
    View.ld (((cfg0.win 5).blk t).view.read (Elt Ideal) A) (Rect.unit ![0, 0, 0] ![1, 256, 1] inb_S3x256x1_S1x256x1_0_0_0) (ix3 0 r 0)
      = A (ix3 ⟨3 * (t.val / 17) + 0, by have := lt_N t; omega⟩ ⟨256 * (t.val % 17) + r.val, by omega⟩ 0) := by
  refine congrArg A (funext fun a => Fin.ext ?_)
  match a with
  | 0 =>
    show win0_5.index t (0 : Fin 3) * 3 + 1 * (0 + 1 * 0) = 3 * (t.val / 17) + 0
    rw [(idx t).2.2.2.2.1]
    show t.val / 17 * 3 + 1 * (0 + 1 * 0) = 3 * (t.val / 17) + 0
    omega
  | 1 =>
    show win0_5.index t (1 : Fin 3) * 256 + 1 * (0 + 1 * r.val) = 256 * (t.val % 17) + r.val
    rw [(idx t).2.2.2.2.1]
    show t.val % 17 * 256 + 1 * (0 + 1 * r.val) = 256 * (t.val % 17) + r.val
    omega
  | 2 =>
    show win0_5.index t (2 : Fin 3) * 1 + 1 * (0 + 1 * 0) = 0
    rw [(idx t).2.2.2.2.1]
    rfl

/-- The first head's logarithms of the denominators. -/
theorem den0 (r : Fin 256) : View.ld (iblk m c 5 t) (Rect.unit ![0, 0, 0] ![1, 256, 1] inb_S3x256x1_S1x256x1_0_0_0) (ix3 0 r 0) = Den (V m c main_v46) (kvAt t) 0 (rowAt t r) :=
  den_of0 t (V m c main_v46) r

/-- The first head's outputs, for any array. -/
theorem out_of0 (A : Vec Ideal S4352x2048 .bf16) (r : Fin 256) :
    row (View.ld (show Vec Ideal S256x384 .bf16 from (cfg0.win 4).fill (cfg0.grid.coords t) (dflt0_4 (F := Ideal)) (((cfg0.win 4).blk t).view.read (Elt Ideal) A)) (Rect.unit ![0, 0] ![256, 128] inb_S256x384_S256x128_0_0)) r = Out A (kvAt t) 0 (rowAt t r) := by
  funext d
  refine Eq.trans ?_ ((full4 t A r ⟨0 + d.val, by omega⟩).trans ?_)
  · show (cfg0.win 4).fill (cfg0.grid.coords t) _ _ _ = _
    exact congrArg _ (funext fun a => by fin_cases a <;> exact Fin.ext (by simp [Rect.unit, Rect.emb]; try omega))
  · show _ = A (ix2 ⟨256 * (t.val % 17) + r.val, _⟩ ⟨384 * (t.val / 17) + 128 * 0 + d.val, _⟩)
    exact congrArg A (congrArg (ix2 _) (Fin.ext (by show 384 * (t.val / 17) + (0 + d.val) = 384 * (t.val / 17) + 128 * 0 + d.val; omega)))

/-- The first head's outputs. -/
theorem out0 (r : Fin 256) : row (View.ld (X0_4 m c t) (Rect.unit ![0, 0] ![256, 128] inb_S256x384_S256x128_0_0)) r = Out (V m c main_v44) (kvAt t) 0 (rowAt t r) :=
  out_of0 t (V m c main_v44) r

/-- The second head's logarithms of the denominators, for any array. -/
theorem den_of1 (A : Vec Ideal S12x4352x1 .f32) (r : Fin 256) :
    View.ld (((cfg0.win 5).blk t).view.read (Elt Ideal) A) (Rect.unit ![1, 0, 0] ![1, 256, 1] inb_S3x256x1_S1x256x1_1_0_0) (ix3 0 r 0)
      = A (ix3 ⟨3 * (t.val / 17) + 1, by have := lt_N t; omega⟩ ⟨256 * (t.val % 17) + r.val, by omega⟩ 0) := by
  refine congrArg A (funext fun a => Fin.ext ?_)
  match a with
  | 0 =>
    show win0_5.index t (0 : Fin 3) * 3 + 1 * (1 + 1 * 0) = 3 * (t.val / 17) + 1
    rw [(idx t).2.2.2.2.1]
    show t.val / 17 * 3 + 1 * (1 + 1 * 0) = 3 * (t.val / 17) + 1
    omega
  | 1 =>
    show win0_5.index t (1 : Fin 3) * 256 + 1 * (0 + 1 * r.val) = 256 * (t.val % 17) + r.val
    rw [(idx t).2.2.2.2.1]
    show t.val % 17 * 256 + 1 * (0 + 1 * r.val) = 256 * (t.val % 17) + r.val
    omega
  | 2 =>
    show win0_5.index t (2 : Fin 3) * 1 + 1 * (0 + 1 * 0) = 0
    rw [(idx t).2.2.2.2.1]
    rfl

/-- The second head's logarithms of the denominators. -/
theorem den1 (r : Fin 256) : View.ld (iblk m c 5 t) (Rect.unit ![1, 0, 0] ![1, 256, 1] inb_S3x256x1_S1x256x1_1_0_0) (ix3 0 r 0) = Den (V m c main_v46) (kvAt t) 1 (rowAt t r) :=
  den_of1 t (V m c main_v46) r

/-- The second head's outputs, for any array. -/
theorem out_of1 (A : Vec Ideal S4352x2048 .bf16) (r : Fin 256) :
    row (View.ld (show Vec Ideal S256x384 .bf16 from (cfg0.win 4).fill (cfg0.grid.coords t) (dflt0_4 (F := Ideal)) (((cfg0.win 4).blk t).view.read (Elt Ideal) A)) (Rect.unit ![0, 128] ![256, 128] inb_S256x384_S256x128_0_128)) r = Out A (kvAt t) 1 (rowAt t r) := by
  funext d
  refine Eq.trans ?_ ((full4 t A r ⟨128 + d.val, by omega⟩).trans ?_)
  · show (cfg0.win 4).fill (cfg0.grid.coords t) _ _ _ = _
    exact congrArg _ (funext fun a => by fin_cases a <;> exact Fin.ext (by simp [Rect.unit, Rect.emb]; try omega))
  · show _ = A (ix2 ⟨256 * (t.val % 17) + r.val, _⟩ ⟨384 * (t.val / 17) + 128 * 1 + d.val, _⟩)
    exact congrArg A (congrArg (ix2 _) (Fin.ext (by show 384 * (t.val / 17) + (128 + d.val) = 384 * (t.val / 17) + 128 * 1 + d.val; omega)))

/-- The second head's outputs. -/
theorem out1 (r : Fin 256) : row (View.ld (X0_4 m c t) (Rect.unit ![0, 128] ![256, 128] inb_S256x384_S256x128_0_128)) r = Out (V m c main_v44) (kvAt t) 1 (rowAt t r) :=
  out_of1 t (V m c main_v44) r

/-- The third head's logarithms of the denominators, for any array. -/
theorem den_of2 (A : Vec Ideal S12x4352x1 .f32) (r : Fin 256) :
    View.ld (((cfg0.win 5).blk t).view.read (Elt Ideal) A) (Rect.unit ![2, 0, 0] ![1, 256, 1] inb_S3x256x1_S1x256x1_2_0_0) (ix3 0 r 0)
      = A (ix3 ⟨3 * (t.val / 17) + 2, by have := lt_N t; omega⟩ ⟨256 * (t.val % 17) + r.val, by omega⟩ 0) := by
  refine congrArg A (funext fun a => Fin.ext ?_)
  match a with
  | 0 =>
    show win0_5.index t (0 : Fin 3) * 3 + 1 * (2 + 1 * 0) = 3 * (t.val / 17) + 2
    rw [(idx t).2.2.2.2.1]
    show t.val / 17 * 3 + 1 * (2 + 1 * 0) = 3 * (t.val / 17) + 2
    omega
  | 1 =>
    show win0_5.index t (1 : Fin 3) * 256 + 1 * (0 + 1 * r.val) = 256 * (t.val % 17) + r.val
    rw [(idx t).2.2.2.2.1]
    show t.val % 17 * 256 + 1 * (0 + 1 * r.val) = 256 * (t.val % 17) + r.val
    omega
  | 2 =>
    show win0_5.index t (2 : Fin 3) * 1 + 1 * (0 + 1 * 0) = 0
    rw [(idx t).2.2.2.2.1]
    rfl

/-- The third head's logarithms of the denominators. -/
theorem den2 (r : Fin 256) : View.ld (iblk m c 5 t) (Rect.unit ![2, 0, 0] ![1, 256, 1] inb_S3x256x1_S1x256x1_2_0_0) (ix3 0 r 0) = Den (V m c main_v46) (kvAt t) 2 (rowAt t r) :=
  den_of2 t (V m c main_v46) r

/-- The third head's outputs, for any array. -/
theorem out_of2 (A : Vec Ideal S4352x2048 .bf16) (r : Fin 256) :
    row (View.ld (show Vec Ideal S256x384 .bf16 from (cfg0.win 4).fill (cfg0.grid.coords t) (dflt0_4 (F := Ideal)) (((cfg0.win 4).blk t).view.read (Elt Ideal) A)) (Rect.unit ![0, 256] ![256, 128] inb_S256x384_S256x128_0_256)) r = Out A (kvAt t) 2 (rowAt t r) := by
  funext d
  refine Eq.trans ?_ ((full4 t A r ⟨256 + d.val, by omega⟩).trans ?_)
  · show (cfg0.win 4).fill (cfg0.grid.coords t) _ _ _ = _
    exact congrArg _ (funext fun a => by fin_cases a <;> exact Fin.ext (by simp [Rect.unit, Rect.emb]; try omega))
  · show _ = A (ix2 ⟨256 * (t.val % 17) + r.val, _⟩ ⟨384 * (t.val / 17) + 128 * 2 + d.val, _⟩)
    exact congrArg A (congrArg (ix2 _) (Fin.ext (by show 384 * (t.val / 17) + (256 + d.val) = 384 * (t.val / 17) + 128 * 2 + d.val; omega)))

/-- The third head's outputs. -/
theorem out2 (r : Fin 256) : row (View.ld (X0_4 m c t) (Rect.unit ![0, 256] ![256, 128] inb_S256x384_S256x128_0_256)) r = Out (V m c main_v44) (kvAt t) 2 (rowAt t r) :=
  out_of2 t (V m c main_v44) r

/-- The first head's output gradient, for any array. -/
theorem ct_of0 (A : Vec Ideal S4352x2048 .bf16) (r : Fin 256) :
    row (View.ld (show Vec Ideal S256x384 .bf16 from (cfg0.win 6).fill (cfg0.grid.coords t) (dflt0_6 (F := Ideal)) (((cfg0.win 6).blk t).view.read (Elt Ideal) A)) (Rect.unit ![0, 0] ![256, 128] inb_S256x384_S256x128_0_0)) r = Out A (kvAt t) 0 (rowAt t r) := by
  funext d
  refine Eq.trans ?_ ((full6 t A r ⟨0 + d.val, by omega⟩).trans ?_)
  · show (cfg0.win 6).fill (cfg0.grid.coords t) _ _ _ = _
    exact congrArg _ (funext fun a => by fin_cases a <;> exact Fin.ext (by simp [Rect.unit, Rect.emb]; try omega))
  · show _ = A (ix2 ⟨256 * (t.val % 17) + r.val, _⟩ ⟨384 * (t.val / 17) + 128 * 0 + d.val, _⟩)
    exact congrArg A (congrArg (ix2 _) (Fin.ext (by show 384 * (t.val / 17) + (0 + d.val) = 384 * (t.val / 17) + 128 * 0 + d.val; omega)))

/-- The first head's output gradient. -/
theorem ct0 (r : Fin 256) : row (View.ld (X0_6 m c t) (Rect.unit ![0, 0] ![256, 128] inb_S256x384_S256x128_0_0)) r = Out (m ((c : Thread nD τ).loc main_arg3)) (kvAt t) 0 (rowAt t r) :=
  ct_of0 t (m ((c : Thread nD τ).loc main_arg3)) r

/-- The second head's output gradient, for any array. -/
theorem ct_of1 (A : Vec Ideal S4352x2048 .bf16) (r : Fin 256) :
    row (View.ld (show Vec Ideal S256x384 .bf16 from (cfg0.win 6).fill (cfg0.grid.coords t) (dflt0_6 (F := Ideal)) (((cfg0.win 6).blk t).view.read (Elt Ideal) A)) (Rect.unit ![0, 128] ![256, 128] inb_S256x384_S256x128_0_128)) r = Out A (kvAt t) 1 (rowAt t r) := by
  funext d
  refine Eq.trans ?_ ((full6 t A r ⟨128 + d.val, by omega⟩).trans ?_)
  · show (cfg0.win 6).fill (cfg0.grid.coords t) _ _ _ = _
    exact congrArg _ (funext fun a => by fin_cases a <;> exact Fin.ext (by simp [Rect.unit, Rect.emb]; try omega))
  · show _ = A (ix2 ⟨256 * (t.val % 17) + r.val, _⟩ ⟨384 * (t.val / 17) + 128 * 1 + d.val, _⟩)
    exact congrArg A (congrArg (ix2 _) (Fin.ext (by show 384 * (t.val / 17) + (128 + d.val) = 384 * (t.val / 17) + 128 * 1 + d.val; omega)))

/-- The second head's output gradient. -/
theorem ct1 (r : Fin 256) : row (View.ld (X0_6 m c t) (Rect.unit ![0, 128] ![256, 128] inb_S256x384_S256x128_0_128)) r = Out (m ((c : Thread nD τ).loc main_arg3)) (kvAt t) 1 (rowAt t r) :=
  ct_of1 t (m ((c : Thread nD τ).loc main_arg3)) r

/-- The third head's output gradient, for any array. -/
theorem ct_of2 (A : Vec Ideal S4352x2048 .bf16) (r : Fin 256) :
    row (View.ld (show Vec Ideal S256x384 .bf16 from (cfg0.win 6).fill (cfg0.grid.coords t) (dflt0_6 (F := Ideal)) (((cfg0.win 6).blk t).view.read (Elt Ideal) A)) (Rect.unit ![0, 256] ![256, 128] inb_S256x384_S256x128_0_256)) r = Out A (kvAt t) 2 (rowAt t r) := by
  funext d
  refine Eq.trans ?_ ((full6 t A r ⟨256 + d.val, by omega⟩).trans ?_)
  · show (cfg0.win 6).fill (cfg0.grid.coords t) _ _ _ = _
    exact congrArg _ (funext fun a => by fin_cases a <;> exact Fin.ext (by simp [Rect.unit, Rect.emb]; try omega))
  · show _ = A (ix2 ⟨256 * (t.val % 17) + r.val, _⟩ ⟨384 * (t.val / 17) + 128 * 2 + d.val, _⟩)
    exact congrArg A (congrArg (ix2 _) (Fin.ext (by show 384 * (t.val / 17) + (256 + d.val) = 384 * (t.val / 17) + 128 * 2 + d.val; omega)))

/-- The third head's output gradient. -/
theorem ct2 (r : Fin 256) : row (View.ld (X0_6 m c t) (Rect.unit ![0, 256] ![256, 128] inb_S256x384_S256x128_0_256)) r = Out (m ((c : Thread nD τ).loc main_arg3)) (kvAt t) 2 (rowAt t r) :=
  ct_of2 t (m ((c : Thread nD τ).loc main_arg3)) r

end Cert.KernelIdeal.Attention

end
-- ==== Proof.AttentionDq.lean ====
/- The queries' gradient after the kernel's run. -/
module

public import proofs.«01_k».proof.Proof.AttentionHead
public import proofs.«01_k».proof.Proof.AttentionLoads
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Attention

open Cert.KernelIdeal Cert.KernelIdeal.Gen

variable (m : (ℓ : Loc nD τ sig) → Buf (Elt Ideal) ℓ) (c : Dev nD)

/-- The scores' gradient from the launch's arrays. -/
abbrev gradsAt : Fin 4 → Fin 3 → Fin 4352 → Fin 4352 → EReal :=
  grads (m ((c : Thread nD τ).loc main_arg0)) (m ((c : Thread nD τ).loc main_arg1)) (m ((c : Thread nD τ).loc main_arg2))
    (m ((c : Thread nD τ).loc main_arg3)) (V m c main_v44) (V m c main_v46)

/-- The probabilities from the launch's arrays. -/
abbrev probsAt : Fin 4 → Fin 3 → Fin 4352 → Fin 4352 → EReal :=
  probs (m ((c : Thread nD τ).loc main_arg0)) (m ((c : Thread nD τ).loc main_arg1)) (V m c main_v46)

/-- A store elsewhere does not matter at a place. -/
theorem canon_skip {S : Shape} {e : EltTy} (R : Rect S) (w : R.shape.Idx → Elt Ideal e) (L : List (View.Piece (Elt Ideal) S e)) {y : S.Idx}
    (h : y ∉ R.set) : View.canon (Val := Elt Ideal) (⟨R, w⟩ :: L) y = View.canon L y :=
  View.canon_cons_of_not_mem ⟨R, w⟩ L h

/-- A block of three heads' columns, written one head at a time. -/
theorem heads3 (p0 p1 p2 : Vec Ideal S256x128 .f32) (G : Fin 256 → Fin 384 → EReal)
    (h0 : ∀ r (d : Fin 128), p0 (ix2 r d) = G r ⟨d.val, by omega⟩)
    (h1 : ∀ r (d : Fin 128), p1 (ix2 r d) = G r ⟨128 + d.val, by omega⟩)
    (h2 : ∀ r (d : Fin 128), p2 (ix2 r d) = G r ⟨256 + d.val, by omega⟩) (r : Fin 256) (x : Fin 384) :
    View.canon (Val := Elt Ideal) (e := .f32) (s := S256x384) [⟨Rect.unit ![0, 256] ![256, 128] inb_S256x384_S256x128_0_256, p2⟩,
      ⟨Rect.unit ![0, 128] ![256, 128] inb_S256x384_S256x128_0_128, p1⟩,
      ⟨Rect.unit ![0, 0] ![256, 128] inb_S256x384_S256x128_0_0, p0⟩] (ix2 r x) = G r x := by
  by_cases hx2 : 256 ≤ x.val
  · have e : ix2 r x = (Rect.unit ![0, 256] ![256, 128] inb_S256x384_S256x128_0_256).emb (ix2 r (⟨x.val - 256, by omega⟩ : Fin 128)) :=
      funext fun a => Fin.ext (by fin_cases a <;> simp [Rect.unit, Rect.emb] <;> omega)
    rw [e, View.canon_cons_emb]
    exact (h2 r _).trans (congrArg (G r) (Fin.ext (by show 256 + (x.val - 256) = x.val; omega)))
  · have n2 : (ix2 r x : S256x384.Idx) ∉ (Rect.unit ![0, 256] ![256, 128] inb_S256x384_S256x128_0_256 : Rect S256x384).set :=
    fun h => hx2 (show 256 ≤ x.val from ((Rect.mem_set_unit.mp h) (1 : Fin 2)).1)
    rw [canon_skip _ _ _ n2]
    by_cases hx1 : 128 ≤ x.val
    · have e : ix2 r x = (Rect.unit ![0, 128] ![256, 128] inb_S256x384_S256x128_0_128).emb (ix2 r (⟨x.val - 128, by omega⟩ : Fin 128)) :=
        funext fun a => Fin.ext (by fin_cases a <;> simp [Rect.unit, Rect.emb] <;> omega)
      rw [e, View.canon_cons_emb]
      exact (h1 r _).trans (congrArg (G r) (Fin.ext (by show 128 + (x.val - 128) = x.val; omega)))
    · have n1 : (ix2 r x : S256x384.Idx) ∉ (Rect.unit ![0, 128] ![256, 128] inb_S256x384_S256x128_0_128 : Rect S256x384).set :=
      fun h => hx1 (show 128 ≤ x.val from ((Rect.mem_set_unit.mp h) (1 : Fin 2)).1)
      rw [canon_skip _ _ _ n1]
      have e : ix2 r x = (Rect.unit ![0, 0] ![256, 128] inb_S256x384_S256x128_0_0).emb (ix2 r (⟨x.val, by omega⟩ : Fin 128)) :=
        funext fun a => Fin.ext (by fin_cases a <;> simp [Rect.unit, Rect.emb] <;> omega)
      rw [e, View.canon_cons_emb]
      exact h0 r _

/-- The first block of queries is the first 256 queries. -/
theorem rowAt_low (t : Fin cfg0.N) (h : t.val % 17 = 0) (r : Fin 256) : (rowAt t r).val < 256 := by
  show 256 * (t.val % 17) + r.val < 256
  omega

/-- The other blocks are queries after them. -/
theorem rowAt_high (t : Fin cfg0.N) (h : ¬ t.val % 17 = 0) (r : Fin 256) : ¬ (rowAt t r).val < 256 := by
  show ¬ 256 * (t.val % 17) + r.val < 256
  omega

/-- The queries' gradient at a row and a column of a grid point's block. -/
def colAt (G : Fin 4 → Fin 3 → Fin 4352 → Fin 4352 → EReal) (k : Vec Ideal S4352x512 .bf16) (t : Fin cfg0.N) (r : Fin 256) (x : Fin 384) : EReal :=
  ∑ n : Fin 4352, G (kvAt t) ⟨x.val / 128, by omega⟩ (rowAt t r) n * Key k (kvAt t) n ⟨x.val % 128, by omega⟩

/-- One head's columns of it. -/
theorem colAt_eq (G : Fin 4 → Fin 3 → Fin 4352 → Fin 4352 → EReal) (k : Vec Ideal S4352x512 .bf16) (t : Fin cfg0.N) (r : Fin 256)
    (g : Fin 3) (d : Fin 128) (x : Fin 384) (hx : x.val = 128 * g.val + d.val) :
    ∑ n : Fin 4352, G (kvAt t) g (rowAt t r) n * Key k (kvAt t) n d = colAt G k t r x := by
  have hg : (⟨x.val / 128, by omega⟩ : Fin 3) = g := Fin.ext (by show x.val / 128 = g.val; omega)
  have hd : (⟨x.val % 128, by omega⟩ : Fin 128) = d := Fin.ext (by show x.val % 128 = d.val; omega)
  rw [colAt, hg, hd]

/-- What a grid point leaves in the block of the queries' gradient. -/
theorem dq_block (t : Fin cfg0.N) (r : Fin 256) (x : Fin 384) : (outsAt0 m c t.val t.isLt).1 (ix2 r x)
    = colAt (gradsAt m c) (m ((c : Thread nD τ).loc main_arg1)) t r x := by
  by_cases h : t.val % 17 = 0
  · rw [outsAt0_A m c t h h (by omega)]
    frame_out
    refine heads3 _ _ _ (colAt (gradsAt m c) (m ((c : Thread nD τ).loc main_arg1)) t) ?_ ?_ ?_ r x
    · intro r d
      refine Eq.trans (head_dq_low (hK := key_low m c t) (hV := value_low m c t) (r := r) (d := d) (R := rowAt t r) (hR := rowAt_low t h r)
        (hQ := query0 m c t r) (hW := ct0 m c t r) (hO := out0 m c t r) (hL := den0 m c t r)) ?_
      exact colAt_eq _ _ t r 0 d _ (by show d.val = 128 * 0 + d.val; omega)
    · intro r d
      refine Eq.trans (head_dq_low (hK := key_low m c t) (hV := value_low m c t) (r := r) (d := d) (R := rowAt t r) (hR := rowAt_low t h r)
        (hQ := query1 m c t r) (hW := ct1 m c t r) (hO := out1 m c t r) (hL := den1 m c t r)) ?_
      exact colAt_eq _ _ t r 1 d _ (by show (128 + d.val) = 128 * 1 + d.val; omega)
    · intro r d
      refine Eq.trans (head_dq_low (hK := key_low m c t) (hV := value_low m c t) (r := r) (d := d) (R := rowAt t r) (hR := rowAt_low t h r)
        (hQ := query2 m c t r) (hW := ct2 m c t r) (hO := out2 m c t r) (hL := den2 m c t r)) ?_
      exact colAt_eq _ _ t r 2 d _ (by show (256 + d.val) = 128 * 2 + d.val; omega)
  · rw [outsAt0_B m c t h h (by omega)]
    frame_out
    refine heads3 _ _ _ (colAt (gradsAt m c) (m ((c : Thread nD τ).loc main_arg1)) t) ?_ ?_ ?_ r x
    · intro r d
      refine Eq.trans (head_dq_high (hK := key m c t) (hV := value m c t) (r := r) (d := d) (R := rowAt t r) (hR := rowAt_high t h r)
        (hQ := query0 m c t r) (hW := ct0 m c t r) (hO := out0 m c t r) (hL := den0 m c t r)) ?_
      exact colAt_eq _ _ t r 0 d _ (by show d.val = 128 * 0 + d.val; omega)
    · intro r d
      refine Eq.trans (head_dq_high (hK := key m c t) (hV := value m c t) (r := r) (d := d) (R := rowAt t r) (hR := rowAt_high t h r)
        (hQ := query1 m c t r) (hW := ct1 m c t r) (hO := out1 m c t r) (hL := den1 m c t r)) ?_
      exact colAt_eq _ _ t r 1 d _ (by show (128 + d.val) = 128 * 1 + d.val; omega)
    · intro r d
      refine Eq.trans (head_dq_high (hK := key m c t) (hV := value m c t) (r := r) (d := d) (R := rowAt t r) (hR := rowAt_high t h r)
        (hQ := query2 m c t r) (hW := ct2 m c t r) (hO := out2 m c t r) (hL := den2 m c t r)) ?_
      exact colAt_eq _ _ t r 2 d _ (by show (256 + d.val) = 128 * 2 + d.val; omega)

/-- The queries' gradient at an index of the array, by the grid point whose block holds it. -/
theorem dqOf_eq (G : Fin 4 → Fin 3 → Fin 4352 → Fin 4352 → EReal) (k : Vec Ideal S4352x512 .bf16) (t : Fin cfg0.N) (r : Fin 256) (x : Fin 384)
    (i : S4352x1536.Idx) (h0 : (i 0).val = 256 * (t.val % 17) + r.val) (h1 : (i 1).val = 384 * (t.val / 17) + x.val) :
    colAt G k t r x = dqOf G k i := by
  have e0 : i 0 = rowAt t r := Fin.ext h0
  have e1 : kvOf (i 1) = kvAt t := Fin.ext (by show (i 1).val / 384 = t.val / 17; omega)
  have e2 : gOf (i 1) = ⟨x.val / 128, by omega⟩ := Fin.ext (by show (i 1).val / 128 % 3 = x.val / 128; omega)
  have e3 : dOf (i 1) = ⟨x.val % 128, by omega⟩ := Fin.ext (by show (i 1).val % 128 = x.val % 128; omega)
  rw [dqOf, e0, e1, e2, e3, colAt]

/-- The array of the queries' gradient after the run. -/
theorem dq_final : (Gen.dats m 0 c).arrAt 7 cfg0.N = dqOf (gradsAt m c) (m ((c : Thread nD τ).loc main_arg1)) := by
  refine (dats m 0 c).arrAt_eq_of_covers 7 _ (by decide +kernel) fun t hf y => ?_
  blk_simp
  rw [after0_7]
  idx_vars y
  refine (dq_block m c t y0 y1).trans (dqOf_eq _ _ t y0 y1 _ ?_ ?_)
  · show win0_7.index t (0 : Fin 2) * 256 + 1 * y0.val = 256 * (t.val % 17) + y0.val
    rw [(idx t).2.2.2.2.2.2.1]
    show t.val % 17 * 256 + 1 * y0.val = 256 * (t.val % 17) + y0.val
    omega
  · show win0_7.index t (1 : Fin 2) * 384 + 1 * y1.val = 384 * (t.val / 17) + y1.val
    rw [(idx t).2.2.2.2.2.2.1]
    show t.val / 17 * 384 + 1 * y1.val = 384 * (t.val / 17) + y1.val
    omega

end Cert.KernelIdeal.Attention

end
-- ==== Proof.AttentionDkv.lean ====
/- The keys' and the values' gradients after the kernel's run: each grid point adds its block of queries to the head's
   block, which the head's first grid point clears. -/
module

public import proofs.«01_k».proof.Proof.AttentionDq
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Attention

open Cert.KernelIdeal Cert.KernelIdeal.Gen

variable (m : (ℓ : Loc nD τ sig) → Buf (Elt Ideal) ℓ) (c : Dev nD)

/-- What a grid point adds at a key and a column: over the heads and the queries of its block, a family times an array's row. -/
def added (G : Fin 4 → Fin 3 → Fin 4352 → Fin 4352 → EReal) (q : Fin 4 → Fin 3 → Fin 4352 → Fin 128 → EReal) (n : Fin 4352) (d : Fin 128) (t : Fin cfg0.N) : EReal :=
  ∑ g : Fin 3, ∑ r : Fin 256, G (kvAt t) g (rowAt t r) n * q (kvAt t) g (rowAt t r) d

/-- Three additions, one for each head. -/
theorem added_three (G : Fin 4 → Fin 3 → Fin 4352 → Fin 4352 → EReal) (q : Fin 4 → Fin 3 → Fin 4352 → Fin 128 → EReal) (n : Fin 4352) (d : Fin 128) (t : Fin cfg0.N) (a : EReal) :
    a + (∑ r : Fin 256, G (kvAt t) 0 (rowAt t r) n * q (kvAt t) 0 (rowAt t r) d) + (∑ r : Fin 256, G (kvAt t) 1 (rowAt t r) n * q (kvAt t) 1 (rowAt t r) d)
      + (∑ r : Fin 256, G (kvAt t) 2 (rowAt t r) n * q (kvAt t) 2 (rowAt t r) d) = a + added G q n d t := by
  rw [added, Fin.sum_univ_three, add_assoc, add_assoc, add_assoc]

/-- A head's first grid point adds nothing at a key after the first 256 if the family is zero there. -/
theorem added_zero (G : Fin 4 → Fin 3 → Fin 4352 → Fin 4352 → EReal) (q : Fin 4 → Fin 3 → Fin 4352 → Fin 128 → EReal) (n : Fin 4352) (d : Fin 128) (t : Fin cfg0.N)
    (h : ∀ g r, G (kvAt t) g (rowAt t r) n = 0) : added G q n d t = 0 :=
  Finset.sum_eq_zero fun g _ => Finset.sum_eq_zero fun r _ => by rw [h g r, zero_mul]

/-- The head's block is cleared first. -/
theorem clear1 (y : S4352x128.Idx) : k0_pay1 (F := Ideal) y = 0 := by
  idx_vars y
  pointwise [k0_pay1]

/-- A place in the first 256 rows of the head's block. -/
theorem low_emb (n : Fin 4352) (h : n.val < 256) (d : Fin 128) : (ix2 n d : S4352x128.Idx) = (Rect.unit ![0, 0] ![256, 128] inb_S4352x128_S256x128_0_0).emb (ix2 (⟨n.val, h⟩ : Fin 256) d) :=
  funext fun a => Fin.ext (by fin_cases a <;> simp [Rect.unit, Rect.emb])

/-- A place after them. -/
theorem low_not (n : Fin 4352) (h : ¬ n.val < 256) (d : Fin 128) : (ix2 n d : S4352x128.Idx) ∉ (Rect.unit ![0, 0] ![256, 128] inb_S4352x128_S256x128_0_0 : Rect S4352x128).set :=
  fun hm => h (show n.val < 256 by have := ((Rect.mem_set_unit.mp hm) (0 : Fin 2)).2; exact lt_of_lt_of_eq this (Nat.zero_add 256))

/-- The keys' gradient's block after a head's first grid point. -/
theorem dk_first (t : Fin cfg0.N) (h : t.val % 17 = 0) (n : Fin 4352) (d : Fin 128) : (outsAt0 m c t.val t.isLt).2.1 (ix2 n d)
    = 0 + added (gradsAt m c) (Qry (m ((c : Thread nD τ).loc main_arg0))) n d t := by
  rw [outsAt0_A m c t h h (by omega)]
  frame_open
  simp (disch := decide) only [↓ View.readCov_skip, ↓ View.readCov_cons_toLoadRect, ↓ View.readCov_fill]
  frame_out
  by_cases hn : n.val < 256
  · rw [low_emb n hn d]
    refine (View.canon_cons_emb _ _ _ _).trans ?_
    refine (head_dk_low (hK := key_low m c t) (hV := value_low m c t) (n := ⟨n.val, hn⟩) (N := n) (hN := rfl) (d := d) (R := rowAt t) (hR := rowAt_low t h)
        (hQ := fun r => query2 m c t r) (hW := fun r => ct2 m c t r) (hO := fun r => out2 m c t r) (hL := fun r => den2 m c t r) (a := _)).trans ?_
    refine (congrArg (· + _) (head_dk_low (hK := key_low m c t) (hV := value_low m c t) (n := ⟨n.val, hn⟩) (N := n) (hN := rfl) (d := d) (R := rowAt t) (hR := rowAt_low t h)
        (hQ := fun r => query1 m c t r) (hW := fun r => ct1 m c t r) (hO := fun r => out1 m c t r) (hL := fun r => den1 m c t r) (a := _))).trans ?_
    refine (congrArg (· + _ + _) (head_dk_low (hK := key_low m c t) (hV := value_low m c t) (n := ⟨n.val, hn⟩) (N := n) (hN := rfl) (d := d) (R := rowAt t) (hR := rowAt_low t h)
        (hQ := fun r => query0 m c t r) (hW := fun r => ct0 m c t r) (hO := fun r => out0 m c t r) (hL := fun r => den0 m c t r) (a := _))).trans ?_
    refine (congrArg (· + _ + _ + _) (clear1 _)).trans ?_
    exact added_three (gradsAt m c) (Qry (m ((c : Thread nD τ).loc main_arg0))) n d t 0
  · refine (canon_skip _ _ _ (low_not n hn d)).trans ((canon_skip _ _ _ (low_not n hn d)).trans ((canon_skip _ _ _ (low_not n hn d)).trans ?_))
    rw [added_zero _ _ _ _ _ fun g r => mask_zero (rowAt_low t h r) hn, add_zero]
    refine (congrFun (View.canon_cons_unit_lit _ _ _ (by decide)) _).trans ?_
    exact clear1 _

/-- The keys' gradient's block after another grid point. -/
theorem dk_next (t : Fin cfg0.N) (h : ¬ t.val % 17 = 0) (n : Fin 4352) (d : Fin 128) : (outsAt0 m c t.val t.isLt).2.1 (ix2 n d)
    = (outsAt0 m c (t.val - 1) (Nat.lt_of_le_of_lt (Nat.sub_le _ _) t.isLt)).2.1 (ix2 n d)
      + added (gradsAt m c) (Qry (m ((c : Thread nD τ).loc main_arg0))) n d t := by
  rw [outsAt0_B m c t h h (by omega)]
  frame_out
  refine (head_dk_high (hK := key m c t) (hV := value m c t) (n := n) (d := d) (R := rowAt t) (hR := rowAt_high t h)
        (hQ := fun r => query2 m c t r) (hW := fun r => ct2 m c t r) (hO := fun r => out2 m c t r) (hL := fun r => den2 m c t r) (a := _)).trans ?_
  refine (congrArg (· + _) (head_dk_high (hK := key m c t) (hV := value m c t) (n := n) (d := d) (R := rowAt t) (hR := rowAt_high t h)
        (hQ := fun r => query1 m c t r) (hW := fun r => ct1 m c t r) (hO := fun r => out1 m c t r) (hL := fun r => den1 m c t r) (a := _))).trans ?_
  refine (congrArg (· + _ + _) (head_dk_high (hK := key m c t) (hV := value m c t) (n := n) (d := d) (R := rowAt t) (hR := rowAt_high t h)
        (hQ := fun r => query0 m c t r) (hW := fun r => ct0 m c t r) (hO := fun r => out0 m c t r) (hL := fun r => den0 m c t r) (a := _))).trans ?_
  exact added_three (gradsAt m c) (Qry (m ((c : Thread nD τ).loc main_arg0))) n d t _

/-- The values' gradient's block after a head's first grid point. -/
theorem dv_first (t : Fin cfg0.N) (h : t.val % 17 = 0) (n : Fin 4352) (d : Fin 128) : (outsAt0 m c t.val t.isLt).2.2.1 (ix2 n d)
    = 0 + added (probsAt m c) (Out (m ((c : Thread nD τ).loc main_arg3))) n d t := by
  rw [outsAt0_A m c t h h (by omega)]
  frame_open
  simp (disch := decide) only [↓ View.readCov_skip, ↓ View.readCov_cons_toLoadRect, ↓ View.readCov_fill]
  frame_out
  by_cases hn : n.val < 256
  · rw [low_emb n hn d]
    refine (View.canon_cons_emb _ _ _ _).trans ?_
    refine (head_dv_low (hK := key_low m c t) (n := ⟨n.val, hn⟩) (N := n) (hN := rfl) (d := d) (R := rowAt t) (hR := rowAt_low t h)
        (hQ := fun r => query2 m c t r) (hW := fun r => ct2 m c t r) (hL := fun r => den2 m c t r) (a := _)).trans ?_
    refine (congrArg (· + _) (head_dv_low (hK := key_low m c t) (n := ⟨n.val, hn⟩) (N := n) (hN := rfl) (d := d) (R := rowAt t) (hR := rowAt_low t h)
        (hQ := fun r => query1 m c t r) (hW := fun r => ct1 m c t r) (hL := fun r => den1 m c t r) (a := _))).trans ?_
    refine (congrArg (· + _ + _) (head_dv_low (hK := key_low m c t) (n := ⟨n.val, hn⟩) (N := n) (hN := rfl) (d := d) (R := rowAt t) (hR := rowAt_low t h)
        (hQ := fun r => query0 m c t r) (hW := fun r => ct0 m c t r) (hL := fun r => den0 m c t r) (a := _))).trans ?_
    refine (congrArg (· + _ + _ + _) (clear1 _)).trans ?_
    exact added_three (probsAt m c) (Out (m ((c : Thread nD τ).loc main_arg3))) n d t 0
  · refine (canon_skip _ _ _ (low_not n hn d)).trans ((canon_skip _ _ _ (low_not n hn d)).trans ((canon_skip _ _ _ (low_not n hn d)).trans ?_))
    rw [added_zero _ _ _ _ _ fun g r => mask_zero (rowAt_low t h r) hn, add_zero]
    refine (congrFun (View.canon_cons_unit_lit _ _ _ (by decide)) _).trans ?_
    exact clear1 _

/-- The values' gradient's block after another grid point. -/
theorem dv_next (t : Fin cfg0.N) (h : ¬ t.val % 17 = 0) (n : Fin 4352) (d : Fin 128) : (outsAt0 m c t.val t.isLt).2.2.1 (ix2 n d)
    = (outsAt0 m c (t.val - 1) (Nat.lt_of_le_of_lt (Nat.sub_le _ _) t.isLt)).2.2.1 (ix2 n d)
      + added (probsAt m c) (Out (m ((c : Thread nD τ).loc main_arg3))) n d t := by
  rw [outsAt0_B m c t h h (by omega)]
  frame_out
  refine (head_dv_high (hK := key m c t) (n := n) (d := d) (R := rowAt t) (hR := rowAt_high t h)
        (hQ := fun r => query2 m c t r) (hW := fun r => ct2 m c t r) (hL := fun r => den2 m c t r) (a := _)).trans ?_
  refine (congrArg (· + _) (head_dv_high (hK := key m c t) (n := n) (d := d) (R := rowAt t) (hR := rowAt_high t h)
        (hQ := fun r => query1 m c t r) (hW := fun r => ct1 m c t r) (hL := fun r => den1 m c t r) (a := _))).trans ?_
  refine (congrArg (· + _ + _) (head_dv_high (hK := key m c t) (n := n) (d := d) (R := rowAt t) (hR := rowAt_high t h)
        (hQ := fun r => query0 m c t r) (hW := fun r => ct0 m c t r) (hL := fun r => den0 m c t r) (a := _))).trans ?_
  exact added_three (probsAt m c) (Out (m ((c : Thread nD τ).loc main_arg3))) n d t _

/-- The additions of a head's 17 grid points are the sum over all the queries. -/
theorem added_sum (G : Fin 4 → Fin 3 → Fin 4352 → Fin 4352 → EReal) (q : Fin 4 → Fin 3 → Fin 4352 → Fin 128 → EReal) (n : Fin 4352) (d : Fin 128)
    (kv : Fin 4) (h : ∀ s : Fin 17, 17 * kv.val + s.val < cfg0.N) :
    ∑ s : Fin 17, added G q n d ⟨17 * kv.val + s.val, h s⟩ = ∑ g : Fin 3, ∑ R : Fin 4352, G kv g R n * q kv g R d := by
  unfold added
  rw [Finset.sum_comm]
  refine Finset.sum_congr rfl fun g _ => Fin.sum_mul_add_congr fun s r hl => ?_
  have e0 : kvAt ⟨17 * kv.val + s.val, h s⟩ = kv := Fin.ext (by show (17 * kv.val + s.val) / 17 = kv.val; omega)
  have e1 : rowAt ⟨17 * kv.val + s.val, h s⟩ r = ⟨s.val * 256 + r.val, hl⟩ := Fin.ext (by show 256 * ((17 * kv.val + s.val) % 17) + r.val = s.val * 256 + r.val; omega)
  rw [e0, e1]

/-- The keys' gradient's block after a head's last grid point. -/
theorem dk_block (t : Fin cfg0.N) (h : t.val % 17 = 16) (n : Fin 4352) (d : Fin 128) : (outsAt0 m c t.val t.isLt).2.1 (ix2 n d)
    = ∑ g : Fin 3, ∑ R : Fin 4352, gradsAt m c (kvAt t) g R n * Qry (m ((c : Thread nD τ).loc main_arg0)) (kvAt t) g R d := by
  refine (Pipeline.eq_sum_fin_of_reset_step_of_flush (fun u hu => (outsAt0 m c u hu).2.1 (ix2 n d)) 17 (0 : EReal)
    (added (gradsAt m c) (Qry (m ((c : Thread nD τ).loc main_arg0))) n d) (fun u hu => dk_first m c u hu n d) (fun u hu => dk_next m c u hu n d) t h).trans ?_
  exact (zero_add _).trans (added_sum _ _ n d (kvAt t) _)

/-- The array of the keys' gradient after the run. -/
theorem dk_final : (Gen.dats m 0 c).arrAt 8 cfg0.N = dkOf (gradsAt m c) (m ((c : Thread nD τ).loc main_arg0)) := by
  refine (dats m 0 c).arrAt_eq_of_covers 8 _ (by decide +kernel) fun t hf y => ?_
  have h : t.val % 17 = 16 := (flush0_8 t).mp hf
  blk_simp
  rw [after0_8]
  idx_vars y
  refine (dk_block m c t h y0 y1).trans ?_
  have ht := lt_N t
  generalize hi : (((cfg0.win 8).blk t).view.emb (ix2 y0 y1)) = i
  have h0 : (i 0).val = y0.val := by
    rw [← hi]
    show win0_8.index t (0 : Fin 2) * 4352 + 1 * y0.val = y0.val
    rw [(idx t).2.2.2.2.2.2.2.1]
    show 0 * 4352 + 1 * y0.val = y0.val
    omega
  have h1 : (i 1).val = 128 * (t.val / 17) + y1.val := by
    rw [← hi]
    show win0_8.index t (1 : Fin 2) * 128 + 1 * y1.val = 128 * (t.val / 17) + y1.val
    rw [(idx t).2.2.2.2.2.2.2.1]
    show t.val / 17 * 128 + 1 * y1.val = 128 * (t.val / 17) + y1.val
    omega
  have e0 : i 0 = y0 := Fin.ext h0
  have e1 : (⟨(i 1).val / 128, by have : (i 1).val < 512 := (i 1).isLt; omega⟩ : Fin 4) = kvAt t := Fin.ext (by show (i 1).val / 128 = t.val / 17; omega)
  have e2 : (⟨(i 1).val % 128, by omega⟩ : Fin 128) = y1 := Fin.ext (by show (i 1).val % 128 = y1.val; omega)
  unfold dkOf
  rw [e0, e1, e2]

/-- The values' gradient's block after a head's last grid point. -/
theorem dv_block (t : Fin cfg0.N) (h : t.val % 17 = 16) (n : Fin 4352) (d : Fin 128) : (outsAt0 m c t.val t.isLt).2.2.1 (ix2 n d)
    = ∑ g : Fin 3, ∑ R : Fin 4352, probsAt m c (kvAt t) g R n * Out (m ((c : Thread nD τ).loc main_arg3)) (kvAt t) g R d := by
  refine (Pipeline.eq_sum_fin_of_reset_step_of_flush (fun u hu => (outsAt0 m c u hu).2.2.1 (ix2 n d)) 17 (0 : EReal)
    (added (probsAt m c) (Out (m ((c : Thread nD τ).loc main_arg3))) n d) (fun u hu => dv_first m c u hu n d) (fun u hu => dv_next m c u hu n d) t h).trans ?_
  exact (zero_add _).trans (added_sum _ _ n d (kvAt t) _)

/-- The array of the values' gradient after the run. -/
theorem dv_final : (Gen.dats m 0 c).arrAt 9 cfg0.N = dvOf (probsAt m c) (m ((c : Thread nD τ).loc main_arg3)) := by
  refine (dats m 0 c).arrAt_eq_of_covers 9 _ (by decide +kernel) fun t hf y => ?_
  have h : t.val % 17 = 16 := (flush0_9 t).mp hf
  blk_simp
  rw [after0_9]
  idx_vars y
  refine (dv_block m c t h y0 y1).trans ?_
  have ht := lt_N t
  generalize hi : (((cfg0.win 9).blk t).view.emb (ix2 y0 y1)) = i
  have h0 : (i 0).val = y0.val := by
    rw [← hi]
    show win0_9.index t (0 : Fin 2) * 4352 + 1 * y0.val = y0.val
    rw [(idx t).2.2.2.2.2.2.2.2]
    show 0 * 4352 + 1 * y0.val = y0.val
    omega
  have h1 : (i 1).val = 128 * (t.val / 17) + y1.val := by
    rw [← hi]
    show win0_9.index t (1 : Fin 2) * 128 + 1 * y1.val = 128 * (t.val / 17) + y1.val
    rw [(idx t).2.2.2.2.2.2.2.2]
    show t.val / 17 * 128 + 1 * y1.val = 128 * (t.val / 17) + y1.val
    omega
  have e0 : i 0 = y0 := Fin.ext h0
  have e1 : (⟨(i 1).val / 128, by have : (i 1).val < 512 := (i 1).isLt; omega⟩ : Fin 4) = kvAt t := Fin.ext (by show (i 1).val / 128 = t.val / 17; omega)
  have e2 : (⟨(i 1).val % 128, by omega⟩ : Fin 128) = y1 := Fin.ext (by show (i 1).val % 128 = y1.val; omega)
  unfold dvOf
  rw [e0, e1, e2]

end Cert.KernelIdeal.Attention

end
-- ==== Proof.AttentionHost.lean ====
/- The host code before the launch, one operation at a time: what each buffer holds from what its operands hold. -/
module

public import proofs.«01_k».proof.Proof.AttentionRow
public import Idealize.ShloMosaic.Lib.Pipeline.ValueKit
public import Idealize.ShloMosaic.Lib.Pipeline.ReadBack
public import Idealize.ShloMosaic.Lib.Claim
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.KernelIdeal.Attention

open Cert.KernelIdeal Cert.KernelIdeal.Gen

section Lines
variable {sg : RefSig} {Val : EltTy → Type} {ops : List (HloOp τ sg Val)} {names : List (Ref sg .tc)}
  (hall : ops.map HloOp.writes = names.map fun w => {Proc.devRef (τ := τ) .tc w}) {i : ℕ} {rest : List (HloOp τ sg Val)}
  (X : Valuation τ sg Val)

include hall

/-- What an operation reads, no later operation writes it: the contents after the line. -/
theorem read_at {x : Ref sg .tc} (hx : x ∉ names.drop i) :
    StableHlo.upto ops X i (Proc.devRef .tc x) = StableHlo.after ops X (Proc.devRef .tc x) := by
  have h := StableHlo.after_append (ops.take i) (ops.drop i) X
  rw [List.take_append_drop] at h
  rw [h, StableHlo.after_unwritten (names.drop i) (by rw [List.map_drop, hall, List.map_drop]) hx]
  rfl

/-- The last writer's result is what the buffer holds after the line. -/
theorem write_at {op : HloOp τ sg Val} {y : Ref sg .tc} (hseg : ops.drop i = op :: rest) (hy : y ∉ names.drop (i + 1)) :
    StableHlo.after ops X (Proc.devRef .tc y) = op.result (StableHlo.upto ops X i) (Proc.devRef .tc y) := by
  refine StableHlo.after_last_write (names.drop (i + 1)) hseg ?_ hy X
  have h : rest = ops.drop (i + 1) := by rw [← List.tail_drop, hseg, List.tail_cons]
  rw [h, List.map_drop, hall, List.map_drop]

/-- An operation of no operand. -/
theorem nullary_at {y : Ref sg .tc} {v : y.ty.Contents Val} {hy} (hseg : ops.drop i = StableHlo.nullary y v hy :: rest)
    (h : y ∉ names.drop (i + 1)) : StableHlo.after ops X (Proc.devRef .tc y) = v := by
  rw [write_at hall X hseg h, StableHlo.nullary_result']

/-- An operation of one operand. -/
theorem unary_at {x y : Ref sg .tc} {f : x.ty.Contents Val → y.ty.Contents Val} {hx hy} (hseg : ops.drop i = StableHlo.unary x y f hx hy :: rest)
    (h : y ∉ names.drop (i + 1)) (h' : x ∉ names.drop i) :
    StableHlo.after ops X (Proc.devRef .tc y) = f (StableHlo.after ops X (Proc.devRef .tc x)) := by
  rw [write_at hall X hseg h, StableHlo.unary_result', read_at hall X h']

/-- A change of shape. -/
theorem reshape_at {x y : Ref sg .tc} {he hn hx hy} (hseg : ops.drop i = StableHlo.reshape x y he hn hx hy :: rest)
    (h : y ∉ names.drop (i + 1)) (h' : x ∉ names.drop i) :
    StableHlo.after ops X (Proc.devRef .tc y) = fun j => he ▸ shapeCast y.ty.shape (StableHlo.after ops X (Proc.devRef .tc x)) hn j := by
  rw [write_at hall X hseg h, StableHlo.reshape_result', read_at hall X h']

/-- An operation of two operands. -/
theorem binary_at {a b y : Ref sg .tc} {f : a.ty.Contents Val → b.ty.Contents Val → y.ty.Contents Val} {ha hb hy}
    (hseg : ops.drop i = StableHlo.binary a b y f ha hb hy :: rest) (h : y ∉ names.drop (i + 1)) (h' : a ∉ names.drop i) (h'' : b ∉ names.drop i) :
    StableHlo.after ops X (Proc.devRef .tc y) = f (StableHlo.after ops X (Proc.devRef .tc a)) (StableHlo.after ops X (Proc.devRef .tc b)) := by
  rw [write_at hall X hseg h, StableHlo.binary_result', read_at hall X h', read_at hall X h'']

end Lines

set_option maxHeartbeats 4000000

variable {F : FTy → Type} [FloatOps F] (X : Valuation τ sig (Elt F))

/-- The buffers that the operations write, in order. -/
def written : List (Ref sig .tc) := [main_v0, main_v1, main_v2, main_v3, main_v4, main_v5, main_v6, main_v7, main_v8, main_v9, main_v10, main_cst, main_v11, main_v12, main_v13, main_v14, main_v15, main_cst_0, main_v16, main_v17, main_v18, main_v19, main_v20, main_v21, main_v22, main_v23, main_v24, main_v25, main_v26, main_cst_1, main_v27, main_v28, main_v29, main_v30, main_v31, main_cst_2, main_v32, main_v33, main_v34, main_v35, main_v36, main_v37, main_v38, main_v39, main_v40, main_v41, main_v42, main_cst_3, main_v43, main_v44, main_v45, main_v46, main_cst_4, main_v47]

/-- Each operation writes its own buffer. -/
theorem written_all : (hostOps0 (F := F)).map HloOp.writes = written.map fun w => {Proc.devRef (τ := τ) .tc w} := rfl

/-- What a buffer holds after the host code. -/
abbrev G (x : Ref sig .tc) : x.ty.Contents (Elt F) := StableHlo.after hostOps0 X (Proc.devRef .tc x)

theorem at_v0 : G X main_v0 = (((extf .f32 · bitsLt_bf16_f32) : (⟨S4352x1536, .bf16⟩ : BufTy).Contents (Elt F) → (⟨S4352x1536, .f32⟩ : BufTy).Contents (Elt F))) (G X main_arg0) :=
  unary_at (i := 0) written_all X rfl (by decide) (by decide)

theorem at_v1 : G X main_v1 = (((extf .f32 · bitsLt_bf16_f32) : (⟨S4352x512, .bf16⟩ : BufTy).Contents (Elt F) → (⟨S4352x512, .f32⟩ : BufTy).Contents (Elt F))) (G X main_arg1) :=
  unary_at (i := 1) written_all X rfl (by decide) (by decide)

theorem at_v2 : G X main_v2 = (((extf .f32 · bitsLt_bf16_f32) : (⟨S4352x512, .bf16⟩ : BufTy).Contents (Elt F) → (⟨S4352x512, .f32⟩ : BufTy).Contents (Elt F))) (G X main_arg2) :=
  unary_at (i := 2) written_all X rfl (by decide) (by decide)

theorem at_v3 : G X main_v3 = shapeCast _ (G X main_v0) shapeCasts_S4352x1536_S4352x4x3x128 :=
  reshape_at (i := 3) written_all X rfl (by decide) (by decide)

theorem at_v4 : G X main_v4 = shapeCast _ (G X main_v1) shapeCasts_S4352x512_S4352x4x128 :=
  reshape_at (i := 4) written_all X rfl (by decide) (by decide)

theorem at_v5 : G X main_v5 = shapeCast _ (G X main_v2) shapeCasts_S4352x512_S4352x4x128 :=
  reshape_at (i := 5) written_all X rfl (by decide) (by decide)

theorem at_v6 : G X main_v6 = (((extractStridedSlice S256x4x3x128 ![0, 0, 0, 0] · slices_S4352x4x3x128_S256x4x3x128_0_0_0_0) : (⟨S4352x4x3x128, .f32⟩ : BufTy).Contents (Elt F) → (⟨S256x4x3x128, .f32⟩ : BufTy).Contents (Elt F))) (G X main_v3) :=
  unary_at (i := 6) written_all X rfl (by decide) (by decide)

theorem at_v7 : G X main_v7 = (((extractStridedSlice S256x4x128 ![0, 0, 0] · slices_S4352x4x128_S256x4x128_0_0_0) : (⟨S4352x4x128, .f32⟩ : BufTy).Contents (Elt F) → (⟨S256x4x128, .f32⟩ : BufTy).Contents (Elt F))) (G X main_v4) :=
  unary_at (i := 7) written_all X rfl (by decide) (by decide)

theorem at_v8 : G X main_v8 = (((extractStridedSlice S256x4x128 ![0, 0, 0] · slices_S4352x4x128_S256x4x128_0_0_0) : (⟨S4352x4x128, .f32⟩ : BufTy).Contents (Elt F) → (⟨S256x4x128, .f32⟩ : BufTy).Contents (Elt F))) (G X main_v5) :=
  unary_at (i := 8) written_all X rfl (by decide) (by decide)

theorem at_v9 : G X main_v9 = (((fun l r => Host.dotGeneral dot_S256x4x128_S256x4x3x128_S4x256x256x3_2_3_0_02_1_1 none l r) : (⟨S256x4x128, .f32⟩ : BufTy).Contents (Elt F) → (⟨S256x4x3x128, .f32⟩ : BufTy).Contents (Elt F) → (⟨S4x256x256x3, .f32⟩ : BufTy).Contents (Elt F))) (G X main_v7) (G X main_v6) :=
  binary_at (i := 9) written_all X rfl (by decide) (by decide) (by decide)

theorem at_v10 : G X main_v10 = (((transpose S4x3x256x256 [0, 3, 2, 1] · transposes_S4x256x256x3_S4x3x256x256_0_3_2_1) : (⟨S4x256x256x3, .f32⟩ : BufTy).Contents (Elt F) → (⟨S4x3x256x256, .f32⟩ : BufTy).Contents (Elt F))) (G X main_v9) :=
  unary_at (i := 10) written_all X rfl (by decide) (by decide)

theorem at_cst : G X main_cst = (constant (F := F) S_ .f32 0xFF800000#32) :=
  nullary_at (i := 11) written_all X rfl (by decide)

theorem at_v11 : G X main_v11 = (((fun x v => Host.reduce FloatOps.maximumf x v reducesTo_S4x3x256x256_S4x3x256_d3 h_S_) : (⟨S4x3x256x256, .f32⟩ : BufTy).Contents (Elt F) → (⟨S_, .f32⟩ : BufTy).Contents (Elt F) → (⟨S4x3x256, .f32⟩ : BufTy).Contents (Elt F))) (G X main_v10) (G X main_cst) :=
  binary_at (i := 12) written_all X rfl (by decide) (by decide) (by decide)

theorem at_v12 : G X main_v12 = ((broadcastInDim S4x3x256x1 ![0, 1, 2] bcast_S4x3x256_S4x3x256x1_0_1_2 : (⟨S4x3x256, .f32⟩ : BufTy).Contents (Elt F) → (⟨S4x3x256x1, .f32⟩ : BufTy).Contents (Elt F))) (G X main_v11) :=
  unary_at (i := 13) written_all X rfl (by decide) (by decide)

theorem at_v13 : G X main_v13 = ((broadcastInDim S4x3x256x256 ![0, 1, 2, 3] bcast_S4x3x256x1_S4x3x256x256_0_1_2_3 : (⟨S4x3x256x1, .f32⟩ : BufTy).Contents (Elt F) → (⟨S4x3x256x256, .f32⟩ : BufTy).Contents (Elt F))) (G X main_v12) :=
  unary_at (i := 14) written_all X rfl (by decide) (by decide)

theorem at_v14 : G X main_v14 = ((subf : (⟨S4x3x256x256, .f32⟩ : BufTy).Contents (Elt F) → (⟨S4x3x256x256, .f32⟩ : BufTy).Contents (Elt F) → (⟨S4x3x256x256, .f32⟩ : BufTy).Contents (Elt F))) (G X main_v10) (G X main_v13) :=
  binary_at (i := 15) written_all X rfl (by decide) (by decide) (by decide)

theorem at_v15 : G X main_v15 = ((Host.exp : (⟨S4x3x256x256, .f32⟩ : BufTy).Contents (Elt F) → (⟨S4x3x256x256, .f32⟩ : BufTy).Contents (Elt F))) (G X main_v14) :=
  unary_at (i := 16) written_all X rfl (by decide) (by decide)

theorem at_cst_0 : G X main_cst_0 = (constant (F := F) S_ .f32 0x00000000#32) :=
  nullary_at (i := 17) written_all X rfl (by decide)

theorem at_v16 : G X main_v16 = (((fun x v => Host.reduceAdd x v reducesTo_S4x3x256x256_S4x3x256_d3 h_S_) : (⟨S4x3x256x256, .f32⟩ : BufTy).Contents (Elt F) → (⟨S_, .f32⟩ : BufTy).Contents (Elt F) → (⟨S4x3x256, .f32⟩ : BufTy).Contents (Elt F))) (G X main_v15) (G X main_cst_0) :=
  binary_at (i := 18) written_all X rfl (by decide) (by decide) (by decide)

theorem at_v17 : G X main_v17 = ((broadcastInDim S4x3x256x1 ![0, 1, 2] bcast_S4x3x256_S4x3x256x1_0_1_2 : (⟨S4x3x256, .f32⟩ : BufTy).Contents (Elt F) → (⟨S4x3x256x1, .f32⟩ : BufTy).Contents (Elt F))) (G X main_v16) :=
  unary_at (i := 19) written_all X rfl (by decide) (by decide)

theorem at_v18 : G X main_v18 = ((broadcastInDim S4x3x256x256 ![0, 1, 2, 3] bcast_S4x3x256x1_S4x3x256x256_0_1_2_3 : (⟨S4x3x256x1, .f32⟩ : BufTy).Contents (Elt F) → (⟨S4x3x256x256, .f32⟩ : BufTy).Contents (Elt F))) (G X main_v17) :=
  unary_at (i := 20) written_all X rfl (by decide) (by decide)

theorem at_v19 : G X main_v19 = ((Host.divf : (⟨S4x3x256x256, .f32⟩ : BufTy).Contents (Elt F) → (⟨S4x3x256x256, .f32⟩ : BufTy).Contents (Elt F) → (⟨S4x3x256x256, .f32⟩ : BufTy).Contents (Elt F))) (G X main_v15) (G X main_v18) :=
  binary_at (i := 21) written_all X rfl (by decide) (by decide) (by decide)

theorem at_v20 : G X main_v20 = (((fun l r => Host.dotGeneral dot_S256x4x128_S4x3x256x256_S4x128x3x256_0_3_2_12_1_0 none l r) : (⟨S256x4x128, .f32⟩ : BufTy).Contents (Elt F) → (⟨S4x3x256x256, .f32⟩ : BufTy).Contents (Elt F) → (⟨S4x128x3x256, .f32⟩ : BufTy).Contents (Elt F))) (G X main_v8) (G X main_v19) :=
  binary_at (i := 22) written_all X rfl (by decide) (by decide) (by decide)

theorem at_v21 : G X main_v21 = (((transpose S256x4x3x128 [3, 0, 2, 1] · transposes_S4x128x3x256_S256x4x3x128_3_0_2_1) : (⟨S4x128x3x256, .f32⟩ : BufTy).Contents (Elt F) → (⟨S256x4x3x128, .f32⟩ : BufTy).Contents (Elt F))) (G X main_v20) :=
  unary_at (i := 23) written_all X rfl (by decide) (by decide)

theorem at_v22 : G X main_v22 = ((Host.log : (⟨S4x3x256x1, .f32⟩ : BufTy).Contents (Elt F) → (⟨S4x3x256x1, .f32⟩ : BufTy).Contents (Elt F))) (G X main_v17) :=
  unary_at (i := 24) written_all X rfl (by decide) (by decide)

theorem at_v23 : G X main_v23 = ((addf : (⟨S4x3x256x1, .f32⟩ : BufTy).Contents (Elt F) → (⟨S4x3x256x1, .f32⟩ : BufTy).Contents (Elt F) → (⟨S4x3x256x1, .f32⟩ : BufTy).Contents (Elt F))) (G X main_v12) (G X main_v22) :=
  binary_at (i := 25) written_all X rfl (by decide) (by decide) (by decide)

theorem at_v24 : G X main_v24 = (((extractStridedSlice S4096x4x3x128 ![256, 0, 0, 0] · slices_S4352x4x3x128_S4096x4x3x128_256_0_0_0) : (⟨S4352x4x3x128, .f32⟩ : BufTy).Contents (Elt F) → (⟨S4096x4x3x128, .f32⟩ : BufTy).Contents (Elt F))) (G X main_v3) :=
  unary_at (i := 26) written_all X rfl (by decide) (by decide)

theorem at_v25 : G X main_v25 = (((fun l r => Host.dotGeneral dot_S4352x4x128_S4096x4x3x128_S4x4352x4096x3_2_3_0_02_1_1 none l r) : (⟨S4352x4x128, .f32⟩ : BufTy).Contents (Elt F) → (⟨S4096x4x3x128, .f32⟩ : BufTy).Contents (Elt F) → (⟨S4x4352x4096x3, .f32⟩ : BufTy).Contents (Elt F))) (G X main_v4) (G X main_v24) :=
  binary_at (i := 27) written_all X rfl (by decide) (by decide) (by decide)

theorem at_v26 : G X main_v26 = (((transpose S4x3x4096x4352 [0, 3, 2, 1] · transposes_S4x4352x4096x3_S4x3x4096x4352_0_3_2_1) : (⟨S4x4352x4096x3, .f32⟩ : BufTy).Contents (Elt F) → (⟨S4x3x4096x4352, .f32⟩ : BufTy).Contents (Elt F))) (G X main_v25) :=
  unary_at (i := 28) written_all X rfl (by decide) (by decide)

theorem at_cst_1 : G X main_cst_1 = (constant (F := F) S_ .f32 0xFF800000#32) :=
  nullary_at (i := 29) written_all X rfl (by decide)

theorem at_v27 : G X main_v27 = (((fun x v => Host.reduce FloatOps.maximumf x v reducesTo_S4x3x4096x4352_S4x3x4096_d3 h_S_) : (⟨S4x3x4096x4352, .f32⟩ : BufTy).Contents (Elt F) → (⟨S_, .f32⟩ : BufTy).Contents (Elt F) → (⟨S4x3x4096, .f32⟩ : BufTy).Contents (Elt F))) (G X main_v26) (G X main_cst_1) :=
  binary_at (i := 30) written_all X rfl (by decide) (by decide) (by decide)

theorem at_v28 : G X main_v28 = ((broadcastInDim S4x3x4096x1 ![0, 1, 2] bcast_S4x3x4096_S4x3x4096x1_0_1_2 : (⟨S4x3x4096, .f32⟩ : BufTy).Contents (Elt F) → (⟨S4x3x4096x1, .f32⟩ : BufTy).Contents (Elt F))) (G X main_v27) :=
  unary_at (i := 31) written_all X rfl (by decide) (by decide)

theorem at_v29 : G X main_v29 = ((broadcastInDim S4x3x4096x4352 ![0, 1, 2, 3] bcast_S4x3x4096x1_S4x3x4096x4352_0_1_2_3 : (⟨S4x3x4096x1, .f32⟩ : BufTy).Contents (Elt F) → (⟨S4x3x4096x4352, .f32⟩ : BufTy).Contents (Elt F))) (G X main_v28) :=
  unary_at (i := 32) written_all X rfl (by decide) (by decide)

theorem at_v30 : G X main_v30 = ((subf : (⟨S4x3x4096x4352, .f32⟩ : BufTy).Contents (Elt F) → (⟨S4x3x4096x4352, .f32⟩ : BufTy).Contents (Elt F) → (⟨S4x3x4096x4352, .f32⟩ : BufTy).Contents (Elt F))) (G X main_v26) (G X main_v29) :=
  binary_at (i := 33) written_all X rfl (by decide) (by decide) (by decide)

theorem at_v31 : G X main_v31 = ((Host.exp : (⟨S4x3x4096x4352, .f32⟩ : BufTy).Contents (Elt F) → (⟨S4x3x4096x4352, .f32⟩ : BufTy).Contents (Elt F))) (G X main_v30) :=
  unary_at (i := 34) written_all X rfl (by decide) (by decide)

theorem at_cst_2 : G X main_cst_2 = (constant (F := F) S_ .f32 0x00000000#32) :=
  nullary_at (i := 35) written_all X rfl (by decide)

theorem at_v32 : G X main_v32 = (((fun x v => Host.reduceAdd x v reducesTo_S4x3x4096x4352_S4x3x4096_d3 h_S_) : (⟨S4x3x4096x4352, .f32⟩ : BufTy).Contents (Elt F) → (⟨S_, .f32⟩ : BufTy).Contents (Elt F) → (⟨S4x3x4096, .f32⟩ : BufTy).Contents (Elt F))) (G X main_v31) (G X main_cst_2) :=
  binary_at (i := 36) written_all X rfl (by decide) (by decide) (by decide)

theorem at_v33 : G X main_v33 = ((broadcastInDim S4x3x4096x1 ![0, 1, 2] bcast_S4x3x4096_S4x3x4096x1_0_1_2 : (⟨S4x3x4096, .f32⟩ : BufTy).Contents (Elt F) → (⟨S4x3x4096x1, .f32⟩ : BufTy).Contents (Elt F))) (G X main_v32) :=
  unary_at (i := 37) written_all X rfl (by decide) (by decide)

theorem at_v34 : G X main_v34 = ((broadcastInDim S4x3x4096x4352 ![0, 1, 2, 3] bcast_S4x3x4096x1_S4x3x4096x4352_0_1_2_3 : (⟨S4x3x4096x1, .f32⟩ : BufTy).Contents (Elt F) → (⟨S4x3x4096x4352, .f32⟩ : BufTy).Contents (Elt F))) (G X main_v33) :=
  unary_at (i := 38) written_all X rfl (by decide) (by decide)

theorem at_v35 : G X main_v35 = ((Host.divf : (⟨S4x3x4096x4352, .f32⟩ : BufTy).Contents (Elt F) → (⟨S4x3x4096x4352, .f32⟩ : BufTy).Contents (Elt F) → (⟨S4x3x4096x4352, .f32⟩ : BufTy).Contents (Elt F))) (G X main_v31) (G X main_v34) :=
  binary_at (i := 39) written_all X rfl (by decide) (by decide) (by decide)

theorem at_v36 : G X main_v36 = (((fun l r => Host.dotGeneral dot_S4352x4x128_S4x3x4096x4352_S4x128x3x4096_0_3_2_12_1_0 none l r) : (⟨S4352x4x128, .f32⟩ : BufTy).Contents (Elt F) → (⟨S4x3x4096x4352, .f32⟩ : BufTy).Contents (Elt F) → (⟨S4x128x3x4096, .f32⟩ : BufTy).Contents (Elt F))) (G X main_v5) (G X main_v35) :=
  binary_at (i := 40) written_all X rfl (by decide) (by decide) (by decide)

theorem at_v37 : G X main_v37 = (((transpose S4096x4x3x128 [3, 0, 2, 1] · transposes_S4x128x3x4096_S4096x4x3x128_3_0_2_1) : (⟨S4x128x3x4096, .f32⟩ : BufTy).Contents (Elt F) → (⟨S4096x4x3x128, .f32⟩ : BufTy).Contents (Elt F))) (G X main_v36) :=
  unary_at (i := 41) written_all X rfl (by decide) (by decide)

theorem at_v38 : G X main_v38 = ((Host.log : (⟨S4x3x4096x1, .f32⟩ : BufTy).Contents (Elt F) → (⟨S4x3x4096x1, .f32⟩ : BufTy).Contents (Elt F))) (G X main_v33) :=
  unary_at (i := 42) written_all X rfl (by decide) (by decide)

theorem at_v39 : G X main_v39 = ((addf : (⟨S4x3x4096x1, .f32⟩ : BufTy).Contents (Elt F) → (⟨S4x3x4096x1, .f32⟩ : BufTy).Contents (Elt F) → (⟨S4x3x4096x1, .f32⟩ : BufTy).Contents (Elt F))) (G X main_v28) (G X main_v38) :=
  binary_at (i := 43) written_all X rfl (by decide) (by decide) (by decide)

theorem at_v40 : G X main_v40 = (((fun a b => concatenate S4352x4x3x128 0 [⟨S256x4x3x128, a⟩, ⟨S4096x4x3x128, b⟩] concatenates_S256x4x3x128_S4096x4x3x128_S4352x4x3x128_d0) : (⟨S256x4x3x128, .f32⟩ : BufTy).Contents (Elt F) → (⟨S4096x4x3x128, .f32⟩ : BufTy).Contents (Elt F) → (⟨S4352x4x3x128, .f32⟩ : BufTy).Contents (Elt F))) (G X main_v21) (G X main_v37) :=
  binary_at (i := 44) written_all X rfl (by decide) (by decide) (by decide)

theorem at_v41 : G X main_v41 = shapeCast _ (G X main_v40) shapeCasts_S4352x4x3x128_S4352x1536 :=
  reshape_at (i := 45) written_all X rfl (by decide) (by decide)

theorem at_v42 : G X main_v42 = (((truncf .bf16 · bitsLt_bf16_f32) : (⟨S4352x1536, .f32⟩ : BufTy).Contents (Elt F) → (⟨S4352x1536, .bf16⟩ : BufTy).Contents (Elt F))) (G X main_v41) :=
  unary_at (i := 46) written_all X rfl (by decide) (by decide)

theorem at_cst_3 : G X main_cst_3 = (constant (F := F) S_ .bf16 0x0000#16) :=
  nullary_at (i := 47) written_all X rfl (by decide)

theorem at_v43 : G X main_v43 = ((broadcastInDim S4352x512 ![] bcast_S_S4352x512 : (⟨S_, .bf16⟩ : BufTy).Contents (Elt F) → (⟨S4352x512, .bf16⟩ : BufTy).Contents (Elt F))) (G X main_cst_3) :=
  unary_at (i := 48) written_all X rfl (by decide) (by decide)

theorem at_v44 : G X main_v44 = (((fun a b => concatenate S4352x2048 1 [⟨S4352x1536, a⟩, ⟨S4352x512, b⟩] concatenates_S4352x1536_S4352x512_S4352x2048_d1) : (⟨S4352x1536, .bf16⟩ : BufTy).Contents (Elt F) → (⟨S4352x512, .bf16⟩ : BufTy).Contents (Elt F) → (⟨S4352x2048, .bf16⟩ : BufTy).Contents (Elt F))) (G X main_v42) (G X main_v43) :=
  binary_at (i := 49) written_all X rfl (by decide) (by decide) (by decide)

theorem at_v45 : G X main_v45 = (((fun a b => concatenate S4x3x4352x1 2 [⟨S4x3x256x1, a⟩, ⟨S4x3x4096x1, b⟩] concatenates_S4x3x256x1_S4x3x4096x1_S4x3x4352x1_d2) : (⟨S4x3x256x1, .f32⟩ : BufTy).Contents (Elt F) → (⟨S4x3x4096x1, .f32⟩ : BufTy).Contents (Elt F) → (⟨S4x3x4352x1, .f32⟩ : BufTy).Contents (Elt F))) (G X main_v23) (G X main_v39) :=
  binary_at (i := 50) written_all X rfl (by decide) (by decide) (by decide)

theorem at_v46 : G X main_v46 = shapeCast _ (G X main_v45) shapeCasts_S4x3x4352x1_S12x4352x1 :=
  reshape_at (i := 51) written_all X rfl (by decide) (by decide)

/-- The host code leaves its argument as it is. -/
theorem at_arg0 : G X main_arg0 = X (Proc.devRef .tc main_arg0) :=
  StableHlo.after_unwritten written written_all (by decide) X

/-- The host code leaves its argument as it is. -/
theorem at_arg1 : G X main_arg1 = X (Proc.devRef .tc main_arg1) :=
  StableHlo.after_unwritten written written_all (by decide) X

/-- The host code leaves its argument as it is. -/
theorem at_arg2 : G X main_arg2 = X (Proc.devRef .tc main_arg2) :=
  StableHlo.after_unwritten written written_all (by decide) X

end Cert.KernelIdeal.Attention

end
-- ==== Proof.AttentionSaved.lean ====
/- What the forward pass leaves for the backward one: the log-sum-exp of every row and the attention output, which the
   host code computes from the queries, the keys and the values. -/
module

public import proofs.«01_k».proof.Proof.AttentionHost
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Attention

open Cert.KernelIdeal Cert.KernelIdeal.Gen

/-- The scores of a row. -/
def sc {N : Nat} (q : Fin 128 → EReal) (k : Fin N → Fin 128 → EReal) (n : Fin N) : EReal := ∑ d : Fin 128, q d * k n d

/-- The largest score, from minus infinity. -/
def top {N : Nat} (s : Fin N → EReal) : EReal := Finset.fold max (Ideal.ofBits FTy.f32 4286578688#32) s Finset.univ

/-- The sum of the exponentials, the largest score subtracted. -/
def tot {N : Nat} (s : Fin N → EReal) : EReal := ∑ n, Ideal.exp (s n - top s)

/-- The log-sum-exp. -/
def lse {N : Nat} (s : Fin N → EReal) : EReal := top s + Ideal.log (tot s)

/-- The mean of the values under the softmax. -/
def mean {N : Nat} (s : Fin N → EReal) (v : Fin N → Fin 128 → EReal) (d : Fin 128) : EReal :=
  ∑ n, v n d * Ideal.div (Ideal.exp (s n - top s)) (tot s)

variable (X : Valuation τ sig (Elt Ideal))

theorem max_ctx_of (kv : Fin 4) (g : Fin 3) (r : Fin 256) {v10 : FVec Ideal S4x3x256x256 .f32} {cst : FVec Ideal S_ .f32} {v11 : FVec Ideal S4x3x256 .f32} {v12 : FVec Ideal S4x3x256x1 .f32}
    (h_cst : cst = (constant (F := Ideal) S_ .f32 0xFF800000#32))
    (h_v11 : v11 = Host.reduce (FloatOps.maximumf : Ideal .f32 → Ideal .f32 → Ideal .f32) v10 cst reducesTo_S4x3x256x256_S4x3x256_d3 h_S_)
    (h_v12 : v12 = (broadcastInDim S4x3x256x1 ![0, 1, 2] bcast_S4x3x256_S4x3x256x1_0_1_2) v11) :
    v12 (ix4 kv g r 0) = (Finset.fold max (Ideal.ofBits FTy.f32 4286578688#32) (fun n => v10 (ix4 kv g r n)) Finset.univ) := by
  subst h_cst h_v11 h_v12
  pointwise

/-- The largest score of a row. -/
theorem max_ctx (kv : Fin 4) (g : Fin 3) (r : Fin 256) :
    (show FVec Ideal S4x3x256x1 .f32 from G X main_v12) (ix4 kv g r 0) = (Finset.fold max (Ideal.ofBits FTy.f32 4286578688#32) (fun n => (show FVec Ideal S4x3x256x256 .f32 from G X main_v10) (ix4 kv g r n)) Finset.univ) :=
  max_ctx_of kv g r (at_cst X) (at_v11 X) (at_v12 X)

theorem max_lat_of (kv : Fin 4) (g : Fin 3) (r : Fin 4096) {v26 : FVec Ideal S4x3x4096x4352 .f32} {cst_1 : FVec Ideal S_ .f32} {v27 : FVec Ideal S4x3x4096 .f32} {v28 : FVec Ideal S4x3x4096x1 .f32}
    (h_cst_1 : cst_1 = (constant (F := Ideal) S_ .f32 0xFF800000#32))
    (h_v27 : v27 = Host.reduce (FloatOps.maximumf : Ideal .f32 → Ideal .f32 → Ideal .f32) v26 cst_1 reducesTo_S4x3x4096x4352_S4x3x4096_d3 h_S_)
    (h_v28 : v28 = (broadcastInDim S4x3x4096x1 ![0, 1, 2] bcast_S4x3x4096_S4x3x4096x1_0_1_2) v27) :
    v28 (ix4 kv g r 0) = (Finset.fold max (Ideal.ofBits FTy.f32 4286578688#32) (fun n => v26 (ix4 kv g r n)) Finset.univ) := by
  subst h_cst_1 h_v27 h_v28
  pointwise

/-- The largest score of a row. -/
theorem max_lat (kv : Fin 4) (g : Fin 3) (r : Fin 4096) :
    (show FVec Ideal S4x3x4096x1 .f32 from G X main_v28) (ix4 kv g r 0) = (Finset.fold max (Ideal.ofBits FTy.f32 4286578688#32) (fun n => (show FVec Ideal S4x3x4096x4352 .f32 from G X main_v26) (ix4 kv g r n)) Finset.univ) :=
  max_lat_of kv g r (at_cst_1 X) (at_v27 X) (at_v28 X)

theorem sum_ctx_of (kv : Fin 4) (g : Fin 3) (r : Fin 256) {v10 : FVec Ideal S4x3x256x256 .f32} {cst : FVec Ideal S_ .f32} {v11 : FVec Ideal S4x3x256 .f32} {v12 : FVec Ideal S4x3x256x1 .f32} {v13 : FVec Ideal S4x3x256x256 .f32} {v14 : FVec Ideal S4x3x256x256 .f32} {v15 : FVec Ideal S4x3x256x256 .f32} {cst_0 : FVec Ideal S_ .f32} {v16 : FVec Ideal S4x3x256 .f32} {v17 : FVec Ideal S4x3x256x1 .f32}
    (h_cst : cst = (constant (F := Ideal) S_ .f32 0xFF800000#32))
    (h_v11 : v11 = Host.reduce (FloatOps.maximumf : Ideal .f32 → Ideal .f32 → Ideal .f32) v10 cst reducesTo_S4x3x256x256_S4x3x256_d3 h_S_)
    (h_v12 : v12 = (broadcastInDim S4x3x256x1 ![0, 1, 2] bcast_S4x3x256_S4x3x256x1_0_1_2) v11)
    (h_v13 : v13 = (broadcastInDim S4x3x256x256 ![0, 1, 2, 3] bcast_S4x3x256x1_S4x3x256x256_0_1_2_3) v12)
    (h_v14 : v14 = (subf) v10 v13)
    (h_v15 : v15 = Host.exp v14)
    (h_cst_0 : cst_0 = (constant (F := Ideal) S_ .f32 0x00000000#32))
    (h_v16 : v16 = Host.reduceAdd v15 cst_0 reducesTo_S4x3x256x256_S4x3x256_d3 h_S_)
    (h_v17 : v17 = (broadcastInDim S4x3x256x1 ![0, 1, 2] bcast_S4x3x256_S4x3x256x1_0_1_2) v16) :
    v17 (ix4 kv g r 0) = ∑ n, Ideal.exp (v10 (ix4 kv g r n) - (Finset.fold max (Ideal.ofBits FTy.f32 4286578688#32) (fun n => v10 (ix4 kv g r n)) Finset.univ)) := by
  subst h_cst h_v11 h_v12 h_v13 h_v14 h_v15 h_cst_0 h_v16 h_v17
  pointwise

/-- The sum of the exponentials of a row, its largest score subtracted. -/
theorem sum_ctx (kv : Fin 4) (g : Fin 3) (r : Fin 256) :
    (show FVec Ideal S4x3x256x1 .f32 from G X main_v17) (ix4 kv g r 0) = ∑ n, Ideal.exp ((show FVec Ideal S4x3x256x256 .f32 from G X main_v10) (ix4 kv g r n) - (Finset.fold max (Ideal.ofBits FTy.f32 4286578688#32) (fun n => (show FVec Ideal S4x3x256x256 .f32 from G X main_v10) (ix4 kv g r n)) Finset.univ)) :=
  sum_ctx_of kv g r (at_cst X) (at_v11 X) (at_v12 X) (at_v13 X) (at_v14 X) (at_v15 X) (at_cst_0 X) (at_v16 X) (at_v17 X)

theorem sum_lat_of (kv : Fin 4) (g : Fin 3) (r : Fin 4096) {v26 : FVec Ideal S4x3x4096x4352 .f32} {cst_1 : FVec Ideal S_ .f32} {v27 : FVec Ideal S4x3x4096 .f32} {v28 : FVec Ideal S4x3x4096x1 .f32} {v29 : FVec Ideal S4x3x4096x4352 .f32} {v30 : FVec Ideal S4x3x4096x4352 .f32} {v31 : FVec Ideal S4x3x4096x4352 .f32} {cst_2 : FVec Ideal S_ .f32} {v32 : FVec Ideal S4x3x4096 .f32} {v33 : FVec Ideal S4x3x4096x1 .f32}
    (h_cst_1 : cst_1 = (constant (F := Ideal) S_ .f32 0xFF800000#32))
    (h_v27 : v27 = Host.reduce (FloatOps.maximumf : Ideal .f32 → Ideal .f32 → Ideal .f32) v26 cst_1 reducesTo_S4x3x4096x4352_S4x3x4096_d3 h_S_)
    (h_v28 : v28 = (broadcastInDim S4x3x4096x1 ![0, 1, 2] bcast_S4x3x4096_S4x3x4096x1_0_1_2) v27)
    (h_v29 : v29 = (broadcastInDim S4x3x4096x4352 ![0, 1, 2, 3] bcast_S4x3x4096x1_S4x3x4096x4352_0_1_2_3) v28)
    (h_v30 : v30 = (subf) v26 v29)
    (h_v31 : v31 = Host.exp v30)
    (h_cst_2 : cst_2 = (constant (F := Ideal) S_ .f32 0x00000000#32))
    (h_v32 : v32 = Host.reduceAdd v31 cst_2 reducesTo_S4x3x4096x4352_S4x3x4096_d3 h_S_)
    (h_v33 : v33 = (broadcastInDim S4x3x4096x1 ![0, 1, 2] bcast_S4x3x4096_S4x3x4096x1_0_1_2) v32) :
    v33 (ix4 kv g r 0) = ∑ n, Ideal.exp (v26 (ix4 kv g r n) - (Finset.fold max (Ideal.ofBits FTy.f32 4286578688#32) (fun n => v26 (ix4 kv g r n)) Finset.univ)) := by
  subst h_cst_1 h_v27 h_v28 h_v29 h_v30 h_v31 h_cst_2 h_v32 h_v33
  pointwise

/-- The sum of the exponentials of a row, its largest score subtracted. -/
theorem sum_lat (kv : Fin 4) (g : Fin 3) (r : Fin 4096) :
    (show FVec Ideal S4x3x4096x1 .f32 from G X main_v33) (ix4 kv g r 0) = ∑ n, Ideal.exp ((show FVec Ideal S4x3x4096x4352 .f32 from G X main_v26) (ix4 kv g r n) - (Finset.fold max (Ideal.ofBits FTy.f32 4286578688#32) (fun n => (show FVec Ideal S4x3x4096x4352 .f32 from G X main_v26) (ix4 kv g r n)) Finset.univ)) :=
  sum_lat_of kv g r (at_cst_1 X) (at_v27 X) (at_v28 X) (at_v29 X) (at_v30 X) (at_v31 X) (at_cst_2 X) (at_v32 X) (at_v33 X)

theorem lse_ctx_of (kv : Fin 4) (g : Fin 3) (r : Fin 256) {v12 : FVec Ideal S4x3x256x1 .f32} {v17 : FVec Ideal S4x3x256x1 .f32} {v22 : FVec Ideal S4x3x256x1 .f32} {v23 : FVec Ideal S4x3x256x1 .f32}
    (h_v22 : v22 = Host.log v17)
    (h_v23 : v23 = (addf) v12 v22) :
    v23 (ix4 kv g r 0) = v12 (ix4 kv g r 0) + Ideal.log (v17 (ix4 kv g r 0)) := by
  subst h_v22 h_v23
  pointwise

/-- The largest score and the logarithm of the sum. -/
theorem lse_ctx (kv : Fin 4) (g : Fin 3) (r : Fin 256) :
    (show FVec Ideal S4x3x256x1 .f32 from G X main_v23) (ix4 kv g r 0) = (show FVec Ideal S4x3x256x1 .f32 from G X main_v12) (ix4 kv g r 0) + Ideal.log ((show FVec Ideal S4x3x256x1 .f32 from G X main_v17) (ix4 kv g r 0)) :=
  lse_ctx_of kv g r (at_v22 X) (at_v23 X)

theorem lse_lat_of (kv : Fin 4) (g : Fin 3) (r : Fin 4096) {v28 : FVec Ideal S4x3x4096x1 .f32} {v33 : FVec Ideal S4x3x4096x1 .f32} {v38 : FVec Ideal S4x3x4096x1 .f32} {v39 : FVec Ideal S4x3x4096x1 .f32}
    (h_v38 : v38 = Host.log v33)
    (h_v39 : v39 = (addf) v28 v38) :
    v39 (ix4 kv g r 0) = v28 (ix4 kv g r 0) + Ideal.log (v33 (ix4 kv g r 0)) := by
  subst h_v38 h_v39
  pointwise

/-- The largest score and the logarithm of the sum. -/
theorem lse_lat (kv : Fin 4) (g : Fin 3) (r : Fin 4096) :
    (show FVec Ideal S4x3x4096x1 .f32 from G X main_v39) (ix4 kv g r 0) = (show FVec Ideal S4x3x4096x1 .f32 from G X main_v28) (ix4 kv g r 0) + Ideal.log ((show FVec Ideal S4x3x4096x1 .f32 from G X main_v33) (ix4 kv g r 0)) :=
  lse_lat_of kv g r (at_v38 X) (at_v39 X)

/-- The log-sum-exp of a row. -/
theorem den_ctx (kv : Fin 4) (g : Fin 3) (r : Fin 256) :
    (show FVec Ideal S4x3x256x1 .f32 from G X main_v23) (ix4 kv g r 0) = (Finset.fold max (Ideal.ofBits FTy.f32 4286578688#32) (fun n => (show FVec Ideal S4x3x256x256 .f32 from G X main_v10) (ix4 kv g r n)) Finset.univ) + Ideal.log (∑ n, Ideal.exp ((show FVec Ideal S4x3x256x256 .f32 from G X main_v10) (ix4 kv g r n) - (Finset.fold max (Ideal.ofBits FTy.f32 4286578688#32) (fun n => (show FVec Ideal S4x3x256x256 .f32 from G X main_v10) (ix4 kv g r n)) Finset.univ))) :=
  (lse_ctx X kv g r).trans (congrArg₂ (fun a b : EReal => a + Ideal.log b) (max_ctx X kv g r) (sum_ctx X kv g r))

/-- The log-sum-exp of a row. -/
theorem den_lat (kv : Fin 4) (g : Fin 3) (r : Fin 4096) :
    (show FVec Ideal S4x3x4096x1 .f32 from G X main_v39) (ix4 kv g r 0) = (Finset.fold max (Ideal.ofBits FTy.f32 4286578688#32) (fun n => (show FVec Ideal S4x3x4096x4352 .f32 from G X main_v26) (ix4 kv g r n)) Finset.univ) + Ideal.log (∑ n, Ideal.exp ((show FVec Ideal S4x3x4096x4352 .f32 from G X main_v26) (ix4 kv g r n) - (Finset.fold max (Ideal.ofBits FTy.f32 4286578688#32) (fun n => (show FVec Ideal S4x3x4096x4352 .f32 from G X main_v26) (ix4 kv g r n)) Finset.univ))) :=
  (lse_lat X kv g r).trans (congrArg₂ (fun a b : EReal => a + Ideal.log b) (max_lat X kv g r) (sum_lat X kv g r))

theorem out_ctx_of (r : Fin 256) (kv : Fin 4) (g : Fin 3) (d : Fin 128) {v10 : FVec Ideal S4x3x256x256 .f32} {v8 : FVec Ideal S256x4x128 .f32} {cst : FVec Ideal S_ .f32} {v11 : FVec Ideal S4x3x256 .f32} {v12 : FVec Ideal S4x3x256x1 .f32} {v13 : FVec Ideal S4x3x256x256 .f32} {v14 : FVec Ideal S4x3x256x256 .f32} {v15 : FVec Ideal S4x3x256x256 .f32} {cst_0 : FVec Ideal S_ .f32} {v16 : FVec Ideal S4x3x256 .f32} {v17 : FVec Ideal S4x3x256x1 .f32} {v18 : FVec Ideal S4x3x256x256 .f32} {v19 : FVec Ideal S4x3x256x256 .f32} {v20 : FVec Ideal S4x128x3x256 .f32} {v21 : FVec Ideal S256x4x3x128 .f32}
    (h_cst : cst = (constant (F := Ideal) S_ .f32 0xFF800000#32))
    (h_v11 : v11 = Host.reduce (FloatOps.maximumf : Ideal .f32 → Ideal .f32 → Ideal .f32) v10 cst reducesTo_S4x3x256x256_S4x3x256_d3 h_S_)
    (h_v12 : v12 = (broadcastInDim S4x3x256x1 ![0, 1, 2] bcast_S4x3x256_S4x3x256x1_0_1_2) v11)
    (h_v13 : v13 = (broadcastInDim S4x3x256x256 ![0, 1, 2, 3] bcast_S4x3x256x1_S4x3x256x256_0_1_2_3) v12)
    (h_v14 : v14 = (subf) v10 v13)
    (h_v15 : v15 = Host.exp v14)
    (h_cst_0 : cst_0 = (constant (F := Ideal) S_ .f32 0x00000000#32))
    (h_v16 : v16 = Host.reduceAdd v15 cst_0 reducesTo_S4x3x256x256_S4x3x256_d3 h_S_)
    (h_v17 : v17 = (broadcastInDim S4x3x256x1 ![0, 1, 2] bcast_S4x3x256_S4x3x256x1_0_1_2) v16)
    (h_v18 : v18 = (broadcastInDim S4x3x256x256 ![0, 1, 2, 3] bcast_S4x3x256x1_S4x3x256x256_0_1_2_3) v17)
    (h_v19 : v19 = (Host.divf) v15 v18)
    (h_v20 : v20 = Host.dotGeneral dot_S256x4x128_S4x3x256x256_S4x128x3x256_0_3_2_12_1_0 none v8 v19)
    (h_v21 : v21 = transpose S256x4x3x128 [3, 0, 2, 1] v20 transposes_S4x128x3x256_S256x4x3x128_3_0_2_1) :
    v21 (ix4 r kv g d) = ∑ n, v8 (ix3 n kv d) * Ideal.div (Ideal.exp (v10 (ix4 kv g r n) - (Finset.fold max (Ideal.ofBits FTy.f32 4286578688#32) (fun n => v10 (ix4 kv g r n)) Finset.univ))) (∑ n, Ideal.exp (v10 (ix4 kv g r n) - (Finset.fold max (Ideal.ofBits FTy.f32 4286578688#32) (fun n => v10 (ix4 kv g r n)) Finset.univ))) := by
  subst h_cst h_v11 h_v12 h_v13 h_v14 h_v15 h_cst_0 h_v16 h_v17 h_v18 h_v19 h_v20 h_v21
  pointwise

/-- The attention output of a row of the context. -/
theorem out_ctx (r : Fin 256) (kv : Fin 4) (g : Fin 3) (d : Fin 128) :
    (show FVec Ideal S256x4x3x128 .f32 from G X main_v21) (ix4 r kv g d) = ∑ n, (show FVec Ideal S256x4x128 .f32 from G X main_v8) (ix3 n kv d) * Ideal.div (Ideal.exp ((show FVec Ideal S4x3x256x256 .f32 from G X main_v10) (ix4 kv g r n) - (Finset.fold max (Ideal.ofBits FTy.f32 4286578688#32) (fun n => (show FVec Ideal S4x3x256x256 .f32 from G X main_v10) (ix4 kv g r n)) Finset.univ))) (∑ n, Ideal.exp ((show FVec Ideal S4x3x256x256 .f32 from G X main_v10) (ix4 kv g r n) - (Finset.fold max (Ideal.ofBits FTy.f32 4286578688#32) (fun n => (show FVec Ideal S4x3x256x256 .f32 from G X main_v10) (ix4 kv g r n)) Finset.univ))) :=
  out_ctx_of r kv g d (at_cst X) (at_v11 X) (at_v12 X) (at_v13 X) (at_v14 X) (at_v15 X) (at_cst_0 X) (at_v16 X) (at_v17 X) (at_v18 X) (at_v19 X) (at_v20 X) (at_v21 X)

theorem out_lat_of (r : Fin 4096) (kv : Fin 4) (g : Fin 3) (d : Fin 128) {v26 : FVec Ideal S4x3x4096x4352 .f32} {v5 : FVec Ideal S4352x4x128 .f32} {cst_1 : FVec Ideal S_ .f32} {v27 : FVec Ideal S4x3x4096 .f32} {v28 : FVec Ideal S4x3x4096x1 .f32} {v29 : FVec Ideal S4x3x4096x4352 .f32} {v30 : FVec Ideal S4x3x4096x4352 .f32} {v31 : FVec Ideal S4x3x4096x4352 .f32} {cst_2 : FVec Ideal S_ .f32} {v32 : FVec Ideal S4x3x4096 .f32} {v33 : FVec Ideal S4x3x4096x1 .f32} {v34 : FVec Ideal S4x3x4096x4352 .f32} {v35 : FVec Ideal S4x3x4096x4352 .f32} {v36 : FVec Ideal S4x128x3x4096 .f32} {v37 : FVec Ideal S4096x4x3x128 .f32}
    (h_cst_1 : cst_1 = (constant (F := Ideal) S_ .f32 0xFF800000#32))
    (h_v27 : v27 = Host.reduce (FloatOps.maximumf : Ideal .f32 → Ideal .f32 → Ideal .f32) v26 cst_1 reducesTo_S4x3x4096x4352_S4x3x4096_d3 h_S_)
    (h_v28 : v28 = (broadcastInDim S4x3x4096x1 ![0, 1, 2] bcast_S4x3x4096_S4x3x4096x1_0_1_2) v27)
    (h_v29 : v29 = (broadcastInDim S4x3x4096x4352 ![0, 1, 2, 3] bcast_S4x3x4096x1_S4x3x4096x4352_0_1_2_3) v28)
    (h_v30 : v30 = (subf) v26 v29)
    (h_v31 : v31 = Host.exp v30)
    (h_cst_2 : cst_2 = (constant (F := Ideal) S_ .f32 0x00000000#32))
    (h_v32 : v32 = Host.reduceAdd v31 cst_2 reducesTo_S4x3x4096x4352_S4x3x4096_d3 h_S_)
    (h_v33 : v33 = (broadcastInDim S4x3x4096x1 ![0, 1, 2] bcast_S4x3x4096_S4x3x4096x1_0_1_2) v32)
    (h_v34 : v34 = (broadcastInDim S4x3x4096x4352 ![0, 1, 2, 3] bcast_S4x3x4096x1_S4x3x4096x4352_0_1_2_3) v33)
    (h_v35 : v35 = (Host.divf) v31 v34)
    (h_v36 : v36 = Host.dotGeneral dot_S4352x4x128_S4x3x4096x4352_S4x128x3x4096_0_3_2_12_1_0 none v5 v35)
    (h_v37 : v37 = transpose S4096x4x3x128 [3, 0, 2, 1] v36 transposes_S4x128x3x4096_S4096x4x3x128_3_0_2_1) :
    v37 (ix4 r kv g d) = ∑ n, v5 (ix3 n kv d) * Ideal.div (Ideal.exp (v26 (ix4 kv g r n) - (Finset.fold max (Ideal.ofBits FTy.f32 4286578688#32) (fun n => v26 (ix4 kv g r n)) Finset.univ))) (∑ n, Ideal.exp (v26 (ix4 kv g r n) - (Finset.fold max (Ideal.ofBits FTy.f32 4286578688#32) (fun n => v26 (ix4 kv g r n)) Finset.univ))) := by
  subst h_cst_1 h_v27 h_v28 h_v29 h_v30 h_v31 h_cst_2 h_v32 h_v33 h_v34 h_v35 h_v36 h_v37
  pointwise

/-- The attention output of a row of the latents. -/
theorem out_lat (r : Fin 4096) (kv : Fin 4) (g : Fin 3) (d : Fin 128) :
    (show FVec Ideal S4096x4x3x128 .f32 from G X main_v37) (ix4 r kv g d) = ∑ n, (show FVec Ideal S4352x4x128 .f32 from G X main_v5) (ix3 n kv d) * Ideal.div (Ideal.exp ((show FVec Ideal S4x3x4096x4352 .f32 from G X main_v26) (ix4 kv g r n) - (Finset.fold max (Ideal.ofBits FTy.f32 4286578688#32) (fun n => (show FVec Ideal S4x3x4096x4352 .f32 from G X main_v26) (ix4 kv g r n)) Finset.univ))) (∑ n, Ideal.exp ((show FVec Ideal S4x3x4096x4352 .f32 from G X main_v26) (ix4 kv g r n) - (Finset.fold max (Ideal.ofBits FTy.f32 4286578688#32) (fun n => (show FVec Ideal S4x3x4096x4352 .f32 from G X main_v26) (ix4 kv g r n)) Finset.univ))) :=
  out_lat_of r kv g d (at_cst_1 X) (at_v27 X) (at_v28 X) (at_v29 X) (at_v30 X) (at_v31 X) (at_cst_2 X) (at_v32 X) (at_v33 X) (at_v34 X) (at_v35 X) (at_v36 X) (at_v37 X)

theorem den_all_of (a : Fin 12) (R : Fin 4352) {v23 : FVec Ideal S4x3x256x1 .f32} {v39 : FVec Ideal S4x3x4096x1 .f32} {v45 : FVec Ideal S4x3x4352x1 .f32} {v46 : FVec Ideal S12x4352x1 .f32}
    (h_v45 : v45 = concatenate S4x3x4352x1 2 [⟨S4x3x256x1, v23⟩, ⟨S4x3x4096x1, v39⟩] concatenates_S4x3x256x1_S4x3x4096x1_S4x3x4352x1_d2)
    (h_v46 : v46 = shapeCast _ v45 shapeCasts_S4x3x4352x1_S12x4352x1) :
    v46 (ix3 a R 0) = if h : (R : ℕ) < 256 then v23 (ix4 ⟨(a : ℕ) / 3, by omega⟩ ⟨(a : ℕ) % 3, by omega⟩ ⟨R, by omega⟩ 0) else v39 (ix4 ⟨(a : ℕ) / 3, by omega⟩ ⟨(a : ℕ) % 3, by omega⟩ ⟨(R : ℕ) - 256, by omega⟩ 0) := by
  subst h_v45 h_v46
  pointwise

/-- The rows of the context and those of the latents, one after the other. -/
theorem den_all (a : Fin 12) (R : Fin 4352) :
    (show FVec Ideal S12x4352x1 .f32 from G X main_v46) (ix3 a R 0) = if h : (R : ℕ) < 256 then (show FVec Ideal S4x3x256x1 .f32 from G X main_v23) (ix4 ⟨(a : ℕ) / 3, by omega⟩ ⟨(a : ℕ) % 3, by omega⟩ ⟨R, by omega⟩ 0) else (show FVec Ideal S4x3x4096x1 .f32 from G X main_v39) (ix4 ⟨(a : ℕ) / 3, by omega⟩ ⟨(a : ℕ) % 3, by omega⟩ ⟨(R : ℕ) - 256, by omega⟩ 0) :=
  den_all_of a R (at_v45 X) (at_v46 X)

theorem out_all_of (R : Fin 4352) (j : Fin 1536) {v21 : FVec Ideal S256x4x3x128 .f32} {v37 : FVec Ideal S4096x4x3x128 .f32} {v40 : FVec Ideal S4352x4x3x128 .f32} {v41 : FVec Ideal S4352x1536 .f32} {v42 : FVec Ideal S4352x1536 .bf16} {cst_3 : FVec Ideal S_ .bf16} {v43 : FVec Ideal S4352x512 .bf16} {v44 : FVec Ideal S4352x2048 .bf16}
    (h_v40 : v40 = concatenate S4352x4x3x128 0 [⟨S256x4x3x128, v21⟩, ⟨S4096x4x3x128, v37⟩] concatenates_S256x4x3x128_S4096x4x3x128_S4352x4x3x128_d0)
    (h_v41 : v41 = shapeCast _ v40 shapeCasts_S4352x4x3x128_S4352x1536)
    (h_v42 : v42 = truncf .bf16 v41 bitsLt_bf16_f32)
    (h_cst_3 : cst_3 = (constant (F := Ideal) S_ .bf16 0x0000#16))
    (h_v43 : v43 = (broadcastInDim S4352x512 ![] bcast_S_S4352x512) cst_3)
    (h_v44 : v44 = concatenate S4352x2048 1 [⟨S4352x1536, v42⟩, ⟨S4352x512, v43⟩] concatenates_S4352x1536_S4352x512_S4352x2048_d1) :
    v44 (ix2 R ⟨j, by omega⟩) = if h : (R : ℕ) < 256 then v21 (ix4 ⟨R, by omega⟩ ⟨(j : ℕ) / 384, by omega⟩ ⟨(j : ℕ) / 128 % 3, by omega⟩ ⟨(j : ℕ) % 128, by omega⟩) else v37 (ix4 ⟨(R : ℕ) - 256, by omega⟩ ⟨(j : ℕ) / 384, by omega⟩ ⟨(j : ℕ) / 128 % 3, by omega⟩ ⟨(j : ℕ) % 128, by omega⟩) := by
  subst h_v40 h_v41 h_v42 h_cst_3 h_v43 h_v44
  pointwise

/-- The outputs of the context and those of the latents, one after the other. -/
theorem out_all (R : Fin 4352) (j : Fin 1536) :
    (show FVec Ideal S4352x2048 .bf16 from G X main_v44) (ix2 R ⟨j, by omega⟩) = if h : (R : ℕ) < 256 then (show FVec Ideal S256x4x3x128 .f32 from G X main_v21) (ix4 ⟨R, by omega⟩ ⟨(j : ℕ) / 384, by omega⟩ ⟨(j : ℕ) / 128 % 3, by omega⟩ ⟨(j : ℕ) % 128, by omega⟩) else (show FVec Ideal S4096x4x3x128 .f32 from G X main_v37) (ix4 ⟨(R : ℕ) - 256, by omega⟩ ⟨(j : ℕ) / 384, by omega⟩ ⟨(j : ℕ) / 128 % 3, by omega⟩ ⟨(j : ℕ) % 128, by omega⟩) :=
  out_all_of R j (at_v40 X) (at_v41 X) (at_v42 X) (at_cst_3 X) (at_v43 X) (at_v44 X)

theorem sc_ctx_of (kv : Fin 4) (g : Fin 3) (r : Fin 256) (n : Fin 256) {arg0 : FVec Ideal S4352x1536 .bf16} {arg1 : FVec Ideal S4352x512 .bf16} {v1 : FVec Ideal S4352x512 .f32} {v4 : FVec Ideal S4352x4x128 .f32} {v7 : FVec Ideal S256x4x128 .f32} {v0 : FVec Ideal S4352x1536 .f32} {v3 : FVec Ideal S4352x4x3x128 .f32} {v6 : FVec Ideal S256x4x3x128 .f32} {v9 : FVec Ideal S4x256x256x3 .f32} {v10 : FVec Ideal S4x3x256x256 .f32}
    (h_v1 : v1 = extf .f32 arg1 bitsLt_bf16_f32)
    (h_v4 : v4 = shapeCast _ v1 shapeCasts_S4352x512_S4352x4x128)
    (h_v7 : v7 = extractStridedSlice S256x4x128 ![0, 0, 0] v4 slices_S4352x4x128_S256x4x128_0_0_0)
    (h_v0 : v0 = extf .f32 arg0 bitsLt_bf16_f32)
    (h_v3 : v3 = shapeCast _ v0 shapeCasts_S4352x1536_S4352x4x3x128)
    (h_v6 : v6 = extractStridedSlice S256x4x3x128 ![0, 0, 0, 0] v3 slices_S4352x4x3x128_S256x4x3x128_0_0_0_0)
    (h_v9 : v9 = Host.dotGeneral dot_S256x4x128_S256x4x3x128_S4x256x256x3_2_3_0_02_1_1 none v7 v6)
    (h_v10 : v10 = transpose S4x3x256x256 [0, 3, 2, 1] v9 transposes_S4x256x256x3_S4x3x256x256_0_3_2_1) :
    v10 (ix4 kv g r n) = ∑ x : Fin 128, arg1 (ix2 ⟨n, by omega⟩ ⟨(kv : ℕ) * 128 + x, by omega⟩) * arg0 (ix2 ⟨r, by omega⟩ ⟨(kv : ℕ) * 384 + (g : ℕ) * 128 + x, by omega⟩) := by
  subst h_v1 h_v4 h_v7 h_v0 h_v3 h_v6 h_v9 h_v10
  pointwise

/-- A score in the context. -/
theorem sc_ctx (kv : Fin 4) (g : Fin 3) (r : Fin 256) (n : Fin 256) :
    (show FVec Ideal S4x3x256x256 .f32 from G X main_v10) (ix4 kv g r n) = ∑ x : Fin 128, (show FVec Ideal S4352x512 .bf16 from G X main_arg1) (ix2 ⟨n, by omega⟩ ⟨(kv : ℕ) * 128 + x, by omega⟩) * (show FVec Ideal S4352x1536 .bf16 from G X main_arg0) (ix2 ⟨r, by omega⟩ ⟨(kv : ℕ) * 384 + (g : ℕ) * 128 + x, by omega⟩) :=
  sc_ctx_of kv g r n (at_v1 X) (at_v4 X) (at_v7 X) (at_v0 X) (at_v3 X) (at_v6 X) (at_v9 X) (at_v10 X)

theorem sc_lat_of (kv : Fin 4) (g : Fin 3) (r : Fin 4096) (n : Fin 4352) {arg0 : FVec Ideal S4352x1536 .bf16} {arg1 : FVec Ideal S4352x512 .bf16} {v1 : FVec Ideal S4352x512 .f32} {v4 : FVec Ideal S4352x4x128 .f32} {v0 : FVec Ideal S4352x1536 .f32} {v3 : FVec Ideal S4352x4x3x128 .f32} {v24 : FVec Ideal S4096x4x3x128 .f32} {v25 : FVec Ideal S4x4352x4096x3 .f32} {v26 : FVec Ideal S4x3x4096x4352 .f32}
    (h_v1 : v1 = extf .f32 arg1 bitsLt_bf16_f32)
    (h_v4 : v4 = shapeCast _ v1 shapeCasts_S4352x512_S4352x4x128)
    (h_v0 : v0 = extf .f32 arg0 bitsLt_bf16_f32)
    (h_v3 : v3 = shapeCast _ v0 shapeCasts_S4352x1536_S4352x4x3x128)
    (h_v24 : v24 = extractStridedSlice S4096x4x3x128 ![256, 0, 0, 0] v3 slices_S4352x4x3x128_S4096x4x3x128_256_0_0_0)
    (h_v25 : v25 = Host.dotGeneral dot_S4352x4x128_S4096x4x3x128_S4x4352x4096x3_2_3_0_02_1_1 none v4 v24)
    (h_v26 : v26 = transpose S4x3x4096x4352 [0, 3, 2, 1] v25 transposes_S4x4352x4096x3_S4x3x4096x4352_0_3_2_1) :
    v26 (ix4 kv g r n) = ∑ x : Fin 128, arg1 (ix2 ⟨n, by omega⟩ ⟨(kv : ℕ) * 128 + x, by omega⟩) * arg0 (ix2 ⟨256 + (r : ℕ), by omega⟩ ⟨(kv : ℕ) * 384 + (g : ℕ) * 128 + x, by omega⟩) := by
  subst h_v1 h_v4 h_v0 h_v3 h_v24 h_v25 h_v26
  pointwise

/-- A score of a latent row. -/
theorem sc_lat (kv : Fin 4) (g : Fin 3) (r : Fin 4096) (n : Fin 4352) :
    (show FVec Ideal S4x3x4096x4352 .f32 from G X main_v26) (ix4 kv g r n) = ∑ x : Fin 128, (show FVec Ideal S4352x512 .bf16 from G X main_arg1) (ix2 ⟨n, by omega⟩ ⟨(kv : ℕ) * 128 + x, by omega⟩) * (show FVec Ideal S4352x1536 .bf16 from G X main_arg0) (ix2 ⟨256 + (r : ℕ), by omega⟩ ⟨(kv : ℕ) * 384 + (g : ℕ) * 128 + x, by omega⟩) :=
  sc_lat_of kv g r n (at_v1 X) (at_v4 X) (at_v0 X) (at_v3 X) (at_v24 X) (at_v25 X) (at_v26 X)

theorem val_ctx_of (n : Fin 256) (kv : Fin 4) (d : Fin 128) {arg2 : FVec Ideal S4352x512 .bf16} {v2 : FVec Ideal S4352x512 .f32} {v5 : FVec Ideal S4352x4x128 .f32} {v8 : FVec Ideal S256x4x128 .f32}
    (h_v2 : v2 = extf .f32 arg2 bitsLt_bf16_f32)
    (h_v5 : v5 = shapeCast _ v2 shapeCasts_S4352x512_S4352x4x128)
    (h_v8 : v8 = extractStridedSlice S256x4x128 ![0, 0, 0] v5 slices_S4352x4x128_S256x4x128_0_0_0) :
    v8 (ix3 n kv d) = arg2 (ix2 ⟨n, by omega⟩ ⟨(kv : ℕ) * 128 + d, by omega⟩) := by
  subst h_v2 h_v5 h_v8
  pointwise

/-- A value of the context. -/
theorem val_ctx (n : Fin 256) (kv : Fin 4) (d : Fin 128) :
    (show FVec Ideal S256x4x128 .f32 from G X main_v8) (ix3 n kv d) = (show FVec Ideal S4352x512 .bf16 from G X main_arg2) (ix2 ⟨n, by omega⟩ ⟨(kv : ℕ) * 128 + d, by omega⟩) :=
  val_ctx_of n kv d (at_v2 X) (at_v5 X) (at_v8 X)

theorem val_lat_of (n : Fin 4352) (kv : Fin 4) (d : Fin 128) {arg2 : FVec Ideal S4352x512 .bf16} {v2 : FVec Ideal S4352x512 .f32} {v5 : FVec Ideal S4352x4x128 .f32}
    (h_v2 : v2 = extf .f32 arg2 bitsLt_bf16_f32)
    (h_v5 : v5 = shapeCast _ v2 shapeCasts_S4352x512_S4352x4x128) :
    v5 (ix3 n kv d) = arg2 (ix2 n ⟨(kv : ℕ) * 128 + d, by omega⟩) := by
  subst h_v2 h_v5
  pointwise

/-- A value. -/
theorem val_lat (n : Fin 4352) (kv : Fin 4) (d : Fin 128) :
    (show FVec Ideal S4352x4x128 .f32 from G X main_v5) (ix3 n kv d) = (show FVec Ideal S4352x512 .bf16 from G X main_arg2) (ix2 n ⟨(kv : ℕ) * 128 + d, by omega⟩) :=
  val_lat_of n kv d (at_v2 X) (at_v5 X)

/-- The queries. -/
abbrev qs : Vec Ideal S4352x1536 .bf16 := X (Proc.devRef .tc main_arg0)

/-- The keys. -/
abbrev ks : Vec Ideal S4352x512 .bf16 := X (Proc.devRef .tc main_arg1)

/-- The values. -/
abbrev vs : Vec Ideal S4352x512 .bf16 := X (Proc.devRef .tc main_arg2)

/-- The scores of a row of the context. -/
theorem score_ctx (kv : Fin 4) (g : Fin 3) (r : Fin 256) : (fun n => (show FVec Ideal S4x3x256x256 .f32 from G X main_v10) (ix4 kv g r n))
    = sc (Qry (qs X) kv g ⟨r, by omega⟩) (low (Key (ks X) kv)) := by
  funext n
  refine (sc_ctx X kv g r n).trans ?_
  rw [at_arg0, at_arg1]
  refine Finset.sum_congr rfl fun x _ => (mul_comm _ _).trans (congrArg₂ (· * ·) ?_ ?_)
  · exact congrArg (qs X) (congrArg (ix2 _) (Fin.ext (by show (kv : ℕ) * 384 + (g : ℕ) * 128 + x = 384 * kv.val + 128 * g.val + x.val; omega)))
  · exact congrArg (ks X) (congrArg (ix2 _) (Fin.ext (by show (kv : ℕ) * 128 + x = 128 * kv.val + x.val; omega)))

/-- The scores of a latent row. -/
theorem score_lat (kv : Fin 4) (g : Fin 3) (r : Fin 4096) : (fun n => (show FVec Ideal S4x3x4096x4352 .f32 from G X main_v26) (ix4 kv g r n))
    = sc (Qry (qs X) kv g ⟨256 + r, by omega⟩) (Key (ks X) kv) := by
  funext n
  refine (sc_lat X kv g r n).trans ?_
  rw [at_arg0, at_arg1]
  refine Finset.sum_congr rfl fun x _ => (mul_comm _ _).trans (congrArg₂ (· * ·) ?_ ?_)
  · exact congrArg (qs X) (congrArg (ix2 _) (Fin.ext (by show (kv : ℕ) * 384 + (g : ℕ) * 128 + x = 384 * kv.val + 128 * g.val + x.val; omega)))
  · exact congrArg (ks X) (congrArg (ix2 _) (Fin.ext (by show (kv : ℕ) * 128 + x = 128 * kv.val + x.val; omega)))

/-- The log-sum-exp of a row, as the launch finds it: on the first 256 rows over the first 256 keys. -/
theorem den_eq (kv : Fin 4) (g : Fin 3) (R : Fin 4352) : Den (G X main_v46) kv g R
    = if R.val < 256 then lse (sc (Qry (qs X) kv g R) (low (Key (ks X) kv))) else lse (sc (Qry (qs X) kv g R) (Key (ks X) kv)) := by
  refine (den_all X ⟨3 * kv.val + g.val, by omega⟩ R).trans ?_
  have ha : (⟨(3 * kv.val + g.val) / 3, by omega⟩ : Fin 4) = kv := Fin.ext (by show (3 * kv.val + g.val) / 3 = kv.val; omega)
  have hb : (⟨(3 * kv.val + g.val) % 3, by omega⟩ : Fin 3) = g := Fin.ext (by show (3 * kv.val + g.val) % 3 = g.val; omega)
  by_cases h : R.val < 256
  · rw [dif_pos h, if_pos h]
    show (show FVec Ideal S4x3x256x1 .f32 from G X main_v23) (ix4 (⟨(3 * kv.val + g.val) / 3, by omega⟩ : Fin 4) (⟨(3 * kv.val + g.val) % 3, by omega⟩ : Fin 3) ⟨R, by omega⟩ 0) = _
    rw [ha, hb]
    exact (den_ctx X kv g ⟨R, h⟩).trans (congrArg lse (score_ctx X kv g ⟨R, h⟩))
  · rw [dif_neg h, if_neg h]
    show (show FVec Ideal S4x3x4096x1 .f32 from G X main_v39) (ix4 (⟨(3 * kv.val + g.val) / 3, by omega⟩ : Fin 4) (⟨(3 * kv.val + g.val) % 3, by omega⟩ : Fin 3) ⟨R - 256, by omega⟩ 0) = _
    rw [ha, hb]
    refine (den_lat X kv g ⟨R - 256, by omega⟩).trans ((congrArg lse (score_lat X kv g ⟨R - 256, by omega⟩)).trans ?_)
    have hR : (⟨256 + (R.val - 256), by omega⟩ : Fin 4352) = R := Fin.ext (by show 256 + (R.val - 256) = R.val; omega)
    show lse (sc (Qry (qs X) kv g ⟨256 + (R.val - 256), by omega⟩) (Key (ks X) kv)) = _
    rw [hR]

/-- The attention output of a row, as the launch finds it: on the first 256 rows over the first 256 keys. -/
theorem out_eq (kv : Fin 4) (g : Fin 3) (R : Fin 4352) (d : Fin 128) : Out (G X main_v44) kv g R d
    = if R.val < 256 then mean (sc (Qry (qs X) kv g R) (low (Key (ks X) kv))) (low (Key (vs X) kv)) d
      else mean (sc (Qry (qs X) kv g R) (Key (ks X) kv)) (Key (vs X) kv) d := by
  have hj : 384 * kv.val + 128 * g.val + d.val < 1536 := by omega
  refine (out_all X R ⟨384 * kv.val + 128 * g.val + d.val, hj⟩).trans ?_
  have ha : (⟨(384 * kv.val + 128 * g.val + d.val) / 384, by omega⟩ : Fin 4) = kv := Fin.ext (by show (384 * kv.val + 128 * g.val + d.val) / 384 = kv.val; omega)
  have hb : (⟨(384 * kv.val + 128 * g.val + d.val) / 128 % 3, by omega⟩ : Fin 3) = g := Fin.ext (by show (384 * kv.val + 128 * g.val + d.val) / 128 % 3 = g.val; omega)
  have hd : (⟨(384 * kv.val + 128 * g.val + d.val) % 128, by omega⟩ : Fin 128) = d := Fin.ext (by show (384 * kv.val + 128 * g.val + d.val) % 128 = d.val; omega)
  by_cases h : R.val < 256
  · rw [dif_pos h, if_pos h]
    show (show FVec Ideal S256x4x3x128 .f32 from G X main_v21) (ix4 ⟨R, by omega⟩ (⟨(384 * kv.val + 128 * g.val + d.val) / 384, by omega⟩ : Fin 4) (⟨(384 * kv.val + 128 * g.val + d.val) / 128 % 3, by omega⟩ : Fin 3) (⟨(384 * kv.val + 128 * g.val + d.val) % 128, by omega⟩ : Fin 128)) = _
    rw [ha, hb, hd]
    refine (out_ctx X ⟨R, h⟩ kv g d).trans ?_
    have hv : (fun n => (show FVec Ideal S256x4x128 .f32 from G X main_v8) (ix3 n kv d)) = fun n => low (Key (vs X) kv) n d := by
      funext n
      refine (val_ctx X n kv d).trans ?_
      rw [at_arg2]
      exact congrArg (vs X) (congrArg (ix2 _) (Fin.ext (by show (kv : ℕ) * 128 + d = 128 * kv.val + d.val; omega)))
    exact congrArg₂ (fun (s : Fin 256 → EReal) (v : Fin 256 → EReal) => ∑ n, v n * Ideal.div (Ideal.exp (s n - top s)) (tot s)) (score_ctx X kv g ⟨R, h⟩) hv
  · rw [dif_neg h, if_neg h]
    show (show FVec Ideal S4096x4x3x128 .f32 from G X main_v37) (ix4 ⟨R - 256, by omega⟩ (⟨(384 * kv.val + 128 * g.val + d.val) / 384, by omega⟩ : Fin 4) (⟨(384 * kv.val + 128 * g.val + d.val) / 128 % 3, by omega⟩ : Fin 3) (⟨(384 * kv.val + 128 * g.val + d.val) % 128, by omega⟩ : Fin 128)) = _
    rw [ha, hb, hd]
    refine (out_lat X ⟨R - 256, by omega⟩ kv g d).trans ?_
    have hv : (fun n => (show FVec Ideal S4352x4x128 .f32 from G X main_v5) (ix3 n kv d)) = fun n => Key (vs X) kv n d := by
      funext n
      refine (val_lat X n kv d).trans ?_
      rw [at_arg2]
      exact congrArg (vs X) (congrArg (ix2 _) (Fin.ext (by show (kv : ℕ) * 128 + d = 128 * kv.val + d.val; omega)))
    refine (congrArg₂ (fun (s : Fin 4352 → EReal) (v : Fin 4352 → EReal) => ∑ n, v n * Ideal.div (Ideal.exp (s n - top s)) (tot s)) (score_lat X kv g ⟨R - 256, by omega⟩) hv).trans ?_
    have hR : (⟨256 + (R.val - 256), by omega⟩ : Fin 4352) = R := Fin.ext (by show 256 + (R.val - 256) = R.val; omega)
    show mean (sc (Qry (qs X) kv g ⟨256 + (R.val - 256), by omega⟩) (Key (ks X) kv)) (Key (vs X) kv) d = _
    rw [hR]

end Cert.KernelIdeal.Attention

end
-- ==== Proof.AttentionChain.lean ====
/- The softmax and its gradient by the chain rule, on a row of scores. -/
module

public import proofs.«01_k».proof.Proof.AttentionSaved
public import proofs.«01_k».proof.Proof.AttentionHead
public import proofs.«01_k».proof.Proof.Gen.ReferenceIdeal.Read
public import proofs.«01_k».proof.Proof.Softmax
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ReferenceIdeal.Attention

open Cert.ReferenceIdeal Cert.ReferenceIdeal.Read
open Cert.KernelIdeal.Attention (Qry Out Key low mask kvOf gOf dOf dqOf dkOf dvOf sc top tot mask_low mask_zero mask_high sum_mask)

/-- The softmax of a row of scores. -/
def rp {N : Nat} (s : Fin N → EReal) (n : Fin N) : EReal := Ideal.div (Ideal.exp (s n - top s)) (tot s)

/-- The gradient of a row of scores, the quotient and the exponential differentiated one after the other. -/
def rg {N : Nat} (s : Fin N → EReal) (w : Fin 128 → EReal) (v : Fin N → Fin 128 → EReal) (n : Fin N) : EReal :=
  (Ideal.div (∑ d : Fin 128, w d * v n d) (tot s)
    + -(∑ k : Fin N, (∑ d : Fin 128, w d * v k d) * Ideal.div 1 (tot s * tot s) * Ideal.exp (s k - top s))) * Ideal.exp (s n - top s)

/-- Folding the larger one from a value never falls below that value. -/
theorem max_fold {N : Nat} (c : EReal) (s : Fin N → EReal) : max c (Finset.fold max c s Finset.univ) = Finset.fold max c s Finset.univ :=
  max_eq_right ((Finset.le_fold_max _).mpr (Or.inl le_rfl))

end Cert.ReferenceIdeal.Attention

end
-- ==== Proof.AttentionRefContext.lean ====
/- The reference on the rows of the context, stage by stage. -/
module

public import proofs.«01_k».proof.Proof.AttentionChain
public import proofs.«01_k».proof.Proof.Gen.ReferenceIdeal.Read
public import proofs.«01_k».proof.Proof.Softmax
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ReferenceIdeal.Attention

open Cert.ReferenceIdeal Cert.ReferenceIdeal.Read
open Cert.KernelIdeal.Attention (Qry Out Key low mask kvOf gOf dOf dqOf dkOf dvOf sc top tot mask_low mask_zero mask_high sum_mask)

variable (x0 : Vec Ideal S4352x1536 .bf16) (x1 x2 : Vec Ideal S4352x512 .bf16) (x3 : Vec Ideal S4352x2048 .bf16)

/-- The scores of a row of the context. -/
theorem s_c (kv : Fin 4) (g : Fin 3) (r : Fin 256) (n : Fin 256) : val_main_v10 (F := Ideal) x0 x1 (ix4 kv g r n) = (sc (Qry x0 kv g ⟨r, by omega⟩) (low (Key x1 kv))) n := by
  pointwise [val_main_v10, val_main_v9, val_main_v7, val_main_v6, val_main_v4, val_main_v3, val_main_v1, val_main_v0]
  refine Finset.sum_congr rfl fun x _ => (mul_comm _ _).trans (congrArg₂ (· * ·) ?_ ?_)
  · exact congrArg x0 (congrArg (ix2 _) (Fin.ext (by show (kv : ℕ) * 384 + (g : ℕ) * 128 + x = 384 * kv.val + 128 * g.val + x.val; omega)))
  · exact congrArg x1 (congrArg (ix2 _) (Fin.ext (by show (kv : ℕ) * 128 + x = 128 * kv.val + x.val; omega)))

/-- The largest score of a row of the context. -/
theorem fold_c (kv : Fin 4) (g : Fin 3) (r : Fin 256) : val_main_v11 (F := Ideal) x0 x1 (ix3 kv g r) = Finset.fold max (Ideal.ofBits FTy.f32 4286578688#32) (fun n => val_main_v10 (F := Ideal) x0 x1 (ix4 kv g r n)) Finset.univ := by
  pointwise [val_main_v11, val_main_cst]

/-- The largest score, taken with minus infinity. -/
theorem least_c (kv : Fin 4) (g : Fin 3) (r : Fin 256) : val_main_v28 (F := Ideal) x0 x1 (ix4 kv g r 0) = max (Ideal.ofBits FTy.f32 4286578688#32) (val_main_v11 (F := Ideal) x0 x1 (ix3 kv g r)) := by
  rw [val_main_v28_apply, val_main_v18_apply, val_main_v17_apply, val_main_cst_1_apply]
  refine congrArg (max (Ideal.ofBits FTy.f32 4286578688#32)) (congrArg (val_main_v11 (F := Ideal) x0 x1) (funext fun a => ?_))
  match a with
  | 0 => rfl
  | 1 => rfl
  | 2 => rfl

/-- It is the largest score. -/
theorem max_c (kv : Fin 4) (g : Fin 3) (r : Fin 256) : val_main_v28 (F := Ideal) x0 x1 (ix4 kv g r 0) = top (sc (Qry x0 kv g ⟨r, by omega⟩) (low (Key x1 kv))) := by
  rw [least_c, fold_c, max_fold]
  exact congrArg top (funext fun n => s_c x0 x1 kv g r n)

/-- The exponentials. -/
theorem e_c (kv : Fin 4) (g : Fin 3) (r : Fin 256) (n : Fin 256) : val_main_v31 (F := Ideal) x0 x1 (ix4 kv g r n) = Ideal.exp ((sc (Qry x0 kv g ⟨r, by omega⟩) (low (Key x1 kv))) n - top (sc (Qry x0 kv g ⟨r, by omega⟩) (low (Key x1 kv)))) := by
  pointwise [val_main_v31, val_main_v30, val_main_v29]
  rw [s_c, max_c]

/-- Their sum. -/
theorem l_c (kv : Fin 4) (g : Fin 3) (r : Fin 256) : val_main_v33 (F := Ideal) x0 x1 (ix4 kv g r 0) = tot (sc (Qry x0 kv g ⟨r, by omega⟩) (low (Key x1 kv))) := by
  pointwise [val_main_v33, val_main_v32, val_main_cst_7]
  exact Finset.sum_congr rfl fun n _ => e_c x0 x1 kv g r n

/-- The softmax. -/
theorem p_c (kv : Fin 4) (g : Fin 3) (r : Fin 256) (n : Fin 256) : val_main_v35 (F := Ideal) x0 x1 (ix4 kv g r n) = rp (sc (Qry x0 kv g ⟨r, by omega⟩) (low (Key x1 kv))) n := by
  pointwise [val_main_v35, val_main_v34]
  rw [e_c, l_c]
  rfl

/-- The square of the sum, inverted. -/
theorem i_c (kv : Fin 4) (g : Fin 3) (r : Fin 256) : val_main_v38 (F := Ideal) x0 x1 (ix4 kv g r 0) = Ideal.div 1 (tot (sc (Qry x0 kv g ⟨r, by omega⟩) (low (Key x1 kv))) * tot (sc (Qry x0 kv g ⟨r, by omega⟩) (low (Key x1 kv)))) := by
  pointwise [val_main_v38, val_main_v37, val_main_v36, val_main_cst_8]
  rw [l_c]

/-- The gradient of the softmax's values. -/
theorem g_c (kv : Fin 4) (g : Fin 3) (r : Fin 256) (n : Fin 256) : val_main_v104 (F := Ideal) x2 x3 (ix4 kv g r n) = ∑ d : Fin 128, (Out x3 kv g ⟨r, by omega⟩) d * (low (Key x2 kv)) n d := by
  pointwise [val_main_v104, val_main_v103, val_main_v79, val_main_v78, val_main_v77, val_main_v76, val_main_v8, val_main_v5, val_main_v2]
  refine Finset.sum_congr rfl fun x _ => congrArg₂ (· * ·) ?_ ?_
  · exact congrArg x3 (congrArg (ix2 _) (Fin.ext (by show (kv : ℕ) * 384 + (g : ℕ) * 128 + x = 384 * kv.val + 128 * g.val + x.val; omega)))
  · exact congrArg x2 (congrArg (ix2 _) (Fin.ext (by show (kv : ℕ) * 128 + x = 128 * kv.val + x.val; omega)))

/-- The gradient of the scores. -/
theorem ds_c (kv : Fin 4) (g : Fin 3) (r : Fin 256) (n : Fin 256) : val_main_v119 (F := Ideal) x0 x1 x2 x3 (ix4 kv n r g) = rg (sc (Qry x0 kv g ⟨r, by omega⟩) (low (Key x1 kv))) (Out x3 kv g ⟨r, by omega⟩) (low (Key x2 kv)) n := by
  pointwise [val_main_v107, val_main_v108, val_main_v109, val_main_v110, val_main_v111, val_main_v112, val_main_v113, val_main_v114, val_main_v115, val_main_v116, val_main_v117, val_main_v118, val_main_v119, val_main_cst_22, val_main_cst_23]
  rw [Fin.sum_univ_one]
  simp only [g_c, l_c, i_c, e_c]
  rfl

/-- The queries' gradient of a row of the context. -/
theorem dq_c (kv : Fin 4) (g : Fin 3) (r : Fin 256) (d : Fin 128) : val_main_v121 (F := Ideal) x0 x1 x2 x3 (ix4 r kv g d) = ∑ n : Fin 256, rg (sc (Qry x0 kv g ⟨r, by omega⟩) (low (Key x1 kv))) (Out x3 kv g ⟨r, by omega⟩) (low (Key x2 kv)) n * (low (Key x1 kv)) n d := by
  pointwise [val_main_v121, val_main_v120, val_main_v7, val_main_v4, val_main_v1]
  refine Finset.sum_congr rfl fun n _ => congrArg₂ (· * ·) (ds_c x0 x1 x2 x3 kv g r n) ?_
  exact congrArg x1 (congrArg (ix2 _) (Fin.ext (by show (kv : ℕ) * 128 + d = 128 * kv.val + d.val; omega)))

/-- The keys' gradient from the rows of the context. -/
theorem dk_c (kv : Fin 4) (d : Fin 128) (n : Fin 256) : val_main_v123 (F := Ideal) x0 x1 x2 x3 (ix3 n kv d) = ∑ g : Fin 3, ∑ r : Fin 256, rg (sc (Qry x0 kv g ⟨r, by omega⟩) (low (Key x1 kv))) (Out x3 kv g ⟨r, by omega⟩) (low (Key x2 kv)) n * Qry x0 kv g ⟨r, by omega⟩ d := by
  pointwise [val_main_v123, val_main_v122, val_main_v6, val_main_v3, val_main_v0]
  rw [Finset.sum_comm]
  refine Finset.sum_congr rfl fun g _ => Finset.sum_congr rfl fun r _ => congrArg₂ (· * ·) (ds_c x0 x1 x2 x3 kv g r n) ?_
  exact congrArg x0 (congrArg (ix2 _) (Fin.ext (by show (kv : ℕ) * 384 + (g : ℕ) * 128 + d = 384 * kv.val + 128 * g.val + d.val; omega)))

/-- The values' gradient from the rows of the context. -/
theorem dv_c (kv : Fin 4) (d : Fin 128) (n : Fin 256) : val_main_v106 (F := Ideal) x0 x1 x3 (ix3 n kv d) = ∑ g : Fin 3, ∑ r : Fin 256, rp (sc (Qry x0 kv g ⟨r, by omega⟩) (low (Key x1 kv))) n * Out x3 kv g ⟨r, by omega⟩ d := by
  pointwise [val_main_v106, val_main_v105, val_main_v103, val_main_v79, val_main_v78, val_main_v77, val_main_v76]
  refine Finset.sum_congr rfl fun g _ => Finset.sum_congr rfl fun r _ => (mul_comm _ _).trans (congrArg₂ (· * ·) (p_c x0 x1 kv g r n) ?_)
  exact congrArg x3 (congrArg (ix2 _) (Fin.ext (by show (kv : ℕ) * 384 + (g : ℕ) * 128 + d = 384 * kv.val + 128 * g.val + d.val; omega)))

end Cert.ReferenceIdeal.Attention

end
-- ==== Proof.AttentionRefLatents.lean ====
/- The reference on the rows of the latents, stage by stage. -/
module

public import proofs.«01_k».proof.Proof.AttentionChain
public import proofs.«01_k».proof.Proof.Gen.ReferenceIdeal.Read
public import proofs.«01_k».proof.Proof.Softmax
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ReferenceIdeal.Attention

open Cert.ReferenceIdeal Cert.ReferenceIdeal.Read
open Cert.KernelIdeal.Attention (Qry Out Key low mask kvOf gOf dOf dqOf dkOf dvOf sc top tot mask_low mask_zero mask_high sum_mask)

variable (x0 : Vec Ideal S4352x1536 .bf16) (x1 x2 : Vec Ideal S4352x512 .bf16) (x3 : Vec Ideal S4352x2048 .bf16)

/-- The scores of a row of the latents. -/
theorem s_l (kv : Fin 4) (g : Fin 3) (r : Fin 4096) (n : Fin 4352) : val_main_v43 (F := Ideal) x0 x1 (ix4 kv g r n) = (sc (Qry x0 kv g ⟨256 + r, by omega⟩) (Key x1 kv)) n := by
  pointwise [val_main_v43, val_main_v42, val_main_v41, val_main_v4, val_main_v3, val_main_v1, val_main_v0]
  refine Finset.sum_congr rfl fun x _ => (mul_comm _ _).trans (congrArg₂ (· * ·) ?_ ?_)
  · exact congrArg x0 (congrArg (ix2 _) (Fin.ext (by show (kv : ℕ) * 384 + (g : ℕ) * 128 + x = 384 * kv.val + 128 * g.val + x.val; omega)))
  · exact congrArg x1 (congrArg (ix2 _) (Fin.ext (by show (kv : ℕ) * 128 + x = 128 * kv.val + x.val; omega)))

/-- The largest score of a row of the latents. -/
theorem fold_l (kv : Fin 4) (g : Fin 3) (r : Fin 4096) : val_main_v44 (F := Ideal) x0 x1 (ix3 kv g r) = Finset.fold max (Ideal.ofBits FTy.f32 4286578688#32) (fun n => val_main_v43 (F := Ideal) x0 x1 (ix4 kv g r n)) Finset.univ := by
  pointwise [val_main_v44, val_main_cst_9]

/-- The largest score, taken with minus infinity. -/
theorem least_l (kv : Fin 4) (g : Fin 3) (r : Fin 4096) : val_main_v61 (F := Ideal) x0 x1 (ix4 kv g r 0) = max (Ideal.ofBits FTy.f32 4286578688#32) (val_main_v44 (F := Ideal) x0 x1 (ix3 kv g r)) := by
  rw [val_main_v61_apply, val_main_v51_apply, val_main_v50_apply, val_main_cst_11_apply]
  refine congrArg (max (Ideal.ofBits FTy.f32 4286578688#32)) (congrArg (val_main_v44 (F := Ideal) x0 x1) (funext fun a => ?_))
  match a with
  | 0 => rfl
  | 1 => rfl
  | 2 => rfl

/-- It is the largest score. -/
theorem max_l (kv : Fin 4) (g : Fin 3) (r : Fin 4096) : val_main_v61 (F := Ideal) x0 x1 (ix4 kv g r 0) = top (sc (Qry x0 kv g ⟨256 + r, by omega⟩) (Key x1 kv)) := by
  rw [least_l, fold_l, max_fold]
  exact congrArg top (funext fun n => s_l x0 x1 kv g r n)

/-- The exponentials. -/
theorem e_l (kv : Fin 4) (g : Fin 3) (r : Fin 4096) (n : Fin 4352) : val_main_v64 (F := Ideal) x0 x1 (ix4 kv g r n) = Ideal.exp ((sc (Qry x0 kv g ⟨256 + r, by omega⟩) (Key x1 kv)) n - top (sc (Qry x0 kv g ⟨256 + r, by omega⟩) (Key x1 kv))) := by
  pointwise [val_main_v64, val_main_v63, val_main_v62]
  rw [s_l, max_l]

/-- Their sum. -/
theorem l_l (kv : Fin 4) (g : Fin 3) (r : Fin 4096) : val_main_v66 (F := Ideal) x0 x1 (ix4 kv g r 0) = tot (sc (Qry x0 kv g ⟨256 + r, by omega⟩) (Key x1 kv)) := by
  pointwise [val_main_v66, val_main_v65, val_main_cst_17]
  exact Finset.sum_congr rfl fun n _ => e_l x0 x1 kv g r n

/-- The softmax. -/
theorem p_l (kv : Fin 4) (g : Fin 3) (r : Fin 4096) (n : Fin 4352) : val_main_v68 (F := Ideal) x0 x1 (ix4 kv g r n) = rp (sc (Qry x0 kv g ⟨256 + r, by omega⟩) (Key x1 kv)) n := by
  pointwise [val_main_v68, val_main_v67]
  rw [e_l, l_l]
  rfl

/-- The square of the sum, inverted. -/
theorem i_l (kv : Fin 4) (g : Fin 3) (r : Fin 4096) : val_main_v71 (F := Ideal) x0 x1 (ix4 kv g r 0) = Ideal.div 1 (tot (sc (Qry x0 kv g ⟨256 + r, by omega⟩) (Key x1 kv)) * tot (sc (Qry x0 kv g ⟨256 + r, by omega⟩) (Key x1 kv))) := by
  pointwise [val_main_v71, val_main_v70, val_main_v69, val_main_cst_18]
  rw [l_l]

/-- The gradient of the softmax's values. -/
theorem g_l (kv : Fin 4) (g : Fin 3) (r : Fin 4096) (n : Fin 4352) : val_main_v82 (F := Ideal) x2 x3 (ix4 kv g r n) = ∑ d : Fin 128, (Out x3 kv g ⟨256 + r, by omega⟩) d * (Key x2 kv) n d := by
  pointwise [val_main_v82, val_main_v81, val_main_v80, val_main_v78, val_main_v77, val_main_v76, val_main_v5, val_main_v2]
  refine Finset.sum_congr rfl fun x _ => congrArg₂ (· * ·) ?_ ?_
  · exact congrArg x3 (congrArg (ix2 _) (Fin.ext (by show (kv : ℕ) * 384 + (g : ℕ) * 128 + x = 384 * kv.val + 128 * g.val + x.val; omega)))
  · exact congrArg x2 (congrArg (ix2 _) (Fin.ext (by show (kv : ℕ) * 128 + x = 128 * kv.val + x.val; omega)))

/-- The gradient of the scores. -/
theorem ds_l (kv : Fin 4) (g : Fin 3) (r : Fin 4096) (n : Fin 4352) : val_main_v97 (F := Ideal) x0 x1 x2 x3 (ix4 kv n r g) = rg (sc (Qry x0 kv g ⟨256 + r, by omega⟩) (Key x1 kv)) (Out x3 kv g ⟨256 + r, by omega⟩) (Key x2 kv) n := by
  pointwise [val_main_v85, val_main_v86, val_main_v87, val_main_v88, val_main_v89, val_main_v90, val_main_v91, val_main_v92, val_main_v93, val_main_v94, val_main_v95, val_main_v96, val_main_v97, val_main_cst_19, val_main_cst_20]
  rw [Fin.sum_univ_one]
  simp only [g_l, l_l, i_l, e_l]
  rfl

/-- The queries' gradient of a row of the latents. -/
theorem dq_l (kv : Fin 4) (g : Fin 3) (r : Fin 4096) (d : Fin 128) : val_main_v99 (F := Ideal) x0 x1 x2 x3 (ix4 r kv g d) = ∑ n : Fin 4352, rg (sc (Qry x0 kv g ⟨256 + r, by omega⟩) (Key x1 kv)) (Out x3 kv g ⟨256 + r, by omega⟩) (Key x2 kv) n * (Key x1 kv) n d := by
  pointwise [val_main_v99, val_main_v98, val_main_v4, val_main_v1]
  refine Finset.sum_congr rfl fun n _ => congrArg₂ (· * ·) (ds_l x0 x1 x2 x3 kv g r n) ?_
  exact congrArg x1 (congrArg (ix2 _) (Fin.ext (by show (kv : ℕ) * 128 + d = 128 * kv.val + d.val; omega)))

/-- The keys' gradient from the rows of the latents. -/
theorem dk_l (kv : Fin 4) (d : Fin 128) (n : Fin 4352) : val_main_v101 (F := Ideal) x0 x1 x2 x3 (ix3 n kv d) = ∑ g : Fin 3, ∑ r : Fin 4096, rg (sc (Qry x0 kv g ⟨256 + r, by omega⟩) (Key x1 kv)) (Out x3 kv g ⟨256 + r, by omega⟩) (Key x2 kv) n * Qry x0 kv g ⟨256 + r, by omega⟩ d := by
  pointwise [val_main_v101, val_main_v100, val_main_v41, val_main_v3, val_main_v0]
  rw [Finset.sum_comm]
  refine Finset.sum_congr rfl fun g _ => Finset.sum_congr rfl fun r _ => congrArg₂ (· * ·) (ds_l x0 x1 x2 x3 kv g r n) ?_
  exact congrArg x0 (congrArg (ix2 _) (Fin.ext (by show (kv : ℕ) * 384 + (g : ℕ) * 128 + d = 384 * kv.val + 128 * g.val + d.val; omega)))

/-- The values' gradient from the rows of the latents. -/
theorem dv_l (kv : Fin 4) (d : Fin 128) (n : Fin 4352) : val_main_v84 (F := Ideal) x0 x1 x3 (ix3 n kv d) = ∑ g : Fin 3, ∑ r : Fin 4096, rp (sc (Qry x0 kv g ⟨256 + r, by omega⟩) (Key x1 kv)) n * Out x3 kv g ⟨256 + r, by omega⟩ d := by
  pointwise [val_main_v84, val_main_v83, val_main_v81, val_main_v80, val_main_v78, val_main_v77, val_main_v76]
  refine Finset.sum_congr rfl fun g _ => Finset.sum_congr rfl fun r _ => (mul_comm _ _).trans (congrArg₂ (· * ·) (p_l x0 x1 kv g r n) ?_)
  exact congrArg x3 (congrArg (ix2 _) (Fin.ext (by show (kv : ℕ) * 384 + (g : ℕ) * 128 + d = 384 * kv.val + 128 * g.val + d.val; omega)))

end Cert.ReferenceIdeal.Attention

end
-- ==== Proof.AttentionRef.lean ====
/- The reference's three results, the gradients of attention by the chain rule, in terms of the rows of the arguments. -/
module

public import proofs.«01_k».proof.Proof.AttentionRefContext
public import proofs.«01_k».proof.Proof.AttentionRefLatents
public import proofs.«01_k».proof.Proof.Gen.ReferenceIdeal.Read
public import proofs.«01_k».proof.Proof.Softmax
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ReferenceIdeal.Attention

open Cert.ReferenceIdeal Cert.ReferenceIdeal.Read
open Cert.KernelIdeal.Attention (Qry Out Key low mask kvOf gOf dOf dqOf dkOf dvOf sc top tot mask_low mask_zero mask_high sum_mask)

variable (x0 : Vec Ideal S4352x1536 .bf16) (x1 x2 : Vec Ideal S4352x512 .bf16) (x3 : Vec Ideal S4352x2048 .bf16)

/-- The gradient of the scores: on the first 256 rows there are the first 256 keys only. -/
def dscores (kv : Fin 4) (g : Fin 3) (R n : Fin 4352) : EReal :=
  mask (rg (sc (Qry x0 kv g R) (low (Key x1 kv))) (Out x3 kv g R) (low (Key x2 kv))) (rg (sc (Qry x0 kv g R) (Key x1 kv)) (Out x3 kv g R) (Key x2 kv)) R n

/-- The softmax: on the first 256 rows over the first 256 keys. -/
def softmax (kv : Fin 4) (g : Fin 3) (R n : Fin 4352) : EReal :=
  mask (rp (sc (Qry x0 kv g R) (low (Key x1 kv)))) (rp (sc (Qry x0 kv g R) (Key x1 kv))) R n

/-- A sum over the rows of a family that has only the first 256 keys on the first 256 rows. -/
theorem sum_rows (f : Fin 4352 → Fin 256 → EReal) (h : Fin 4352 → Fin 4352 → EReal) (b : Fin 4352 → EReal) (n : Fin 4352) :
    ∑ R : Fin 4352, mask (f R) (h R) R n * b R
      = (∑ r : Fin 4096, h ⟨256 + r, by omega⟩ n * b ⟨256 + r, by omega⟩)
        + if hn : n.val < 256 then ∑ r : Fin 256, f ⟨r, by omega⟩ ⟨n, hn⟩ * b ⟨r, by omega⟩ else 0 := by
  rw [Fin.sum_univ_two_halves 256 4096 rfl, add_comm]
  refine congrArg₂ (· + ·) (Finset.sum_congr rfl fun r _ => ?_) ?_
  · rw [mask_high (by show ¬ 256 + r.val < 256; omega)]
  · by_cases hn : n.val < 256
    · rw [dif_pos hn]
      exact Finset.sum_congr rfl fun r _ => by rw [mask_low r.isLt hn]
    · rw [dif_neg hn]
      exact Finset.sum_eq_zero fun r _ => by rw [mask_zero r.isLt hn, zero_mul]

/-- Of two summands under a condition the one whose condition holds, the other's not. -/
theorem pick {p q : Prop} [Decidable p] [Decidable q] {a : p → EReal} {b : q → EReal} (hp : p) (hq : ¬ q) :
    (if h : p then a h else 0) + (if h : q then b h else 0) = a hp := by
  rw [dif_pos hp, dif_neg hq, add_zero]

/-- The first result: the queries' gradient. -/
theorem reference_dq : val_main_v132 (F := Ideal) x0 x1 x2 x3 = dqOf (dscores x0 x1 x2 x3) x1 := by
  funext i
  obtain ⟨R, j, rfl⟩ : ∃ (R : Fin 4352) (j : Fin 1536), i = ix2 R j := ⟨i 0, i 1, by funext a; match a with | 0 => rfl | 1 => rfl⟩
  show _ = ∑ n : Fin 4352, dscores x0 x1 x2 x3 (kvOf j) (gOf j) R n * Key x1 (kvOf j) n (dOf j)
  pointwise [val_main_v132, val_main_v129, val_main_v128, val_main_v102, val_main_cst_26, val_main_cst_21]
  by_cases h : R.val < 256
  · rw [dif_neg (by omega), dif_pos ⟨h, by omega, by omega, by omega⟩, zero_add]
    exact (dq_c x0 x1 x2 x3 (kvOf j) (gOf j) ⟨R, h⟩ (dOf j)).trans (sum_mask h fun n => Key x1 (kvOf j) n (dOf j)).symm
  · refine (pick ⟨⟨by omega, by omega⟩, by omega, by omega, by omega⟩ fun hh => h hh.1).trans ?_
    have hR : (⟨256 + (R.val - 256), by omega⟩ : Fin 4352) = R := Fin.ext (by show 256 + (R.val - 256) = R.val; omega)
    have key : ∀ R' : Fin 4352, R' = R → ∑ n : Fin 4352, rg (sc (Qry x0 (kvOf j) (gOf j) R') (Key x1 (kvOf j))) (Out x3 (kvOf j) (gOf j) R') (Key x2 (kvOf j)) n * Key x1 (kvOf j) n (dOf j)
        = ∑ n : Fin 4352, dscores x0 x1 x2 x3 (kvOf j) (gOf j) R n * Key x1 (kvOf j) n (dOf j) := by
      rintro _ rfl
      refine Finset.sum_congr rfl fun n _ => ?_
      rw [dscores, mask_high h]
    exact (dq_l x0 x1 x2 x3 (kvOf j) (gOf j) ⟨R - 256, by omega⟩ (dOf j)).trans (key _ hR)

/-- The second result: the keys' gradient. -/
theorem reference_dk : val_main_v131 (F := Ideal) x0 x1 x2 x3 = dkOf (dscores x0 x1 x2 x3) x0 := by
  funext i
  obtain ⟨n, j, rfl⟩ : ∃ (n : Fin 4352) (j : Fin 512), i = ix2 n j := ⟨i 0, i 1, by funext a; match a with | 0 => rfl | 1 => rfl⟩
  show _ = ∑ g : Fin 3, ∑ R : Fin 4352, dscores x0 x1 x2 x3 ⟨j.val / 128, by omega⟩ g R n * Qry x0 ⟨j.val / 128, by omega⟩ g R ⟨j.val % 128, by omega⟩
  pointwise [val_main_v131, val_main_v127, val_main_v126, val_main_cst_25]
  rw [dk_l]
  simp only [dscores, sum_rows, Finset.sum_add_distrib]
  refine congrArg (_ + ·) ?_
  by_cases h : n.val < 256
  · simp only [dif_pos h]
    rw [dif_pos ⟨h, by omega, by omega⟩]
    exact dk_c x0 x1 x2 x3 _ _ ⟨n, h⟩
  · simp only [dif_neg h]
    rw [dif_neg (by omega), Finset.sum_const_zero]

/-- The third result: the values' gradient. -/
theorem reference_dv : val_main_v130 (F := Ideal) x0 x1 x3 = dvOf (softmax x0 x1) x3 := by
  funext i
  obtain ⟨n, j, rfl⟩ : ∃ (n : Fin 4352) (j : Fin 512), i = ix2 n j := ⟨i 0, i 1, by funext a; match a with | 0 => rfl | 1 => rfl⟩
  show _ = ∑ g : Fin 3, ∑ R : Fin 4352, softmax x0 x1 ⟨j.val / 128, by omega⟩ g R n * Out x3 ⟨j.val / 128, by omega⟩ g R ⟨j.val % 128, by omega⟩
  pointwise [val_main_v130, val_main_v125, val_main_v124, val_main_cst_24]
  rw [dv_l]
  simp only [softmax, sum_rows, Finset.sum_add_distrib]
  refine congrArg (_ + ·) ?_
  by_cases h : n.val < 256
  · simp only [dif_pos h]
    rw [dif_pos ⟨h, by omega, by omega⟩]
    exact dv_c x0 x1 x3 _ _ ⟨n, h⟩
  · simp only [dif_neg h]
    rw [dif_neg (by omega), Finset.sum_const_zero]

end Cert.ReferenceIdeal.Attention

end
-- ==== Proof.AttentionFinal.lean ====
/- The kernel's gradient of the scores is the one by the chain rule, where the arrays hold real numbers. -/
module

public import proofs.«01_k».proof.Proof.AttentionDkv
public import proofs.«01_k».proof.Proof.AttentionRef

@[expose] public section

set_option maxRecDepth 16384

noncomputable section

open Idealize.ShloMosaic Idealize.ShloMosaic.TcCoe Idealize.SL.Sem

namespace Cert.KernelIdeal.Attention

open Cert.KernelIdeal Cert.KernelIdeal.Gen
open Cert.Softmax (IsReal)
open Cert.ReferenceIdeal.Attention (rp rg dscores softmax)

/-- The pattern of minus infinity. -/
theorem neg_inf : Ideal.ofBits FTy.f32 4286578688#32 = ⊥ := by simp [Ideal.ofBits, Ideal.ieee]

section Row
variable {N : Nat} [Nonempty (Fin N)] (q w : Fin 128 → EReal) (k v : Fin N → Fin 128 → EReal)
  (hq : ∀ d, IsReal (q d)) (hk : ∀ n d, IsReal (k n d))

include hq hk

/-- A score of real numbers is a real number. -/
theorem sc_real (n : Fin N) : IsReal (sc q k n) := IsReal.sum _ fun d => (hq d).mul (hk n d)

/-- So is the largest one. -/
theorem top_real : IsReal (top (sc q k)) := by
  rw [top, neg_inf]
  exact IsReal.fold_max _ Finset.univ_nonempty (sc_real q k hq hk)

/-- The kernel's probability is the softmax. -/
theorem prob_row (n : Fin N) : prob q k (lse (sc q k)) n = rp (sc q k) n :=
  Cert.Softmax.prob (sc q k) (top (sc q k)) (sc_real q k hq hk) (top_real q k hq hk) n

/-- The kernel's gradient of a score is the one by the chain rule. -/
theorem grad_row (hw : ∀ d, IsReal (w d)) (hv : ∀ n d, IsReal (v n d)) (n : Fin N) :
    grad q k v w (mean (sc q k) v) (lse (sc q k)) n = rg (sc q k) w v n := by
  have hm : mean (sc q k) v = fun d => ∑ j, Ideal.div (Ideal.exp (sc q k j - top (sc q k))) (tot (sc q k)) * v j d :=
    funext fun d => Finset.sum_congr rfl fun j _ => mul_comm _ _
  rw [hm]
  exact Cert.Softmax.dscore (sc q k) (top (sc q k)) v w (sc_real q k hq hk) (top_real q k hq hk) hv hw n

end Row

/-- Two families with the same parts are the same. -/
theorem mask_congr {f f' : Fin 256 → EReal} {h h' : Fin 4352 → EReal} (R n : Fin 4352) (hf : R.val < 256 → f = f')
    (hh : ¬ R.val < 256 → h = h') : mask f h R n = mask f' h' R n := by
  by_cases hR : R.val < 256
  · rw [hf hR, mask, mask, if_pos hR, if_pos hR]
  · rw [mask_high hR, mask_high hR, hh hR]

instance : Nonempty (Fin 256) := ⟨0⟩
instance : Nonempty (Fin 4352) := ⟨0⟩

section Arrays
variable (m : (ℓ : Loc nD τ sig) → Buf (Elt Ideal) ℓ) (c : Dev nD)
  (q : Vec Ideal S4352x1536 .bf16) (k v : Vec Ideal S4352x512 .bf16) (w : Vec Ideal S4352x2048 .bf16)
  (eq : m ((c : Thread nD τ).loc main_arg0) = q) (ek : m ((c : Thread nD τ).loc main_arg1) = k)
  (ev : m ((c : Thread nD τ).loc main_arg2) = v) (ew : m ((c : Thread nD τ).loc main_arg3) = w)
  (hq : ∀ i, IsReal (q i)) (hk : ∀ i, IsReal (k i))

include eq ek hq hk

/-- The kernel's probabilities are the softmax. -/
theorem probs_eq : probsAt m c = softmax q k := by
  funext kv g R n
  have hd := den_eq (fun b => m (c, b)) kv g R
  rw [show qs (fun b => m (c, b)) = q from eq, show ks (fun b => m (c, b)) = k from ek] at hd
  show probs (m ((c : Thread nD τ).loc main_arg0)) (m ((c : Thread nD τ).loc main_arg1)) (G (fun b => m (c, b)) main_v46) kv g R n = _
  rw [eq, ek, probs, softmax, hd]
  refine mask_congr R n (fun h => ?_) fun h => ?_
  · rw [if_pos h]
    exact funext fun j => prob_row _ _ (fun d => hq _) (fun a d => hk _) j
  · rw [if_neg h]
    exact funext fun j => prob_row _ _ (fun d => hq _) (fun a d => hk _) j

include ev ew

/-- The kernel's gradient of the scores is the one by the chain rule. -/
theorem grads_eq (hv : ∀ i, IsReal (v i)) (hw : ∀ i, IsReal (w i)) : gradsAt m c = dscores q k v w := by
  funext kv g R n
  have hd := den_eq (fun b => m (c, b)) kv g R
  have ho := fun d => out_eq (fun b => m (c, b)) kv g R d
  rw [show qs (fun b => m (c, b)) = q from eq, show ks (fun b => m (c, b)) = k from ek] at hd
  simp only [show qs (fun b => m (c, b)) = q from eq, show ks (fun b => m (c, b)) = k from ek, show vs (fun b => m (c, b)) = v from ev] at ho
  show grads (m ((c : Thread nD τ).loc main_arg0)) (m ((c : Thread nD τ).loc main_arg1)) (m ((c : Thread nD τ).loc main_arg2))
    (m ((c : Thread nD τ).loc main_arg3)) (G (fun b => m (c, b)) main_v44) (G (fun b => m (c, b)) main_v46) kv g R n = _
  rw [eq, ek, ev, ew, grads, dscores, hd, show Out (G (fun b => m (c, b)) main_v44) kv g R = _ from funext ho]
  refine mask_congr R n (fun h => ?_) fun h => ?_
  · simp only [if_pos h]
    exact funext fun j => grad_row _ _ _ _ (fun d => hq _) (fun a d => hk _) (fun d => hw _) (fun a d => hv _) j
  · simp only [if_neg h]
    exact funext fun j => grad_row _ _ _ _ (fun d => hq _) (fun a d => hk _) (fun d => hw _) (fun a d => hv _) j

end Arrays

end Cert.KernelIdeal.Attention

end
-- ==== Proof.AttentionClaims.lean ====
/- The claim on attention's backward pass: what the kernel leaves is the gradient of the forward attention. -/
module

public import proofs.«01_k».proof.Defs
public import proofs.«01_k».proof.Proof.Finite
public import proofs.«01_k».proof.Proof.AttentionFinal
public import proofs.«01_k».proof.Proof.Gen.ReferenceIdeal.Run
public import Idealize.ShloMosaic.Lib.Claim

@[expose] public section

set_option maxRecDepth 16384

noncomputable section

open Idealize.ShloMosaic Idealize.ShloMosaic.TcCoe Idealize.SL.Sem

namespace Cert.AttentionClaims

/-- What the precondition says of the queries, the keys, the values and the cotangent. -/
theorem attention_real (q : Vec Ideal Cert.KernelIdeal.S4352x1536 .bf16) (k v : Vec Ideal Cert.KernelIdeal.S4352x512 .bf16)
    (w : Vec Ideal Cert.KernelIdeal.S4352x2048 .bf16) [Cert.Pre_finite.Facts]
    (h : Cert.Pre_finite.fn (F := Ideal) q k v w = fun _ => 1#1) :
    (∀ i, Softmax.IsReal (q i)) ∧ (∀ i, Softmax.IsReal (k i)) ∧ (∀ i, Softmax.IsReal (v i)) ∧ ∀ i, Softmax.IsReal (w i) := by
  have h0 := congrFun h (fun k => k.elim0)
  dsimp only [Cert.Pre_finite.fn, Cert.Pre_finite.fn_part1] at h0
  obtain ⟨h1, h4⟩ := IntOp.andi_eq_one.1 h0
  obtain ⟨h2, h3⟩ := IntOp.andi_eq_one.1 h1
  obtain ⟨h5, h6⟩ := IntOp.andi_eq_one.1 h2
  exact ⟨fun i => Finite.bf16 _ _ i (Host.reduce_andi_all _ _ _ _ _ h5 i), fun i => Finite.bf16 _ _ i (Host.reduce_andi_all _ _ _ _ _ h6 i),
    fun i => Finite.bf16 _ _ i (Host.reduce_andi_all _ _ _ _ _ h3 i), fun i => Finite.bf16 _ _ i (Host.reduce_andi_all _ _ _ _ _ h4 i)⟩

/-- The gradients in the queries, in the keys and in the values. -/
theorem attention [Cert.Pre_finite.Facts] : Cert.algebraic_KernelIdeal_ReferenceIdeal_pre_finite := by
  pair_intro
  · run_from Cert.KernelIdeal.Value.run_blocks m g
  · run_from Cert.ReferenceIdeal.Value.run m' g'
    all_goals obtain ⟨hq, hk, hv, hw⟩ := attention_real _ _ _ _ (hpre c)
    all_goals obtain ⟨h0, h1, h2, h3⟩ := hagree c
    · refine (Cert.ReferenceIdeal.Attention.reference_dq _ _ _ _).trans ?_
      rw [Cert.KernelIdeal.Attention.dq_final m c, Cert.KernelIdeal.Attention.grads_eq m c _ _ _ _ rfl rfl rfl rfl hq hk hv hw, h0, h1, h2, h3]
    · refine (Cert.ReferenceIdeal.Attention.reference_dk _ _ _ _).trans ?_
      rw [Cert.KernelIdeal.Attention.dk_final m c, Cert.KernelIdeal.Attention.grads_eq m c _ _ _ _ rfl rfl rfl rfl hq hk hv hw, h0, h1, h2, h3]
    · refine (Cert.ReferenceIdeal.Attention.reference_dv _ _ _).trans ?_
      rw [Cert.KernelIdeal.Attention.dv_final m c, Cert.KernelIdeal.Attention.probs_eq m c _ _ rfl rfl hq hk, h0, h1, h3]

end Cert.AttentionClaims

end
-- ==== Proof.In0Fwd.lean ====
/- The first layer's input projection: what the kernel's result array holds, against the reference's product. -/
module

public import proofs.«01_k».proof.Proof.Gen.In0FwdIdeal.Value
public import proofs.«01_k».proof.Proof.Gen.In0FwdRefIdeal.Read
public import proofs.«01_k».proof.Proof.Quarters
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.In0FwdIdeal.Product

open Cert.In0FwdIdeal Cert.In0FwdIdeal.Gen

variable (m : (ℓ : Loc nD τ sig) → Buf (Elt Ideal) ℓ)

/-- The block of each window at a grid point: rows by the second coordinate, columns by the first. -/
theorem idx : ∀ t : Fin cfg0.N, win0_0.index t = ![(grid0.coords t 1).val, 0] ∧ win0_1.index t = ![(grid0.coords t 0).val, 0, 0]
    ∧ win0_2.index t = ![(grid0.coords t 1).val, (grid0.coords t 0).val] :=
  (by decide +kernel : ∀ t : Fin grid0.N, _)

/-- The product of the input with the weight, at an index. -/
def prod (x : Vec Ideal S4352x2048 .bf16) (w : Vec Ideal S2048x4096 .bf16) : Vec Ideal S4352x4096 .f32 :=
  fun i => ∑ k : Fin 2048, x (ix2 (i 0) k) * w (ix2 k (i 1))

/-- The kernel's result array is the product. -/
theorem final (c : Dev nD) : (Gen.dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise [k0_pay1, prod]
  blk_point [iblk, V, idx t]

/-- The reference's result is the product. -/
theorem reference (x : Vec Ideal S4352x2048 .bf16) (w : Vec Ideal S2048x4096 .bf16) :
    Cert.In0FwdRefIdeal.Read.val_main_v2 (F := Ideal) x w = prod x w := by
  funext i
  idx_vars i
  pointwise [Cert.In0FwdRefIdeal.Read.val_main_v2, Cert.In0FwdRefIdeal.Read.val_main_v1, Cert.In0FwdRefIdeal.Read.val_main_v0, prod]

end Cert.In0FwdIdeal.Product

end
-- ==== Proof.In0Dgrad.lean ====
/- The gradient of the first layer's input projection in its input: what the kernel's result array holds, against the reference's product. -/
module

public import proofs.«01_k».proof.Proof.Gen.In0DgradIdeal.Value
public import proofs.«01_k».proof.Proof.Gen.In0DgradRefIdeal.Read
public import proofs.«01_k».proof.Proof.Quarters
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.In0DgradIdeal.Product

open Cert.In0DgradIdeal Cert.In0DgradIdeal.Gen

variable (m : (ℓ : Loc nD τ sig) → Buf (Elt Ideal) ℓ)

/-- The block of each window at a grid point: rows by the second coordinate, columns by the first. -/
theorem idx : ∀ t : Fin cfg0.N, win0_0.index t = ![(grid0.coords t 1).val, 0] ∧ win0_1.index t = ![0, (grid0.coords t 0).val, 0]
    ∧ win0_2.index t = ![(grid0.coords t 1).val, (grid0.coords t 0).val] :=
  (by decide +kernel : ∀ t : Fin grid0.N, _)

/-- The product of a gradient with the transpose of a weight, at an index. -/
def prod (dy : Vec Ideal S4352x4096 .bf16) (w : Vec Ideal S2048x4096 .bf16) : Vec Ideal S4352x2048 .f32 :=
  fun i => ∑ k : Fin 4096, dy (ix2 (i 0) k) * w (ix2 (i 1) k)

/-- The kernel's result array is the product. -/
theorem final (c : Dev nD) : (Gen.dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise [k0_pay1, prod]
  rw [Quarters.sum_quarters 1024 2048 3072 4096 rfl rfl rfl]
  blk_point [iblk, V, idx t]

/-- The reference's result is the product. -/
theorem reference (dy : Vec Ideal S4352x4096 .bf16) (w : Vec Ideal S2048x4096 .bf16) :
    Cert.In0DgradRefIdeal.Read.val_main_v4 (F := Ideal) dy w = prod dy w := by
  funext i
  idx_vars i
  pointwise [Cert.In0DgradRefIdeal.Read.val_main_v4, Cert.In0DgradRefIdeal.Read.val_main_v1, Cert.In0DgradRefIdeal.Read.val_main_v0, prod]

end Cert.In0DgradIdeal.Product

end
-- ==== Proof.In0Wgrad.lean ====
/- The gradient of the first layer's input projection in its weight: what the kernel's result array holds, against the reference's. -/
module

public import proofs.«01_k».proof.Proof.Gen.In0WgradIdeal.Value
public import proofs.«01_k».proof.Proof.Gen.In0WgradRefIdeal.Read
public import proofs.«01_k».proof.Proof.Quarters
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.In0WgradIdeal.Product

open Cert.In0WgradIdeal Cert.In0WgradIdeal.Gen

variable (m : (ℓ : Loc nD τ sig) → Buf (Elt Ideal) ℓ)

/-- The block of each window at a grid point, whose number counts the two halves of the rows fastest. -/
theorem idx : ∀ t : Fin cfg0.N, win0_0.index t = ![t.val % 2, t.val / 2 % 2] ∧ win0_1.index t = ![t.val % 2, t.val / 4]
    ∧ win0_2.index t = ![t.val / 4, t.val / 2 % 2, 0] :=
  (by decide +kernel : ∀ t : Fin grid0.N, _)

/-- The product of the transpose of the input with the output's gradient, its columns in four groups, at an index. -/
def prod (x : Vec Ideal S4352x2048 .bf16) (dy : Vec Ideal S4352x4096 .bf16) : Vec Ideal S4x2048x1024 .bf16 :=
  fun i => ∑ k : Fin 4352, x (ix2 k (i 1)) * dy (ix2 k ⟨1024 * (i 0).val + (i 2).val, by have h0 : (i 0).val < 4 := (i 0).isLt; have h2 : (i 2).val < 1024 := (i 2).isLt; omega⟩)

/-- The kernel's result array is the product. -/
theorem final (c : Dev nD) : (Gen.dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  have hm : t.val % 2 = 1 := (flush0_2 t).mp hf
  blk_simp
  rw [after0_2]
  rw [outsAt0_B m c t (by omega) hm]
  have hp := Nat.lt_of_le_of_lt (Nat.sub_le t.val 1) t.isLt
  rw [outsAt0_A m c ⟨t.val - 1, hp⟩ (by show (t.val - 1) % 2 = 0; omega) (by show ¬ (t.val - 1) % 2 = 1; omega)]
  frame_out
  idx_vars y
  rw [read_unread_whole]
  pointwise [k0_pay1, k0_pay2, k0_pay3, k0_pay4, prod]
  rw [Fin.sum_univ_two_halves 2176 2176 rfl]
  refine congrArg₂ (· + ·) ?_ ?_
  · blk_point [iblk, V, idx ⟨t.val - 1, hp⟩, idx t]
  · blk_point [iblk, V, idx t]

/-- The reference's result is the product. -/
theorem reference (x : Vec Ideal S4352x2048 .bf16) (dy : Vec Ideal S4352x4096 .bf16) :
    Cert.In0WgradRefIdeal.Read.val_main_v8 (F := Ideal) x dy = prod x dy := by
  funext i
  idx_vars i
  pointwise [Cert.In0WgradRefIdeal.Read.val_main_v8, Cert.In0WgradRefIdeal.Read.val_main_v7, Cert.In0WgradRefIdeal.Read.val_main_v6, Cert.In0WgradRefIdeal.Read.val_main_v5, Cert.In0WgradRefIdeal.Read.val_main_v4, Cert.In0WgradRefIdeal.Read.val_main_v1, Cert.In0WgradRefIdeal.Read.val_main_v0, prod]
  refine Finset.sum_congr rfl fun k _ => (mul_comm _ _).trans (congrArg₂ (· * ·) rfl (congrArg dy (congrArg (ix2 k) (Fin.ext ?_))))
  show i0.val * 1024 + i2.val = 1024 * i0.val + i2.val
  omega

end Cert.In0WgradIdeal.Product

end
-- ==== Proof.In1Fwd.lean ====
/- The second layer's input projection: what the kernel's result array holds, against the reference's product. -/
module

public import proofs.«01_k».proof.Proof.Gen.In1FwdIdeal.Value
public import proofs.«01_k».proof.Proof.Gen.In1FwdRefIdeal.Read
public import proofs.«01_k».proof.Proof.Quarters
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.In1FwdIdeal.Product

open Cert.In1FwdIdeal Cert.In1FwdIdeal.Gen

variable (m : (ℓ : Loc nD τ sig) → Buf (Elt Ideal) ℓ)

/-- The block of each window at a grid point: rows by the second coordinate, columns by the first. -/
theorem idx : ∀ t : Fin cfg0.N, win0_0.index t = ![(grid0.coords t 1).val, 0] ∧ win0_1.index t = ![(grid0.coords t 0).val, 0, 0]
    ∧ win0_2.index t = ![(grid0.coords t 1).val, (grid0.coords t 0).val] :=
  (by decide +kernel : ∀ t : Fin grid0.N, _)

/-- The product of the input with the weight, at an index. -/
def prod (x : Vec Ideal S4352x2048 .bf16) (w : Vec Ideal S2048x3072 .bf16) : Vec Ideal S4352x3072 .f32 :=
  fun i => ∑ k : Fin 2048, x (ix2 (i 0) k) * w (ix2 k (i 1))

/-- The kernel's result array is the product. -/
theorem final (c : Dev nD) : (Gen.dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise [k0_pay1, prod]
  blk_point [iblk, V, idx t]

/-- The reference's result is the product. -/
theorem reference (x : Vec Ideal S4352x2048 .bf16) (w : Vec Ideal S2048x3072 .bf16) :
    Cert.In1FwdRefIdeal.Read.val_main_v2 (F := Ideal) x w = prod x w := by
  funext i
  idx_vars i
  pointwise [Cert.In1FwdRefIdeal.Read.val_main_v2, Cert.In1FwdRefIdeal.Read.val_main_v1, Cert.In1FwdRefIdeal.Read.val_main_v0, prod]

end Cert.In1FwdIdeal.Product

end
-- ==== Proof.In1Dgrad.lean ====
/- The gradient of the second layer's input projection in its input: what the kernel's result array holds, against the reference's product. -/
module

public import proofs.«01_k».proof.Proof.Gen.In1DgradIdeal.Value
public import proofs.«01_k».proof.Proof.Gen.In1DgradRefIdeal.Read
public import proofs.«01_k».proof.Proof.Quarters
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.In1DgradIdeal.Product

open Cert.In1DgradIdeal Cert.In1DgradIdeal.Gen

variable (m : (ℓ : Loc nD τ sig) → Buf (Elt Ideal) ℓ)

/-- The block of each window at a grid point: rows by the second coordinate, columns by the first. -/
theorem idx : ∀ t : Fin cfg0.N, win0_0.index t = ![(grid0.coords t 1).val, 0] ∧ win0_1.index t = ![0, (grid0.coords t 0).val, 0]
    ∧ win0_2.index t = ![(grid0.coords t 1).val, (grid0.coords t 0).val] :=
  (by decide +kernel : ∀ t : Fin grid0.N, _)

/-- The product of a gradient with the transpose of a weight, at an index. -/
def prod (dy : Vec Ideal S4352x3072 .bf16) (w : Vec Ideal S2048x3072 .bf16) : Vec Ideal S4352x2048 .f32 :=
  fun i => ∑ k : Fin 3072, dy (ix2 (i 0) k) * w (ix2 (i 1) k)

/-- The kernel's result array is the product. -/
theorem final (c : Dev nD) : (Gen.dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise [k0_pay1, prod]
  rw [Quarters.sum_quarters 768 1536 2304 3072 rfl rfl rfl]
  blk_point [iblk, V, idx t]

/-- The reference's result is the product. -/
theorem reference (dy : Vec Ideal S4352x3072 .bf16) (w : Vec Ideal S2048x3072 .bf16) :
    Cert.In1DgradRefIdeal.Read.val_main_v4 (F := Ideal) dy w = prod dy w := by
  funext i
  idx_vars i
  pointwise [Cert.In1DgradRefIdeal.Read.val_main_v4, Cert.In1DgradRefIdeal.Read.val_main_v1, Cert.In1DgradRefIdeal.Read.val_main_v0, prod]

end Cert.In1DgradIdeal.Product

end
-- ==== Proof.In1Wgrad.lean ====
/- The gradient of the second layer's input projection in its weight: what the kernel's result array holds, against the reference's. -/
module

public import proofs.«01_k».proof.Proof.Gen.In1WgradIdeal.Value
public import proofs.«01_k».proof.Proof.Gen.In1WgradRefIdeal.Read
public import proofs.«01_k».proof.Proof.Quarters
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.In1WgradIdeal.Product

open Cert.In1WgradIdeal Cert.In1WgradIdeal.Gen

variable (m : (ℓ : Loc nD τ sig) → Buf (Elt Ideal) ℓ)

/-- The block of each window at a grid point, whose number counts the two halves of the rows fastest. -/
theorem idx : ∀ t : Fin cfg0.N, win0_0.index t = ![t.val % 2, t.val / 2 % 2] ∧ win0_1.index t = ![t.val % 2, t.val / 4]
    ∧ win0_2.index t = ![t.val / 4, t.val / 2 % 2, 0] :=
  (by decide +kernel : ∀ t : Fin grid0.N, _)

/-- The product of the transpose of the input with the output's gradient, its columns in four groups, at an index. -/
def prod (x : Vec Ideal S4352x2048 .bf16) (dy : Vec Ideal S4352x3072 .bf16) : Vec Ideal S4x2048x768 .bf16 :=
  fun i => ∑ k : Fin 4352, x (ix2 k (i 1)) * dy (ix2 k ⟨768 * (i 0).val + (i 2).val, by have h0 : (i 0).val < 4 := (i 0).isLt; have h2 : (i 2).val < 768 := (i 2).isLt; omega⟩)

/-- The kernel's result array is the product. -/
theorem final (c : Dev nD) : (Gen.dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  have hm : t.val % 2 = 1 := (flush0_2 t).mp hf
  blk_simp
  rw [after0_2]
  rw [outsAt0_B m c t (by omega) hm]
  have hp := Nat.lt_of_le_of_lt (Nat.sub_le t.val 1) t.isLt
  rw [outsAt0_A m c ⟨t.val - 1, hp⟩ (by show (t.val - 1) % 2 = 0; omega) (by show ¬ (t.val - 1) % 2 = 1; omega)]
  frame_out
  idx_vars y
  rw [read_unread_whole]
  pointwise [k0_pay1, k0_pay2, k0_pay3, k0_pay4, prod]
  rw [Fin.sum_univ_two_halves 2176 2176 rfl]
  refine congrArg₂ (· + ·) ?_ ?_
  · blk_point [iblk, V, idx ⟨t.val - 1, hp⟩, idx t]
  · blk_point [iblk, V, idx t]

/-- The reference's result is the product. -/
theorem reference (x : Vec Ideal S4352x2048 .bf16) (dy : Vec Ideal S4352x3072 .bf16) :
    Cert.In1WgradRefIdeal.Read.val_main_v8 (F := Ideal) x dy = prod x dy := by
  funext i
  idx_vars i
  pointwise [Cert.In1WgradRefIdeal.Read.val_main_v8, Cert.In1WgradRefIdeal.Read.val_main_v7, Cert.In1WgradRefIdeal.Read.val_main_v6, Cert.In1WgradRefIdeal.Read.val_main_v5, Cert.In1WgradRefIdeal.Read.val_main_v4, Cert.In1WgradRefIdeal.Read.val_main_v1, Cert.In1WgradRefIdeal.Read.val_main_v0, prod]
  refine Finset.sum_congr rfl fun k _ => (mul_comm _ _).trans (congrArg₂ (· * ·) rfl (congrArg dy (congrArg (ix2 k) (Fin.ext ?_))))
  show i0.val * 768 + i2.val = 768 * i0.val + i2.val
  omega

end Cert.In1WgradIdeal.Product

end
-- ==== Proof.OutFwd.lean ====
/- The output projection with its gated residual: what the kernel's two result arrays hold, against the reference's. -/
module

public import proofs.«01_k».proof.Proof.Gen.OutFwdIdeal.Value
public import proofs.«01_k».proof.Proof.Gen.OutFwdRefIdeal.Read
public import proofs.«01_k».proof.Proof.Quarters
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutFwdIdeal.Product

open Cert.OutFwdIdeal Cert.OutFwdIdeal.Gen

variable (m : (ℓ : Loc nD τ sig) → Buf (Elt Ideal) ℓ)

/-- The block of each window at a grid point: rows by the second coordinate, columns by the first. -/
theorem idx : ∀ t : Fin cfg0.N, win0_0.index t = ![(grid0.coords t 1).val, 0] ∧ win0_1.index t = ![0, (grid0.coords t 0).val]
    ∧ win0_2.index t = ![(grid0.coords t 1).val, (grid0.coords t 0).val] ∧ win0_3.index t = ![0, 0, (grid0.coords t 0).val]
    ∧ win0_4.index t = ![(grid0.coords t 1).val, (grid0.coords t 0).val] ∧ win0_5.index t = ![(grid0.coords t 1).val, (grid0.coords t 0).val] :=
  (by decide +kernel : ∀ t : Fin grid0.N, _)

/-- The product of the mixers' outputs with the weight, at an index. -/
def prod (a : Vec Ideal S4352x2048 .bf16) (w : Vec Ideal S2048x2048 .bf16) : Vec Ideal S4352x2048 .bf16 :=
  fun i => ∑ k : Fin 2048, a (ix2 (i 0) k) * w (ix2 k (i 1))

/-- The residual plus the product times its gate: the first gate for the first 256 rows, the second for the others. -/
def gated (a : Vec Ideal S4352x2048 .bf16) (w : Vec Ideal S2048x2048 .bf16) (h : Vec Ideal S4352x2048 .f32) (g : Vec Ideal S2x1x2048 .f32) :
    Vec Ideal S4352x2048 .f32 :=
  fun i => h i + (if (i 0).val < 256 then g (ix3 0 0 (i 1)) else g (ix3 1 0 (i 1))) * ∑ k : Fin 2048, a (ix2 (i 0) k) * w (ix2 k (i 1))

/-- The kernel's first result array is the product. -/
theorem final4 (c : Dev nD) : (Gen.dats m 0 c).arrAt 4 cfg0.N
    = prod (m ((c : Thread nD τ).loc main_arg0)) (m ((c : Thread nD τ).loc main_arg1)) := by
  refine (dats m 0 c).arrAt_eq_of_covers 4 _ (by decide +kernel) fun t hf y => ?_
  blk_simp
  rw [after0_4]
  frame_out
  idx_vars y
  pointwise [k0_pay2, k0_pay1, prod]
  blk_point [iblk, V, idx t]

/-- A row's number compared with 256, the row given by its block and its place in the block. -/
theorem mask (p q : ℕ) (hp : p < 8) (hq : q < 544) :
    IntOp.cmpi CmpIPredicate.slt (IntOp.addi (Scalar.muli (BitVec.ofNat 32 p) 544#32) (BitVec.ofNat 32 q)) 256#32
      = if 544 * p + q < 256 then 1#1 else 0#1 := by
  have h := WordCmp.cmpi_slt_mul_add_ofNat (w := 32) p 544 q 256 (by omega) (by omega)
  rw [Nat.mul_comm] at h
  exact h

/-- The kernel's second result array is the gated residual. -/
theorem final5 (c : Dev nD) : (Gen.dats m 0 c).arrAt 5 cfg0.N
    = gated (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  idx_vars y
  pointwise [k0_pay3, k0_pay1, gated]
  have hr : (((View.whole main_v2_1).slice (win0_5.rect t)).emb (ix2 y0 y1) 0).val = 544 * (grid0.coords t 1).val + y0.val := by
    show win0_5.index t (0 : Fin 2) * 544 + 1 * y0.val = _
    rw [(idx t).2.2.2.2.2]
    show (grid0.coords t 1).val * 544 + 1 * y0.val = _
    omega
  have hc : (grid0.coords t 1).val < 8 := (grid0.coords t 1).isLt
  have hy := y0.isLt
  rw [hr, mask _ _ (by omega) (by omega)]
  refine congrArg₂ (· + ·) ?_ ?_
  · blk_point [iblk, V, idx t]
  refine congrArg₂ (· * ·) ?_ ?_
  · split
    · blk_point [iblk, V, idx t]
    · blk_point [iblk, V, idx t]
  blk_point [iblk, V, idx t]

/-- The reference's first result is the product. -/
theorem reference14 (a : Vec Ideal S4352x2048 .bf16) (w : Vec Ideal S2048x2048 .bf16) :
    Cert.OutFwdRefIdeal.Read.val_main_v14 (F := Ideal) a w = prod a w := by
  funext i
  idx_vars i
  pointwise [Cert.OutFwdRefIdeal.Read.val_main_v14, Cert.OutFwdRefIdeal.Read.val_main_v2, Cert.OutFwdRefIdeal.Read.val_main_v1, Cert.OutFwdRefIdeal.Read.val_main_v0, prod]

/-- The reference's second result is the gated residual. -/
theorem reference15 (a : Vec Ideal S4352x2048 .bf16) (w : Vec Ideal S2048x2048 .bf16) (h : Vec Ideal S4352x2048 .f32) (g : Vec Ideal S2x1x2048 .f32) :
    Cert.OutFwdRefIdeal.Read.val_main_v15 (F := Ideal) a w h g = gated a w h g := by
  funext i
  idx_vars i
  pointwise [Cert.OutFwdRefIdeal.Read.val_main_v15, Cert.OutFwdRefIdeal.Read.val_main_v13, Cert.OutFwdRefIdeal.Read.val_main_v12, Cert.OutFwdRefIdeal.Read.val_main_v11, Cert.OutFwdRefIdeal.Read.val_main_v10, Cert.OutFwdRefIdeal.Read.val_main_v9, Cert.OutFwdRefIdeal.Read.val_main_v8, Cert.OutFwdRefIdeal.Read.val_main_v7, Cert.OutFwdRefIdeal.Read.val_main_v6, Cert.OutFwdRefIdeal.Read.val_main_v5, Cert.OutFwdRefIdeal.Read.val_main_v4, Cert.OutFwdRefIdeal.Read.val_main_v3, Cert.OutFwdRefIdeal.Read.val_main_v2, Cert.OutFwdRefIdeal.Read.val_main_v1, Cert.OutFwdRefIdeal.Read.val_main_v0, gated]
  refine congrArg₂ (· + ·) rfl ?_
  split
  · rfl
  · rename_i h0
    have e : (⟨256 + (i0.val - 256), by have := i0.isLt; omega⟩ : Fin 4352) = i0 := Fin.ext (by show 256 + (i0.val - 256) = i0.val; omega)
    rw [e]

end Cert.OutFwdIdeal.Product

end
-- ==== Proof.OutDgrad.lean ====
/- The gradient of the output projection in its input: what the kernel's result array holds, against the reference's product. -/
module

public import proofs.«01_k».proof.Proof.Gen.OutDgradIdeal.Value
public import proofs.«01_k».proof.Proof.Gen.OutDgradRefIdeal.Read
public import proofs.«01_k».proof.Proof.Quarters
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutDgradIdeal.Product

open Cert.OutDgradIdeal Cert.OutDgradIdeal.Gen

variable (m : (ℓ : Loc nD τ sig) → Buf (Elt Ideal) ℓ)

/-- The block of each window at a grid point: rows by the second coordinate, columns by the first. -/
theorem idx : ∀ t : Fin cfg0.N, win0_0.index t = ![(grid0.coords t 1).val, 0] ∧ win0_1.index t = ![(grid0.coords t 0).val, 0, 0]
    ∧ win0_2.index t = ![(grid0.coords t 1).val, (grid0.coords t 0).val] :=
  (by decide +kernel : ∀ t : Fin grid0.N, _)

/-- The product of a gradient with the transpose of a weight, at an index. -/
def prod (dy : Vec Ideal S4352x2048 .bf16) (w : Vec Ideal S2048x2048 .bf16) : Vec Ideal S4352x2048 .bf16 :=
  fun i => ∑ k : Fin 2048, dy (ix2 (i 0) k) * w (ix2 (i 1) k)

/-- The kernel's result array is the product. -/
theorem final (c : Dev nD) : (Gen.dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise [k0_pay1, prod]
  blk_point [iblk, V, idx t]

/-- The reference's result is the product. -/
theorem reference (dy : Vec Ideal S4352x2048 .bf16) (w : Vec Ideal S2048x2048 .bf16) :
    Cert.OutDgradRefIdeal.Read.val_main_v5 (F := Ideal) dy w = prod dy w := by
  funext i
  idx_vars i
  pointwise [Cert.OutDgradRefIdeal.Read.val_main_v5, Cert.OutDgradRefIdeal.Read.val_main_v4, Cert.OutDgradRefIdeal.Read.val_main_v1, Cert.OutDgradRefIdeal.Read.val_main_v0, prod]

end Cert.OutDgradIdeal.Product

end
-- ==== Proof.OutWgrad.lean ====
/- The gradient of the output projection in its weight: what the kernel's result array holds, against the reference's. -/
module

public import proofs.«01_k».proof.Proof.Gen.OutWgradIdeal.Value
public import proofs.«01_k».proof.Proof.Gen.OutWgradRefIdeal.Read
public import proofs.«01_k».proof.Proof.Quarters
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutWgradIdeal.Product

open Cert.OutWgradIdeal Cert.OutWgradIdeal.Gen

variable (m : (ℓ : Loc nD τ sig) → Buf (Elt Ideal) ℓ)

/-- The block of each window at a grid point, whose number counts the two halves of the rows fastest. -/
theorem idx : ∀ t : Fin cfg0.N, win0_0.index t = ![t.val % 2, t.val / 2 % 2] ∧ win0_1.index t = ![t.val % 2, t.val / 4]
    ∧ win0_2.index t = ![t.val / 2 % 2, t.val / 4] :=
  (by decide +kernel : ∀ t : Fin grid0.N, _)

/-- The product of the transpose of the input with the output's gradient, at an index. -/
def prod (x : Vec Ideal S4352x2048 .bf16) (dy : Vec Ideal S4352x2048 .bf16) : Vec Ideal S2048x2048 .bf16 :=
  fun i => ∑ k : Fin 4352, x (ix2 k (i 0)) * dy (ix2 k (i 1))

/-- The kernel's result array is the product. -/
theorem final (c : Dev nD) : (Gen.dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  have hm : t.val % 2 = 1 := (flush0_2 t).mp hf
  blk_simp
  rw [after0_2]
  rw [outsAt0_B m c t (by omega) hm]
  have hp := Nat.lt_of_le_of_lt (Nat.sub_le t.val 1) t.isLt
  rw [outsAt0_A m c ⟨t.val - 1, hp⟩ (by show (t.val - 1) % 2 = 0; omega) (by show ¬ (t.val - 1) % 2 = 1; omega)]
  frame_out
  idx_vars y
  rw [read_unread_whole]
  pointwise [k0_pay1, k0_pay2, k0_pay3, k0_pay4, prod]
  rw [Fin.sum_univ_two_halves 2176 2176 rfl]
  refine congrArg₂ (· + ·) ?_ ?_
  · blk_point [iblk, V, idx ⟨t.val - 1, hp⟩, idx t]
  · blk_point [iblk, V, idx t]

/-- The reference's result is the product. -/
theorem reference (x : Vec Ideal S4352x2048 .bf16) (dy : Vec Ideal S4352x2048 .bf16) :
    Cert.OutWgradRefIdeal.Read.val_main_v6 (F := Ideal) x dy = prod x dy := by
  funext i
  idx_vars i
  pointwise [Cert.OutWgradRefIdeal.Read.val_main_v6, Cert.OutWgradRefIdeal.Read.val_main_v5, Cert.OutWgradRefIdeal.Read.val_main_v4, Cert.OutWgradRefIdeal.Read.val_main_v1, Cert.OutWgradRefIdeal.Read.val_main_v0, prod]
  exact Finset.sum_congr rfl fun _ _ => mul_comm _ _

end Cert.OutWgradIdeal.Product

end
-- ==== Proof.ProjectionClaims.lean ====
/- The claims on the mixers' input and output projections: what each kernel leaves is what its reference leaves. -/
module

public import proofs.«01_k».proof.Defs
public import proofs.«01_k».proof.Proof.In0Fwd
public import proofs.«01_k».proof.Proof.In0Dgrad
public import proofs.«01_k».proof.Proof.In0Wgrad
public import proofs.«01_k».proof.Proof.In1Fwd
public import proofs.«01_k».proof.Proof.In1Dgrad
public import proofs.«01_k».proof.Proof.In1Wgrad
public import proofs.«01_k».proof.Proof.OutFwd
public import proofs.«01_k».proof.Proof.OutDgrad
public import proofs.«01_k».proof.Proof.OutWgrad
public import proofs.«01_k».proof.Proof.Gen.In0FwdRefIdeal.Run
public import proofs.«01_k».proof.Proof.Gen.In0DgradRefIdeal.Run
public import proofs.«01_k».proof.Proof.Gen.In0WgradRefIdeal.Run
public import proofs.«01_k».proof.Proof.Gen.In1FwdRefIdeal.Run
public import proofs.«01_k».proof.Proof.Gen.In1DgradRefIdeal.Run
public import proofs.«01_k».proof.Proof.Gen.In1WgradRefIdeal.Run
public import proofs.«01_k».proof.Proof.Gen.OutFwdRefIdeal.Run
public import proofs.«01_k».proof.Proof.Gen.OutDgradRefIdeal.Run
public import proofs.«01_k».proof.Proof.Gen.OutWgradRefIdeal.Run
public import Idealize.ShloMosaic.Lib.Claim

@[expose] public section

set_option maxRecDepth 16384

noncomputable section

open Idealize.ShloMosaic Idealize.ShloMosaic.TcCoe Idealize.SL.Sem

namespace Cert.ProjectionClaims

/-- The first layer's input projection. -/
theorem in0_fwd : Cert.algebraic_In0FwdIdeal_In0FwdRefIdeal := by
  pair_intro
  · run_from Cert.In0FwdIdeal.Value.run_blocks m g
  · run_from Cert.In0FwdRefIdeal.Value.run m' g'
    rw [Cert.In0FwdIdeal.Product.final m c]
    exact Cert.In0FwdIdeal.Product.reference _ _

/-- The gradient in the first layer's input projection's input. -/
theorem in0_dgrad : Cert.algebraic_In0DgradIdeal_In0DgradRefIdeal := by
  pair_intro
  · run_from Cert.In0DgradIdeal.Value.run_blocks m g
  · run_from Cert.In0DgradRefIdeal.Value.run m' g'
    rw [Cert.In0DgradIdeal.Product.final m c]
    exact Cert.In0DgradIdeal.Product.reference _ _

/-- The gradient in the first layer's input projection's weight. -/
theorem in0_wgrad : Cert.algebraic_In0WgradIdeal_In0WgradRefIdeal := by
  pair_intro
  · run_from Cert.In0WgradIdeal.Value.run_blocks m g
  · run_from Cert.In0WgradRefIdeal.Value.run m' g'
    rw [Cert.In0WgradIdeal.Product.final m c]
    exact Cert.In0WgradIdeal.Product.reference _ _

/-- The second layer's input projection. -/
theorem in1_fwd : Cert.algebraic_In1FwdIdeal_In1FwdRefIdeal := by
  pair_intro
  · run_from Cert.In1FwdIdeal.Value.run_blocks m g
  · run_from Cert.In1FwdRefIdeal.Value.run m' g'
    rw [Cert.In1FwdIdeal.Product.final m c]
    exact Cert.In1FwdIdeal.Product.reference _ _

/-- The gradient in the second layer's input projection's input. -/
theorem in1_dgrad : Cert.algebraic_In1DgradIdeal_In1DgradRefIdeal := by
  pair_intro
  · run_from Cert.In1DgradIdeal.Value.run_blocks m g
  · run_from Cert.In1DgradRefIdeal.Value.run m' g'
    rw [Cert.In1DgradIdeal.Product.final m c]
    exact Cert.In1DgradIdeal.Product.reference _ _

/-- The gradient in the second layer's input projection's weight. -/
theorem in1_wgrad : Cert.algebraic_In1WgradIdeal_In1WgradRefIdeal := by
  pair_intro
  · run_from Cert.In1WgradIdeal.Value.run_blocks m g
  · run_from Cert.In1WgradRefIdeal.Value.run m' g'
    rw [Cert.In1WgradIdeal.Product.final m c]
    exact Cert.In1WgradIdeal.Product.reference _ _

/-- The output projection with its gated residual. -/
theorem out_fwd : Cert.algebraic_OutFwdIdeal_OutFwdRefIdeal := by
  pair_intro
  · run_from Cert.OutFwdIdeal.Value.run_blocks m g
  · run_from Cert.OutFwdRefIdeal.Value.run m' g'
    · exact (Cert.OutFwdIdeal.Product.reference14 _ _).trans (Cert.OutFwdIdeal.Product.final4 m c).symm
    · refine (Cert.OutFwdIdeal.Product.reference15 _ _ _ _).trans ?_
      rw [Cert.OutFwdIdeal.Product.final5 m c, (hagree c).2.2.2]

/-- The gradient in the output projection's input. -/
theorem out_dgrad : Cert.algebraic_OutDgradIdeal_OutDgradRefIdeal := by
  pair_intro
  · run_from Cert.OutDgradIdeal.Value.run_blocks m g
  · run_from Cert.OutDgradRefIdeal.Value.run m' g'
    rw [Cert.OutDgradIdeal.Product.final m c]
    exact Cert.OutDgradIdeal.Product.reference _ _

/-- The gradient in the output projection's weight. -/
theorem out_wgrad : Cert.algebraic_OutWgradIdeal_OutWgradRefIdeal := by
  pair_intro
  · run_from Cert.OutWgradIdeal.Value.run_blocks m g
  · run_from Cert.OutWgradRefIdeal.Value.run m' g'
    rw [Cert.OutWgradIdeal.Product.final m c]
    exact Cert.OutWgradIdeal.Product.reference _ _

end Cert.ProjectionClaims

end
-- ==== Proof.AttnFwdRow.lean ====
/- One row of attention's forward pass, from the row's query and from the keys and values: what the kernel body's payloads
   hold in these terms. -/
module

public import proofs.«01_k».proof.Proof.AttentionSaved
public import proofs.«01_k».proof.Proof.Gen.AttnFwdIdeal.Frame
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AttnFwdIdeal.Attention

open Cert.AttnFwdIdeal Cert.AttnFwdIdeal.Gen
open Cert.KernelIdeal.Attention (row Qry Key low kvOf gOf dOf sc top tot lse mean)

/-- A row's output as the kernel has it: the weighted values are summed first and divided by the weights' sum afterwards. -/
def quot {N : Nat} (s : Fin N → EReal) (v : Fin N → Fin 128 → EReal) (d : Fin 128) : EReal :=
  Ideal.div (∑ n, Ideal.exp (s n - top s) * v n d) (tot s)

section Small
variable (k v q : Vec Ideal S256x128 .bf16)

/-- The scores against the first 256 keys. -/
theorem pay17 (r n : Fin 256) : k0_pay17 k q (ix2 r n) = sc (row q r) (row k) n := by
  pointwise [k0_pay17, sc, row]

/-- The largest of them. -/
theorem pay18 (r : Fin 256) : k0_pay18 k q (ix2 r 0) = top (sc (row q r) (row k)) := by
  pointwise [k0_pay18]
  exact congrArg top (funext fun n => pay17 k q r n)

/-- Their exponentials. -/
theorem pay19 (r n : Fin 256) : k0_pay19 k q (ix2 r n) = Ideal.exp (sc (row q r) (row k) n - top (sc (row q r) (row k))) := by
  pointwise [k0_pay19]
  rw [pay17, pay18]

/-- The exponentials' sum. -/
theorem pay20 (r : Fin 256) : k0_pay20 k q (ix2 r 0) = tot (sc (row q r) (row k)) := by
  pointwise [k0_pay20]
  exact Finset.sum_congr rfl fun n _ => pay19 k q r n

/-- The output. -/
theorem pay21 (r : Fin 256) (d : Fin 128) : k0_pay21 k v q (ix2 r d) = quot (sc (row q r) (row k)) (row v) d := by
  pointwise [k0_pay21]
  rw [pay20]
  exact congrArg (Ideal.div · _) (Finset.sum_congr rfl fun n _ => congrArg (· * _) (pay19 k q r n))

/-- The logarithm of the denominator. -/
theorem pay22 (r : Fin 256) : k0_pay22 k q (ix3 0 r 0) = lse (sc (row q r) (row k)) := by
  pointwise [k0_pay22]
  rw [pay18, pay20]
  rfl

end Small

section Large
variable (k v : Vec Ideal S4352x128 .bf16) (q : Vec Ideal S256x128 .bf16)

/-- The scores against all the keys. -/
theorem pay29 (r : Fin 256) (n : Fin 4352) : k0_pay29 k q (ix2 r n) = sc (row q r) (row k) n := by
  pointwise [k0_pay29, sc, row]

/-- The largest of them. -/
theorem pay30 (r : Fin 256) : k0_pay30 k q (ix2 r 0) = top (sc (row q r) (row k)) := by
  pointwise [k0_pay30]
  exact congrArg top (funext fun n => pay29 k q r n)

/-- Their exponentials. -/
theorem pay31 (r : Fin 256) (n : Fin 4352) : k0_pay31 k q (ix2 r n) = Ideal.exp (sc (row q r) (row k) n - top (sc (row q r) (row k))) := by
  pointwise [k0_pay31]
  rw [pay29, pay30]

/-- The exponentials' sum. -/
theorem pay32 (r : Fin 256) : k0_pay32 k q (ix2 r 0) = tot (sc (row q r) (row k)) := by
  pointwise [k0_pay32]
  exact Finset.sum_congr rfl fun n _ => pay31 k q r n

/-- The output. -/
theorem pay33 (r : Fin 256) (d : Fin 128) : k0_pay33 k v q (ix2 r d) = quot (sc (row q r) (row k)) (row v) d := by
  pointwise [k0_pay33]
  rw [pay32]
  exact congrArg (Ideal.div · _) (Finset.sum_congr rfl fun n _ => congrArg (· * _) (pay31 k q r n))

/-- The logarithm of the denominator. -/
theorem pay34 (r : Fin 256) : k0_pay34 k q (ix3 0 r 0) = lse (sc (row q r) (row k)) := by
  pointwise [k0_pay34]
  rw [pay30, pay32]
  rfl

end Large

end Cert.AttnFwdIdeal.Attention

end
-- ==== Proof.AttnFwdBlocks.lean ====
/- What attention's forward pass leaves in its two results' arrays. -/
module

public import proofs.«01_k».proof.Proof.AttnFwdRow
public import proofs.«01_k».proof.Proof.AttentionDq
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AttnFwdIdeal.Attention

open Cert.AttnFwdIdeal Cert.AttnFwdIdeal.Gen
open Cert.KernelIdeal.Attention (row Qry Key low kvOf gOf dOf sc top tot lse mean canon_skip)

variable (m : (ℓ : Loc nD τ sig) → Buf (Elt Ideal) ℓ) (c : Dev nD)

/-- The blocks of the windows at a grid point, whose number counts the blocks of 256 queries fastest. -/
theorem idx : ∀ t : Fin cfg0.N, win0_1.index t = ![t.val % 17, t.val / 17] ∧ win0_2.index t = ![0, t.val / 17]
    ∧ win0_3.index t = ![0, t.val / 17] ∧ win0_4.index t = ![t.val % 17, t.val / 17] ∧ win0_5.index t = ![t.val / 17, t.val % 17, 0] :=
  (by decide +kernel : ∀ t : Fin grid0.N, _)

/-- The grid has 68 points. -/
theorem lt_N (t : Fin cfg0.N) : t.val < 68 := lt_of_lt_of_eq t.isLt N_0

/-- The key and value head of a grid point. -/
def kvAt (t : Fin cfg0.N) : Fin 4 := ⟨t.val / 17, by have := lt_N t; omega⟩

/-- A row of a grid point's block of queries. -/
def rowAt (t : Fin cfg0.N) (r : Fin 256) : Fin 4352 := ⟨256 * (t.val % 17) + r.val, by omega⟩

/-- The first block of queries is the first 256 queries. -/
theorem rowAt_low (t : Fin cfg0.N) (h : t.val % 17 = 0) (r : Fin 256) : (rowAt t r).val < 256 := by
  show 256 * (t.val % 17) + r.val < 256
  omega

/-- The other blocks are queries after them. -/
theorem rowAt_high (t : Fin cfg0.N) (h : ¬ t.val % 17 = 0) (r : Fin 256) : ¬ (rowAt t r).val < 256 := by
  show ¬ 256 * (t.val % 17) + r.val < 256
  omega

section Loads
variable (t : Fin cfg0.N)

/-- The block of keys is the head's keys. -/
theorem key : row (iblk m c 2 t) = Key (m ((c : Thread nD τ).loc main_arg1)) (kvAt t) := by
  funext n d
  show iblk m c 2 t (ix2 n d) = m ((c : Thread nD τ).loc main_arg1) (ix2 n ⟨128 * (t.val / 17) + d.val, _⟩)
  blk_point [iblk, V, idx t]

/-- The first 256 rows of a block of keys. -/
theorem key_low : row (View.ld (iblk m c 2 t) (Rect.unit ![0, 0] ![256, 128] inb_S4352x128_S256x128_0_0)) = low (Key (m ((c : Thread nD τ).loc main_arg1)) (kvAt t)) := by
  funext n d
  show View.ld (iblk m c 2 t) (Rect.unit ![0, 0] ![256, 128] inb_S4352x128_S256x128_0_0) (ix2 n d) = m ((c : Thread nD τ).loc main_arg1) (ix2 ⟨n.val, _⟩ ⟨128 * (t.val / 17) + d.val, _⟩)
  blk_point [iblk, V, idx t]

/-- The block of values is the head's values. -/
theorem value : row (iblk m c 3 t) = Key (m ((c : Thread nD τ).loc main_arg2)) (kvAt t) := by
  funext n d
  show iblk m c 3 t (ix2 n d) = m ((c : Thread nD τ).loc main_arg2) (ix2 n ⟨128 * (t.val / 17) + d.val, _⟩)
  blk_point [iblk, V, idx t]

/-- The first 256 rows of a block of values. -/
theorem value_low : row (View.ld (iblk m c 3 t) (Rect.unit ![0, 0] ![256, 128] inb_S4352x128_S256x128_0_0)) = low (Key (m ((c : Thread nD τ).loc main_arg2)) (kvAt t)) := by
  funext n d
  show View.ld (iblk m c 3 t) (Rect.unit ![0, 0] ![256, 128] inb_S4352x128_S256x128_0_0) (ix2 n d) = m ((c : Thread nD τ).loc main_arg2) (ix2 ⟨n.val, _⟩ ⟨128 * (t.val / 17) + d.val, _⟩)
  blk_point [iblk, V, idx t]

/-- The first head's queries. -/
theorem query0 (r : Fin 256) : row (View.ld (iblk m c 1 t) (Rect.unit ![0, 0] ![256, 128] inb_S256x384_S256x128_0_0)) r = Qry (m ((c : Thread nD τ).loc main_arg0)) (kvAt t) 0 (rowAt t r) := by
  funext d
  show View.ld (iblk m c 1 t) (Rect.unit ![0, 0] ![256, 128] inb_S256x384_S256x128_0_0) (ix2 r d) = m ((c : Thread nD τ).loc main_arg0) (ix2 ⟨256 * (t.val % 17) + r.val, _⟩ ⟨384 * (t.val / 17) + 128 * 0 + d.val, _⟩)
  blk_point [iblk, V, idx t]

/-- The second head's queries. -/
theorem query1 (r : Fin 256) : row (View.ld (iblk m c 1 t) (Rect.unit ![0, 128] ![256, 128] inb_S256x384_S256x128_0_128)) r = Qry (m ((c : Thread nD τ).loc main_arg0)) (kvAt t) 1 (rowAt t r) := by
  funext d
  show View.ld (iblk m c 1 t) (Rect.unit ![0, 128] ![256, 128] inb_S256x384_S256x128_0_128) (ix2 r d) = m ((c : Thread nD τ).loc main_arg0) (ix2 ⟨256 * (t.val % 17) + r.val, _⟩ ⟨384 * (t.val / 17) + 128 * 1 + d.val, _⟩)
  blk_point [iblk, V, idx t]

/-- The third head's queries. -/
theorem query2 (r : Fin 256) : row (View.ld (iblk m c 1 t) (Rect.unit ![0, 256] ![256, 128] inb_S256x384_S256x128_0_256)) r = Qry (m ((c : Thread nD τ).loc main_arg0)) (kvAt t) 2 (rowAt t r) := by
  funext d
  show View.ld (iblk m c 1 t) (Rect.unit ![0, 256] ![256, 128] inb_S256x384_S256x128_0_256) (ix2 r d) = m ((c : Thread nD τ).loc main_arg0) (ix2 ⟨256 * (t.val % 17) + r.val, _⟩ ⟨384 * (t.val / 17) + 128 * 2 + d.val, _⟩)
  blk_point [iblk, V, idx t]

end Loads

/-- A row's output: on the first 256 rows against the first 256 keys. -/
def rowOut (q : Vec Ideal S4352x1536 .bf16) (k v : Vec Ideal S4352x512 .bf16) (kv : Fin 4) (g : Fin 3) (R : Fin 4352) (d : Fin 128) : EReal :=
  if R.val < 256 then quot (sc (Qry q kv g R) (low (Key k kv))) (low (Key v kv)) d else quot (sc (Qry q kv g R) (Key k kv)) (Key v kv) d

/-- The logarithm of a row's denominator. -/
def rowLse (q : Vec Ideal S4352x1536 .bf16) (k : Vec Ideal S4352x512 .bf16) (kv : Fin 4) (g : Fin 3) (R : Fin 4352) : EReal :=
  if R.val < 256 then lse (sc (Qry q kv g R) (low (Key k kv))) else lse (sc (Qry q kv g R) (Key k kv))

/-- A head of a grid point of the first 256 queries. -/
theorem head_low (q : Vec Ideal S4352x1536 .bf16) (k v : Vec Ideal S4352x512 .bf16) {K W Q : Vec Ideal S256x128 .bf16} {kv : Fin 4} {g : Fin 3}
    {R : Fin 4352} (hR : R.val < 256) {r : Fin 256} (hK : row K = low (Key k kv)) (hW : row W = low (Key v kv)) (hQ : row Q r = Qry q kv g R) (d : Fin 128) :
    k0_pay21 K W Q (ix2 r d) = rowOut q k v kv g R d := by
  rw [pay21, rowOut, if_pos hR, hK, hW, hQ]

/-- The logarithm of its denominator. -/
theorem den_low (q : Vec Ideal S4352x1536 .bf16) (k : Vec Ideal S4352x512 .bf16) {K Q : Vec Ideal S256x128 .bf16} {kv : Fin 4} {g : Fin 3}
    {R : Fin 4352} (hR : R.val < 256) {r : Fin 256} (hK : row K = low (Key k kv)) (hQ : row Q r = Qry q kv g R) :
    k0_pay22 K Q (ix3 0 r 0) = rowLse q k kv g R := by
  rw [pay22, rowLse, if_pos hR, hK, hQ]

/-- A head of a grid point of later queries. -/
theorem head_high (q : Vec Ideal S4352x1536 .bf16) (k v : Vec Ideal S4352x512 .bf16) {K W : Vec Ideal S4352x128 .bf16} {Q : Vec Ideal S256x128 .bf16} {kv : Fin 4}
    {g : Fin 3} {R : Fin 4352} (hR : ¬ R.val < 256) {r : Fin 256} (hK : row K = Key k kv) (hW : row W = Key v kv) (hQ : row Q r = Qry q kv g R) (d : Fin 128) :
    k0_pay33 K W Q (ix2 r d) = rowOut q k v kv g R d := by
  rw [pay33, rowOut, if_neg hR, hK, hW, hQ]

/-- The logarithm of its denominator. -/
theorem den_high (q : Vec Ideal S4352x1536 .bf16) (k : Vec Ideal S4352x512 .bf16) {K : Vec Ideal S4352x128 .bf16} {Q : Vec Ideal S256x128 .bf16} {kv : Fin 4}
    {g : Fin 3} {R : Fin 4352} (hR : ¬ R.val < 256) {r : Fin 256} (hK : row K = Key k kv) (hQ : row Q r = Qry q kv g R) :
    k0_pay34 K Q (ix3 0 r 0) = rowLse q k kv g R := by
  rw [pay34, rowLse, if_neg hR, hK, hQ]

/-- A block of three heads' columns, written one head at a time. -/
theorem heads3 (p0 p1 p2 : Vec Ideal S256x128 .bf16) (G : Fin 256 → Fin 384 → EReal)
    (h0 : ∀ r (d : Fin 128), p0 (ix2 r d) = G r ⟨d.val, by omega⟩)
    (h1 : ∀ r (d : Fin 128), p1 (ix2 r d) = G r ⟨128 + d.val, by omega⟩)
    (h2 : ∀ r (d : Fin 128), p2 (ix2 r d) = G r ⟨256 + d.val, by omega⟩) (r : Fin 256) (x : Fin 384) :
    View.canon (Val := Elt Ideal) (e := .bf16) (s := S256x384) [⟨Rect.unit ![0, 256] ![256, 128] inb_S256x384_S256x128_0_256, p2⟩,
      ⟨Rect.unit ![0, 128] ![256, 128] inb_S256x384_S256x128_0_128, p1⟩,
      ⟨Rect.unit ![0, 0] ![256, 128] inb_S256x384_S256x128_0_0, p0⟩] (ix2 r x) = G r x := by
  by_cases hx2 : 256 ≤ x.val
  · have e : ix2 r x = (Rect.unit ![0, 256] ![256, 128] inb_S256x384_S256x128_0_256).emb (ix2 r (⟨x.val - 256, by omega⟩ : Fin 128)) :=
      funext fun a => Fin.ext (by fin_cases a <;> simp [Rect.unit, Rect.emb] <;> omega)
    rw [e, View.canon_cons_emb]
    exact (h2 r _).trans (congrArg (G r) (Fin.ext (by show 256 + (x.val - 256) = x.val; omega)))
  · have n2 : (ix2 r x : S256x384.Idx) ∉ (Rect.unit ![0, 256] ![256, 128] inb_S256x384_S256x128_0_256 : Rect S256x384).set :=
    fun h => hx2 (show 256 ≤ x.val from ((Rect.mem_set_unit.mp h) (1 : Fin 2)).1)
    rw [canon_skip _ _ _ n2]
    by_cases hx1 : 128 ≤ x.val
    · have e : ix2 r x = (Rect.unit ![0, 128] ![256, 128] inb_S256x384_S256x128_0_128).emb (ix2 r (⟨x.val - 128, by omega⟩ : Fin 128)) :=
        funext fun a => Fin.ext (by fin_cases a <;> simp [Rect.unit, Rect.emb] <;> omega)
      rw [e, View.canon_cons_emb]
      exact (h1 r _).trans (congrArg (G r) (Fin.ext (by show 128 + (x.val - 128) = x.val; omega)))
    · have n1 : (ix2 r x : S256x384.Idx) ∉ (Rect.unit ![0, 128] ![256, 128] inb_S256x384_S256x128_0_128 : Rect S256x384).set :=
      fun h => hx1 (show 128 ≤ x.val from ((Rect.mem_set_unit.mp h) (1 : Fin 2)).1)
      rw [canon_skip _ _ _ n1]
      have e : ix2 r x = (Rect.unit ![0, 0] ![256, 128] inb_S256x384_S256x128_0_0).emb (ix2 r (⟨x.val, by omega⟩ : Fin 128)) :=
        funext fun a => Fin.ext (by fin_cases a <;> simp [Rect.unit, Rect.emb] <;> omega)
      rw [e, View.canon_cons_emb]
      exact h0 r _

/-- A block of three heads' logarithms, written one head at a time. -/
theorem dens3 (p0 p1 p2 : Vec Ideal S1x256x1 .f32) (G : Fin 3 → Fin 256 → EReal) (h0 : ∀ r, p0 (ix3 0 r 0) = G 0 r)
    (h1 : ∀ r, p1 (ix3 0 r 0) = G 1 r) (h2 : ∀ r, p2 (ix3 0 r 0) = G 2 r) (g : Fin 3) (r : Fin 256) :
    View.canon (Val := Elt Ideal) (e := .f32) (s := S3x256x1) [⟨Rect.unit ![2, 0, 0] ![1, 256, 1] inb_S3x256x1_S1x256x1_2_0_0, p2⟩,
      ⟨Rect.unit ![1, 0, 0] ![1, 256, 1] inb_S3x256x1_S1x256x1_1_0_0, p1⟩,
      ⟨Rect.unit ![0, 0, 0] ![1, 256, 1] inb_S3x256x1_S1x256x1_0_0_0, p0⟩] (ix3 g r 0) = G g r := by
  have far2 : ∀ a : Fin 3, a.val < 2 → (ix3 a r 0 : S3x256x1.Idx) ∉ (Rect.unit ![2, 0, 0] ![1, 256, 1] inb_S3x256x1_S1x256x1_2_0_0 : Rect S3x256x1).set :=
    fun a ha h => absurd (show 2 ≤ a.val from ((Rect.mem_set_unit.mp h) (0 : Fin 3)).1) (by omega)
  have far1 : (ix3 0 r 0 : S3x256x1.Idx) ∉ (Rect.unit ![1, 0, 0] ![1, 256, 1] inb_S3x256x1_S1x256x1_1_0_0 : Rect S3x256x1).set :=
    fun h => absurd (show 1 ≤ 0 from ((Rect.mem_set_unit.mp h) (0 : Fin 3)).1) (by omega)
  match g with
  | 2 =>
    have e : (ix3 2 r 0 : S3x256x1.Idx) = (Rect.unit ![2, 0, 0] ![1, 256, 1] inb_S3x256x1_S1x256x1_2_0_0).emb (ix3 0 r 0) :=
      funext fun a => Fin.ext (by fin_cases a <;> simp [Rect.unit, Rect.emb])
    rw [e, View.canon_cons_emb]
    exact h2 r
  | 1 =>
    rw [canon_skip _ _ _ (far2 1 (by decide))]
    have e : (ix3 1 r 0 : S3x256x1.Idx) = (Rect.unit ![1, 0, 0] ![1, 256, 1] inb_S3x256x1_S1x256x1_1_0_0).emb (ix3 0 r 0) :=
      funext fun a => Fin.ext (by fin_cases a <;> simp [Rect.unit, Rect.emb])
    rw [e, View.canon_cons_emb]
    exact h1 r
  | 0 =>
    rw [canon_skip _ _ _ (far2 0 (by decide)), canon_skip _ _ _ far1]
    have e : (ix3 0 r 0 : S3x256x1.Idx) = (Rect.unit ![0, 0, 0] ![1, 256, 1] inb_S3x256x1_S1x256x1_0_0_0).emb (ix3 0 r 0) :=
      funext fun a => Fin.ext (by fin_cases a <;> simp [Rect.unit, Rect.emb])
    rw [e, View.canon_cons_emb]
    exact h0 r

/-- The outputs from the launch's arrays. -/
abbrev outAt : Fin 4 → Fin 3 → Fin 4352 → Fin 128 → EReal :=
  rowOut (m ((c : Thread nD τ).loc main_arg0)) (m ((c : Thread nD τ).loc main_arg1)) (m ((c : Thread nD τ).loc main_arg2))

/-- The logarithms of the denominators from the launch's arrays. -/
abbrev lseAt : Fin 4 → Fin 3 → Fin 4352 → EReal :=
  rowLse (m ((c : Thread nD τ).loc main_arg0)) (m ((c : Thread nD τ).loc main_arg1))

/-- The outputs at a row and a column of a grid point's block. -/
def colAt (G : Fin 4 → Fin 3 → Fin 4352 → Fin 128 → EReal) (t : Fin cfg0.N) (r : Fin 256) (x : Fin 384) : EReal :=
  G (kvAt t) ⟨x.val / 128, by omega⟩ (rowAt t r) ⟨x.val % 128, by omega⟩

/-- One head's columns of it. -/
theorem colAt_eq (G : Fin 4 → Fin 3 → Fin 4352 → Fin 128 → EReal) (t : Fin cfg0.N) (r : Fin 256)
    (g : Fin 3) (d : Fin 128) (x : Fin 384) (hx : x.val = 128 * g.val + d.val) : G (kvAt t) g (rowAt t r) d = colAt G t r x := by
  have hg : (⟨x.val / 128, by omega⟩ : Fin 3) = g := Fin.ext (by show x.val / 128 = g.val; omega)
  have hd : (⟨x.val % 128, by omega⟩ : Fin 128) = d := Fin.ext (by show x.val % 128 = d.val; omega)
  rw [colAt, hg, hd]

/-- What a grid point leaves in the block of the outputs. -/
theorem out_block (t : Fin cfg0.N) (r : Fin 256) (x : Fin 384) : (outsAt0 m c t.val t.isLt).1 (ix2 r x) = colAt (outAt m c) t r x := by
  by_cases h : t.val % 17 = 0
  · rw [outsAt0_A m c t h (by omega)]
    frame_out
    refine heads3 _ _ _ (colAt (outAt m c) t) ?_ ?_ ?_ r x
    · intro r d
      refine Eq.trans (head_low (m ((c : Thread nD τ).loc main_arg0)) (m ((c : Thread nD τ).loc main_arg1)) (m ((c : Thread nD τ).loc main_arg2))
        (hR := rowAt_low t h r) (hK := key_low m c t) (hW := value_low m c t) (hQ := query0 m c t r) d) ?_
      exact colAt_eq _ t r 0 d _ (by show d.val = 128 * 0 + d.val; omega)
    · intro r d
      refine Eq.trans (head_low (m ((c : Thread nD τ).loc main_arg0)) (m ((c : Thread nD τ).loc main_arg1)) (m ((c : Thread nD τ).loc main_arg2))
        (hR := rowAt_low t h r) (hK := key_low m c t) (hW := value_low m c t) (hQ := query1 m c t r) d) ?_
      exact colAt_eq _ t r 1 d _ (by show (128 + d.val) = 128 * 1 + d.val; omega)
    · intro r d
      refine Eq.trans (head_low (m ((c : Thread nD τ).loc main_arg0)) (m ((c : Thread nD τ).loc main_arg1)) (m ((c : Thread nD τ).loc main_arg2))
        (hR := rowAt_low t h r) (hK := key_low m c t) (hW := value_low m c t) (hQ := query2 m c t r) d) ?_
      exact colAt_eq _ t r 2 d _ (by show (256 + d.val) = 128 * 2 + d.val; omega)
  · rw [outsAt0_B m c t h (by omega)]
    frame_out
    refine heads3 _ _ _ (colAt (outAt m c) t) ?_ ?_ ?_ r x
    · intro r d
      refine Eq.trans (head_high (m ((c : Thread nD τ).loc main_arg0)) (m ((c : Thread nD τ).loc main_arg1)) (m ((c : Thread nD τ).loc main_arg2))
        (hR := rowAt_high t h r) (hK := key m c t) (hW := value m c t) (hQ := query0 m c t r) d) ?_
      exact colAt_eq _ t r 0 d _ (by show d.val = 128 * 0 + d.val; omega)
    · intro r d
      refine Eq.trans (head_high (m ((c : Thread nD τ).loc main_arg0)) (m ((c : Thread nD τ).loc main_arg1)) (m ((c : Thread nD τ).loc main_arg2))
        (hR := rowAt_high t h r) (hK := key m c t) (hW := value m c t) (hQ := query1 m c t r) d) ?_
      exact colAt_eq _ t r 1 d _ (by show (128 + d.val) = 128 * 1 + d.val; omega)
    · intro r d
      refine Eq.trans (head_high (m ((c : Thread nD τ).loc main_arg0)) (m ((c : Thread nD τ).loc main_arg1)) (m ((c : Thread nD τ).loc main_arg2))
        (hR := rowAt_high t h r) (hK := key m c t) (hW := value m c t) (hQ := query2 m c t r) d) ?_
      exact colAt_eq _ t r 2 d _ (by show (256 + d.val) = 128 * 2 + d.val; omega)

/-- What a grid point leaves in the block of the logarithms of the denominators. -/
theorem lse_block (t : Fin cfg0.N) (g : Fin 3) (r : Fin 256) : (outsAt0 m c t.val t.isLt).2 (ix3 g r 0) = lseAt m c (kvAt t) g (rowAt t r) := by
  by_cases h : t.val % 17 = 0
  · rw [outsAt0_A m c t h (by omega)]
    frame_out
    refine dens3 _ _ _ (fun g r => lseAt m c (kvAt t) g (rowAt t r)) ?_ ?_ ?_ g r
    · exact fun r => den_low _ _ (hR := rowAt_low t h r) (hK := key_low m c t) (hQ := query0 m c t r)
    · exact fun r => den_low _ _ (hR := rowAt_low t h r) (hK := key_low m c t) (hQ := query1 m c t r)
    · exact fun r => den_low _ _ (hR := rowAt_low t h r) (hK := key_low m c t) (hQ := query2 m c t r)
  · rw [outsAt0_B m c t h (by omega)]
    frame_out
    refine dens3 _ _ _ (fun g r => lseAt m c (kvAt t) g (rowAt t r)) ?_ ?_ ?_ g r
    · exact fun r => den_high _ _ (hR := rowAt_high t h r) (hK := key m c t) (hQ := query0 m c t r)
    · exact fun r => den_high _ _ (hR := rowAt_high t h r) (hK := key m c t) (hQ := query1 m c t r)
    · exact fun r => den_high _ _ (hR := rowAt_high t h r) (hK := key m c t) (hQ := query2 m c t r)

/-- The array of the outputs. -/
def outOf (G : Fin 4 → Fin 3 → Fin 4352 → Fin 128 → EReal) : Vec Ideal S4352x1536 .bf16 := fun i => G (kvOf (i 1)) (gOf (i 1)) (i 0) (dOf (i 1))

/-- The array of the logarithms of the denominators. -/
def lseOf (L : Fin 4 → Fin 3 → Fin 4352 → EReal) : Vec Ideal S12x4352x1 .f32 :=
  fun i => L ⟨(i 0).val / 3, by have : (i 0).val < 12 := (i 0).isLt; omega⟩ ⟨(i 0).val % 3, by omega⟩ (i 1)

/-- The array of the logarithms of the denominators after the run. -/
theorem lse_final : (Gen.dats m 0 c).arrAt 5 cfg0.N = lseOf (lseAt m c) := by
  refine (dats m 0 c).arrAt_eq_of_covers 5 _ (by decide +kernel) fun t hf y => ?_
  blk_simp
  rw [after0_5]
  idx_vars y
  have hy : y2 = 0 := Fin.ext (by omega)
  subst hy
  refine (lse_block m c t y0 y1).trans ?_
  have hN := lt_N t
  have e0 : win0_5.index t (0 : Fin 3) * 3 + 1 * y0.val = 3 * (t.val / 17) + y0.val := by
    rw [(idx t).2.2.2.2]
    show t.val / 17 * 3 + 1 * y0.val = 3 * (t.val / 17) + y0.val
    omega
  have e1 : win0_5.index t (1 : Fin 3) * 256 + 1 * y1.val = 256 * (t.val % 17) + y1.val := by
    rw [(idx t).2.2.2.2]
    show t.val % 17 * 256 + 1 * y1.val = 256 * (t.val % 17) + y1.val
    omega
  have f0 : kvAt t = ⟨(win0_5.index t (0 : Fin 3) * 3 + 1 * y0.val) / 3, by omega⟩ := Fin.ext (by show t.val / 17 = (win0_5.index t (0 : Fin 3) * 3 + 1 * y0.val) / 3; omega)
  have f1 : y0 = ⟨(win0_5.index t (0 : Fin 3) * 3 + 1 * y0.val) % 3, by omega⟩ := Fin.ext (by show y0.val = (win0_5.index t (0 : Fin 3) * 3 + 1 * y0.val) % 3; omega)
  have f2 : rowAt t y1 = ⟨win0_5.index t (1 : Fin 3) * 256 + 1 * y1.val, by omega⟩ := Fin.ext e1.symm
  exact congr (congrArg₂ (lseAt m c) f0 f1) f2

/-- The array the outputs are written into, which has further columns. -/
def wideOf (G : Fin 4 → Fin 3 → Fin 4352 → Fin 128 → EReal) : Vec Ideal S4352x2048 .bf16 :=
  fun i => if h : (i 1).val < 1536 then outOf G (ix2 (i 0) ⟨(i 1).val, h⟩) else 0

/-- It at a place of a grid point's block. -/
theorem wideOf_eq (G : Fin 4 → Fin 3 → Fin 4352 → Fin 128 → EReal) (t : Fin cfg0.N) (r : Fin 256) (x : Fin 384)
    (i : S4352x2048.Idx) (h0 : (i 0).val = 256 * (t.val % 17) + r.val) (h1 : (i 1).val = 384 * (t.val / 17) + x.val) :
    colAt G t r x = wideOf G i := by
  have hN := lt_N t
  have hlt : (i 1).val < 1536 := by omega
  have e0 : i 0 = rowAt t r := Fin.ext h0
  have e1 : kvOf ⟨(i 1).val, hlt⟩ = kvAt t := Fin.ext (by show (i 1).val / 384 = t.val / 17; omega)
  have e2 : gOf ⟨(i 1).val, hlt⟩ = ⟨x.val / 128, by omega⟩ := Fin.ext (by show (i 1).val / 128 % 3 = x.val / 128; omega)
  have e3 : dOf ⟨(i 1).val, hlt⟩ = ⟨x.val % 128, by omega⟩ := Fin.ext (by show (i 1).val % 128 = x.val % 128; omega)
  rw [wideOf, dif_pos hlt]
  show colAt G t r x = G (kvOf ⟨(i 1).val, hlt⟩) (gOf ⟨(i 1).val, hlt⟩) (i 0) (dOf ⟨(i 1).val, hlt⟩)
  rw [e0, e1, e2, e3, colAt]

/-- The array of the outputs after the run: the heads' columns are written, the others are what they were. -/
theorem wide_final : (Gen.dats m 0 c).arrAt 4 cfg0.N
    = fun i : S4352x2048.Idx => if (i 1).val < 1536 then wideOf (outAt m c) i else (dats m 0 c).A 4 i := by
  refine (dats m 0 c).arrAt_eq_of_coversWhere 4 _ (fun β => β (1 : Fin 2) < 4) (by decide +kernel) (fun t hf y => ?_)
    (fun j => by blk_simp [Pipeline.Window.cell_apply]; omega)
  blk_simp
  rw [after0_4]
  have hz : ∀ z : S256x384.Idx, z = ix2 (z 0) (z 1) := fun z => by idx_vars z; rfl
  refine (congrArg (outsAt0 m c t.val t.isLt).1 (hz ((cfg0.win 4).xinj (cfg0.grid.coords t) y))).trans ?_
  refine (out_block m c t _ _).trans (wideOf_eq _ t _ _ _ ?_ ?_)
  · show win0_4.index t (0 : Fin 2) * 256 + 1 * (y (0 : Fin 2)).val = 256 * (t.val % 17) + (y (0 : Fin 2)).val
    rw [(idx t).2.2.2.1]
    show t.val % 17 * 256 + 1 * (y (0 : Fin 2)).val = 256 * (t.val % 17) + (y (0 : Fin 2)).val
    omega
  · show win0_4.index t (1 : Fin 2) * 384 + 1 * (y (1 : Fin 2)).val = 384 * (t.val / 17) + (y (1 : Fin 2)).val
    rw [(idx t).2.2.2.1]
    show t.val / 17 * 384 + 1 * (y (1 : Fin 2)).val = 384 * (t.val / 17) + (y (1 : Fin 2)).val
    omega

/-- The heads' columns, cut out. -/
theorem out_final : Pipeline.afterTail₀ cfgs (Gen.dats m) 0 (Gen.V0 m) [Gen.hostOps1] c main_v2 = outOf (outAt m c) := by
  have h : Pipeline.withArrays (cfgs 0).spec c (V0 m c) (fun w => (Gen.dats m 0 c).arrAt w (cfgs 0).N) (Proc.devRef .tc main_v1_0)
      = (Gen.dats m 0 c).arrAt 4 cfg0.N :=
    Pipeline.withArrays_arr (cfgs 0).spec launch0.win.arr_inj c (V0 m c) (fun w => (Gen.dats m 0 c).arrAt w (cfgs 0).N) 4
  unfold Pipeline.afterTail₀
  show StableHlo.after Gen.hostOps1 _ (Proc.devRef .tc main_v2) = _
  after_results
  rw [h, wide_final]
  funext i
  idx_vars i
  have hi : i1.val < 1536 := i1.isLt
  pointwise [wideOf, if_pos hi, dif_pos hi]

end Cert.AttnFwdIdeal.Attention

end
-- ==== Proof.AttnFwdRef.lean ====
/- The plain forward attention, stage by stage: its two results in terms of the rows of the arguments. -/
module

public import proofs.«01_k».proof.Proof.AttnFwdBlocks
public import proofs.«01_k».proof.Proof.Gen.AttnFwdRefIdeal.Read
public import proofs.«01_k».proof.Proof.Softmax
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AttnFwdRefIdeal.Attention

open Cert.AttnFwdRefIdeal Cert.AttnFwdRefIdeal.Read
open Cert.KernelIdeal.Attention (Qry Key low kvOf gOf dOf sc top tot lse mean)

/-- A sum with a logarithm. -/
theorem add_log (a b : Ideal .f32) : FloatOps.addf a (FloatOps.hostUnary .log b) = (show EReal from a) + Ideal.log (show EReal from b) := rfl

variable (x0 : Vec Ideal S4352x1536 .bf16) (x1 x2 : Vec Ideal S4352x512 .bf16)

/-- The scores of a row of the context. -/
theorem s_c (kv : Fin 4) (g : Fin 3) (r : Fin 256) (n : Fin 256) : val_main_v10 (F := Ideal) x0 x1 (ix4 kv g r n) = (sc (Qry x0 kv g ⟨r, by omega⟩) (low (Key x1 kv))) n := by
  pointwise [val_main_v10, val_main_v9, val_main_v7, val_main_v6, val_main_v4, val_main_v3, val_main_v1, val_main_v0]
  refine Finset.sum_congr rfl fun x _ => (mul_comm _ _).trans (congrArg₂ (· * ·) ?_ ?_)
  · exact congrArg x0 (congrArg (ix2 _) (Fin.ext (by show (kv : ℕ) * 384 + (g : ℕ) * 128 + x = 384 * kv.val + 128 * g.val + x.val; omega)))
  · exact congrArg x1 (congrArg (ix2 _) (Fin.ext (by show (kv : ℕ) * 128 + x = 128 * kv.val + x.val; omega)))

/-- The largest of them. -/
theorem max_c (kv : Fin 4) (g : Fin 3) (r : Fin 256) : val_main_v12 (F := Ideal) x0 x1 (ix4 kv g r 0) = top (sc (Qry x0 kv g ⟨r, by omega⟩) (low (Key x1 kv))) := by
  pointwise [val_main_v12, val_main_v11, val_main_cst]
  exact congrArg top (funext fun n => s_c x0 x1 kv g r n)

/-- The exponentials. -/
theorem e_c (kv : Fin 4) (g : Fin 3) (r : Fin 256) (n : Fin 256) : val_main_v15 (F := Ideal) x0 x1 (ix4 kv g r n) = Ideal.exp ((sc (Qry x0 kv g ⟨r, by omega⟩) (low (Key x1 kv))) n - top (sc (Qry x0 kv g ⟨r, by omega⟩) (low (Key x1 kv)))) := by
  pointwise [val_main_v15, val_main_v14, val_main_v13]
  rw [s_c, max_c]

/-- Their sum. -/
theorem l_c (kv : Fin 4) (g : Fin 3) (r : Fin 256) : val_main_v17 (F := Ideal) x0 x1 (ix4 kv g r 0) = tot (sc (Qry x0 kv g ⟨r, by omega⟩) (low (Key x1 kv))) := by
  pointwise [val_main_v17, val_main_v16, val_main_cst_0]
  exact Finset.sum_congr rfl fun n _ => e_c x0 x1 kv g r n

/-- The logarithm of the denominator. -/
theorem lse_c (kv : Fin 4) (g : Fin 3) (r : Fin 256) : val_main_v23 (F := Ideal) x0 x1 (ix4 kv g r 0) = lse (sc (Qry x0 kv g ⟨r, by omega⟩) (low (Key x1 kv))) := by
  rw [val_main_v23_apply, val_main_v22_apply, max_c, l_c, add_log, lse]

/-- The softmax. -/
theorem p_c (kv : Fin 4) (g : Fin 3) (r : Fin 256) (n : Fin 256) : val_main_v19 (F := Ideal) x0 x1 (ix4 kv g r n) = Ideal.div (Ideal.exp ((sc (Qry x0 kv g ⟨r, by omega⟩) (low (Key x1 kv))) n - top (sc (Qry x0 kv g ⟨r, by omega⟩) (low (Key x1 kv))))) (tot (sc (Qry x0 kv g ⟨r, by omega⟩) (low (Key x1 kv)))) := by
  pointwise [val_main_v19, val_main_v18]
  rw [e_c, l_c]

/-- The output of a row of the context. -/
theorem o_c (kv : Fin 4) (g : Fin 3) (r : Fin 256) (d : Fin 128) : val_main_v21 (F := Ideal) x0 x1 x2 (ix4 r kv g d) = mean (sc (Qry x0 kv g ⟨r, by omega⟩) (low (Key x1 kv))) (low (Key x2 kv)) d := by
  pointwise [val_main_v21, val_main_v20, val_main_v8, val_main_v5, val_main_v2]
  refine Finset.sum_congr rfl fun n _ => congrArg₂ (· * ·) ?_ (p_c x0 x1 kv g r n)
  exact congrArg x2 (congrArg (ix2 _) (Fin.ext (by show (kv : ℕ) * 128 + d = 128 * kv.val + d.val; omega)))

/-- The scores of a row of the latents. -/
theorem s_l (kv : Fin 4) (g : Fin 3) (r : Fin 4096) (n : Fin 4352) : val_main_v26 (F := Ideal) x0 x1 (ix4 kv g r n) = (sc (Qry x0 kv g ⟨256 + r, by omega⟩) (Key x1 kv)) n := by
  pointwise [val_main_v26, val_main_v25, val_main_v24, val_main_v4, val_main_v3, val_main_v1, val_main_v0]
  refine Finset.sum_congr rfl fun x _ => (mul_comm _ _).trans (congrArg₂ (· * ·) ?_ ?_)
  · exact congrArg x0 (congrArg (ix2 _) (Fin.ext (by show (kv : ℕ) * 384 + (g : ℕ) * 128 + x = 384 * kv.val + 128 * g.val + x.val; omega)))
  · exact congrArg x1 (congrArg (ix2 _) (Fin.ext (by show (kv : ℕ) * 128 + x = 128 * kv.val + x.val; omega)))

/-- The largest of them. -/
theorem max_l (kv : Fin 4) (g : Fin 3) (r : Fin 4096) : val_main_v28 (F := Ideal) x0 x1 (ix4 kv g r 0) = top (sc (Qry x0 kv g ⟨256 + r, by omega⟩) (Key x1 kv)) := by
  pointwise [val_main_v28, val_main_v27, val_main_cst_1]
  exact congrArg top (funext fun n => s_l x0 x1 kv g r n)

/-- The exponentials. -/
theorem e_l (kv : Fin 4) (g : Fin 3) (r : Fin 4096) (n : Fin 4352) : val_main_v31 (F := Ideal) x0 x1 (ix4 kv g r n) = Ideal.exp ((sc (Qry x0 kv g ⟨256 + r, by omega⟩) (Key x1 kv)) n - top (sc (Qry x0 kv g ⟨256 + r, by omega⟩) (Key x1 kv))) := by
  pointwise [val_main_v31, val_main_v30, val_main_v29]
  rw [s_l, max_l]

/-- Their sum. -/
theorem l_l (kv : Fin 4) (g : Fin 3) (r : Fin 4096) : val_main_v33 (F := Ideal) x0 x1 (ix4 kv g r 0) = tot (sc (Qry x0 kv g ⟨256 + r, by omega⟩) (Key x1 kv)) := by
  pointwise [val_main_v33, val_main_v32, val_main_cst_2]
  exact Finset.sum_congr rfl fun n _ => e_l x0 x1 kv g r n

/-- The logarithm of the denominator. -/
theorem lse_l (kv : Fin 4) (g : Fin 3) (r : Fin 4096) : val_main_v39 (F := Ideal) x0 x1 (ix4 kv g r 0) = lse (sc (Qry x0 kv g ⟨256 + r, by omega⟩) (Key x1 kv)) := by
  rw [val_main_v39_apply, val_main_v38_apply, max_l, l_l, add_log, lse]

/-- The softmax. -/
theorem p_l (kv : Fin 4) (g : Fin 3) (r : Fin 4096) (n : Fin 4352) : val_main_v35 (F := Ideal) x0 x1 (ix4 kv g r n) = Ideal.div (Ideal.exp ((sc (Qry x0 kv g ⟨256 + r, by omega⟩) (Key x1 kv)) n - top (sc (Qry x0 kv g ⟨256 + r, by omega⟩) (Key x1 kv)))) (tot (sc (Qry x0 kv g ⟨256 + r, by omega⟩) (Key x1 kv))) := by
  pointwise [val_main_v35, val_main_v34]
  rw [e_l, l_l]

/-- The output of a row of the latents. -/
theorem o_l (kv : Fin 4) (g : Fin 3) (r : Fin 4096) (d : Fin 128) : val_main_v37 (F := Ideal) x0 x1 x2 (ix4 r kv g d) = mean (sc (Qry x0 kv g ⟨256 + r, by omega⟩) (Key x1 kv)) (Key x2 kv) d := by
  pointwise [val_main_v37, val_main_v36, val_main_v5, val_main_v2]
  refine Finset.sum_congr rfl fun n _ => congrArg₂ (· * ·) ?_ (p_l x0 x1 kv g r n)
  exact congrArg x2 (congrArg (ix2 _) (Fin.ext (by show (kv : ℕ) * 128 + d = 128 * kv.val + d.val; omega)))

/-- A row's output: on the first 256 rows against the first 256 keys. -/
def rowMean (q : Vec Ideal S4352x1536 .bf16) (k v : Vec Ideal S4352x512 .bf16) (kv : Fin 4) (g : Fin 3) (R : Fin 4352) (d : Fin 128) : EReal :=
  if R.val < 256 then mean (sc (Qry q kv g R) (low (Key k kv))) (low (Key v kv)) d else mean (sc (Qry q kv g R) (Key k kv)) (Key v kv) d

/-- The rows' outputs, the context's and then the latents', at an index. -/
theorem cat_out (R : Fin 4352) (j : Fin 1536) : val_main_v42 (F := Ideal) x0 x1 x2 (ix2 R j) = rowMean x0 x1 x2 (kvOf j) (gOf j) R (dOf j) := by
  pointwise [val_main_v42, val_main_v41, val_main_v40]
  by_cases h : R.val < 256
  · rw [dif_pos h, rowMean, if_pos h]
    exact o_c x0 x1 x2 (kvOf j) (gOf j) ⟨R.val, h⟩ (dOf j)
  · rw [dif_neg h, rowMean, if_neg h]
    refine (o_l x0 x1 x2 (kvOf j) (gOf j) ⟨R.val - 256, by omega⟩ (dOf j)).trans ?_
    have e : (⟨256 + (R.val - 256), by omega⟩ : Fin 4352) = R := Fin.ext (by show 256 + (R.val - 256) = R.val; omega)
    rw [e]

/-- The rows' logarithms of the denominators, the context's and then the latents', at an index. -/
theorem cat_lse (a : Fin 12) (R : Fin 4352) : val_main_v44 (F := Ideal) x0 x1 (ix3 a R 0)
    = Cert.AttnFwdIdeal.Attention.rowLse x0 x1 ⟨a.val / 3, by omega⟩ ⟨a.val % 3, by omega⟩ R := by
  pointwise [val_main_v44, val_main_v43]
  by_cases h : R.val < 256
  · rw [dif_pos h, Cert.AttnFwdIdeal.Attention.rowLse, if_pos h]
    exact lse_c x0 x1 ⟨a.val / 3, by omega⟩ ⟨a.val % 3, by omega⟩ ⟨R.val, h⟩
  · rw [dif_neg h, Cert.AttnFwdIdeal.Attention.rowLse, if_neg h]
    refine (lse_l x0 x1 ⟨a.val / 3, by omega⟩ ⟨a.val % 3, by omega⟩ ⟨R.val - 256, by omega⟩).trans ?_
    have e : (⟨256 + (R.val - 256), by omega⟩ : Fin 4352) = R := Fin.ext (by show 256 + (R.val - 256) = R.val; omega)
    rw [e]

/-- The first result, as an array. -/
theorem reference_out : val_main_v42 (F := Ideal) x0 x1 x2 = Cert.AttnFwdIdeal.Attention.outOf (rowMean x0 x1 x2) := by
  funext i
  idx_vars i
  exact cat_out x0 x1 x2 i0 i1

/-- The second result, as an array. -/
theorem reference_lse : val_main_v44 (F := Ideal) x0 x1 = Cert.AttnFwdIdeal.Attention.lseOf (Cert.AttnFwdIdeal.Attention.rowLse x0 x1) := by
  funext i
  idx_vars i
  have hz : i2 = 0 := Fin.ext (by omega)
  subst hz
  exact cat_lse x0 x1 i0 i1

end Cert.AttnFwdRefIdeal.Attention

end
-- ==== Proof.AttnFwdClaims.lean ====
/- The claim on attention's forward pass: what the kernel leaves is the softmax's mean of the values and the logarithm of its
   denominator. -/
module

public import proofs.«01_k».proof.Defs
public import proofs.«01_k».proof.Proof.Finite
public import proofs.«01_k».proof.Proof.AttentionFinal
public import proofs.«01_k».proof.Proof.AttnFwdRef
public import proofs.«01_k».proof.Proof.Gen.AttnFwdRefIdeal.Run
public import Idealize.ShloMosaic.Lib.Claim

@[expose] public section

set_option maxRecDepth 16384

noncomputable section

open Idealize.ShloMosaic Idealize.ShloMosaic.TcCoe Idealize.SL.Sem

namespace Cert.AttnFwdClaims

open Cert.Softmax (IsReal)
open Cert.KernelIdeal.Attention (Qry Key low sc top tot lse mean)
open Cert.AttnFwdIdeal.Attention (quot rowOut rowLse outOf lseOf)
open Cert.AttnFwdRefIdeal.Attention (rowMean)

/-- For real numbers it does not matter whether the weights are divided by their sum before or after the values are summed. -/
theorem quot_of {ι : Type*} [Fintype ι] [Nonempty ι] (s : ι → EReal) (M : EReal) (v : ι → EReal) (hs : ∀ n, IsReal (s n)) (hM : IsReal M)
    (hv : ∀ n, IsReal (v n)) :
    Ideal.div (∑ n, Ideal.exp (s n - M) * v n) (∑ k, Ideal.exp (s k - M))
      = ∑ n, v n * Ideal.div (Ideal.exp (s n - M)) (∑ k, Ideal.exp (s k - M)) := by
  choose s' hs' using hs
  choose v' hv' using hv
  obtain ⟨M', rfl⟩ := hM
  have he : ∀ n, Ideal.exp (s n - (M' : EReal)) = ((Real.exp (s' n - M') : ℝ) : EReal) := fun n => by
    rw [hs' n, ← EReal.coe_sub, Softmax.exp_coe]
  simp only [he, hv', ← EReal.coe_mul, Softmax.coe_sum]
  have hpos : 0 < ∑ k, Real.exp (s' k - M') := Finset.sum_pos (fun _ _ => Real.exp_pos _) Finset.univ_nonempty
  simp only [Softmax.div_coe_coe _ hpos.ne', ← EReal.coe_mul, Softmax.coe_sum]
  refine congrArg _ ?_
  rw [Finset.sum_div]
  exact Finset.sum_congr rfl fun n _ => by ring

/-- A row's output from real queries, keys and values. -/
theorem quot_mean {N : Nat} [Nonempty (Fin N)] (q : Fin 128 → EReal) (k v : Fin N → Fin 128 → EReal) (hq : ∀ d, IsReal (q d))
    (hk : ∀ n d, IsReal (k n d)) (hv : ∀ n d, IsReal (v n d)) (d : Fin 128) : quot (sc q k) v d = mean (sc q k) v d :=
  quot_of (sc q k) (top (sc q k)) (fun n => v n d) (Cert.KernelIdeal.Attention.sc_real q k hq hk) (Cert.KernelIdeal.Attention.top_real q k hq hk)
    fun n => hv n d

/-- The rows' outputs from real queries, keys and values. -/
theorem rows_eq (q : Vec Ideal Cert.AttnFwdIdeal.S4352x1536 .bf16) (k v : Vec Ideal Cert.AttnFwdIdeal.S4352x512 .bf16)
    (hq : ∀ i, IsReal (q i)) (hk : ∀ i, IsReal (k i)) (hv : ∀ i, IsReal (v i)) : rowOut q k v = rowMean q k v := by
  funext kv g R d
  by_cases h : R.val < 256
  · rw [rowOut, rowMean, if_pos h, if_pos h]
    exact quot_mean _ _ _ (fun _ => hq _) (fun _ _ => hk _) (fun _ _ => hv _) d
  · rw [rowOut, rowMean, if_neg h, if_neg h]
    exact quot_mean _ _ _ (fun _ => hq _) (fun _ _ => hk _) (fun _ _ => hv _) d

/-- What the precondition says of the queries, the keys and the values. -/
theorem fwd_real (q : Vec Ideal Cert.AttnFwdIdeal.S4352x1536 .bf16) (k v : Vec Ideal Cert.AttnFwdIdeal.S4352x512 .bf16) [Cert.Pre_fwd_finite.Facts]
    (h : Cert.Pre_fwd_finite.fn (F := Ideal) q k v = fun _ => 1#1) :
    (∀ i, IsReal (q i)) ∧ (∀ i, IsReal (k i)) ∧ ∀ i, IsReal (v i) := by
  have h0 := congrFun h (fun k => k.elim0)
  dsimp only [Cert.Pre_fwd_finite.fn] at h0
  obtain ⟨h1, h4⟩ := IntOp.andi_eq_one.1 h0
  obtain ⟨h2, h3⟩ := IntOp.andi_eq_one.1 h1
  exact ⟨fun i => Finite.bf16 _ _ i (Host.reduce_andi_all _ _ _ _ _ h2 i), fun i => Finite.bf16 _ _ i (Host.reduce_andi_all _ _ _ _ _ h3 i),
    fun i => Finite.bf16 _ _ i (Host.reduce_andi_all _ _ _ _ _ h4 i)⟩

/-- The outputs and the logarithms of the denominators. -/
theorem attention_fwd [Cert.Pre_fwd_finite.Facts] : Cert.algebraic_AttnFwdIdeal_AttnFwdRefIdeal_pre_fwd_finite := by
  pair_intro
  · run_from Cert.AttnFwdIdeal.Gen.run_main m g
  · run_from Cert.AttnFwdRefIdeal.Value.run m' g'
    all_goals obtain ⟨hq, hk, hv⟩ := fwd_real _ _ _ (hpre c)
    all_goals obtain ⟨h0, h1, h2⟩ := hagree c
    · refine (Cert.AttnFwdRefIdeal.Attention.reference_out _ _ _).trans ?_
      rw [Cert.AttnFwdIdeal.Attention.out_final m c, h0, h1, h2]
      exact congrArg outOf (rows_eq _ _ _ hq hk hv).symm
    · refine (Cert.AttnFwdRefIdeal.Attention.reference_lse _ _).trans ?_
      rw [Cert.AttnFwdIdeal.Attention.lse_final m c, h0, h1]

end Cert.AttnFwdClaims

end
-- ==== Proof.lean ====
/- The claims of this certificate, each from its proof: every program's frame, what each idealized program is, and the equality
   of each kernel with its reference over the extended reals. The frames of the kernels are the launch runs of the modules under
   Gen; a reference has no kernel, and its frame is its run with the results dropped. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.DownBwd
public import proofs.«01_k».proof.Proof.Gen.DownBwd.Skeleton
public import proofs.«01_k».proof.Proof.Gen.DownBwd.Launch
public import proofs.«01_k».proof.Proof.Gen.DownBwd.Points
public import proofs.«01_k».proof.Proof.Gen.DownBwd.Frame
public import proofs.«01_k».proof.Proof.Gen.DownBwdIdeal
public import proofs.«01_k».proof.Proof.Gen.DownBwdIdeal.Skeleton
public import proofs.«01_k».proof.Proof.Gen.DownBwdIdeal.Launch
public import proofs.«01_k».proof.Proof.Gen.DownBwdIdeal.Points
public import proofs.«01_k».proof.Proof.Gen.DownBwdIdeal.Frame
public import proofs.«01_k».proof.Proof.Gen.DownBwdIdeal.Value
public import proofs.«01_k».proof.Proof.Gen.GateDgrad
public import proofs.«01_k».proof.Proof.Gen.GateDgrad.Skeleton
public import proofs.«01_k».proof.Proof.Gen.GateDgrad.Launch
public import proofs.«01_k».proof.Proof.Gen.GateDgrad.Points
public import proofs.«01_k».proof.Proof.Gen.GateDgrad.Frame
public import proofs.«01_k».proof.Proof.Gen.GateDgradIdeal
public import proofs.«01_k».proof.Proof.Gen.GateDgradIdeal.Skeleton
public import proofs.«01_k».proof.Proof.Gen.GateDgradIdeal.Launch
public import proofs.«01_k».proof.Proof.Gen.GateDgradIdeal.Points
public import proofs.«01_k».proof.Proof.Gen.GateDgradIdeal.Frame
public import proofs.«01_k».proof.Proof.Gen.GateDgradIdeal.Value
public import proofs.«01_k».proof.Proof.Gen.UpDgrad
public import proofs.«01_k».proof.Proof.Gen.UpDgrad.Skeleton
public import proofs.«01_k».proof.Proof.Gen.UpDgrad.Launch
public import proofs.«01_k».proof.Proof.Gen.UpDgrad.Points
public import proofs.«01_k».proof.Proof.Gen.UpDgrad.Frame
public import proofs.«01_k».proof.Proof.Gen.UpDgradIdeal
public import proofs.«01_k».proof.Proof.Gen.UpDgradIdeal.Skeleton
public import proofs.«01_k».proof.Proof.Gen.UpDgradIdeal.Launch
public import proofs.«01_k».proof.Proof.Gen.UpDgradIdeal.Points
public import proofs.«01_k».proof.Proof.Gen.UpDgradIdeal.Frame
public import proofs.«01_k».proof.Proof.Gen.UpDgradIdeal.Value
public import proofs.«01_k».proof.Proof.Gen.GateWgrad
public import proofs.«01_k».proof.Proof.Gen.GateWgrad.Skeleton
public import proofs.«01_k».proof.Proof.Gen.GateWgrad.Launch
public import proofs.«01_k».proof.Proof.Gen.GateWgrad.Points
public import proofs.«01_k».proof.Proof.Gen.GateWgrad.Frame
public import proofs.«01_k».proof.Proof.Gen.GateWgradIdeal
public import proofs.«01_k».proof.Proof.Gen.GateWgradIdeal.Skeleton
public import proofs.«01_k».proof.Proof.Gen.GateWgradIdeal.Launch
public import proofs.«01_k».proof.Proof.Gen.GateWgradIdeal.Points
public import proofs.«01_k».proof.Proof.Gen.GateWgradIdeal.Frame
public import proofs.«01_k».proof.Proof.Gen.GateWgradIdeal.Value
public import proofs.«01_k».proof.Proof.Gen.DownWgrad
public import proofs.«01_k».proof.Proof.Gen.DownWgrad.Skeleton
public import proofs.«01_k».proof.Proof.Gen.DownWgrad.Launch
public import proofs.«01_k».proof.Proof.Gen.DownWgrad.Points
public import proofs.«01_k».proof.Proof.Gen.DownWgrad.Frame
public import proofs.«01_k».proof.Proof.Gen.DownWgradIdeal
public import proofs.«01_k».proof.Proof.Gen.DownWgradIdeal.Skeleton
public import proofs.«01_k».proof.Proof.Gen.DownWgradIdeal.Launch
public import proofs.«01_k».proof.Proof.Gen.DownWgradIdeal.Points
public import proofs.«01_k».proof.Proof.Gen.DownWgradIdeal.Frame
public import proofs.«01_k».proof.Proof.Gen.DownWgradIdeal.Value
public import proofs.«01_k».proof.Proof.Gen.FfnIn
public import proofs.«01_k».proof.Proof.Gen.FfnIn.Skeleton
public import proofs.«01_k».proof.Proof.Gen.FfnIn.Launch
public import proofs.«01_k».proof.Proof.Gen.FfnIn.Points
public import proofs.«01_k».proof.Proof.Gen.FfnIn.Frame
public import proofs.«01_k».proof.Proof.Gen.FfnInIdeal
public import proofs.«01_k».proof.Proof.Gen.FfnInIdeal.Skeleton
public import proofs.«01_k».proof.Proof.Gen.FfnInIdeal.Launch
public import proofs.«01_k».proof.Proof.Gen.FfnInIdeal.Points
public import proofs.«01_k».proof.Proof.Gen.FfnInIdeal.Frame
public import proofs.«01_k».proof.Proof.Gen.FfnInIdeal.Value
public import proofs.«01_k».proof.Proof.Gen.DownFwd
public import proofs.«01_k».proof.Proof.Gen.DownFwd.Skeleton
public import proofs.«01_k».proof.Proof.Gen.DownFwd.Launch
public import proofs.«01_k».proof.Proof.Gen.DownFwd.Points
public import proofs.«01_k».proof.Proof.Gen.DownFwd.Frame
public import proofs.«01_k».proof.Proof.Gen.DownFwdIdeal
public import proofs.«01_k».proof.Proof.Gen.DownFwdIdeal.Skeleton
public import proofs.«01_k».proof.Proof.Gen.DownFwdIdeal.Launch
public import proofs.«01_k».proof.Proof.Gen.DownFwdIdeal.Points
public import proofs.«01_k».proof.Proof.Gen.DownFwdIdeal.Frame
public import proofs.«01_k».proof.Proof.Gen.DownFwdIdeal.Value
public import proofs.«01_k».proof.Proof.Gen.In0Fwd
public import proofs.«01_k».proof.Proof.Gen.In0Fwd.Skeleton
public import proofs.«01_k».proof.Proof.Gen.In0Fwd.Launch
public import proofs.«01_k».proof.Proof.Gen.In0Fwd.Points
public import proofs.«01_k».proof.Proof.Gen.In0Fwd.Frame
public import proofs.«01_k».proof.Proof.Gen.In0FwdIdeal
public import proofs.«01_k».proof.Proof.Gen.In0FwdIdeal.Skeleton
public import proofs.«01_k».proof.Proof.Gen.In0FwdIdeal.Launch
public import proofs.«01_k».proof.Proof.Gen.In0FwdIdeal.Points
public import proofs.«01_k».proof.Proof.Gen.In0FwdIdeal.Frame
public import proofs.«01_k».proof.Proof.Gen.In0FwdIdeal.Value
public import proofs.«01_k».proof.Proof.Gen.In0Dgrad
public import proofs.«01_k».proof.Proof.Gen.In0Dgrad.Skeleton
public import proofs.«01_k».proof.Proof.Gen.In0Dgrad.Launch
public import proofs.«01_k».proof.Proof.Gen.In0Dgrad.Points
public import proofs.«01_k».proof.Proof.Gen.In0Dgrad.Frame
public import proofs.«01_k».proof.Proof.Gen.In0DgradIdeal
public import proofs.«01_k».proof.Proof.Gen.In0DgradIdeal.Skeleton
public import proofs.«01_k».proof.Proof.Gen.In0DgradIdeal.Launch
public import proofs.«01_k».proof.Proof.Gen.In0DgradIdeal.Points
public import proofs.«01_k».proof.Proof.Gen.In0DgradIdeal.Frame
public import proofs.«01_k».proof.Proof.Gen.In0DgradIdeal.Value
public import proofs.«01_k».proof.Proof.Gen.In0Wgrad
public import proofs.«01_k».proof.Proof.Gen.In0Wgrad.Skeleton
public import proofs.«01_k».proof.Proof.Gen.In0Wgrad.Launch
public import proofs.«01_k».proof.Proof.Gen.In0Wgrad.Points
public import proofs.«01_k».proof.Proof.Gen.In0Wgrad.Frame
public import proofs.«01_k».proof.Proof.Gen.In0WgradIdeal
public import proofs.«01_k».proof.Proof.Gen.In0WgradIdeal.Skeleton
public import proofs.«01_k».proof.Proof.Gen.In0WgradIdeal.Launch
public import proofs.«01_k».proof.Proof.Gen.In0WgradIdeal.Points
public import proofs.«01_k».proof.Proof.Gen.In0WgradIdeal.Frame
public import proofs.«01_k».proof.Proof.Gen.In0WgradIdeal.Value
public import proofs.«01_k».proof.Proof.Gen.In1Fwd
public import proofs.«01_k».proof.Proof.Gen.In1Fwd.Skeleton
public import proofs.«01_k».proof.Proof.Gen.In1Fwd.Launch
public import proofs.«01_k».proof.Proof.Gen.In1Fwd.Points
public import proofs.«01_k».proof.Proof.Gen.In1Fwd.Frame
public import proofs.«01_k».proof.Proof.Gen.In1FwdIdeal
public import proofs.«01_k».proof.Proof.Gen.In1FwdIdeal.Skeleton
public import proofs.«01_k».proof.Proof.Gen.In1FwdIdeal.Launch
public import proofs.«01_k».proof.Proof.Gen.In1FwdIdeal.Points
public import proofs.«01_k».proof.Proof.Gen.In1FwdIdeal.Frame
public import proofs.«01_k».proof.Proof.Gen.In1FwdIdeal.Value
public import proofs.«01_k».proof.Proof.Gen.In1Dgrad
public import proofs.«01_k».proof.Proof.Gen.In1Dgrad.Skeleton
public import proofs.«01_k».proof.Proof.Gen.In1Dgrad.Launch
public import proofs.«01_k».proof.Proof.Gen.In1Dgrad.Points
public import proofs.«01_k».proof.Proof.Gen.In1Dgrad.Frame
public import proofs.«01_k».proof.Proof.Gen.In1DgradIdeal
public import proofs.«01_k».proof.Proof.Gen.In1DgradIdeal.Skeleton
public import proofs.«01_k».proof.Proof.Gen.In1DgradIdeal.Launch
public import proofs.«01_k».proof.Proof.Gen.In1DgradIdeal.Points
public import proofs.«01_k».proof.Proof.Gen.In1DgradIdeal.Frame
public import proofs.«01_k».proof.Proof.Gen.In1DgradIdeal.Value
public import proofs.«01_k».proof.Proof.Gen.In1Wgrad
public import proofs.«01_k».proof.Proof.Gen.In1Wgrad.Skeleton
public import proofs.«01_k».proof.Proof.Gen.In1Wgrad.Launch
public import proofs.«01_k».proof.Proof.Gen.In1Wgrad.Points
public import proofs.«01_k».proof.Proof.Gen.In1Wgrad.Frame
public import proofs.«01_k».proof.Proof.Gen.In1WgradIdeal
public import proofs.«01_k».proof.Proof.Gen.In1WgradIdeal.Skeleton
public import proofs.«01_k».proof.Proof.Gen.In1WgradIdeal.Launch
public import proofs.«01_k».proof.Proof.Gen.In1WgradIdeal.Points
public import proofs.«01_k».proof.Proof.Gen.In1WgradIdeal.Frame
public import proofs.«01_k».proof.Proof.Gen.In1WgradIdeal.Value
public import proofs.«01_k».proof.Proof.Gen.OutFwd
public import proofs.«01_k».proof.Proof.Gen.OutFwd.Skeleton
public import proofs.«01_k».proof.Proof.Gen.OutFwd.Launch
public import proofs.«01_k».proof.Proof.Gen.OutFwd.Points
public import proofs.«01_k».proof.Proof.Gen.OutFwd.Frame
public import proofs.«01_k».proof.Proof.Gen.OutFwdIdeal
public import proofs.«01_k».proof.Proof.Gen.OutFwdIdeal.Skeleton
public import proofs.«01_k».proof.Proof.Gen.OutFwdIdeal.Launch
public import proofs.«01_k».proof.Proof.Gen.OutFwdIdeal.Points
public import proofs.«01_k».proof.Proof.Gen.OutFwdIdeal.Frame
public import proofs.«01_k».proof.Proof.Gen.OutFwdIdeal.Value
public import proofs.«01_k».proof.Proof.Gen.OutDgrad
public import proofs.«01_k».proof.Proof.Gen.OutDgrad.Skeleton
public import proofs.«01_k».proof.Proof.Gen.OutDgrad.Launch
public import proofs.«01_k».proof.Proof.Gen.OutDgrad.Points
public import proofs.«01_k».proof.Proof.Gen.OutDgrad.Frame
public import proofs.«01_k».proof.Proof.Gen.OutDgradIdeal
public import proofs.«01_k».proof.Proof.Gen.OutDgradIdeal.Skeleton
public import proofs.«01_k».proof.Proof.Gen.OutDgradIdeal.Launch
public import proofs.«01_k».proof.Proof.Gen.OutDgradIdeal.Points
public import proofs.«01_k».proof.Proof.Gen.OutDgradIdeal.Frame
public import proofs.«01_k».proof.Proof.Gen.OutDgradIdeal.Value
public import proofs.«01_k».proof.Proof.Gen.OutWgrad
public import proofs.«01_k».proof.Proof.Gen.OutWgrad.Skeleton
public import proofs.«01_k».proof.Proof.Gen.OutWgrad.Launch
public import proofs.«01_k».proof.Proof.Gen.OutWgrad.Points
public import proofs.«01_k».proof.Proof.Gen.OutWgrad.Frame
public import proofs.«01_k».proof.Proof.Gen.OutWgradIdeal
public import proofs.«01_k».proof.Proof.Gen.OutWgradIdeal.Skeleton
public import proofs.«01_k».proof.Proof.Gen.OutWgradIdeal.Launch
public import proofs.«01_k».proof.Proof.Gen.OutWgradIdeal.Points
public import proofs.«01_k».proof.Proof.Gen.OutWgradIdeal.Frame
public import proofs.«01_k».proof.Proof.Gen.OutWgradIdeal.Value
public import proofs.«01_k».proof.Proof.Gen.AttnFwd
public import proofs.«01_k».proof.Proof.Gen.AttnFwd.Skeleton
public import proofs.«01_k».proof.Proof.Gen.AttnFwd.Launch
public import proofs.«01_k».proof.Proof.Gen.AttnFwd.Points
public import proofs.«01_k».proof.Proof.Gen.AttnFwd.Frame
public import proofs.«01_k».proof.Proof.Gen.AttnFwdIdeal
public import proofs.«01_k».proof.Proof.Gen.AttnFwdIdeal.Skeleton
public import proofs.«01_k».proof.Proof.Gen.AttnFwdIdeal.Launch
public import proofs.«01_k».proof.Proof.Gen.AttnFwdIdeal.Points
public import proofs.«01_k».proof.Proof.Gen.AttnFwdIdeal.Frame
public import proofs.«01_k».proof.Proof.Gen.ReferenceIdeal.Run
public import proofs.«01_k».proof.Proof.Gen.ReferenceIdeal.Read
public import proofs.«01_k».proof.Proof.Gen.DownBwdRefIdeal.Run
public import proofs.«01_k».proof.Proof.Gen.DownBwdRefIdeal.Read
public import proofs.«01_k».proof.Proof.Gen.GateDgradRefIdeal.Run
public import proofs.«01_k».proof.Proof.Gen.GateDgradRefIdeal.Read
public import proofs.«01_k».proof.Proof.Gen.UpDgradRefIdeal.Run
public import proofs.«01_k».proof.Proof.Gen.UpDgradRefIdeal.Read
public import proofs.«01_k».proof.Proof.Gen.GateWgradRefIdeal.Run
public import proofs.«01_k».proof.Proof.Gen.GateWgradRefIdeal.Read
public import proofs.«01_k».proof.Proof.Gen.DownWgradRefIdeal.Run
public import proofs.«01_k».proof.Proof.Gen.DownWgradRefIdeal.Read
public import proofs.«01_k».proof.Proof.Gen.FfnInRefIdeal.Run
public import proofs.«01_k».proof.Proof.Gen.FfnInRefIdeal.Read
public import proofs.«01_k».proof.Proof.Gen.DownFwdRefIdeal.Run
public import proofs.«01_k».proof.Proof.Gen.DownFwdRefIdeal.Read
public import proofs.«01_k».proof.Proof.Gen.In0FwdRefIdeal.Run
public import proofs.«01_k».proof.Proof.Gen.In0FwdRefIdeal.Read
public import proofs.«01_k».proof.Proof.Gen.In0DgradRefIdeal.Run
public import proofs.«01_k».proof.Proof.Gen.In0DgradRefIdeal.Read
public import proofs.«01_k».proof.Proof.Gen.In0WgradRefIdeal.Run
public import proofs.«01_k».proof.Proof.Gen.In0WgradRefIdeal.Read
public import proofs.«01_k».proof.Proof.Gen.In1FwdRefIdeal.Run
public import proofs.«01_k».proof.Proof.Gen.In1FwdRefIdeal.Read
public import proofs.«01_k».proof.Proof.Gen.In1DgradRefIdeal.Run
public import proofs.«01_k».proof.Proof.Gen.In1DgradRefIdeal.Read
public import proofs.«01_k».proof.Proof.Gen.In1WgradRefIdeal.Run
public import proofs.«01_k».proof.Proof.Gen.In1WgradRefIdeal.Read
public import proofs.«01_k».proof.Proof.Gen.OutFwdRefIdeal.Run
public import proofs.«01_k».proof.Proof.Gen.OutFwdRefIdeal.Read
public import proofs.«01_k».proof.Proof.Gen.OutDgradRefIdeal.Run
public import proofs.«01_k».proof.Proof.Gen.OutDgradRefIdeal.Read
public import proofs.«01_k».proof.Proof.Gen.OutWgradRefIdeal.Run
public import proofs.«01_k».proof.Proof.Gen.OutWgradRefIdeal.Read
public import proofs.«01_k».proof.Proof.Gen.AttnFwdRefIdeal.Run
public import proofs.«01_k».proof.Proof.Gen.AttnFwdRefIdeal.Read
public import proofs.«01_k».proof.Proof.FfnClaims
public import proofs.«01_k».proof.Proof.AttentionClaims
public import proofs.«01_k».proof.Proof.ProjectionClaims
public import proofs.«01_k».proof.Proof.AttnFwdClaims
public import Idealize.ShloMosaic.Adequacy
public import Idealize.ShloMosaic.Init

@[expose] public section

noncomputable section

namespace Cert.Proof

open Idealize.ShloMosaic Idealize.SL.Sem

/-- The side conditions of a precondition's operations. -/
instance facts_Pre_finite : Cert.Pre_finite.Facts := by constructor <;> decide

/-- The side conditions of a precondition's operations. -/
instance facts_Pre_down_bwd_finite : Cert.Pre_down_bwd_finite.Facts := by constructor <;> decide

/-- The side conditions of a precondition's operations. -/
instance facts_Pre_ffn_in_finite : Cert.Pre_ffn_in_finite.Facts := by constructor <;> decide

/-- The side conditions of a precondition's operations. -/
instance facts_Pre_fwd_finite : Cert.Pre_fwd_finite.Facts := by constructor <;> decide

/-- Everything that is claimed. -/
theorem claim : Cert.Claim :=
  ⟨Cert.Kernel.Gen.facts,
    Cert.KernelIdeal.Gen.facts,
    Cert.ReferenceIdeal.Gen.facts,
    Cert.DownBwd.Gen.facts,
    Cert.DownBwdIdeal.Gen.facts,
    Cert.DownBwdRefIdeal.Gen.facts,
    Cert.GateDgrad.Gen.facts,
    Cert.GateDgradIdeal.Gen.facts,
    Cert.GateDgradRefIdeal.Gen.facts,
    Cert.UpDgrad.Gen.facts,
    Cert.UpDgradIdeal.Gen.facts,
    Cert.UpDgradRefIdeal.Gen.facts,
    Cert.GateWgrad.Gen.facts,
    Cert.GateWgradIdeal.Gen.facts,
    Cert.GateWgradRefIdeal.Gen.facts,
    Cert.DownWgrad.Gen.facts,
    Cert.DownWgradIdeal.Gen.facts,
    Cert.DownWgradRefIdeal.Gen.facts,
    Cert.FfnIn.Gen.facts,
    Cert.FfnInIdeal.Gen.facts,
    Cert.FfnInRefIdeal.Gen.facts,
    Cert.DownFwd.Gen.facts,
    Cert.DownFwdIdeal.Gen.facts,
    Cert.DownFwdRefIdeal.Gen.facts,
    Cert.In0Fwd.Gen.facts,
    Cert.In0FwdIdeal.Gen.facts,
    Cert.In0FwdRefIdeal.Gen.facts,
    Cert.In0Dgrad.Gen.facts,
    Cert.In0DgradIdeal.Gen.facts,
    Cert.In0DgradRefIdeal.Gen.facts,
    Cert.In0Wgrad.Gen.facts,
    Cert.In0WgradIdeal.Gen.facts,
    Cert.In0WgradRefIdeal.Gen.facts,
    Cert.In1Fwd.Gen.facts,
    Cert.In1FwdIdeal.Gen.facts,
    Cert.In1FwdRefIdeal.Gen.facts,
    Cert.In1Dgrad.Gen.facts,
    Cert.In1DgradIdeal.Gen.facts,
    Cert.In1DgradRefIdeal.Gen.facts,
    Cert.In1Wgrad.Gen.facts,
    Cert.In1WgradIdeal.Gen.facts,
    Cert.In1WgradRefIdeal.Gen.facts,
    Cert.OutFwd.Gen.facts,
    Cert.OutFwdIdeal.Gen.facts,
    Cert.OutFwdRefIdeal.Gen.facts,
    Cert.OutDgrad.Gen.facts,
    Cert.OutDgradIdeal.Gen.facts,
    Cert.OutDgradRefIdeal.Gen.facts,
    Cert.OutWgrad.Gen.facts,
    Cert.OutWgradIdeal.Gen.facts,
    Cert.OutWgradRefIdeal.Gen.facts,
    Cert.AttnFwd.Gen.facts,
    Cert.AttnFwdIdeal.Gen.facts,
    Cert.AttnFwdRefIdeal.Gen.facts,
    facts_Pre_finite,
    facts_Pre_down_bwd_finite,
    facts_Pre_ffn_in_finite,
    facts_Pre_fwd_finite,
    fun m ρ _ => Cert.Kernel.Gen.frame m ρ,
    fun m ρ _ => Cert.KernelIdeal.Gen.frame m ρ,
    fun m ρ _ => Cert.KernelIdeal.Gen.frame m ρ,
    fun m ρ _ => (θ_run Cert.ReferenceIdeal.defs _ _).mono (fun r h => ⟨fun c => (h c).2.2.2, Idealize.ShloMosaic.sem_eq_zero_of_no_sems (by decide) r.2⟩) (Cert.ReferenceIdeal.Value.run (F := Ideal) m ρ),
    fun m ρ _ => (θ_run Cert.ReferenceIdeal.defs _ _).mono (fun r h => ⟨fun c => (h c).2.2.2, Idealize.ShloMosaic.sem_eq_zero_of_no_sems (by decide) r.2⟩) (Cert.ReferenceIdeal.Value.run (F := Ideal) m ρ),
    fun m ρ _ => Cert.DownBwd.Gen.frame m ρ,
    fun m ρ _ => Cert.DownBwdIdeal.Gen.frame m ρ,
    fun m ρ _ => Cert.DownBwdIdeal.Gen.frame m ρ,
    fun m ρ _ => (θ_run Cert.DownBwdRefIdeal.defs _ _).mono (fun r h => ⟨fun c => (h c).2.2, Idealize.ShloMosaic.sem_eq_zero_of_no_sems (by decide) r.2⟩) (Cert.DownBwdRefIdeal.Value.run (F := Ideal) m ρ),
    fun m ρ _ => (θ_run Cert.DownBwdRefIdeal.defs _ _).mono (fun r h => ⟨fun c => (h c).2.2, Idealize.ShloMosaic.sem_eq_zero_of_no_sems (by decide) r.2⟩) (Cert.DownBwdRefIdeal.Value.run (F := Ideal) m ρ),
    fun m ρ _ => Cert.GateDgrad.Gen.frame m ρ,
    fun m ρ _ => Cert.GateDgradIdeal.Gen.frame m ρ,
    fun m ρ _ => (θ_run Cert.GateDgradRefIdeal.defs _ _).mono (fun r h => ⟨fun c => (h c).2, Idealize.ShloMosaic.sem_eq_zero_of_no_sems (by decide) r.2⟩) (Cert.GateDgradRefIdeal.Value.run (F := Ideal) m ρ),
    fun m ρ _ => Cert.UpDgrad.Gen.frame m ρ,
    fun m ρ _ => Cert.UpDgradIdeal.Gen.frame m ρ,
    fun m ρ _ => (θ_run Cert.UpDgradRefIdeal.defs _ _).mono (fun r h => ⟨fun c => (h c).2, Idealize.ShloMosaic.sem_eq_zero_of_no_sems (by decide) r.2⟩) (Cert.UpDgradRefIdeal.Value.run (F := Ideal) m ρ),
    fun m ρ _ => Cert.GateWgrad.Gen.frame m ρ,
    fun m ρ _ => Cert.GateWgradIdeal.Gen.frame m ρ,
    fun m ρ _ => (θ_run Cert.GateWgradRefIdeal.defs _ _).mono (fun r h => ⟨fun c => (h c).2, Idealize.ShloMosaic.sem_eq_zero_of_no_sems (by decide) r.2⟩) (Cert.GateWgradRefIdeal.Value.run (F := Ideal) m ρ),
    fun m ρ _ => Cert.DownWgrad.Gen.frame m ρ,
    fun m ρ _ => Cert.DownWgradIdeal.Gen.frame m ρ,
    fun m ρ _ => (θ_run Cert.DownWgradRefIdeal.defs _ _).mono (fun r h => ⟨fun c => (h c).2, Idealize.ShloMosaic.sem_eq_zero_of_no_sems (by decide) r.2⟩) (Cert.DownWgradRefIdeal.Value.run (F := Ideal) m ρ),
    fun m ρ _ => Cert.FfnIn.Gen.frame m ρ,
    fun m ρ _ => Cert.FfnInIdeal.Gen.frame m ρ,
    fun m ρ _ => Cert.FfnInIdeal.Gen.frame m ρ,
    fun m ρ _ => (θ_run Cert.FfnInRefIdeal.defs _ _).mono (fun r h => ⟨fun c => (h c).2.2.2, Idealize.ShloMosaic.sem_eq_zero_of_no_sems (by decide) r.2⟩) (Cert.FfnInRefIdeal.Value.run (F := Ideal) m ρ),
    fun m ρ _ => (θ_run Cert.FfnInRefIdeal.defs _ _).mono (fun r h => ⟨fun c => (h c).2.2.2, Idealize.ShloMosaic.sem_eq_zero_of_no_sems (by decide) r.2⟩) (Cert.FfnInRefIdeal.Value.run (F := Ideal) m ρ),
    fun m ρ _ => Cert.DownFwd.Gen.frame m ρ,
    fun m ρ _ => Cert.DownFwdIdeal.Gen.frame m ρ,
    fun m ρ _ => (θ_run Cert.DownFwdRefIdeal.defs _ _).mono (fun r h => ⟨fun c => (h c).2.2, Idealize.ShloMosaic.sem_eq_zero_of_no_sems (by decide) r.2⟩) (Cert.DownFwdRefIdeal.Value.run (F := Ideal) m ρ),
    fun m ρ _ => Cert.In0Fwd.Gen.frame m ρ,
    fun m ρ _ => Cert.In0FwdIdeal.Gen.frame m ρ,
    fun m ρ _ => (θ_run Cert.In0FwdRefIdeal.defs _ _).mono (fun r h => ⟨fun c => (h c).2, Idealize.ShloMosaic.sem_eq_zero_of_no_sems (by decide) r.2⟩) (Cert.In0FwdRefIdeal.Value.run (F := Ideal) m ρ),
    fun m ρ _ => Cert.In0Dgrad.Gen.frame m ρ,
    fun m ρ _ => Cert.In0DgradIdeal.Gen.frame m ρ,
    fun m ρ _ => (θ_run Cert.In0DgradRefIdeal.defs _ _).mono (fun r h => ⟨fun c => (h c).2, Idealize.ShloMosaic.sem_eq_zero_of_no_sems (by decide) r.2⟩) (Cert.In0DgradRefIdeal.Value.run (F := Ideal) m ρ),
    fun m ρ _ => Cert.In0Wgrad.Gen.frame m ρ,
    fun m ρ _ => Cert.In0WgradIdeal.Gen.frame m ρ,
    fun m ρ _ => (θ_run Cert.In0WgradRefIdeal.defs _ _).mono (fun r h => ⟨fun c => (h c).2, Idealize.ShloMosaic.sem_eq_zero_of_no_sems (by decide) r.2⟩) (Cert.In0WgradRefIdeal.Value.run (F := Ideal) m ρ),
    fun m ρ _ => Cert.In1Fwd.Gen.frame m ρ,
    fun m ρ _ => Cert.In1FwdIdeal.Gen.frame m ρ,
    fun m ρ _ => (θ_run Cert.In1FwdRefIdeal.defs _ _).mono (fun r h => ⟨fun c => (h c).2, Idealize.ShloMosaic.sem_eq_zero_of_no_sems (by decide) r.2⟩) (Cert.In1FwdRefIdeal.Value.run (F := Ideal) m ρ),
    fun m ρ _ => Cert.In1Dgrad.Gen.frame m ρ,
    fun m ρ _ => Cert.In1DgradIdeal.Gen.frame m ρ,
    fun m ρ _ => (θ_run Cert.In1DgradRefIdeal.defs _ _).mono (fun r h => ⟨fun c => (h c).2, Idealize.ShloMosaic.sem_eq_zero_of_no_sems (by decide) r.2⟩) (Cert.In1DgradRefIdeal.Value.run (F := Ideal) m ρ),
    fun m ρ _ => Cert.In1Wgrad.Gen.frame m ρ,
    fun m ρ _ => Cert.In1WgradIdeal.Gen.frame m ρ,
    fun m ρ _ => (θ_run Cert.In1WgradRefIdeal.defs _ _).mono (fun r h => ⟨fun c => (h c).2, Idealize.ShloMosaic.sem_eq_zero_of_no_sems (by decide) r.2⟩) (Cert.In1WgradRefIdeal.Value.run (F := Ideal) m ρ),
    fun m ρ _ => Cert.OutFwd.Gen.frame m ρ,
    fun m ρ _ => Cert.OutFwdIdeal.Gen.frame m ρ,
    fun m ρ _ => (θ_run Cert.OutFwdRefIdeal.defs _ _).mono (fun r h => ⟨fun c => (h c).2.2, Idealize.ShloMosaic.sem_eq_zero_of_no_sems (by decide) r.2⟩) (Cert.OutFwdRefIdeal.Value.run (F := Ideal) m ρ),
    fun m ρ _ => Cert.OutDgrad.Gen.frame m ρ,
    fun m ρ _ => Cert.OutDgradIdeal.Gen.frame m ρ,
    fun m ρ _ => (θ_run Cert.OutDgradRefIdeal.defs _ _).mono (fun r h => ⟨fun c => (h c).2, Idealize.ShloMosaic.sem_eq_zero_of_no_sems (by decide) r.2⟩) (Cert.OutDgradRefIdeal.Value.run (F := Ideal) m ρ),
    fun m ρ _ => Cert.OutWgrad.Gen.frame m ρ,
    fun m ρ _ => Cert.OutWgradIdeal.Gen.frame m ρ,
    fun m ρ _ => (θ_run Cert.OutWgradRefIdeal.defs _ _).mono (fun r h => ⟨fun c => (h c).2, Idealize.ShloMosaic.sem_eq_zero_of_no_sems (by decide) r.2⟩) (Cert.OutWgradRefIdeal.Value.run (F := Ideal) m ρ),
    fun m ρ _ => Cert.AttnFwd.Gen.frame m ρ,
    fun m ρ _ => Cert.AttnFwdIdeal.Gen.frame m ρ,
    fun m ρ _ => Cert.AttnFwdIdeal.Gen.frame m ρ,
    fun m ρ _ => (θ_run Cert.AttnFwdRefIdeal.defs _ _).mono (fun r h => ⟨fun c => (h c).2.2, Idealize.ShloMosaic.sem_eq_zero_of_no_sems (by decide) r.2⟩) (Cert.AttnFwdRefIdeal.Value.run (F := Ideal) m ρ),
    fun m ρ _ => (θ_run Cert.AttnFwdRefIdeal.defs _ _).mono (fun r h => ⟨fun c => (h c).2.2, Idealize.ShloMosaic.sem_eq_zero_of_no_sems (by decide) r.2⟩) (Cert.AttnFwdRefIdeal.Value.run (F := Ideal) m ρ),
    trivial,
    Cert.AttentionClaims.attention,
    trivial,
    Cert.FfnClaims.down_bwd,
    trivial,
    Cert.FfnClaims.gate_dgrad,
    trivial,
    Cert.FfnClaims.up_dgrad,
    trivial,
    Cert.FfnClaims.gate_wgrad,
    trivial,
    Cert.FfnClaims.down_wgrad,
    trivial,
    Cert.FfnClaims.ffn_in,
    trivial,
    Cert.FfnClaims.down_fwd,
    trivial,
    Cert.ProjectionClaims.in0_fwd,
    trivial,
    Cert.ProjectionClaims.in0_dgrad,
    trivial,
    Cert.ProjectionClaims.in0_wgrad,
    trivial,
    Cert.ProjectionClaims.in1_fwd,
    trivial,
    Cert.ProjectionClaims.in1_dgrad,
    trivial,
    Cert.ProjectionClaims.in1_wgrad,
    trivial,
    Cert.ProjectionClaims.out_fwd,
    trivial,
    Cert.ProjectionClaims.out_dgrad,
    trivial,
    Cert.ProjectionClaims.out_wgrad,
    trivial,
    Cert.AttnFwdClaims.attention_fwd⟩

end Cert.Proof

end
